-- ==== Defs.lean ====
def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_RFfnIdeal (m : (ℓ : Loc Cert.RFfnIdeal.nD Cert.RFfnIdeal.τ Cert.RFfnIdeal.sig) → Buf (Elt Ideal) ℓ) : Prop :=
  True

def Pre_KShift (m : (ℓ : Loc Cert.KShift.nD Cert.KShift.τ Cert.KShift.sig) → Buf (Elt Bits) ℓ) : Prop :=
  True

def Pre_KShiftIdeal (m : (ℓ : Loc Cert.KShiftIdeal.nD Cert.KShiftIdeal.τ Cert.KShiftIdeal.sig) → Buf (Elt Ideal) ℓ) : Prop :=
  True

def Pre_RShiftIdeal (m : (ℓ : Loc Cert.RShiftIdeal.nD Cert.RShiftIdeal.τ Cert.RShiftIdeal.sig) → Buf (Elt Ideal) ℓ) : Prop :=
  True

def Pre_KNorm (m : (ℓ : Loc Cert.KNorm.nD Cert.KNorm.τ Cert.KNorm.sig) → Buf (Elt Bits) ℓ) : Prop :=
  True

def Pre_KNormIdeal (m : (ℓ : Loc Cert.KNormIdeal.nD Cert.KNormIdeal.τ Cert.KNormIdeal.sig) → Buf (Elt Ideal) ℓ) : Prop :=
  True

def Pre_RNormIdeal (m : (ℓ : Loc Cert.RNormIdeal.nD Cert.RNormIdeal.τ Cert.RNormIdeal.sig) → Buf (Elt Ideal) ℓ) : Prop :=
  True

def Pre_KProjR (m : (ℓ : Loc Cert.KProjR.nD Cert.KProjR.τ Cert.KProjR.sig) → Buf (Elt Bits) ℓ) : Prop :=
  True

def Pre_KProjRIdeal (m : (ℓ : Loc Cert.KProjRIdeal.nD Cert.KProjRIdeal.τ Cert.KProjRIdeal.sig) → Buf (Elt Ideal) ℓ) : Prop :=
  True

def Pre_RProjRIdeal (m : (ℓ : Loc Cert.RProjRIdeal.nD Cert.RProjRIdeal.τ Cert.RProjRIdeal.sig) → Buf (Elt Ideal) ℓ) : Prop :=
  True

def Pre_KProjM (m : (ℓ : Loc Cert.KProjM.nD Cert.KProjM.τ Cert.KProjM.sig) → Buf (Elt Bits) ℓ) : Prop :=
  True

def Pre_KProjMIdeal (m : (ℓ : Loc Cert.KProjMIdeal.nD Cert.KProjMIdeal.τ Cert.KProjMIdeal.sig) → Buf (Elt Ideal) ℓ) : Prop :=
  True

def Pre_RProjMIdeal (m : (ℓ : Loc Cert.RProjMIdeal.nD Cert.RProjMIdeal.τ Cert.RProjMIdeal.sig) → Buf (Elt Ideal) ℓ) : Prop :=
  True

def Pre_KRope (m : (ℓ : Loc Cert.KRope.nD Cert.KRope.τ Cert.KRope.sig) → Buf (Elt Bits) ℓ) : Prop :=
  True

def Pre_KRopeIdeal (m : (ℓ : Loc Cert.KRopeIdeal.nD Cert.KRopeIdeal.τ Cert.KRopeIdeal.sig) → Buf (Elt Ideal) ℓ) : Prop :=
  True

def Pre_RRopeIdeal (m : (ℓ : Loc Cert.RRopeIdeal.nD Cert.RRopeIdeal.τ Cert.RRopeIdeal.sig) → Buf (Elt Ideal) ℓ) : Prop :=
  True

def Pre_KMix (m : (ℓ : Loc Cert.KMix.nD Cert.KMix.τ Cert.KMix.sig) → Buf (Elt Bits) ℓ) : Prop :=
  True

def Pre_KMixIdeal (m : (ℓ : Loc Cert.KMixIdeal.nD Cert.KMixIdeal.τ Cert.KMixIdeal.sig) → Buf (Elt Ideal) ℓ) : Prop :=
  True

def Pre_RMixIdeal (m : (ℓ : Loc Cert.RMixIdeal.nD Cert.RMixIdeal.τ Cert.RMixIdeal.sig) → Buf (Elt Ideal) ℓ) : Prop :=
  True

def Pre_KMoba (m : (ℓ : Loc Cert.KMoba.nD Cert.KMoba.τ Cert.KMoba.sig) → Buf (Elt Bits) ℓ) : Prop :=
  True

def Pre_KMobaIdeal (m : (ℓ : Loc Cert.KMobaIdeal.nD Cert.KMobaIdeal.τ Cert.KMobaIdeal.sig) → Buf (Elt Ideal) ℓ) : Prop :=
  True

def Pre_KMobaIdeal_finite [hPre_finite : Cert.Pre_finite.Facts] (m : (ℓ : Loc Cert.KMobaIdeal.nD Cert.KMobaIdeal.τ Cert.KMobaIdeal.sig) → Buf (Elt Ideal) ℓ) : Prop :=
  ∀ c : Dev Cert.KMobaIdeal.nD,
    (Cert.Pre_finite.fn (F := Ideal) (m ((c.tc : Thread Cert.KMobaIdeal.nD Cert.KMobaIdeal.τ).loc Cert.KMobaIdeal.main_arg0)) (m ((c.tc : Thread Cert.KMobaIdeal.nD Cert.KMobaIdeal.τ).loc Cert.KMobaIdeal.main_arg1)) (m ((c.tc : Thread Cert.KMobaIdeal.nD Cert.KMobaIdeal.τ).loc Cert.KMobaIdeal.main_arg2))) = (fun _ => 1#1)

def Pre_RMobaIdeal (m : (ℓ : Loc Cert.RMobaIdeal.nD Cert.RMobaIdeal.τ Cert.RMobaIdeal.sig) → Buf (Elt Ideal) ℓ) : Prop :=
  True

def Pre_RMobaIdeal_finite [hPre_finite : Cert.Pre_finite.Facts] (m : (ℓ : Loc Cert.RMobaIdeal.nD Cert.RMobaIdeal.τ Cert.RMobaIdeal.sig) → Buf (Elt Ideal) ℓ) : Prop :=
  ∀ c : Dev Cert.RMobaIdeal.nD,
    (Cert.Pre_finite.fn (F := Ideal) (m ((c.tc : Thread Cert.RMobaIdeal.nD Cert.RMobaIdeal.τ).loc Cert.RMobaIdeal.main_arg0)) (m ((c.tc : Thread Cert.RMobaIdeal.nD Cert.RMobaIdeal.τ).loc Cert.RMobaIdeal.main_arg1)) (m ((c.tc : Thread Cert.RMobaIdeal.nD Cert.RMobaIdeal.τ).loc Cert.RMobaIdeal.main_arg2))) = (fun _ => 1#1)

def Pre_KScan (m : (ℓ : Loc Cert.KScan.nD Cert.KScan.τ Cert.KScan.sig) → Buf (Elt Bits) ℓ) : Prop :=
  True

def Pre_KScanIdeal (m : (ℓ : Loc Cert.KScanIdeal.nD Cert.KScanIdeal.τ Cert.KScanIdeal.sig) → Buf (Elt Ideal) ℓ) : Prop :=
  True

def Pre_KScanIdeal_numbers [hPre_numbers : Cert.Pre_numbers.Facts] (m : (ℓ : Loc Cert.KScanIdeal.nD Cert.KScanIdeal.τ Cert.KScanIdeal.sig) → Buf (Elt Ideal) ℓ) : Prop :=
  ∀ c : Dev Cert.KScanIdeal.nD,
    (Cert.Pre_numbers.fn (F := Ideal) (m ((c.tc : Thread Cert.KScanIdeal.nD Cert.KScanIdeal.τ).loc Cert.KScanIdeal.main_arg0)) (m ((c.tc : Thread Cert.KScanIdeal.nD Cert.KScanIdeal.τ).loc Cert.KScanIdeal.main_arg1)) (m ((c.tc : Thread Cert.KScanIdeal.nD Cert.KScanIdeal.τ).loc Cert.KScanIdeal.main_arg2)) (m ((c.tc : Thread Cert.KScanIdeal.nD Cert.KScanIdeal.τ).loc Cert.KScanIdeal.main_arg3)) (m ((c.tc : Thread Cert.KScanIdeal.nD Cert.KScanIdeal.τ).loc Cert.KScanIdeal.main_arg4)) (m ((c.tc : Thread Cert.KScanIdeal.nD Cert.KScanIdeal.τ).loc Cert.KScanIdeal.main_arg5)) (m ((c.tc : Thread Cert.KScanIdeal.nD Cert.KScanIdeal.τ).loc Cert.KScanIdeal.main_arg6))) = (fun _ => 1#1)

def Pre_RScanIdeal (m : (ℓ : Loc Cert.RScanIdeal.nD Cert.RScanIdeal.τ Cert.RScanIdeal.sig) → Buf (Elt Ideal) ℓ) : Prop :=
  True

def Pre_RScanIdeal_numbers [hPre_numbers : Cert.Pre_numbers.Facts] (m : (ℓ : Loc Cert.RScanIdeal.nD Cert.RScanIdeal.τ Cert.RScanIdeal.sig) → Buf (Elt Ideal) ℓ) : Prop :=
  ∀ c : Dev Cert.RScanIdeal.nD,
    (Cert.Pre_numbers.fn (F := Ideal) (m ((c.tc : Thread Cert.RScanIdeal.nD Cert.RScanIdeal.τ).loc Cert.RScanIdeal.main_arg0)) (m ((c.tc : Thread Cert.RScanIdeal.nD Cert.RScanIdeal.τ).loc Cert.RScanIdeal.main_arg1)) (m ((c.tc : Thread Cert.RScanIdeal.nD Cert.RScanIdeal.τ).loc Cert.RScanIdeal.main_arg2)) (m ((c.tc : Thread Cert.RScanIdeal.nD Cert.RScanIdeal.τ).loc Cert.RScanIdeal.main_arg3)) (m ((c.tc : Thread Cert.RScanIdeal.nD Cert.RScanIdeal.τ).loc Cert.RScanIdeal.main_arg4)) (m ((c.tc : Thread Cert.RScanIdeal.nD Cert.RScanIdeal.τ).loc Cert.RScanIdeal.main_arg5)) (m ((c.tc : Thread Cert.RScanIdeal.nD Cert.RScanIdeal.τ).loc Cert.RScanIdeal.main_arg6))) = (fun _ => 1#1)

def Pre_KSRope (m : (ℓ : Loc Cert.KSRope.nD Cert.KSRope.τ Cert.KSRope.sig) → Buf (Elt Bits) ℓ) : Prop :=
  True

def Pre_KSRopeIdeal (m : (ℓ : Loc Cert.KSRopeIdeal.nD Cert.KSRopeIdeal.τ Cert.KSRopeIdeal.sig) → Buf (Elt Ideal) ℓ) : Prop :=
  True

def Pre_RSRopeIdeal (m : (ℓ : Loc Cert.RSRopeIdeal.nD Cert.RSRopeIdeal.τ Cert.RSRopeIdeal.sig) → Buf (Elt Ideal) ℓ) : Prop :=
  True

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4))
      ∧ r.2.sem = fun _ => 0)

def quiescent_KShift [hKShift : Cert.KShift.Facts] : Prop :=
  ∀ (m : (ℓ : Loc Cert.KShift.nD Cert.KShift.τ Cert.KShift.sig) → Buf (Elt Bits) ℓ) (g : Dev Cert.KShift.nD → PrngReg), Pre_KShift m →
    θ_run (Cert.KShift.defs (F := Bits)) (onTc (τ := Cert.KShift.τ) (Cert.KShift.main (F := Bits))) ⟨m, fun _ => 0, g⟩ (fun r => (∀ c : Dev Cert.KShift.nD,
      r.2.mem ((c.tc : Thread Cert.KShift.nD Cert.KShift.τ).loc Cert.KShift.main_arg0) = m ((c.tc : Thread Cert.KShift.nD Cert.KShift.τ).loc Cert.KShift.main_arg0)
      ∧ r.2.mem ((c.tc : Thread Cert.KShift.nD Cert.KShift.τ).loc Cert.KShift.main_arg1) = m ((c.tc : Thread Cert.KShift.nD Cert.KShift.τ).loc Cert.KShift.main_arg1))
      ∧ r.2.sem = fun _ => 0)

def quiescent_KShiftIdeal [hKShiftIdeal : Cert.KShiftIdeal.Facts] : Prop :=
  ∀ (m : (ℓ : Loc Cert.KShiftIdeal.nD Cert.KShiftIdeal.τ Cert.KShiftIdeal.sig) → Buf (Elt Ideal) ℓ) (g : Dev Cert.KShiftIdeal.nD → PrngReg), Pre_KShiftIdeal m →
    θ_run (Cert.KShiftIdeal.defs (F := Ideal)) (onTc (τ := Cert.KShiftIdeal.τ) (Cert.KShiftIdeal.main (F := Ideal))) ⟨m, fun _ => 0, g⟩ (fun r => (∀ c : Dev Cert.KShiftIdeal.nD,
      r.2.mem ((c.tc : Thread Cert.KShiftIdeal.nD Cert.KShiftIdeal.τ).loc Cert.KShiftIdeal.main_arg0) = m ((c.tc : Thread Cert.KShiftIdeal.nD Cert.KShiftIdeal.τ).loc Cert.KShiftIdeal.main_arg0)
      ∧ r.2.mem ((c.tc : Thread Cert.KShiftIdeal.nD Cert.KShiftIdeal.τ).loc Cert.KShiftIdeal.main_arg1) = m ((c.tc : Thread Cert.KShiftIdeal.nD Cert.KShiftIdeal.τ).loc Cert.KShiftIdeal.main_arg1))
      ∧ r.2.sem = fun _ => 0)

def quiescent_RShiftIdeal [hRShiftIdeal : Cert.RShiftIdeal.Facts] : Prop :=
  ∀ (m : (ℓ : Loc Cert.RShiftIdeal.nD Cert.RShiftIdeal.τ Cert.RShiftIdeal.sig) → Buf (Elt Ideal) ℓ) (g : Dev Cert.RShiftIdeal.nD → PrngReg), Pre_RShiftIdeal m →
    θ_run (Cert.RShiftIdeal.defs (F := Ideal)) (onTc (τ := Cert.RShiftIdeal.τ) (Cert.RShiftIdeal.main (F := Ideal))) ⟨m, fun _ => 0, g⟩ (fun r => (∀ c : Dev Cert.RShiftIdeal.nD,
      r.2.mem ((c.tc : Thread Cert.RShiftIdeal.nD Cert.RShiftIdeal.τ).loc Cert.RShiftIdeal.main_arg0) = m ((c.tc : Thread Cert.RShiftIdeal.nD Cert.RShiftIdeal.τ).loc Cert.RShiftIdeal.main_arg0)
      ∧ r.2.mem ((c.tc : Thread Cert.RShiftIdeal.nD Cert.RShiftIdeal.τ).loc Cert.RShiftIdeal.main_arg1) = m ((c.tc : Thread Cert.RShiftIdeal.nD Cert.RShiftIdeal.τ).loc Cert.RShiftIdeal.main_arg1))
      ∧ r.2.sem = fun _ => 0)

def quiescent_KNorm [hKNorm : Cert.KNorm.Facts] : Prop :=
  ∀ (m : (ℓ : Loc Cert.KNorm.nD Cert.KNorm.τ Cert.KNorm.sig) → Buf (Elt Bits) ℓ) (g : Dev Cert.KNorm.nD → PrngReg), Pre_KNorm m →
    θ_run (Cert.KNorm.defs (F := Bits)) (onTc (τ := Cert.KNorm.τ) (Cert.KNorm.main (F := Bits))) ⟨m, fun _ => 0, g⟩ (fun r => (∀ c : Dev Cert.KNorm.nD,
      r.2.mem ((c.tc : Thread Cert.KNorm.nD Cert.KNorm.τ).loc Cert.KNorm.main_arg0) = m ((c.tc : Thread Cert.KNorm.nD Cert.KNorm.τ).loc Cert.KNorm.main_arg0)
      ∧ r.2.mem ((c.tc : Thread Cert.KNorm.nD Cert.KNorm.τ).loc Cert.KNorm.main_arg1) = m ((c.tc : Thread Cert.KNorm.nD Cert.KNorm.τ).loc Cert.KNorm.main_arg1))
      ∧ r.2.sem = fun _ => 0)

def quiescent_KNormIdeal [hKNormIdeal : Cert.KNormIdeal.Facts] : Prop :=
  ∀ (m : (ℓ : Loc Cert.KNormIdeal.nD Cert.KNormIdeal.τ Cert.KNormIdeal.sig) → Buf (Elt Ideal) ℓ) (g : Dev Cert.KNormIdeal.nD → PrngReg), Pre_KNormIdeal m →
    θ_run (Cert.KNormIdeal.defs (F := Ideal)) (onTc (τ := Cert.KNormIdeal.τ) (Cert.KNormIdeal.main (F := Ideal))) ⟨m, fun _ => 0, g⟩ (fun r => (∀ c : Dev Cert.KNormIdeal.nD,
      r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
      ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1))
      ∧ r.2.sem = fun _ => 0)

def quiescent_RNormIdeal [hRNormIdeal : Cert.RNormIdeal.Facts] : Prop :=
  ∀ (m : (ℓ : Loc Cert.RNormIdeal.nD Cert.RNormIdeal.τ Cert.RNormIdeal.sig) → Buf (Elt Ideal) ℓ) (g : Dev Cert.RNormIdeal.nD → PrngReg), Pre_RNormIdeal m →
    θ_run (Cert.RNormIdeal.defs (F := Ideal)) (onTc (τ := Cert.RNormIdeal.τ) (Cert.RNormIdeal.main (F := Ideal))) ⟨m, fun _ => 0, g⟩ (fun r => (∀ c : Dev Cert.RNormIdeal.nD,
      r.2.mem ((c.tc : Thread Cert.RNormIdeal.nD Cert.RNormIdeal.τ).loc Cert.RNormIdeal.main_arg0) = m ((c.tc : Thread Cert.RNormIdeal.nD Cert.RNormIdeal.τ).loc Cert.RNormIdeal.main_arg0)
      ∧ r.2.mem ((c.tc : Thread Cert.RNormIdeal.nD Cert.RNormIdeal.τ).loc Cert.RNormIdeal.main_arg1) = m ((c.tc : Thread Cert.RNormIdeal.nD Cert.RNormIdeal.τ).loc Cert.RNormIdeal.main_arg1))
      ∧ r.2.sem = fun _ => 0)

def quiescent_KProjR [hKProjR : Cert.KProjR.Facts] : Prop :=
  ∀ (m : (ℓ : Loc Cert.KProjR.nD Cert.KProjR.τ Cert.KProjR.sig) → Buf (Elt Bits) ℓ) (g : Dev Cert.KProjR.nD → PrngReg), Pre_KProjR m →
    θ_run (Cert.KProjR.defs (F := Bits)) (onTc (τ := Cert.KProjR.τ) (Cert.KProjR.main (F := Bits))) ⟨m, fun _ => 0, g⟩ (fun r => (∀ c : Dev Cert.KProjR.nD,
      r.2.mem ((c.tc : Thread Cert.KProjR.nD Cert.KProjR.τ).loc Cert.KProjR.main_arg0) = m ((c.tc : Thread Cert.KProjR.nD Cert.KProjR.τ).loc Cert.KProjR.main_arg0)
      ∧ r.2.mem ((c.tc : Thread Cert.KProjR.nD Cert.KProjR.τ).loc Cert.KProjR.main_arg1) = m ((c.tc : Thread Cert.KProjR.nD Cert.KProjR.τ).loc Cert.KProjR.main_arg1)
      ∧ r.2.mem ((c.tc : Thread Cert.KProjR.nD Cert.KProjR.τ).loc Cert.KProjR.main_arg2) = m ((c.tc : Thread Cert.KProjR.nD Cert.KProjR.τ).loc Cert.KProjR.main_arg2))
      ∧ r.2.sem = fun _ => 0)

def quiescent_KProjRIdeal [hKProjRIdeal : Cert.KProjRIdeal.Facts] : Prop :=
  ∀ (m : (ℓ : Loc Cert.KProjRIdeal.nD Cert.KProjRIdeal.τ Cert.KProjRIdeal.sig) → Buf (Elt Ideal) ℓ) (g : Dev Cert.KProjRIdeal.nD → PrngReg), Pre_KProjRIdeal m →
    θ_run (Cert.KProjRIdeal.defs (F := Ideal)) (onTc (τ := Cert.KProjRIdeal.τ) (Cert.KProjRIdeal.main (F := Ideal))) ⟨m, fun _ => 0, g⟩ (fun r => (∀ c : Dev Cert.KProjRIdeal.nD,
      r.2.mem ((c.tc : Thread Cert.KProjRIdeal.nD Cert.KProjRIdeal.τ).loc Cert.KProjRIdeal.main_arg0) = m ((c.tc : Thread Cert.KProjRIdeal.nD Cert.KProjRIdeal.τ).loc Cert.KProjRIdeal.main_arg0)
      ∧ r.2.mem ((c.tc : Thread Cert.KProjRIdeal.nD Cert.KProjRIdeal.τ).loc Cert.KProjRIdeal.main_arg1) = m ((c.tc : Thread Cert.KProjRIdeal.nD Cert.KProjRIdeal.τ).loc Cert.KProjRIdeal.main_arg1)
      ∧ r.2.mem ((c.tc : Thread Cert.KProjRIdeal.nD Cert.KProjRIdeal.τ).loc Cert.KProjRIdeal.main_arg2) = m ((c.tc : Thread Cert.KProjRIdeal.nD Cert.KProjRIdeal.τ).loc Cert.KProjRIdeal.main_arg2))
      ∧ r.2.sem = fun _ => 0)

def quiescent_RProjRIdeal [hRProjRIdeal : Cert.RProjRIdeal.Facts] : Prop :=
  ∀ (m : (ℓ : Loc Cert.RProjRIdeal.nD Cert.RProjRIdeal.τ Cert.RProjRIdeal.sig) → Buf (Elt Ideal) ℓ) (g : Dev Cert.RProjRIdeal.nD → PrngReg), Pre_RProjRIdeal m →
    θ_run (Cert.RProjRIdeal.defs (F := Ideal)) (onTc (τ := Cert.RProjRIdeal.τ) (Cert.RProjRIdeal.main (F := Ideal))) ⟨m, fun _ => 0, g⟩ (fun r => (∀ c : Dev Cert.RProjRIdeal.nD,
      r.2.mem ((c.tc : Thread Cert.RProjRIdeal.nD Cert.RProjRIdeal.τ).loc Cert.RProjRIdeal.main_arg0) = m ((c.tc : Thread Cert.RProjRIdeal.nD Cert.RProjRIdeal.τ).loc Cert.RProjRIdeal.main_arg0)
      ∧ r.2.mem ((c.tc : Thread Cert.RProjRIdeal.nD Cert.RProjRIdeal.τ).loc Cert.RProjRIdeal.main_arg1) = m ((c.tc : Thread Cert.RProjRIdeal.nD Cert.RProjRIdeal.τ).loc Cert.RProjRIdeal.main_arg1)
      ∧ r.2.mem ((c.tc : Thread Cert.RProjRIdeal.nD Cert.RProjRIdeal.τ).loc Cert.RProjRIdeal.main_arg2) = m ((c.tc : Thread Cert.RProjRIdeal.nD Cert.RProjRIdeal.τ).loc Cert.RProjRIdeal.main_arg2))
      ∧ r.2.sem = fun _ => 0)

def quiescent_KProjM [hKProjM : Cert.KProjM.Facts] : Prop :=
  ∀ (m : (ℓ : Loc Cert.KProjM.nD Cert.KProjM.τ Cert.KProjM.sig) → Buf (Elt Bits) ℓ) (g : Dev Cert.KProjM.nD → PrngReg), Pre_KProjM m →
    θ_run (Cert.KProjM.defs (F := Bits)) (onTc (τ := Cert.KProjM.τ) (Cert.KProjM.main (F := Bits))) ⟨m, fun _ => 0, g⟩ (fun r => (∀ c : Dev Cert.KProjM.nD,
      r.2.mem ((c.tc : Thread Cert.KProjM.nD Cert.KProjM.τ).loc Cert.KProjM.main_arg0) = m ((c.tc : Thread Cert.KProjM.nD Cert.KProjM.τ).loc Cert.KProjM.main_arg0)
      ∧ r.2.mem ((c.tc : Thread Cert.KProjM.nD Cert.KProjM.τ).loc Cert.KProjM.main_arg1) = m ((c.tc : Thread Cert.KProjM.nD Cert.KProjM.τ).loc Cert.KProjM.main_arg1)
      ∧ r.2.mem ((c.tc : Thread Cert.KProjM.nD Cert.KProjM.τ).loc Cert.KProjM.main_arg2) = m ((c.tc : Thread Cert.KProjM.nD Cert.KProjM.τ).loc Cert.KProjM.main_arg2))
      ∧ r.2.sem = fun _ => 0)

def quiescent_KProjMIdeal [hKProjMIdeal : Cert.KProjMIdeal.Facts] : Prop :=
  ∀ (m : (ℓ : Loc Cert.KProjMIdeal.nD Cert.KProjMIdeal.τ Cert.KProjMIdeal.sig) → Buf (Elt Ideal) ℓ) (g : Dev Cert.KProjMIdeal.nD → PrngReg), Pre_KProjMIdeal m →
    θ_run (Cert.KProjMIdeal.defs (F := Ideal)) (onTc (τ := Cert.KProjMIdeal.τ) (Cert.KProjMIdeal.main (F := Ideal))) ⟨m, fun _ => 0, g⟩ (fun r => (∀ c : Dev Cert.KProjMIdeal.nD,
      r.2.mem ((c.tc : Thread Cert.KProjMIdeal.nD Cert.KProjMIdeal.τ).loc Cert.KProjMIdeal.main_arg0) = m ((c.tc : Thread Cert.KProjMIdeal.nD Cert.KProjMIdeal.τ).loc Cert.KProjMIdeal.main_arg0)
      ∧ r.2.mem ((c.tc : Thread Cert.KProjMIdeal.nD Cert.KProjMIdeal.τ).loc Cert.KProjMIdeal.main_arg1) = m ((c.tc : Thread Cert.KProjMIdeal.nD Cert.KProjMIdeal.τ).loc Cert.KProjMIdeal.main_arg1)
      ∧ r.2.mem ((c.tc : Thread Cert.KProjMIdeal.nD Cert.KProjMIdeal.τ).loc Cert.KProjMIdeal.main_arg2) = m ((c.tc : Thread Cert.KProjMIdeal.nD Cert.KProjMIdeal.τ).loc Cert.KProjMIdeal.main_arg2))
      ∧ r.2.sem = fun _ => 0)

def quiescent_RProjMIdeal [hRProjMIdeal : Cert.RProjMIdeal.Facts] : Prop :=
  ∀ (m : (ℓ : Loc Cert.RProjMIdeal.nD Cert.RProjMIdeal.τ Cert.RProjMIdeal.sig) → Buf (Elt Ideal) ℓ) (g : Dev Cert.RProjMIdeal.nD → PrngReg), Pre_RProjMIdeal m →
    θ_run (Cert.RProjMIdeal.defs (F := Ideal)) (onTc (τ := Cert.RProjMIdeal.τ) (Cert.RProjMIdeal.main (F := Ideal))) ⟨m, fun _ => 0, g⟩ (fun r => (∀ c : Dev Cert.RProjMIdeal.nD,
      r.2.mem ((c.tc : Thread Cert.RProjMIdeal.nD Cert.RProjMIdeal.τ).loc Cert.RProjMIdeal.main_arg0) = m ((c.tc : Thread Cert.RProjMIdeal.nD Cert.RProjMIdeal.τ).loc Cert.RProjMIdeal.main_arg0)
      ∧ r.2.mem ((c.tc : Thread Cert.RProjMIdeal.nD Cert.RProjMIdeal.τ).loc Cert.RProjMIdeal.main_arg1) = m ((c.tc : Thread Cert.RProjMIdeal.nD Cert.RProjMIdeal.τ).loc Cert.RProjMIdeal.main_arg1)
      ∧ r.2.mem ((c.tc : Thread Cert.RProjMIdeal.nD Cert.RProjMIdeal.τ).loc Cert.RProjMIdeal.main_arg2) = m ((c.tc : Thread Cert.RProjMIdeal.nD Cert.RProjMIdeal.τ).loc Cert.RProjMIdeal.main_arg2))
      ∧ r.2.sem = fun _ => 0)

def quiescent_KRope [hKRope : Cert.KRope.Facts] : Prop :=
  ∀ (m : (ℓ : Loc Cert.KRope.nD Cert.KRope.τ Cert.KRope.sig) → Buf (Elt Bits) ℓ) (g : Dev Cert.KRope.nD → PrngReg), Pre_KRope m →
    θ_run (Cert.KRope.defs (F := Bits)) (onTc (τ := Cert.KRope.τ) (Cert.KRope.main (F := Bits))) ⟨m, fun _ => 0, g⟩ (fun r => (∀ c : Dev Cert.KRope.nD,
      r.2.mem ((c.tc : Thread Cert.KRope.nD Cert.KRope.τ).loc Cert.KRope.main_arg0) = m ((c.tc : Thread Cert.KRope.nD Cert.KRope.τ).loc Cert.KRope.main_arg0))
      ∧ r.2.sem = fun _ => 0)

def quiescent_KRopeIdeal [hKRopeIdeal : Cert.KRopeIdeal.Facts] : Prop :=
  ∀ (m : (ℓ : Loc Cert.KRopeIdeal.nD Cert.KRopeIdeal.τ Cert.KRopeIdeal.sig) → Buf (Elt Ideal) ℓ) (g : Dev Cert.KRopeIdeal.nD → PrngReg), Pre_KRopeIdeal m →
    θ_run (Cert.KRopeIdeal.defs (F := Ideal)) (onTc (τ := Cert.KRopeIdeal.τ) (Cert.KRopeIdeal.main (F := Ideal))) ⟨m, fun _ => 0, g⟩ (fun r => (∀ c : Dev Cert.KRopeIdeal.nD,
      r.2.mem ((c.tc : Thread Cert.KRopeIdeal.nD Cert.KRopeIdeal.τ).loc Cert.KRopeIdeal.main_arg0) = m ((c.tc : Thread Cert.KRopeIdeal.nD Cert.KRopeIdeal.τ).loc Cert.KRopeIdeal.main_arg0))
      ∧ r.2.sem = fun _ => 0)

def quiescent_RRopeIdeal [hRRopeIdeal : Cert.RRopeIdeal.Facts] : Prop :=
  ∀ (m : (ℓ : Loc Cert.RRopeIdeal.nD Cert.RRopeIdeal.τ Cert.RRopeIdeal.sig) → Buf (Elt Ideal) ℓ) (g : Dev Cert.RRopeIdeal.nD → PrngReg), Pre_RRopeIdeal m →
    θ_run (Cert.RRopeIdeal.defs (F := Ideal)) (onTc (τ := Cert.RRopeIdeal.τ) (Cert.RRopeIdeal.main (F := Ideal))) ⟨m, fun _ => 0, g⟩ (fun r => (∀ c : Dev Cert.RRopeIdeal.nD,
      r.2.mem ((c.tc : Thread Cert.RRopeIdeal.nD Cert.RRopeIdeal.τ).loc Cert.RRopeIdeal.main_arg0) = m ((c.tc : Thread Cert.RRopeIdeal.nD Cert.RRopeIdeal.τ).loc Cert.RRopeIdeal.main_arg0))
      ∧ r.2.sem = fun _ => 0)

def quiescent_KMix [hKMix : Cert.KMix.Facts] : Prop :=
  ∀ (m : (ℓ : Loc Cert.KMix.nD Cert.KMix.τ Cert.KMix.sig) → Buf (Elt Bits) ℓ) (g : Dev Cert.KMix.nD → PrngReg), Pre_KMix m →
    θ_run (Cert.KMix.defs (F := Bits)) (onTc (τ := Cert.KMix.τ) (Cert.KMix.main (F := Bits))) ⟨m, fun _ => 0, g⟩ (fun r => (∀ c : Dev Cert.KMix.nD,
      r.2.mem ((c.tc : Thread Cert.KMix.nD Cert.KMix.τ).loc Cert.KMix.main_arg0) = m ((c.tc : Thread Cert.KMix.nD Cert.KMix.τ).loc Cert.KMix.main_arg0)
      ∧ r.2.mem ((c.tc : Thread Cert.KMix.nD Cert.KMix.τ).loc Cert.KMix.main_arg1) = m ((c.tc : Thread Cert.KMix.nD Cert.KMix.τ).loc Cert.KMix.main_arg1)
      ∧ r.2.mem ((c.tc : Thread Cert.KMix.nD Cert.KMix.τ).loc Cert.KMix.main_arg2) = m ((c.tc : Thread Cert.KMix.nD Cert.KMix.τ).loc Cert.KMix.main_arg2)
      ∧ r.2.mem ((c.tc : Thread Cert.KMix.nD Cert.KMix.τ).loc Cert.KMix.main_arg3) = m ((c.tc : Thread Cert.KMix.nD Cert.KMix.τ).loc Cert.KMix.main_arg3)
      ∧ r.2.mem ((c.tc : Thread Cert.KMix.nD Cert.KMix.τ).loc Cert.KMix.main_arg4) = m ((c.tc : Thread Cert.KMix.nD Cert.KMix.τ).loc Cert.KMix.main_arg4)
      ∧ r.2.mem ((c.tc : Thread Cert.KMix.nD Cert.KMix.τ).loc Cert.KMix.main_arg5) = m ((c.tc : Thread Cert.KMix.nD Cert.KMix.τ).loc Cert.KMix.main_arg5)
      ∧ r.2.mem ((c.tc : Thread Cert.KMix.nD Cert.KMix.τ).loc Cert.KMix.main_arg6) = m ((c.tc : Thread Cert.KMix.nD Cert.KMix.τ).loc Cert.KMix.main_arg6)
      ∧ r.2.mem ((c.tc : Thread Cert.KMix.nD Cert.KMix.τ).loc Cert.KMix.main_arg7) = m ((c.tc : Thread Cert.KMix.nD Cert.KMix.τ).loc Cert.KMix.main_arg7)
      ∧ r.2.mem ((c.tc : Thread Cert.KMix.nD Cert.KMix.τ).loc Cert.KMix.main_arg8) = m ((c.tc : Thread Cert.KMix.nD Cert.KMix.τ).loc Cert.KMix.main_arg8)
      ∧ r.2.mem ((c.tc : Thread Cert.KMix.nD Cert.KMix.τ).loc Cert.KMix.main_arg9) = m ((c.tc : Thread Cert.KMix.nD Cert.KMix.τ).loc Cert.KMix.main_arg9)
      ∧ r.2.mem ((c.tc : Thread Cert.KMix.nD Cert.KMix.τ).loc Cert.KMix.main_arg10) = m ((c.tc : Thread Cert.KMix.nD Cert.KMix.τ).loc Cert.KMix.main_arg10))
      ∧ r.2.sem = fun _ => 0)

def quiescent_KMixIdeal [hKMixIdeal : Cert.KMixIdeal.Facts] : Prop :=
  ∀ (m : (ℓ : Loc Cert.KMixIdeal.nD Cert.KMixIdeal.τ Cert.KMixIdeal.sig) → Buf (Elt Ideal) ℓ) (g : Dev Cert.KMixIdeal.nD → PrngReg), Pre_KMixIdeal m →
    θ_run (Cert.KMixIdeal.defs (F := Ideal)) (onTc (τ := Cert.KMixIdeal.τ) (Cert.KMixIdeal.main (F := Ideal))) ⟨m, fun _ => 0, g⟩ (fun r => (∀ c : Dev Cert.KMixIdeal.nD,
      r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
      ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
      ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
      ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
      ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
      ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5)
      ∧ r.2.mem ((c.tc : Thread Cert.KMixIdeal.nD Cert.KMixIdeal.τ).loc Cert.KMixIdeal.main_arg6) = m ((c.tc : Thread Cert.KMixIdeal.nD Cert.KMixIdeal.τ).loc Cert.KMixIdeal.main_arg6)
      ∧ r.2.mem ((c.tc : Thread Cert.KMixIdeal.nD Cert.KMixIdeal.τ).loc Cert.KMixIdeal.main_arg7) = m ((c.tc : Thread Cert.KMixIdeal.nD Cert.KMixIdeal.τ).loc Cert.KMixIdeal.main_arg7)
      ∧ r.2.mem ((c.tc : Thread Cert.KMixIdeal.nD Cert.KMixIdeal.τ).loc Cert.KMixIdeal.main_arg8) = m ((c.tc : Thread Cert.KMixIdeal.nD Cert.KMixIdeal.τ).loc Cert.KMixIdeal.main_arg8)
      ∧ r.2.mem ((c.tc : Thread Cert.KMixIdeal.nD Cert.KMixIdeal.τ).loc Cert.KMixIdeal.main_arg9) = m ((c.tc : Thread Cert.KMixIdeal.nD Cert.KMixIdeal.τ).loc Cert.KMixIdeal.main_arg9)
      ∧ r.2.mem ((c.tc : Thread Cert.KMixIdeal.nD Cert.KMixIdeal.τ).loc Cert.KMixIdeal.main_arg10) = m ((c.tc : Thread Cert.KMixIdeal.nD Cert.KMixIdeal.τ).loc Cert.KMixIdeal.main_arg10))
      ∧ r.2.sem = fun _ => 0)

def quiescent_RMixIdeal [hRMixIdeal : Cert.RMixIdeal.Facts] : Prop :=
  ∀ (m : (ℓ : Loc Cert.RMixIdeal.nD Cert.RMixIdeal.τ Cert.RMixIdeal.sig) → Buf (Elt Ideal) ℓ) (g : Dev Cert.RMixIdeal.nD → PrngReg), Pre_RMixIdeal m →
    θ_run (Cert.RMixIdeal.defs (F := Ideal)) (onTc (τ := Cert.RMixIdeal.τ) (Cert.RMixIdeal.main (F := Ideal))) ⟨m, fun _ => 0, g⟩ (fun r => (∀ c : Dev Cert.RMixIdeal.nD,
      r.2.mem ((c.tc : Thread Cert.RMixIdeal.nD Cert.RMixIdeal.τ).loc Cert.RMixIdeal.main_arg0) = m ((c.tc : Thread Cert.RMixIdeal.nD Cert.RMixIdeal.τ).loc Cert.RMixIdeal.main_arg0)
      ∧ r.2.mem ((c.tc : Thread Cert.RMixIdeal.nD Cert.RMixIdeal.τ).loc Cert.RMixIdeal.main_arg1) = m ((c.tc : Thread Cert.RMixIdeal.nD Cert.RMixIdeal.τ).loc Cert.RMixIdeal.main_arg1)
      ∧ r.2.mem ((c.tc : Thread Cert.RMixIdeal.nD Cert.RMixIdeal.τ).loc Cert.RMixIdeal.main_arg2) = m ((c.tc : Thread Cert.RMixIdeal.nD Cert.RMixIdeal.τ).loc Cert.RMixIdeal.main_arg2)
      ∧ r.2.mem ((c.tc : Thread Cert.RMixIdeal.nD Cert.RMixIdeal.τ).loc Cert.RMixIdeal.main_arg3) = m ((c.tc : Thread Cert.RMixIdeal.nD Cert.RMixIdeal.τ).loc Cert.RMixIdeal.main_arg3)
      ∧ r.2.mem ((c.tc : Thread Cert.RMixIdeal.nD Cert.RMixIdeal.τ).loc Cert.RMixIdeal.main_arg4) = m ((c.tc : Thread Cert.RMixIdeal.nD Cert.RMixIdeal.τ).loc Cert.RMixIdeal.main_arg4)
      ∧ r.2.mem ((c.tc : Thread Cert.RMixIdeal.nD Cert.RMixIdeal.τ).loc Cert.RMixIdeal.main_arg5) = m ((c.tc : Thread Cert.RMixIdeal.nD Cert.RMixIdeal.τ).loc Cert.RMixIdeal.main_arg5)
      ∧ r.2.mem ((c.tc : Thread Cert.RMixIdeal.nD Cert.RMixIdeal.τ).loc Cert.RMixIdeal.main_arg6) = m ((c.tc : Thread Cert.RMixIdeal.nD Cert.RMixIdeal.τ).loc Cert.RMixIdeal.main_arg6)
      ∧ r.2.mem ((c.tc : Thread Cert.RMixIdeal.nD Cert.RMixIdeal.τ).loc Cert.RMixIdeal.main_arg7) = m ((c.tc : Thread Cert.RMixIdeal.nD Cert.RMixIdeal.τ).loc Cert.RMixIdeal.main_arg7)
      ∧ r.2.mem ((c.tc : Thread Cert.RMixIdeal.nD Cert.RMixIdeal.τ).loc Cert.RMixIdeal.main_arg8) = m ((c.tc : Thread Cert.RMixIdeal.nD Cert.RMixIdeal.τ).loc Cert.RMixIdeal.main_arg8)
      ∧ r.2.mem ((c.tc : Thread Cert.RMixIdeal.nD Cert.RMixIdeal.τ).loc Cert.RMixIdeal.main_arg9) = m ((c.tc : Thread Cert.RMixIdeal.nD Cert.RMixIdeal.τ).loc Cert.RMixIdeal.main_arg9)
      ∧ r.2.mem ((c.tc : Thread Cert.RMixIdeal.nD Cert.RMixIdeal.τ).loc Cert.RMixIdeal.main_arg10) = m ((c.tc : Thread Cert.RMixIdeal.nD Cert.RMixIdeal.τ).loc Cert.RMixIdeal.main_arg10))
      ∧ r.2.sem = fun _ => 0)

def quiescent_KMoba [hKMoba : Cert.KMoba.Facts] : Prop :=
  ∀ (m : (ℓ : Loc Cert.KMoba.nD Cert.KMoba.τ Cert.KMoba.sig) → Buf (Elt Bits) ℓ) (g : Dev Cert.KMoba.nD → PrngReg), Pre_KMoba m →
    θ_run (Cert.KMoba.defs (F := Bits)) (onTc (τ := Cert.KMoba.τ) (Cert.KMoba.main (F := Bits))) ⟨m, fun _ => 0, g⟩ (fun r => (∀ c : Dev Cert.KMoba.nD,
      r.2.mem ((c.tc : Thread Cert.KMoba.nD Cert.KMoba.τ).loc Cert.KMoba.main_arg0) = m ((c.tc : Thread Cert.KMoba.nD Cert.KMoba.τ).loc Cert.KMoba.main_arg0)
      ∧ r.2.mem ((c.tc : Thread Cert.KMoba.nD Cert.KMoba.τ).loc Cert.KMoba.main_arg1) = m ((c.tc : Thread Cert.KMoba.nD Cert.KMoba.τ).loc Cert.KMoba.main_arg1)
      ∧ r.2.mem ((c.tc : Thread Cert.KMoba.nD Cert.KMoba.τ).loc Cert.KMoba.main_arg2) = m ((c.tc : Thread Cert.KMoba.nD Cert.KMoba.τ).loc Cert.KMoba.main_arg2))
      ∧ r.2.sem = fun _ => 0)

def quiescent_KMobaIdeal [hKMobaIdeal : Cert.KMobaIdeal.Facts] : Prop :=
  ∀ (m : (ℓ : Loc Cert.KMobaIdeal.nD Cert.KMobaIdeal.τ Cert.KMobaIdeal.sig) → Buf (Elt Ideal) ℓ) (g : Dev Cert.KMobaIdeal.nD → PrngReg), Pre_KMobaIdeal m →
    θ_run (Cert.KMobaIdeal.defs (F := Ideal)) (onTc (τ := Cert.KMobaIdeal.τ) (Cert.KMobaIdeal.main (F := Ideal))) ⟨m, fun _ => 0, g⟩ (fun r => (∀ c : Dev Cert.KMobaIdeal.nD,
      r.2.mem ((c.tc : Thread Cert.KMobaIdeal.nD Cert.KMobaIdeal.τ).loc Cert.KMobaIdeal.main_arg0) = m ((c.tc : Thread Cert.KMobaIdeal.nD Cert.KMobaIdeal.τ).loc Cert.KMobaIdeal.main_arg0)
      ∧ r.2.mem ((c.tc : Thread Cert.KMobaIdeal.nD Cert.KMobaIdeal.τ).loc Cert.KMobaIdeal.main_arg1) = m ((c.tc : Thread Cert.KMobaIdeal.nD Cert.KMobaIdeal.τ).loc Cert.KMobaIdeal.main_arg1)
      ∧ r.2.mem ((c.tc : Thread Cert.KMobaIdeal.nD Cert.KMobaIdeal.τ).loc Cert.KMobaIdeal.main_arg2) = m ((c.tc : Thread Cert.KMobaIdeal.nD Cert.KMobaIdeal.τ).loc Cert.KMobaIdeal.main_arg2))
      ∧ r.2.sem = fun _ => 0)

def quiescent_KMobaIdeal_pre_finite [hKMobaIdeal : Cert.KMobaIdeal.Facts] [hPre_finite : Cert.Pre_finite.Facts] : Prop :=
  ∀ (m : (ℓ : Loc Cert.KMobaIdeal.nD Cert.KMobaIdeal.τ Cert.KMobaIdeal.sig) → Buf (Elt Ideal) ℓ) (g : Dev Cert.KMobaIdeal.nD → PrngReg), Pre_KMobaIdeal_finite m →
    θ_run (Cert.KMobaIdeal.defs (F := Ideal)) (onTc (τ := Cert.KMobaIdeal.τ) (Cert.KMobaIdeal.main (F := Ideal))) ⟨m, fun _ => 0, g⟩ (fun r => (∀ c : Dev Cert.KMobaIdeal.nD,
      r.2.mem ((c.tc : Thread Cert.KMobaIdeal.nD Cert.KMobaIdeal.τ).loc Cert.KMobaIdeal.main_arg0) = m ((c.tc : Thread Cert.KMobaIdeal.nD Cert.KMobaIdeal.τ).loc Cert.KMobaIdeal.main_arg0)
      ∧ r.2.mem ((c.tc : Thread Cert.KMobaIdeal.nD Cert.KMobaIdeal.τ).loc Cert.KMobaIdeal.main_arg1) = m ((c.tc : Thread Cert.KMobaIdeal.nD Cert.KMobaIdeal.τ).loc Cert.KMobaIdeal.main_arg1)
      ∧ r.2.mem ((c.tc : Thread Cert.KMobaIdeal.nD Cert.KMobaIdeal.τ).loc Cert.KMobaIdeal.main_arg2) = m ((c.tc : Thread Cert.KMobaIdeal.nD Cert.KMobaIdeal.τ).loc Cert.KMobaIdeal.main_arg2))
      ∧ r.2.sem = fun _ => 0)

def quiescent_RMobaIdeal [hRMobaIdeal : Cert.RMobaIdeal.Facts] : Prop :=
  ∀ (m : (ℓ : Loc Cert.RMobaIdeal.nD Cert.RMobaIdeal.τ Cert.RMobaIdeal.sig) → Buf (Elt Ideal) ℓ) (g : Dev Cert.RMobaIdeal.nD → PrngReg), Pre_RMobaIdeal m →
    θ_run (Cert.RMobaIdeal.defs (F := Ideal)) (onTc (τ := Cert.RMobaIdeal.τ) (Cert.RMobaIdeal.main (F := Ideal))) ⟨m, fun _ => 0, g⟩ (fun r => (∀ c : Dev Cert.RMobaIdeal.nD,
      r.2.mem ((c.tc : Thread Cert.RMobaIdeal.nD Cert.RMobaIdeal.τ).loc Cert.RMobaIdeal.main_arg0) = m ((c.tc : Thread Cert.RMobaIdeal.nD Cert.RMobaIdeal.τ).loc Cert.RMobaIdeal.main_arg0)
      ∧ r.2.mem ((c.tc : Thread Cert.RMobaIdeal.nD Cert.RMobaIdeal.τ).loc Cert.RMobaIdeal.main_arg1) = m ((c.tc : Thread Cert.RMobaIdeal.nD Cert.RMobaIdeal.τ).loc Cert.RMobaIdeal.main_arg1)
      ∧ r.2.mem ((c.tc : Thread Cert.RMobaIdeal.nD Cert.RMobaIdeal.τ).loc Cert.RMobaIdeal.main_arg2) = m ((c.tc : Thread Cert.RMobaIdeal.nD Cert.RMobaIdeal.τ).loc Cert.RMobaIdeal.main_arg2))
      ∧ r.2.sem = fun _ => 0)

def quiescent_RMobaIdeal_pre_finite [hRMobaIdeal : Cert.RMobaIdeal.Facts] [hPre_finite : Cert.Pre_finite.Facts] : Prop :=
  ∀ (m : (ℓ : Loc Cert.RMobaIdeal.nD Cert.RMobaIdeal.τ Cert.RMobaIdeal.sig) → Buf (Elt Ideal) ℓ) (g : Dev Cert.RMobaIdeal.nD → PrngReg), Pre_RMobaIdeal_finite m →
    θ_run (Cert.RMobaIdeal.defs (F := Ideal)) (onTc (τ := Cert.RMobaIdeal.τ) (Cert.RMobaIdeal.main (F := Ideal))) ⟨m, fun _ => 0, g⟩ (fun r => (∀ c : Dev Cert.RMobaIdeal.nD,
      r.2.mem ((c.tc : Thread Cert.RMobaIdeal.nD Cert.RMobaIdeal.τ).loc Cert.RMobaIdeal.main_arg0) = m ((c.tc : Thread Cert.RMobaIdeal.nD Cert.RMobaIdeal.τ).loc Cert.RMobaIdeal.main_arg0)
      ∧ r.2.mem ((c.tc : Thread Cert.RMobaIdeal.nD Cert.RMobaIdeal.τ).loc Cert.RMobaIdeal.main_arg1) = m ((c.tc : Thread Cert.RMobaIdeal.nD Cert.RMobaIdeal.τ).loc Cert.RMobaIdeal.main_arg1)
      ∧ r.2.mem ((c.tc : Thread Cert.RMobaIdeal.nD Cert.RMobaIdeal.τ).loc Cert.RMobaIdeal.main_arg2) = m ((c.tc : Thread Cert.RMobaIdeal.nD Cert.RMobaIdeal.τ).loc Cert.RMobaIdeal.main_arg2))
      ∧ r.2.sem = fun _ => 0)

def quiescent_KScan [hKScan : Cert.KScan.Facts] : Prop :=
  ∀ (m : (ℓ : Loc Cert.KScan.nD Cert.KScan.τ Cert.KScan.sig) → Buf (Elt Bits) ℓ) (g : Dev Cert.KScan.nD → PrngReg), Pre_KScan m →
    θ_run (Cert.KScan.defs (F := Bits)) (onTc (τ := Cert.KScan.τ) (Cert.KScan.main (F := Bits))) ⟨m, fun _ => 0, g⟩ (fun r => (∀ c : Dev Cert.KScan.nD,
      r.2.mem ((c.tc : Thread Cert.KScan.nD Cert.KScan.τ).loc Cert.KScan.main_arg0) = m ((c.tc : Thread Cert.KScan.nD Cert.KScan.τ).loc Cert.KScan.main_arg0)
      ∧ r.2.mem ((c.tc : Thread Cert.KScan.nD Cert.KScan.τ).loc Cert.KScan.main_arg1) = m ((c.tc : Thread Cert.KScan.nD Cert.KScan.τ).loc Cert.KScan.main_arg1)
      ∧ r.2.mem ((c.tc : Thread Cert.KScan.nD Cert.KScan.τ).loc Cert.KScan.main_arg2) = m ((c.tc : Thread Cert.KScan.nD Cert.KScan.τ).loc Cert.KScan.main_arg2)
      ∧ r.2.mem ((c.tc : Thread Cert.KScan.nD Cert.KScan.τ).loc Cert.KScan.main_arg3) = m ((c.tc : Thread Cert.KScan.nD Cert.KScan.τ).loc Cert.KScan.main_arg3)
      ∧ r.2.mem ((c.tc : Thread Cert.KScan.nD Cert.KScan.τ).loc Cert.KScan.main_arg4) = m ((c.tc : Thread Cert.KScan.nD Cert.KScan.τ).loc Cert.KScan.main_arg4)
      ∧ r.2.mem ((c.tc : Thread Cert.KScan.nD Cert.KScan.τ).loc Cert.KScan.main_arg5) = m ((c.tc : Thread Cert.KScan.nD Cert.KScan.τ).loc Cert.KScan.main_arg5)
      ∧ r.2.mem ((c.tc : Thread Cert.KScan.nD Cert.KScan.τ).loc Cert.KScan.main_arg6) = m ((c.tc : Thread Cert.KScan.nD Cert.KScan.τ).loc Cert.KScan.main_arg6))
      ∧ r.2.sem = fun _ => 0)

def quiescent_KScanIdeal [hKScanIdeal : Cert.KScanIdeal.Facts] : Prop :=
  ∀ (m : (ℓ : Loc Cert.KScanIdeal.nD Cert.KScanIdeal.τ Cert.KScanIdeal.sig) → Buf (Elt Ideal) ℓ) (g : Dev Cert.KScanIdeal.nD → PrngReg), Pre_KScanIdeal m →
    θ_run (Cert.KScanIdeal.defs (F := Ideal)) (onTc (τ := Cert.KScanIdeal.τ) (Cert.KScanIdeal.main (F := Ideal))) ⟨m, fun _ => 0, g⟩ (fun r => (∀ c : Dev Cert.KScanIdeal.nD,
      r.2.mem ((c.tc : Thread Cert.KScanIdeal.nD Cert.KScanIdeal.τ).loc Cert.KScanIdeal.main_arg0) = m ((c.tc : Thread Cert.KScanIdeal.nD Cert.KScanIdeal.τ).loc Cert.KScanIdeal.main_arg0)
      ∧ r.2.mem ((c.tc : Thread Cert.KScanIdeal.nD Cert.KScanIdeal.τ).loc Cert.KScanIdeal.main_arg1) = m ((c.tc : Thread Cert.KScanIdeal.nD Cert.KScanIdeal.τ).loc Cert.KScanIdeal.main_arg1)
      ∧ r.2.mem ((c.tc : Thread Cert.KScanIdeal.nD Cert.KScanIdeal.τ).loc Cert.KScanIdeal.main_arg2) = m ((c.tc : Thread Cert.KScanIdeal.nD Cert.KScanIdeal.τ).loc Cert.KScanIdeal.main_arg2)
      ∧ r.2.mem ((c.tc : Thread Cert.KScanIdeal.nD Cert.KScanIdeal.τ).loc Cert.KScanIdeal.main_arg3) = m ((c.tc : Thread Cert.KScanIdeal.nD Cert.KScanIdeal.τ).loc Cert.KScanIdeal.main_arg3)
      ∧ r.2.mem ((c.tc : Thread Cert.KScanIdeal.nD Cert.KScanIdeal.τ).loc Cert.KScanIdeal.main_arg4) = m ((c.tc : Thread Cert.KScanIdeal.nD Cert.KScanIdeal.τ).loc Cert.KScanIdeal.main_arg4)
      ∧ r.2.mem ((c.tc : Thread Cert.KScanIdeal.nD Cert.KScanIdeal.τ).loc Cert.KScanIdeal.main_arg5) = m ((c.tc : Thread Cert.KScanIdeal.nD Cert.KScanIdeal.τ).loc Cert.KScanIdeal.main_arg5)
      ∧ r.2.mem ((c.tc : Thread Cert.KScanIdeal.nD Cert.KScanIdeal.τ).loc Cert.KScanIdeal.main_arg6) = m ((c.tc : Thread Cert.KScanIdeal.nD Cert.KScanIdeal.τ).loc Cert.KScanIdeal.main_arg6))
      ∧ r.2.sem = fun _ => 0)

def quiescent_KScanIdeal_pre_numbers [hKScanIdeal : Cert.KScanIdeal.Facts] [hPre_numbers : Cert.Pre_numbers.Facts] : Prop :=
  ∀ (m : (ℓ : Loc Cert.KScanIdeal.nD Cert.KScanIdeal.τ Cert.KScanIdeal.sig) → Buf (Elt Ideal) ℓ) (g : Dev Cert.KScanIdeal.nD → PrngReg), Pre_KScanIdeal_numbers m →
    θ_run (Cert.KScanIdeal.defs (F := Ideal)) (onTc (τ := Cert.KScanIdeal.τ) (Cert.KScanIdeal.main (F := Ideal))) ⟨m, fun _ => 0, g⟩ (fun r => (∀ c : Dev Cert.KScanIdeal.nD,
      r.2.mem ((c.tc : Thread Cert.KScanIdeal.nD Cert.KScanIdeal.τ).loc Cert.KScanIdeal.main_arg0) = m ((c.tc : Thread Cert.KScanIdeal.nD Cert.KScanIdeal.τ).loc Cert.KScanIdeal.main_arg0)
      ∧ r.2.mem ((c.tc : Thread Cert.KScanIdeal.nD Cert.KScanIdeal.τ).loc Cert.KScanIdeal.main_arg1) = m ((c.tc : Thread Cert.KScanIdeal.nD Cert.KScanIdeal.τ).loc Cert.KScanIdeal.main_arg1)
      ∧ r.2.mem ((c.tc : Thread Cert.KScanIdeal.nD Cert.KScanIdeal.τ).loc Cert.KScanIdeal.main_arg2) = m ((c.tc : Thread Cert.KScanIdeal.nD Cert.KScanIdeal.τ).loc Cert.KScanIdeal.main_arg2)
      ∧ r.2.mem ((c.tc : Thread Cert.KScanIdeal.nD Cert.KScanIdeal.τ).loc Cert.KScanIdeal.main_arg3) = m ((c.tc : Thread Cert.KScanIdeal.nD Cert.KScanIdeal.τ).loc Cert.KScanIdeal.main_arg3)
      ∧ r.2.mem ((c.tc : Thread Cert.KScanIdeal.nD Cert.KScanIdeal.τ).loc Cert.KScanIdeal.main_arg4) = m ((c.tc : Thread Cert.KScanIdeal.nD Cert.KScanIdeal.τ).loc Cert.KScanIdeal.main_arg4)
      ∧ r.2.mem ((c.tc : Thread Cert.KScanIdeal.nD Cert.KScanIdeal.τ).loc Cert.KScanIdeal.main_arg5) = m ((c.tc : Thread Cert.KScanIdeal.nD Cert.KScanIdeal.τ).loc Cert.KScanIdeal.main_arg5)
      ∧ r.2.mem ((c.tc : Thread Cert.KScanIdeal.nD Cert.KScanIdeal.τ).loc Cert.KScanIdeal.main_arg6) = m ((c.tc : Thread Cert.KScanIdeal.nD Cert.KScanIdeal.τ).loc Cert.KScanIdeal.main_arg6))
      ∧ r.2.sem = fun _ => 0)

def quiescent_RScanIdeal [hRScanIdeal : Cert.RScanIdeal.Facts] : Prop :=
  ∀ (m : (ℓ : Loc Cert.RScanIdeal.nD Cert.RScanIdeal.τ Cert.RScanIdeal.sig) → Buf (Elt Ideal) ℓ) (g : Dev Cert.RScanIdeal.nD → PrngReg), Pre_RScanIdeal m →
    θ_run (Cert.RScanIdeal.defs (F := Ideal)) (onTc (τ := Cert.RScanIdeal.τ) (Cert.RScanIdeal.main (F := Ideal))) ⟨m, fun _ => 0, g⟩ (fun r => (∀ c : Dev Cert.RScanIdeal.nD,
      r.2.mem ((c.tc : Thread Cert.RScanIdeal.nD Cert.RScanIdeal.τ).loc Cert.RScanIdeal.main_arg0) = m ((c.tc : Thread Cert.RScanIdeal.nD Cert.RScanIdeal.τ).loc Cert.RScanIdeal.main_arg0)
      ∧ r.2.mem ((c.tc : Thread Cert.RScanIdeal.nD Cert.RScanIdeal.τ).loc Cert.RScanIdeal.main_arg1) = m ((c.tc : Thread Cert.RScanIdeal.nD Cert.RScanIdeal.τ).loc Cert.RScanIdeal.main_arg1)
      ∧ r.2.mem ((c.tc : Thread Cert.RScanIdeal.nD Cert.RScanIdeal.τ).loc Cert.RScanIdeal.main_arg2) = m ((c.tc : Thread Cert.RScanIdeal.nD Cert.RScanIdeal.τ).loc Cert.RScanIdeal.main_arg2)
      ∧ r.2.mem ((c.tc : Thread Cert.RScanIdeal.nD Cert.RScanIdeal.τ).loc Cert.RScanIdeal.main_arg3) = m ((c.tc : Thread Cert.RScanIdeal.nD Cert.RScanIdeal.τ).loc Cert.RScanIdeal.main_arg3)
      ∧ r.2.mem ((c.tc : Thread Cert.RScanIdeal.nD Cert.RScanIdeal.τ).loc Cert.RScanIdeal.main_arg4) = m ((c.tc : Thread Cert.RScanIdeal.nD Cert.RScanIdeal.τ).loc Cert.RScanIdeal.main_arg4)
      ∧ r.2.mem ((c.tc : Thread Cert.RScanIdeal.nD Cert.RScanIdeal.τ).loc Cert.RScanIdeal.main_arg5) = m ((c.tc : Thread Cert.RScanIdeal.nD Cert.RScanIdeal.τ).loc Cert.RScanIdeal.main_arg5)
      ∧ r.2.mem ((c.tc : Thread Cert.RScanIdeal.nD Cert.RScanIdeal.τ).loc Cert.RScanIdeal.main_arg6) = m ((c.tc : Thread Cert.RScanIdeal.nD Cert.RScanIdeal.τ).loc Cert.RScanIdeal.main_arg6))
      ∧ r.2.sem = fun _ => 0)

def quiescent_RScanIdeal_pre_numbers [hRScanIdeal : Cert.RScanIdeal.Facts] [hPre_numbers : Cert.Pre_numbers.Facts] : Prop :=
  ∀ (m : (ℓ : Loc Cert.RScanIdeal.nD Cert.RScanIdeal.τ Cert.RScanIdeal.sig) → Buf (Elt Ideal) ℓ) (g : Dev Cert.RScanIdeal.nD → PrngReg), Pre_RScanIdeal_numbers m →
    θ_run (Cert.RScanIdeal.defs (F := Ideal)) (onTc (τ := Cert.RScanIdeal.τ) (Cert.RScanIdeal.main (F := Ideal))) ⟨m, fun _ => 0, g⟩ (fun r => (∀ c : Dev Cert.RScanIdeal.nD,
      r.2.mem ((c.tc : Thread Cert.RScanIdeal.nD Cert.RScanIdeal.τ).loc Cert.RScanIdeal.main_arg0) = m ((c.tc : Thread Cert.RScanIdeal.nD Cert.RScanIdeal.τ).loc Cert.RScanIdeal.main_arg0)
      ∧ r.2.mem ((c.tc : Thread Cert.RScanIdeal.nD Cert.RScanIdeal.τ).loc Cert.RScanIdeal.main_arg1) = m ((c.tc : Thread Cert.RScanIdeal.nD Cert.RScanIdeal.τ).loc Cert.RScanIdeal.main_arg1)
      ∧ r.2.mem ((c.tc : Thread Cert.RScanIdeal.nD Cert.RScanIdeal.τ).loc Cert.RScanIdeal.main_arg2) = m ((c.tc : Thread Cert.RScanIdeal.nD Cert.RScanIdeal.τ).loc Cert.RScanIdeal.main_arg2)
      ∧ r.2.mem ((c.tc : Thread Cert.RScanIdeal.nD Cert.RScanIdeal.τ).loc Cert.RScanIdeal.main_arg3) = m ((c.tc : Thread Cert.RScanIdeal.nD Cert.RScanIdeal.τ).loc Cert.RScanIdeal.main_arg3)
      ∧ r.2.mem ((c.tc : Thread Cert.RScanIdeal.nD Cert.RScanIdeal.τ).loc Cert.RScanIdeal.main_arg4) = m ((c.tc : Thread Cert.RScanIdeal.nD Cert.RScanIdeal.τ).loc Cert.RScanIdeal.main_arg4)
      ∧ r.2.mem ((c.tc : Thread Cert.RScanIdeal.nD Cert.RScanIdeal.τ).loc Cert.RScanIdeal.main_arg5) = m ((c.tc : Thread Cert.RScanIdeal.nD Cert.RScanIdeal.τ).loc Cert.RScanIdeal.main_arg5)
      ∧ r.2.mem ((c.tc : Thread Cert.RScanIdeal.nD Cert.RScanIdeal.τ).loc Cert.RScanIdeal.main_arg6) = m ((c.tc : Thread Cert.RScanIdeal.nD Cert.RScanIdeal.τ).loc Cert.RScanIdeal.main_arg6))
      ∧ r.2.sem = fun _ => 0)

def quiescent_KSRope [hKSRope : Cert.KSRope.Facts] : Prop :=
  ∀ (m : (ℓ : Loc Cert.KSRope.nD Cert.KSRope.τ Cert.KSRope.sig) → Buf (Elt Bits) ℓ) (g : Dev Cert.KSRope.nD → PrngReg), Pre_KSRope m →
    θ_run (Cert.KSRope.defs (F := Bits)) (onTc (τ := Cert.KSRope.τ) (Cert.KSRope.main (F := Bits))) ⟨m, fun _ => 0, g⟩ (fun r => (∀ c : Dev Cert.KSRope.nD,
      r.2.mem ((c.tc : Thread Cert.KSRope.nD Cert.KSRope.τ).loc Cert.KSRope.main_arg0) = m ((c.tc : Thread Cert.KSRope.nD Cert.KSRope.τ).loc Cert.KSRope.main_arg0))
      ∧ r.2.sem = fun _ => 0)

def quiescent_KSRopeIdeal [hKSRopeIdeal : Cert.KSRopeIdeal.Facts] : Prop :=
  ∀ (m : (ℓ : Loc Cert.KSRopeIdeal.nD Cert.KSRopeIdeal.τ Cert.KSRopeIdeal.sig) → Buf (Elt Ideal) ℓ) (g : Dev Cert.KSRopeIdeal.nD → PrngReg), Pre_KSRopeIdeal m →
    θ_run (Cert.KSRopeIdeal.defs (F := Ideal)) (onTc (τ := Cert.KSRopeIdeal.τ) (Cert.KSRopeIdeal.main (F := Ideal))) ⟨m, fun _ => 0, g⟩ (fun r => (∀ c : Dev Cert.KSRopeIdeal.nD,
      r.2.mem ((c.tc : Thread Cert.KSRopeIdeal.nD Cert.KSRopeIdeal.τ).loc Cert.KSRopeIdeal.main_arg0) = m ((c.tc : Thread Cert.KSRopeIdeal.nD Cert.KSRopeIdeal.τ).loc Cert.KSRopeIdeal.main_arg0))
      ∧ r.2.sem = fun _ => 0)

def quiescent_RSRopeIdeal [hRSRopeIdeal : Cert.RSRopeIdeal.Facts] : Prop :=
  ∀ (m : (ℓ : Loc Cert.RSRopeIdeal.nD Cert.RSRopeIdeal.τ Cert.RSRopeIdeal.sig) → Buf (Elt Ideal) ℓ) (g : Dev Cert.RSRopeIdeal.nD → PrngReg), Pre_RSRopeIdeal m →
    θ_run (Cert.RSRopeIdeal.defs (F := Ideal)) (onTc (τ := Cert.RSRopeIdeal.τ) (Cert.RSRopeIdeal.main (F := Ideal))) ⟨m, fun _ => 0, g⟩ (fun r => (∀ c : Dev Cert.RSRopeIdeal.nD,
      r.2.mem ((c.tc : Thread Cert.RSRopeIdeal.nD Cert.RSRopeIdeal.τ).loc Cert.RSRopeIdeal.main_arg0) = m ((c.tc : Thread Cert.RSRopeIdeal.nD Cert.RSRopeIdeal.τ).loc Cert.RSRopeIdeal.main_arg0))
      ∧ r.2.sem = fun _ => 0)

def preserves_KFfn_KFfnIdeal : Prop :=
  True

def algebraic_KFfnIdeal_RFfnIdeal [hKFfnIdeal : Cert.KFfnIdeal.Facts] [hRFfnIdeal : Cert.RFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)) →
    ∃ (v0 : (c : Dev Cert.KFfnIdeal.nD) → Buf (Elt Ideal) ((c.tc : Thread Cert.KFfnIdeal.nD Cert.KFfnIdeal.τ).loc Cert.KFfnIdeal.main_v5)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v5) = v0 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v21) = v0 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4))

def preserves_KShift_KShiftIdeal : Prop :=
  True

def algebraic_KShiftIdeal_RShiftIdeal [hKShiftIdeal : Cert.KShiftIdeal.Facts] [hRShiftIdeal : Cert.RShiftIdeal.Facts] : Prop :=
  ∀ (m : (ℓ : Loc Cert.KShiftIdeal.nD Cert.KShiftIdeal.τ Cert.KShiftIdeal.sig) → Buf (Elt Ideal) ℓ) (g : Dev Cert.KShiftIdeal.nD → PrngReg)
    (m' : (ℓ : Loc Cert.RShiftIdeal.nD Cert.RShiftIdeal.τ Cert.RShiftIdeal.sig) → Buf (Elt Ideal) ℓ) (g' : Dev Cert.RShiftIdeal.nD → PrngReg), Pre_KShiftIdeal m →
    (∀ c : Dev Cert.KShiftIdeal.nD,
      m' ((c.tc : Thread Cert.RShiftIdeal.nD Cert.RShiftIdeal.τ).loc Cert.RShiftIdeal.main_arg0) = m ((c.tc : Thread Cert.KShiftIdeal.nD Cert.KShiftIdeal.τ).loc Cert.KShiftIdeal.main_arg0)
      ∧ m' ((c.tc : Thread Cert.RShiftIdeal.nD Cert.RShiftIdeal.τ).loc Cert.RShiftIdeal.main_arg1) = m ((c.tc : Thread Cert.KShiftIdeal.nD Cert.KShiftIdeal.τ).loc Cert.KShiftIdeal.main_arg1)) →
    ∃ (v0 : (c : Dev Cert.KShiftIdeal.nD) → Buf (Elt Ideal) ((c.tc : Thread Cert.KShiftIdeal.nD Cert.KShiftIdeal.τ).loc Cert.KShiftIdeal.main_v3)),
      θ_run (Cert.KShiftIdeal.defs (F := Ideal)) (onTc (τ := Cert.KShiftIdeal.τ) (Cert.KShiftIdeal.main (F := Ideal))) ⟨m, fun _ => 0, g⟩ (fun r => ∀ c : Dev Cert.KShiftIdeal.nD,
          r.2.mem ((c.tc : Thread Cert.KShiftIdeal.nD Cert.KShiftIdeal.τ).loc Cert.KShiftIdeal.main_v3) = v0 c
          ∧ r.2.mem ((c.tc : Thread Cert.KShiftIdeal.nD Cert.KShiftIdeal.τ).loc Cert.KShiftIdeal.main_arg0) = m ((c.tc : Thread Cert.KShiftIdeal.nD Cert.KShiftIdeal.τ).loc Cert.KShiftIdeal.main_arg0)
          ∧ r.2.mem ((c.tc : Thread Cert.KShiftIdeal.nD Cert.KShiftIdeal.τ).loc Cert.KShiftIdeal.main_arg1) = m ((c.tc : Thread Cert.KShiftIdeal.nD Cert.KShiftIdeal.τ).loc Cert.KShiftIdeal.main_arg1))
      ∧ θ_run (Cert.RShiftIdeal.defs (F := Ideal)) (onTc (τ := Cert.RShiftIdeal.τ) (Cert.RShiftIdeal.main (F := Ideal))) ⟨m', fun _ => 0, g'⟩ (fun r => ∀ c : Dev Cert.RShiftIdeal.nD,
          r.2.mem ((c.tc : Thread Cert.RShiftIdeal.nD Cert.RShiftIdeal.τ).loc Cert.RShiftIdeal.main_v14) = v0 c
          ∧ r.2.mem ((c.tc : Thread Cert.RShiftIdeal.nD Cert.RShiftIdeal.τ).loc Cert.RShiftIdeal.main_arg0) = m' ((c.tc : Thread Cert.RShiftIdeal.nD Cert.RShiftIdeal.τ).loc Cert.RShiftIdeal.main_arg0)
          ∧ r.2.mem ((c.tc : Thread Cert.RShiftIdeal.nD Cert.RShiftIdeal.τ).loc Cert.RShiftIdeal.main_arg1) = m' ((c.tc : Thread Cert.RShiftIdeal.nD Cert.RShiftIdeal.τ).loc Cert.RShiftIdeal.main_arg1))

def preserves_KNorm_KNormIdeal : Prop :=
  True

def algebraic_KNormIdeal_RNormIdeal [hKNormIdeal : Cert.KNormIdeal.Facts] [hRNormIdeal : Cert.RNormIdeal.Facts] : Prop :=
  ∀ (m : (ℓ : Loc Cert.KNormIdeal.nD Cert.KNormIdeal.τ Cert.KNormIdeal.sig) → Buf (Elt Ideal) ℓ) (g : Dev Cert.KNormIdeal.nD → PrngReg)
    (m' : (ℓ : Loc Cert.RNormIdeal.nD Cert.RNormIdeal.τ Cert.RNormIdeal.sig) → Buf (Elt Ideal) ℓ) (g' : Dev Cert.RNormIdeal.nD → PrngReg), Pre_KNormIdeal m →
    (∀ c : Dev Cert.KNormIdeal.nD,
      m' ((c.tc : Thread Cert.RNormIdeal.nD Cert.RNormIdeal.τ).loc Cert.RNormIdeal.main_arg0) = m ((c.tc : Thread Cert.KNormIdeal.nD Cert.KNormIdeal.τ).loc Cert.KNormIdeal.main_arg0)
      ∧ m' ((c.tc : Thread Cert.RNormIdeal.nD Cert.RNormIdeal.τ).loc Cert.RNormIdeal.main_arg1) = m ((c.tc : Thread Cert.KNormIdeal.nD Cert.KNormIdeal.τ).loc Cert.KNormIdeal.main_arg1)) →
    ∃ (v0 : (c : Dev Cert.KNormIdeal.nD) → Buf (Elt Ideal) ((c.tc : Thread Cert.KNormIdeal.nD Cert.KNormIdeal.τ).loc Cert.KNormIdeal.main_v2)),
      θ_run (Cert.KNormIdeal.defs (F := Ideal)) (onTc (τ := Cert.KNormIdeal.τ) (Cert.KNormIdeal.main (F := Ideal))) ⟨m, fun _ => 0, g⟩ (fun r => ∀ c : Dev Cert.KNormIdeal.nD,
          r.2.mem ((c.tc : Thread Cert.KNormIdeal.nD Cert.KNormIdeal.τ).loc Cert.KNormIdeal.main_v2) = v0 c
          ∧ r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
          ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1))
      ∧ θ_run (Cert.RNormIdeal.defs (F := Ideal)) (onTc (τ := Cert.RNormIdeal.τ) (Cert.RNormIdeal.main (F := Ideal))) ⟨m', fun _ => 0, g'⟩ (fun r => ∀ c : Dev Cert.RNormIdeal.nD,
          r.2.mem ((c.tc : Thread Cert.RNormIdeal.nD Cert.RNormIdeal.τ).loc Cert.RNormIdeal.main_v13) = v0 c
          ∧ r.2.mem ((c.tc : Thread Cert.RNormIdeal.nD Cert.RNormIdeal.τ).loc Cert.RNormIdeal.main_arg0) = m' ((c.tc : Thread Cert.RNormIdeal.nD Cert.RNormIdeal.τ).loc Cert.RNormIdeal.main_arg0)
          ∧ r.2.mem ((c.tc : Thread Cert.RNormIdeal.nD Cert.RNormIdeal.τ).loc Cert.RNormIdeal.main_arg1) = m' ((c.tc : Thread Cert.RNormIdeal.nD Cert.RNormIdeal.τ).loc Cert.RNormIdeal.main_arg1))

def preserves_KProjR_KProjRIdeal : Prop :=
  True

def algebraic_KProjRIdeal_RProjRIdeal [hKProjRIdeal : Cert.KProjRIdeal.Facts] [hRProjRIdeal : Cert.RProjRIdeal.Facts] : Prop :=
  ∀ (m : (ℓ : Loc Cert.KProjRIdeal.nD Cert.KProjRIdeal.τ Cert.KProjRIdeal.sig) → Buf (Elt Ideal) ℓ) (g : Dev Cert.KProjRIdeal.nD → PrngReg)
    (m' : (ℓ : Loc Cert.RProjRIdeal.nD Cert.RProjRIdeal.τ Cert.RProjRIdeal.sig) → Buf (Elt Ideal) ℓ) (g' : Dev Cert.RProjRIdeal.nD → PrngReg), Pre_KProjRIdeal m →
    (∀ c : Dev Cert.KProjRIdeal.nD,
      m' ((c.tc : Thread Cert.RProjRIdeal.nD Cert.RProjRIdeal.τ).loc Cert.RProjRIdeal.main_arg0) = m ((c.tc : Thread Cert.KProjRIdeal.nD Cert.KProjRIdeal.τ).loc Cert.KProjRIdeal.main_arg0)
      ∧ m' ((c.tc : Thread Cert.RProjRIdeal.nD Cert.RProjRIdeal.τ).loc Cert.RProjRIdeal.main_arg1) = m ((c.tc : Thread Cert.KProjRIdeal.nD Cert.KProjRIdeal.τ).loc Cert.KProjRIdeal.main_arg1)
      ∧ m' ((c.tc : Thread Cert.RProjRIdeal.nD Cert.RProjRIdeal.τ).loc Cert.RProjRIdeal.main_arg2) = m ((c.tc : Thread Cert.KProjRIdeal.nD Cert.KProjRIdeal.τ).loc Cert.KProjRIdeal.main_arg2)) →
    ∃ (v0 : (c : Dev Cert.KProjRIdeal.nD) → Buf (Elt Ideal) ((c.tc : Thread Cert.KProjRIdeal.nD Cert.KProjRIdeal.τ).loc Cert.KProjRIdeal.main_v4)),
      θ_run (Cert.KProjRIdeal.defs (F := Ideal)) (onTc (τ := Cert.KProjRIdeal.τ) (Cert.KProjRIdeal.main (F := Ideal))) ⟨m, fun _ => 0, g⟩ (fun r => ∀ c : Dev Cert.KProjRIdeal.nD,
          r.2.mem ((c.tc : Thread Cert.KProjRIdeal.nD Cert.KProjRIdeal.τ).loc Cert.KProjRIdeal.main_v4) = v0 c
          ∧ r.2.mem ((c.tc : Thread Cert.KProjRIdeal.nD Cert.KProjRIdeal.τ).loc Cert.KProjRIdeal.main_arg0) = m ((c.tc : Thread Cert.KProjRIdeal.nD Cert.KProjRIdeal.τ).loc Cert.KProjRIdeal.main_arg0)
          ∧ r.2.mem ((c.tc : Thread Cert.KProjRIdeal.nD Cert.KProjRIdeal.τ).loc Cert.KProjRIdeal.main_arg1) = m ((c.tc : Thread Cert.KProjRIdeal.nD Cert.KProjRIdeal.τ).loc Cert.KProjRIdeal.main_arg1)
          ∧ r.2.mem ((c.tc : Thread Cert.KProjRIdeal.nD Cert.KProjRIdeal.τ).loc Cert.KProjRIdeal.main_arg2) = m ((c.tc : Thread Cert.KProjRIdeal.nD Cert.KProjRIdeal.τ).loc Cert.KProjRIdeal.main_arg2))
      ∧ θ_run (Cert.RProjRIdeal.defs (F := Ideal)) (onTc (τ := Cert.RProjRIdeal.τ) (Cert.RProjRIdeal.main (F := Ideal))) ⟨m', fun _ => 0, g'⟩ (fun r => ∀ c : Dev Cert.RProjRIdeal.nD,
          r.2.mem ((c.tc : Thread Cert.RProjRIdeal.nD Cert.RProjRIdeal.τ).loc Cert.RProjRIdeal.main_v15) = v0 c
          ∧ r.2.mem ((c.tc : Thread Cert.RProjRIdeal.nD Cert.RProjRIdeal.τ).loc Cert.RProjRIdeal.main_arg0) = m' ((c.tc : Thread Cert.RProjRIdeal.nD Cert.RProjRIdeal.τ).loc Cert.RProjRIdeal.main_arg0)
          ∧ r.2.mem ((c.tc : Thread Cert.RProjRIdeal.nD Cert.RProjRIdeal.τ).loc Cert.RProjRIdeal.main_arg1) = m' ((c.tc : Thread Cert.RProjRIdeal.nD Cert.RProjRIdeal.τ).loc Cert.RProjRIdeal.main_arg1)
          ∧ r.2.mem ((c.tc : Thread Cert.RProjRIdeal.nD Cert.RProjRIdeal.τ).loc Cert.RProjRIdeal.main_arg2) = m' ((c.tc : Thread Cert.RProjRIdeal.nD Cert.RProjRIdeal.τ).loc Cert.RProjRIdeal.main_arg2))

def preserves_KProjM_KProjMIdeal : Prop :=
  True

def algebraic_KProjMIdeal_RProjMIdeal [hKProjMIdeal : Cert.KProjMIdeal.Facts] [hRProjMIdeal : Cert.RProjMIdeal.Facts] : Prop :=
  ∀ (m : (ℓ : Loc Cert.KProjMIdeal.nD Cert.KProjMIdeal.τ Cert.KProjMIdeal.sig) → Buf (Elt Ideal) ℓ) (g : Dev Cert.KProjMIdeal.nD → PrngReg)
    (m' : (ℓ : Loc Cert.RProjMIdeal.nD Cert.RProjMIdeal.τ Cert.RProjMIdeal.sig) → Buf (Elt Ideal) ℓ) (g' : Dev Cert.RProjMIdeal.nD → PrngReg), Pre_KProjMIdeal m →
    (∀ c : Dev Cert.KProjMIdeal.nD,
      m' ((c.tc : Thread Cert.RProjMIdeal.nD Cert.RProjMIdeal.τ).loc Cert.RProjMIdeal.main_arg0) = m ((c.tc : Thread Cert.KProjMIdeal.nD Cert.KProjMIdeal.τ).loc Cert.KProjMIdeal.main_arg0)
      ∧ m' ((c.tc : Thread Cert.RProjMIdeal.nD Cert.RProjMIdeal.τ).loc Cert.RProjMIdeal.main_arg1) = m ((c.tc : Thread Cert.KProjMIdeal.nD Cert.KProjMIdeal.τ).loc Cert.KProjMIdeal.main_arg1)
      ∧ m' ((c.tc : Thread Cert.RProjMIdeal.nD Cert.RProjMIdeal.τ).loc Cert.RProjMIdeal.main_arg2) = m ((c.tc : Thread Cert.KProjMIdeal.nD Cert.KProjMIdeal.τ).loc Cert.KProjMIdeal.main_arg2)) →
    ∃ (v0 : (c : Dev Cert.KProjMIdeal.nD) → Buf (Elt Ideal) ((c.tc : Thread Cert.KProjMIdeal.nD Cert.KProjMIdeal.τ).loc Cert.KProjMIdeal.main_v4)),
      θ_run (Cert.KProjMIdeal.defs (F := Ideal)) (onTc (τ := Cert.KProjMIdeal.τ) (Cert.KProjMIdeal.main (F := Ideal))) ⟨m, fun _ => 0, g⟩ (fun r => ∀ c : Dev Cert.KProjMIdeal.nD,
          r.2.mem ((c.tc : Thread Cert.KProjMIdeal.nD Cert.KProjMIdeal.τ).loc Cert.KProjMIdeal.main_v4) = v0 c
          ∧ r.2.mem ((c.tc : Thread Cert.KProjMIdeal.nD Cert.KProjMIdeal.τ).loc Cert.KProjMIdeal.main_arg0) = m ((c.tc : Thread Cert.KProjMIdeal.nD Cert.KProjMIdeal.τ).loc Cert.KProjMIdeal.main_arg0)
          ∧ r.2.mem ((c.tc : Thread Cert.KProjMIdeal.nD Cert.KProjMIdeal.τ).loc Cert.KProjMIdeal.main_arg1) = m ((c.tc : Thread Cert.KProjMIdeal.nD Cert.KProjMIdeal.τ).loc Cert.KProjMIdeal.main_arg1)
          ∧ r.2.mem ((c.tc : Thread Cert.KProjMIdeal.nD Cert.KProjMIdeal.τ).loc Cert.KProjMIdeal.main_arg2) = m ((c.tc : Thread Cert.KProjMIdeal.nD Cert.KProjMIdeal.τ).loc Cert.KProjMIdeal.main_arg2))
      ∧ θ_run (Cert.RProjMIdeal.defs (F := Ideal)) (onTc (τ := Cert.RProjMIdeal.τ) (Cert.RProjMIdeal.main (F := Ideal))) ⟨m', fun _ => 0, g'⟩ (fun r => ∀ c : Dev Cert.RProjMIdeal.nD,
          r.2.mem ((c.tc : Thread Cert.RProjMIdeal.nD Cert.RProjMIdeal.τ).loc Cert.RProjMIdeal.main_v15) = v0 c
          ∧ r.2.mem ((c.tc : Thread Cert.RProjMIdeal.nD Cert.RProjMIdeal.τ).loc Cert.RProjMIdeal.main_arg0) = m' ((c.tc : Thread Cert.RProjMIdeal.nD Cert.RProjMIdeal.τ).loc Cert.RProjMIdeal.main_arg0)
          ∧ r.2.mem ((c.tc : Thread Cert.RProjMIdeal.nD Cert.RProjMIdeal.τ).loc Cert.RProjMIdeal.main_arg1) = m' ((c.tc : Thread Cert.RProjMIdeal.nD Cert.RProjMIdeal.τ).loc Cert.RProjMIdeal.main_arg1)
          ∧ r.2.mem ((c.tc : Thread Cert.RProjMIdeal.nD Cert.RProjMIdeal.τ).loc Cert.RProjMIdeal.main_arg2) = m' ((c.tc : Thread Cert.RProjMIdeal.nD Cert.RProjMIdeal.τ).loc Cert.RProjMIdeal.main_arg2))

def preserves_KRope_KRopeIdeal : Prop :=
  True

def algebraic_KRopeIdeal_RRopeIdeal [hKRopeIdeal : Cert.KRopeIdeal.Facts] [hRRopeIdeal : Cert.RRopeIdeal.Facts] : Prop :=
  ∀ (m : (ℓ : Loc Cert.KRopeIdeal.nD Cert.KRopeIdeal.τ Cert.KRopeIdeal.sig) → Buf (Elt Ideal) ℓ) (g : Dev Cert.KRopeIdeal.nD → PrngReg)
    (m' : (ℓ : Loc Cert.RRopeIdeal.nD Cert.RRopeIdeal.τ Cert.RRopeIdeal.sig) → Buf (Elt Ideal) ℓ) (g' : Dev Cert.RRopeIdeal.nD → PrngReg), Pre_KRopeIdeal m →
    (∀ c : Dev Cert.KRopeIdeal.nD,
      m' ((c.tc : Thread Cert.RRopeIdeal.nD Cert.RRopeIdeal.τ).loc Cert.RRopeIdeal.main_arg0) = m ((c.tc : Thread Cert.KRopeIdeal.nD Cert.KRopeIdeal.τ).loc Cert.KRopeIdeal.main_arg0)) →
    ∃ (v0 : (c : Dev Cert.KRopeIdeal.nD) → Buf (Elt Ideal) ((c.tc : Thread Cert.KRopeIdeal.nD Cert.KRopeIdeal.τ).loc Cert.KRopeIdeal.main_v24_0)) (v1 : (c : Dev Cert.KRopeIdeal.nD) → Buf (Elt Ideal) ((c.tc : Thread Cert.KRopeIdeal.nD Cert.KRopeIdeal.τ).loc Cert.KRopeIdeal.main_v24_1)) (v2 : (c : Dev Cert.KRopeIdeal.nD) → Buf (Elt Ideal) ((c.tc : Thread Cert.KRopeIdeal.nD Cert.KRopeIdeal.τ).loc Cert.KRopeIdeal.main_v24_2)),
      θ_run (Cert.KRopeIdeal.defs (F := Ideal)) (onTc (τ := Cert.KRopeIdeal.τ) (Cert.KRopeIdeal.main (F := Ideal))) ⟨m, fun _ => 0, g⟩ (fun r => ∀ c : Dev Cert.KRopeIdeal.nD,
          r.2.mem ((c.tc : Thread Cert.KRopeIdeal.nD Cert.KRopeIdeal.τ).loc Cert.KRopeIdeal.main_v24_0) = v0 c
          ∧ r.2.mem ((c.tc : Thread Cert.KRopeIdeal.nD Cert.KRopeIdeal.τ).loc Cert.KRopeIdeal.main_v24_1) = v1 c
          ∧ r.2.mem ((c.tc : Thread Cert.KRopeIdeal.nD Cert.KRopeIdeal.τ).loc Cert.KRopeIdeal.main_v24_2) = v2 c
          ∧ r.2.mem ((c.tc : Thread Cert.KRopeIdeal.nD Cert.KRopeIdeal.τ).loc Cert.KRopeIdeal.main_arg0) = m ((c.tc : Thread Cert.KRopeIdeal.nD Cert.KRopeIdeal.τ).loc Cert.KRopeIdeal.main_arg0))
      ∧ θ_run (Cert.RRopeIdeal.defs (F := Ideal)) (onTc (τ := Cert.RRopeIdeal.τ) (Cert.RRopeIdeal.main (F := Ideal))) ⟨m', fun _ => 0, g'⟩ (fun r => ∀ c : Dev Cert.RRopeIdeal.nD,
          r.2.mem ((c.tc : Thread Cert.RRopeIdeal.nD Cert.RRopeIdeal.τ).loc Cert.RRopeIdeal.main_v64) = v0 c
          ∧ r.2.mem ((c.tc : Thread Cert.RRopeIdeal.nD Cert.RRopeIdeal.τ).loc Cert.RRopeIdeal.main_v65) = v1 c
          ∧ r.2.mem ((c.tc : Thread Cert.RRopeIdeal.nD Cert.RRopeIdeal.τ).loc Cert.RRopeIdeal.main_v67) = v2 c
          ∧ r.2.mem ((c.tc : Thread Cert.RRopeIdeal.nD Cert.RRopeIdeal.τ).loc Cert.RRopeIdeal.main_arg0) = m' ((c.tc : Thread Cert.RRopeIdeal.nD Cert.RRopeIdeal.τ).loc Cert.RRopeIdeal.main_arg0))

def preserves_KMix_KMixIdeal : Prop :=
  True

def algebraic_KMixIdeal_RMixIdeal [hKMixIdeal : Cert.KMixIdeal.Facts] [hRMixIdeal : Cert.RMixIdeal.Facts] : Prop :=
  ∀ (m : (ℓ : Loc Cert.KMixIdeal.nD Cert.KMixIdeal.τ Cert.KMixIdeal.sig) → Buf (Elt Ideal) ℓ) (g : Dev Cert.KMixIdeal.nD → PrngReg)
    (m' : (ℓ : Loc Cert.RMixIdeal.nD Cert.RMixIdeal.τ Cert.RMixIdeal.sig) → Buf (Elt Ideal) ℓ) (g' : Dev Cert.RMixIdeal.nD → PrngReg), Pre_KMixIdeal m →
    (∀ c : Dev Cert.KMixIdeal.nD,
      m' ((c.tc : Thread Cert.RMixIdeal.nD Cert.RMixIdeal.τ).loc Cert.RMixIdeal.main_arg0) = m ((c.tc : Thread Cert.KMixIdeal.nD Cert.KMixIdeal.τ).loc Cert.KMixIdeal.main_arg0)
      ∧ m' ((c.tc : Thread Cert.RMixIdeal.nD Cert.RMixIdeal.τ).loc Cert.RMixIdeal.main_arg1) = m ((c.tc : Thread Cert.KMixIdeal.nD Cert.KMixIdeal.τ).loc Cert.KMixIdeal.main_arg1)
      ∧ m' ((c.tc : Thread Cert.RMixIdeal.nD Cert.RMixIdeal.τ).loc Cert.RMixIdeal.main_arg2) = m ((c.tc : Thread Cert.KMixIdeal.nD Cert.KMixIdeal.τ).loc Cert.KMixIdeal.main_arg2)
      ∧ m' ((c.tc : Thread Cert.RMixIdeal.nD Cert.RMixIdeal.τ).loc Cert.RMixIdeal.main_arg3) = m ((c.tc : Thread Cert.KMixIdeal.nD Cert.KMixIdeal.τ).loc Cert.KMixIdeal.main_arg3)
      ∧ m' ((c.tc : Thread Cert.RMixIdeal.nD Cert.RMixIdeal.τ).loc Cert.RMixIdeal.main_arg4) = m ((c.tc : Thread Cert.KMixIdeal.nD Cert.KMixIdeal.τ).loc Cert.KMixIdeal.main_arg4)
      ∧ m' ((c.tc : Thread Cert.RMixIdeal.nD Cert.RMixIdeal.τ).loc Cert.RMixIdeal.main_arg5) = m ((c.tc : Thread Cert.KMixIdeal.nD Cert.KMixIdeal.τ).loc Cert.KMixIdeal.main_arg5)
      ∧ m' ((c.tc : Thread Cert.RMixIdeal.nD Cert.RMixIdeal.τ).loc Cert.RMixIdeal.main_arg6) = m ((c.tc : Thread Cert.KMixIdeal.nD Cert.KMixIdeal.τ).loc Cert.KMixIdeal.main_arg6)
      ∧ m' ((c.tc : Thread Cert.RMixIdeal.nD Cert.RMixIdeal.τ).loc Cert.RMixIdeal.main_arg7) = m ((c.tc : Thread Cert.KMixIdeal.nD Cert.KMixIdeal.τ).loc Cert.KMixIdeal.main_arg7)
      ∧ m' ((c.tc : Thread Cert.RMixIdeal.nD Cert.RMixIdeal.τ).loc Cert.RMixIdeal.main_arg8) = m ((c.tc : Thread Cert.KMixIdeal.nD Cert.KMixIdeal.τ).loc Cert.KMixIdeal.main_arg8)
      ∧ m' ((c.tc : Thread Cert.RMixIdeal.nD Cert.RMixIdeal.τ).loc Cert.RMixIdeal.main_arg9) = m ((c.tc : Thread Cert.KMixIdeal.nD Cert.KMixIdeal.τ).loc Cert.KMixIdeal.main_arg9)
      ∧ m' ((c.tc : Thread Cert.RMixIdeal.nD Cert.RMixIdeal.τ).loc Cert.RMixIdeal.main_arg10) = m ((c.tc : Thread Cert.KMixIdeal.nD Cert.KMixIdeal.τ).loc Cert.KMixIdeal.main_arg10)) →
    ∃ (v0 : (c : Dev Cert.KMixIdeal.nD) → Buf (Elt Ideal) ((c.tc : Thread Cert.KMixIdeal.nD Cert.KMixIdeal.τ).loc Cert.KMixIdeal.main_v10)),
      θ_run (Cert.KMixIdeal.defs (F := Ideal)) (onTc (τ := Cert.KMixIdeal.τ) (Cert.KMixIdeal.main (F := Ideal))) ⟨m, fun _ => 0, g⟩ (fun r => ∀ c : Dev Cert.KMixIdeal.nD,
          r.2.mem ((c.tc : Thread Cert.KMixIdeal.nD Cert.KMixIdeal.τ).loc Cert.KMixIdeal.main_v10) = v0 c
          ∧ r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
          ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
          ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
          ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
          ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
          ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5)
          ∧ r.2.mem ((c.tc : Thread Cert.KMixIdeal.nD Cert.KMixIdeal.τ).loc Cert.KMixIdeal.main_arg6) = m ((c.tc : Thread Cert.KMixIdeal.nD Cert.KMixIdeal.τ).loc Cert.KMixIdeal.main_arg6)
          ∧ r.2.mem ((c.tc : Thread Cert.KMixIdeal.nD Cert.KMixIdeal.τ).loc Cert.KMixIdeal.main_arg7) = m ((c.tc : Thread Cert.KMixIdeal.nD Cert.KMixIdeal.τ).loc Cert.KMixIdeal.main_arg7)
          ∧ r.2.mem ((c.tc : Thread Cert.KMixIdeal.nD Cert.KMixIdeal.τ).loc Cert.KMixIdeal.main_arg8) = m ((c.tc : Thread Cert.KMixIdeal.nD Cert.KMixIdeal.τ).loc Cert.KMixIdeal.main_arg8)
          ∧ r.2.mem ((c.tc : Thread Cert.KMixIdeal.nD Cert.KMixIdeal.τ).loc Cert.KMixIdeal.main_arg9) = m ((c.tc : Thread Cert.KMixIdeal.nD Cert.KMixIdeal.τ).loc Cert.KMixIdeal.main_arg9)
          ∧ r.2.mem ((c.tc : Thread Cert.KMixIdeal.nD Cert.KMixIdeal.τ).loc Cert.KMixIdeal.main_arg10) = m ((c.tc : Thread Cert.KMixIdeal.nD Cert.KMixIdeal.τ).loc Cert.KMixIdeal.main_arg10))
      ∧ θ_run (Cert.RMixIdeal.defs (F := Ideal)) (onTc (τ := Cert.RMixIdeal.τ) (Cert.RMixIdeal.main (F := Ideal))) ⟨m', fun _ => 0, g'⟩ (fun r => ∀ c : Dev Cert.RMixIdeal.nD,
          r.2.mem ((c.tc : Thread Cert.RMixIdeal.nD Cert.RMixIdeal.τ).loc Cert.RMixIdeal.main_v40) = v0 c
          ∧ r.2.mem ((c.tc : Thread Cert.RMixIdeal.nD Cert.RMixIdeal.τ).loc Cert.RMixIdeal.main_arg0) = m' ((c.tc : Thread Cert.RMixIdeal.nD Cert.RMixIdeal.τ).loc Cert.RMixIdeal.main_arg0)
          ∧ r.2.mem ((c.tc : Thread Cert.RMixIdeal.nD Cert.RMixIdeal.τ).loc Cert.RMixIdeal.main_arg1) = m' ((c.tc : Thread Cert.RMixIdeal.nD Cert.RMixIdeal.τ).loc Cert.RMixIdeal.main_arg1)
          ∧ r.2.mem ((c.tc : Thread Cert.RMixIdeal.nD Cert.RMixIdeal.τ).loc Cert.RMixIdeal.main_arg2) = m' ((c.tc : Thread Cert.RMixIdeal.nD Cert.RMixIdeal.τ).loc Cert.RMixIdeal.main_arg2)
          ∧ r.2.mem ((c.tc : Thread Cert.RMixIdeal.nD Cert.RMixIdeal.τ).loc Cert.RMixIdeal.main_arg3) = m' ((c.tc : Thread Cert.RMixIdeal.nD Cert.RMixIdeal.τ).loc Cert.RMixIdeal.main_arg3)
          ∧ r.2.mem ((c.tc : Thread Cert.RMixIdeal.nD Cert.RMixIdeal.τ).loc Cert.RMixIdeal.main_arg4) = m' ((c.tc : Thread Cert.RMixIdeal.nD Cert.RMixIdeal.τ).loc Cert.RMixIdeal.main_arg4)
          ∧ r.2.mem ((c.tc : Thread Cert.RMixIdeal.nD Cert.RMixIdeal.τ).loc Cert.RMixIdeal.main_arg5) = m' ((c.tc : Thread Cert.RMixIdeal.nD Cert.RMixIdeal.τ).loc Cert.RMixIdeal.main_arg5)
          ∧ r.2.mem ((c.tc : Thread Cert.RMixIdeal.nD Cert.RMixIdeal.τ).loc Cert.RMixIdeal.main_arg6) = m' ((c.tc : Thread Cert.RMixIdeal.nD Cert.RMixIdeal.τ).loc Cert.RMixIdeal.main_arg6)
          ∧ r.2.mem ((c.tc : Thread Cert.RMixIdeal.nD Cert.RMixIdeal.τ).loc Cert.RMixIdeal.main_arg7) = m' ((c.tc : Thread Cert.RMixIdeal.nD Cert.RMixIdeal.τ).loc Cert.RMixIdeal.main_arg7)
          ∧ r.2.mem ((c.tc : Thread Cert.RMixIdeal.nD Cert.RMixIdeal.τ).loc Cert.RMixIdeal.main_arg8) = m' ((c.tc : Thread Cert.RMixIdeal.nD Cert.RMixIdeal.τ).loc Cert.RMixIdeal.main_arg8)
          ∧ r.2.mem ((c.tc : Thread Cert.RMixIdeal.nD Cert.RMixIdeal.τ).loc Cert.RMixIdeal.main_arg9) = m' ((c.tc : Thread Cert.RMixIdeal.nD Cert.RMixIdeal.τ).loc Cert.RMixIdeal.main_arg9)
          ∧ r.2.mem ((c.tc : Thread Cert.RMixIdeal.nD Cert.RMixIdeal.τ).loc Cert.RMixIdeal.main_arg10) = m' ((c.tc : Thread Cert.RMixIdeal.nD Cert.RMixIdeal.τ).loc Cert.RMixIdeal.main_arg10))

def preserves_KMoba_KMobaIdeal : Prop :=
  IdealRules.named_const.Statement Cert.KMobaIdeal.κ "scale_log2e" .f32 0x3E38AA3B#32 (((8 * (Real.log 2))⁻¹ : ℝ) : EReal)
  ∧ IdealRules.named_const.Statement Cert.KMobaIdeal.κ "mask" .f32 0xF149F2CA#32 ⊥

def algebraic_KMobaIdeal_RMobaIdeal_pre_finite [hKMobaIdeal : Cert.KMobaIdeal.Facts] [hRMobaIdeal : Cert.RMobaIdeal.Facts] [hPre_finite : Cert.Pre_finite.Facts] : Prop :=
  ∀ (m : (ℓ : Loc Cert.KMobaIdeal.nD Cert.KMobaIdeal.τ Cert.KMobaIdeal.sig) → Buf (Elt Ideal) ℓ) (g : Dev Cert.KMobaIdeal.nD → PrngReg)
    (m' : (ℓ : Loc Cert.RMobaIdeal.nD Cert.RMobaIdeal.τ Cert.RMobaIdeal.sig) → Buf (Elt Ideal) ℓ) (g' : Dev Cert.RMobaIdeal.nD → PrngReg), Pre_KMobaIdeal_finite m →
    (∀ c : Dev Cert.KMobaIdeal.nD,
      m' ((c.tc : Thread Cert.RMobaIdeal.nD Cert.RMobaIdeal.τ).loc Cert.RMobaIdeal.main_arg0) = m ((c.tc : Thread Cert.KMobaIdeal.nD Cert.KMobaIdeal.τ).loc Cert.KMobaIdeal.main_arg0)
      ∧ m' ((c.tc : Thread Cert.RMobaIdeal.nD Cert.RMobaIdeal.τ).loc Cert.RMobaIdeal.main_arg1) = m ((c.tc : Thread Cert.KMobaIdeal.nD Cert.KMobaIdeal.τ).loc Cert.KMobaIdeal.main_arg1)
      ∧ m' ((c.tc : Thread Cert.RMobaIdeal.nD Cert.RMobaIdeal.τ).loc Cert.RMobaIdeal.main_arg2) = m ((c.tc : Thread Cert.KMobaIdeal.nD Cert.KMobaIdeal.τ).loc Cert.KMobaIdeal.main_arg2)) →
    ∃ (v0 : (c : Dev Cert.KMobaIdeal.nD) → Buf (Elt Ideal) ((c.tc : Thread Cert.KMobaIdeal.nD Cert.KMobaIdeal.τ).loc Cert.KMobaIdeal.main_v15)),
      θ_run (Cert.KMobaIdeal.defs (F := Ideal)) (onTc (τ := Cert.KMobaIdeal.τ) (Cert.KMobaIdeal.main (F := Ideal))) ⟨m, fun _ => 0, g⟩ (fun r => ∀ c : Dev Cert.KMobaIdeal.nD,
          r.2.mem ((c.tc : Thread Cert.KMobaIdeal.nD Cert.KMobaIdeal.τ).loc Cert.KMobaIdeal.main_v15) = v0 c
          ∧ r.2.mem ((c.tc : Thread Cert.KMobaIdeal.nD Cert.KMobaIdeal.τ).loc Cert.KMobaIdeal.main_arg0) = m ((c.tc : Thread Cert.KMobaIdeal.nD Cert.KMobaIdeal.τ).loc Cert.KMobaIdeal.main_arg0)
          ∧ r.2.mem ((c.tc : Thread Cert.KMobaIdeal.nD Cert.KMobaIdeal.τ).loc Cert.KMobaIdeal.main_arg1) = m ((c.tc : Thread Cert.KMobaIdeal.nD Cert.KMobaIdeal.τ).loc Cert.KMobaIdeal.main_arg1)
          ∧ r.2.mem ((c.tc : Thread Cert.KMobaIdeal.nD Cert.KMobaIdeal.τ).loc Cert.KMobaIdeal.main_arg2) = m ((c.tc : Thread Cert.KMobaIdeal.nD Cert.KMobaIdeal.τ).loc Cert.KMobaIdeal.main_arg2))
      ∧ θ_run (Cert.RMobaIdeal.defs (F := Ideal)) (onTc (τ := Cert.RMobaIdeal.τ) (Cert.RMobaIdeal.main (F := Ideal))) ⟨m', fun _ => 0, g'⟩ (fun r => ∀ c : Dev Cert.RMobaIdeal.nD,
          r.2.mem ((c.tc : Thread Cert.RMobaIdeal.nD Cert.RMobaIdeal.τ).loc Cert.RMobaIdeal.main_v105) = v0 c
          ∧ r.2.mem ((c.tc : Thread Cert.RMobaIdeal.nD Cert.RMobaIdeal.τ).loc Cert.RMobaIdeal.main_arg0) = m' ((c.tc : Thread Cert.RMobaIdeal.nD Cert.RMobaIdeal.τ).loc Cert.RMobaIdeal.main_arg0)
          ∧ r.2.mem ((c.tc : Thread Cert.RMobaIdeal.nD Cert.RMobaIdeal.τ).loc Cert.RMobaIdeal.main_arg1) = m' ((c.tc : Thread Cert.RMobaIdeal.nD Cert.RMobaIdeal.τ).loc Cert.RMobaIdeal.main_arg1)
          ∧ r.2.mem ((c.tc : Thread Cert.RMobaIdeal.nD Cert.RMobaIdeal.τ).loc Cert.RMobaIdeal.main_arg2) = m' ((c.tc : Thread Cert.RMobaIdeal.nD Cert.RMobaIdeal.τ).loc Cert.RMobaIdeal.main_arg2))

def preserves_KScan_KScanIdeal : Prop :=
  True

def algebraic_KScanIdeal_RScanIdeal_pre_numbers [hKScanIdeal : Cert.KScanIdeal.Facts] [hRScanIdeal : Cert.RScanIdeal.Facts] [hPre_numbers : Cert.Pre_numbers.Facts] : Prop :=
  ∀ (m : (ℓ : Loc Cert.KScanIdeal.nD Cert.KScanIdeal.τ Cert.KScanIdeal.sig) → Buf (Elt Ideal) ℓ) (g : Dev Cert.KScanIdeal.nD → PrngReg)
    (m' : (ℓ : Loc Cert.RScanIdeal.nD Cert.RScanIdeal.τ Cert.RScanIdeal.sig) → Buf (Elt Ideal) ℓ) (g' : Dev Cert.RScanIdeal.nD → PrngReg), Pre_KScanIdeal_numbers m →
    (∀ c : Dev Cert.KScanIdeal.nD,
      m' ((c.tc : Thread Cert.RScanIdeal.nD Cert.RScanIdeal.τ).loc Cert.RScanIdeal.main_arg0) = m ((c.tc : Thread Cert.KScanIdeal.nD Cert.KScanIdeal.τ).loc Cert.KScanIdeal.main_arg0)
      ∧ m' ((c.tc : Thread Cert.RScanIdeal.nD Cert.RScanIdeal.τ).loc Cert.RScanIdeal.main_arg1) = m ((c.tc : Thread Cert.KScanIdeal.nD Cert.KScanIdeal.τ).loc Cert.KScanIdeal.main_arg1)
      ∧ m' ((c.tc : Thread Cert.RScanIdeal.nD Cert.RScanIdeal.τ).loc Cert.RScanIdeal.main_arg2) = m ((c.tc : Thread Cert.KScanIdeal.nD Cert.KScanIdeal.τ).loc Cert.KScanIdeal.main_arg2)
      ∧ m' ((c.tc : Thread Cert.RScanIdeal.nD Cert.RScanIdeal.τ).loc Cert.RScanIdeal.main_arg3) = m ((c.tc : Thread Cert.KScanIdeal.nD Cert.KScanIdeal.τ).loc Cert.KScanIdeal.main_arg3)
      ∧ m' ((c.tc : Thread Cert.RScanIdeal.nD Cert.RScanIdeal.τ).loc Cert.RScanIdeal.main_arg4) = m ((c.tc : Thread Cert.KScanIdeal.nD Cert.KScanIdeal.τ).loc Cert.KScanIdeal.main_arg4)
      ∧ m' ((c.tc : Thread Cert.RScanIdeal.nD Cert.RScanIdeal.τ).loc Cert.RScanIdeal.main_arg5) = m ((c.tc : Thread Cert.KScanIdeal.nD Cert.KScanIdeal.τ).loc Cert.KScanIdeal.main_arg5)
      ∧ m' ((c.tc : Thread Cert.RScanIdeal.nD Cert.RScanIdeal.τ).loc Cert.RScanIdeal.main_arg6) = m ((c.tc : Thread Cert.KScanIdeal.nD Cert.KScanIdeal.τ).loc Cert.KScanIdeal.main_arg6)) →
    ∃ (v0 : (c : Dev Cert.KScanIdeal.nD) → Buf (Elt Ideal) ((c.tc : Thread Cert.KScanIdeal.nD Cert.KScanIdeal.τ).loc Cert.KScanIdeal.main_v7_0)) (v1 : (c : Dev Cert.KScanIdeal.nD) → Buf (Elt Ideal) ((c.tc : Thread Cert.KScanIdeal.nD Cert.KScanIdeal.τ).loc Cert.KScanIdeal.main_v7_1)),
      θ_run (Cert.KScanIdeal.defs (F := Ideal)) (onTc (τ := Cert.KScanIdeal.τ) (Cert.KScanIdeal.main (F := Ideal))) ⟨m, fun _ => 0, g⟩ (fun r => ∀ c : Dev Cert.KScanIdeal.nD,
          r.2.mem ((c.tc : Thread Cert.KScanIdeal.nD Cert.KScanIdeal.τ).loc Cert.KScanIdeal.main_v7_0) = v0 c
          ∧ r.2.mem ((c.tc : Thread Cert.KScanIdeal.nD Cert.KScanIdeal.τ).loc Cert.KScanIdeal.main_v7_1) = v1 c
          ∧ r.2.mem ((c.tc : Thread Cert.KScanIdeal.nD Cert.KScanIdeal.τ).loc Cert.KScanIdeal.main_arg0) = m ((c.tc : Thread Cert.KScanIdeal.nD Cert.KScanIdeal.τ).loc Cert.KScanIdeal.main_arg0)
          ∧ r.2.mem ((c.tc : Thread Cert.KScanIdeal.nD Cert.KScanIdeal.τ).loc Cert.KScanIdeal.main_arg1) = m ((c.tc : Thread Cert.KScanIdeal.nD Cert.KScanIdeal.τ).loc Cert.KScanIdeal.main_arg1)
          ∧ r.2.mem ((c.tc : Thread Cert.KScanIdeal.nD Cert.KScanIdeal.τ).loc Cert.KScanIdeal.main_arg2) = m ((c.tc : Thread Cert.KScanIdeal.nD Cert.KScanIdeal.τ).loc Cert.KScanIdeal.main_arg2)
          ∧ r.2.mem ((c.tc : Thread Cert.KScanIdeal.nD Cert.KScanIdeal.τ).loc Cert.KScanIdeal.main_arg3) = m ((c.tc : Thread Cert.KScanIdeal.nD Cert.KScanIdeal.τ).loc Cert.KScanIdeal.main_arg3)
          ∧ r.2.mem ((c.tc : Thread Cert.KScanIdeal.nD Cert.KScanIdeal.τ).loc Cert.KScanIdeal.main_arg4) = m ((c.tc : Thread Cert.KScanIdeal.nD Cert.KScanIdeal.τ).loc Cert.KScanIdeal.main_arg4)
          ∧ r.2.mem ((c.tc : Thread Cert.KScanIdeal.nD Cert.KScanIdeal.τ).loc Cert.KScanIdeal.main_arg5) = m ((c.tc : Thread Cert.KScanIdeal.nD Cert.KScanIdeal.τ).loc Cert.KScanIdeal.main_arg5)
          ∧ r.2.mem ((c.tc : Thread Cert.KScanIdeal.nD Cert.KScanIdeal.τ).loc Cert.KScanIdeal.main_arg6) = m ((c.tc : Thread Cert.KScanIdeal.nD Cert.KScanIdeal.τ).loc Cert.KScanIdeal.main_arg6))
      ∧ θ_run (Cert.RScanIdeal.defs (F := Ideal)) (onTc (τ := Cert.RScanIdeal.τ) (Cert.RScanIdeal.main (F := Ideal))) ⟨m', fun _ => 0, g'⟩ (fun r => ∀ c : Dev Cert.RScanIdeal.nD,
          r.2.mem ((c.tc : Thread Cert.RScanIdeal.nD Cert.RScanIdeal.τ).loc Cert.RScanIdeal.main_v135) = v0 c
          ∧ r.2.mem ((c.tc : Thread Cert.RScanIdeal.nD Cert.RScanIdeal.τ).loc Cert.RScanIdeal.main_v129) = v1 c
          ∧ r.2.mem ((c.tc : Thread Cert.RScanIdeal.nD Cert.RScanIdeal.τ).loc Cert.RScanIdeal.main_arg0) = m' ((c.tc : Thread Cert.RScanIdeal.nD Cert.RScanIdeal.τ).loc Cert.RScanIdeal.main_arg0)
          ∧ r.2.mem ((c.tc : Thread Cert.RScanIdeal.nD Cert.RScanIdeal.τ).loc Cert.RScanIdeal.main_arg1) = m' ((c.tc : Thread Cert.RScanIdeal.nD Cert.RScanIdeal.τ).loc Cert.RScanIdeal.main_arg1)
          ∧ r.2.mem ((c.tc : Thread Cert.RScanIdeal.nD Cert.RScanIdeal.τ).loc Cert.RScanIdeal.main_arg2) = m' ((c.tc : Thread Cert.RScanIdeal.nD Cert.RScanIdeal.τ).loc Cert.RScanIdeal.main_arg2)
          ∧ r.2.mem ((c.tc : Thread Cert.RScanIdeal.nD Cert.RScanIdeal.τ).loc Cert.RScanIdeal.main_arg3) = m' ((c.tc : Thread Cert.RScanIdeal.nD Cert.RScanIdeal.τ).loc Cert.RScanIdeal.main_arg3)
          ∧ r.2.mem ((c.tc : Thread Cert.RScanIdeal.nD Cert.RScanIdeal.τ).loc Cert.RScanIdeal.main_arg4) = m' ((c.tc : Thread Cert.RScanIdeal.nD Cert.RScanIdeal.τ).loc Cert.RScanIdeal.main_arg4)
          ∧ r.2.mem ((c.tc : Thread Cert.RScanIdeal.nD Cert.RScanIdeal.τ).loc Cert.RScanIdeal.main_arg5) = m' ((c.tc : Thread Cert.RScanIdeal.nD Cert.RScanIdeal.τ).loc Cert.RScanIdeal.main_arg5)
          ∧ r.2.mem ((c.tc : Thread Cert.RScanIdeal.nD Cert.RScanIdeal.τ).loc Cert.RScanIdeal.main_arg6) = m' ((c.tc : Thread Cert.RScanIdeal.nD Cert.RScanIdeal.τ).loc Cert.RScanIdeal.main_arg6))

def preserves_KSRope_KSRopeIdeal : Prop :=
  True

def algebraic_KSRopeIdeal_RSRopeIdeal [hKSRopeIdeal : Cert.KSRopeIdeal.Facts] [hRSRopeIdeal : Cert.RSRopeIdeal.Facts] : Prop :=
  ∀ (m : (ℓ : Loc Cert.KSRopeIdeal.nD Cert.KSRopeIdeal.τ Cert.KSRopeIdeal.sig) → Buf (Elt Ideal) ℓ) (g : Dev Cert.KSRopeIdeal.nD → PrngReg)
    (m' : (ℓ : Loc Cert.RSRopeIdeal.nD Cert.RSRopeIdeal.τ Cert.RSRopeIdeal.sig) → Buf (Elt Ideal) ℓ) (g' : Dev Cert.RSRopeIdeal.nD → PrngReg), Pre_KSRopeIdeal m →
    (∀ c : Dev Cert.KSRopeIdeal.nD,
      m' ((c.tc : Thread Cert.RSRopeIdeal.nD Cert.RSRopeIdeal.τ).loc Cert.RSRopeIdeal.main_arg0) = m ((c.tc : Thread Cert.KSRopeIdeal.nD Cert.KSRopeIdeal.τ).loc Cert.KSRopeIdeal.main_arg0)) →
    ∃ (v0 : (c : Dev Cert.KSRopeIdeal.nD) → Buf (Elt Ideal) ((c.tc : Thread Cert.KSRopeIdeal.nD Cert.KSRopeIdeal.τ).loc Cert.KSRopeIdeal.main_v26_0)) (v1 : (c : Dev Cert.KSRopeIdeal.nD) → Buf (Elt Ideal) ((c.tc : Thread Cert.KSRopeIdeal.nD Cert.KSRopeIdeal.τ).loc Cert.KSRopeIdeal.main_v26_1)),
      θ_run (Cert.KSRopeIdeal.defs (F := Ideal)) (onTc (τ := Cert.KSRopeIdeal.τ) (Cert.KSRopeIdeal.main (F := Ideal))) ⟨m, fun _ => 0, g⟩ (fun r => ∀ c : Dev Cert.KSRopeIdeal.nD,
          r.2.mem ((c.tc : Thread Cert.KSRopeIdeal.nD Cert.KSRopeIdeal.τ).loc Cert.KSRopeIdeal.main_v26_0) = v0 c
          ∧ r.2.mem ((c.tc : Thread Cert.KSRopeIdeal.nD Cert.KSRopeIdeal.τ).loc Cert.KSRopeIdeal.main_v26_1) = v1 c
          ∧ r.2.mem ((c.tc : Thread Cert.KSRopeIdeal.nD Cert.KSRopeIdeal.τ).loc Cert.KSRopeIdeal.main_arg0) = m ((c.tc : Thread Cert.KSRopeIdeal.nD Cert.KSRopeIdeal.τ).loc Cert.KSRopeIdeal.main_arg0))
      ∧ θ_run (Cert.RSRopeIdeal.defs (F := Ideal)) (onTc (τ := Cert.RSRopeIdeal.τ) (Cert.RSRopeIdeal.main (F := Ideal))) ⟨m', fun _ => 0, g'⟩ (fun r => ∀ c : Dev Cert.RSRopeIdeal.nD,
          r.2.mem ((c.tc : Thread Cert.RSRopeIdeal.nD Cert.RSRopeIdeal.τ).loc Cert.RSRopeIdeal.main_v66) = v0 c
          ∧ r.2.mem ((c.tc : Thread Cert.RSRopeIdeal.nD Cert.RSRopeIdeal.τ).loc Cert.RSRopeIdeal.main_v67) = v1 c
          ∧ r.2.mem ((c.tc : Thread Cert.RSRopeIdeal.nD Cert.RSRopeIdeal.τ).loc Cert.RSRopeIdeal.main_arg0) = m' ((c.tc : Thread Cert.RSRopeIdeal.nD Cert.RSRopeIdeal.τ).loc Cert.RSRopeIdeal.main_arg0))

def Claim : Prop :=
  ∃ (hKFfn : Cert.KFfn.Facts) (hKFfnIdeal : Cert.KFfnIdeal.Facts) (hRFfnIdeal : Cert.RFfnIdeal.Facts) (hKShift : Cert.KShift.Facts) (hKShiftIdeal : Cert.KShiftIdeal.Facts) (hRShiftIdeal : Cert.RShiftIdeal.Facts) (hKNorm : Cert.KNorm.Facts) (hKNormIdeal : Cert.KNormIdeal.Facts) (hRNormIdeal : Cert.RNormIdeal.Facts) (hKProjR : Cert.KProjR.Facts) (hKProjRIdeal : Cert.KProjRIdeal.Facts) (hRProjRIdeal : Cert.RProjRIdeal.Facts) (hKProjM : Cert.KProjM.Facts) (hKProjMIdeal : Cert.KProjMIdeal.Facts) (hRProjMIdeal : Cert.RProjMIdeal.Facts) (hKRope : Cert.KRope.Facts) (hKRopeIdeal : Cert.KRopeIdeal.Facts) (hRRopeIdeal : Cert.RRopeIdeal.Facts) (hKMix : Cert.KMix.Facts) (hKMixIdeal : Cert.KMixIdeal.Facts) (hRMixIdeal : Cert.RMixIdeal.Facts) (hKMoba : Cert.KMoba.Facts) (hKMobaIdeal : Cert.KMobaIdeal.Facts) (hRMobaIdeal : Cert.RMobaIdeal.Facts) (hKScan : Cert.KScan.Facts) (hKScanIdeal : Cert.KScanIdeal.Facts) (hRScanIdeal : Cert.RScanIdeal.Facts) (hKSRope : Cert.KSRope.Facts) (hKSRopeIdeal : Cert.KSRopeIdeal.Facts) (hRSRopeIdeal : Cert.RSRopeIdeal.Facts) (hPre_finite : Cert.Pre_finite.Facts) (hPre_numbers : Cert.Pre_numbers.Facts),
    quiescent_KFfn (hKFfn := hKFfn)
    ∧ quiescent_KFfnIdeal (hKFfnIdeal := hKFfnIdeal)
    ∧ quiescent_RFfnIdeal (hRFfnIdeal := hRFfnIdeal)
    ∧ quiescent_KShift (hKShift := hKShift)
    ∧ quiescent_KShiftIdeal (hKShiftIdeal := hKShiftIdeal)
    ∧ quiescent_RShiftIdeal (hRShiftIdeal := hRShiftIdeal)
    ∧ quiescent_KNorm (hKNorm := hKNorm)
    ∧ quiescent_KNormIdeal (hKNormIdeal := hKNormIdeal)
    ∧ quiescent_RNormIdeal (hRNormIdeal := hRNormIdeal)
    ∧ quiescent_KProjR (hKProjR := hKProjR)
    ∧ quiescent_KProjRIdeal (hKProjRIdeal := hKProjRIdeal)
    ∧ quiescent_RProjRIdeal (hRProjRIdeal := hRProjRIdeal)
    ∧ quiescent_KProjM (hKProjM := hKProjM)
    ∧ quiescent_KProjMIdeal (hKProjMIdeal := hKProjMIdeal)
    ∧ quiescent_RProjMIdeal (hRProjMIdeal := hRProjMIdeal)
    ∧ quiescent_KRope (hKRope := hKRope)
    ∧ quiescent_KRopeIdeal (hKRopeIdeal := hKRopeIdeal)
    ∧ quiescent_RRopeIdeal (hRRopeIdeal := hRRopeIdeal)
    ∧ quiescent_KMix (hKMix := hKMix)
    ∧ quiescent_KMixIdeal (hKMixIdeal := hKMixIdeal)
    ∧ quiescent_RMixIdeal (hRMixIdeal := hRMixIdeal)
    ∧ quiescent_KMoba (hKMoba := hKMoba)
    ∧ quiescent_KMobaIdeal (hKMobaIdeal := hKMobaIdeal)
    ∧ quiescent_KMobaIdeal_pre_finite (hKMobaIdeal := hKMobaIdeal) (hPre_finite := hPre_finite)
    ∧ quiescent_RMobaIdeal (hRMobaIdeal := hRMobaIdeal)
    ∧ quiescent_RMobaIdeal_pre_finite (hRMobaIdeal := hRMobaIdeal) (hPre_finite := hPre_finite)
    ∧ quiescent_KScan (hKScan := hKScan)
    ∧ quiescent_KScanIdeal (hKScanIdeal := hKScanIdeal)
    ∧ quiescent_KScanIdeal_pre_numbers (hKScanIdeal := hKScanIdeal) (hPre_numbers := hPre_numbers)
    ∧ quiescent_RScanIdeal (hRScanIdeal := hRScanIdeal)
    ∧ quiescent_RScanIdeal_pre_numbers (hRScanIdeal := hRScanIdeal) (hPre_numbers := hPre_numbers)
    ∧ quiescent_KSRope (hKSRope := hKSRope)
    ∧ quiescent_KSRopeIdeal (hKSRopeIdeal := hKSRopeIdeal)
    ∧ quiescent_RSRopeIdeal (hRSRopeIdeal := hRSRopeIdeal)
    ∧ preserves_KFfn_KFfnIdeal
    ∧ algebraic_KFfnIdeal_RFfnIdeal (hKFfnIdeal := hKFfnIdeal) (hRFfnIdeal := hRFfnIdeal)
    ∧ preserves_KShift_KShiftIdeal
    ∧ algebraic_KShiftIdeal_RShiftIdeal (hKShiftIdeal := hKShiftIdeal) (hRShiftIdeal := hRShiftIdeal)
    ∧ preserves_KNorm_KNormIdeal
    ∧ algebraic_KNormIdeal_RNormIdeal (hKNormIdeal := hKNormIdeal) (hRNormIdeal := hRNormIdeal)
    ∧ preserves_KProjR_KProjRIdeal
    ∧ algebraic_KProjRIdeal_RProjRIdeal (hKProjRIdeal := hKProjRIdeal) (hRProjRIdeal := hRProjRIdeal)
    ∧ preserves_KProjM_KProjMIdeal
    ∧ algebraic_KProjMIdeal_RProjMIdeal (hKProjMIdeal := hKProjMIdeal) (hRProjMIdeal := hRProjMIdeal)
    ∧ preserves_KRope_KRopeIdeal
    ∧ algebraic_KRopeIdeal_RRopeIdeal (hKRopeIdeal := hKRopeIdeal) (hRRopeIdeal := hRRopeIdeal)
    ∧ preserves_KMix_KMixIdeal
    ∧ algebraic_KMixIdeal_RMixIdeal (hKMixIdeal := hKMixIdeal) (hRMixIdeal := hRMixIdeal)
    ∧ preserves_KMoba_KMobaIdeal
    ∧ algebraic_KMobaIdeal_RMobaIdeal_pre_finite (hKMobaIdeal := hKMobaIdeal) (hRMobaIdeal := hRMobaIdeal) (hPre_finite := hPre_finite)
    ∧ preserves_KScan_KScanIdeal
    ∧ algebraic_KScanIdeal_RScanIdeal_pre_numbers (hKScanIdeal := hKScanIdeal) (hRScanIdeal := hRScanIdeal) (hPre_numbers := hPre_numbers)
    ∧ preserves_KSRope_KSRopeIdeal
    ∧ algebraic_KSRopeIdeal_RSRopeIdeal (hKSRopeIdeal := hKSRopeIdeal) (hRSRopeIdeal := hRSRopeIdeal)
-- ==== Pre_finite.lean ====
abbrev S4x8192x8x64 : Shape := ⟨4, ![4, 8192, 8, 64]⟩
abbrev S_ : Shape := ⟨0, ![]⟩

class Facts : Prop where
  bcast_S_S4x8192x8x64 : S_.BroadcastsInDim S4x8192x8x64 (![] : Fin 0 → Fin S4x8192x8x64.rank)

variable [Facts]

def fn {F : FTy → Type} [FloatOps F] (main_arg0 : FVec F S4x8192x8x64 .f32) (main_arg1 : FVec F S4x8192x8x64 .f32) (main_arg2 : FVec F S4x8192x8x64 .f32) : IVec S4x8192x8x64 1 :=
  let main_cst : FVec F S_ .f32 := constant S_ .f32 0xFF800000#32
  let main_v0 : FVec F S4x8192x8x64 .f32 := broadcastInDim S4x8192x8x64 ![] bcast_S_S4x8192x8x64 main_cst
  let main_v1 : IVec S4x8192x8x64 1 := cmpf .ogt main_arg0 main_v0
  let main_cst_0 : FVec F S_ .f32 := constant S_ .f32 0x7F800000#32
  let main_v2 : FVec F S4x8192x8x64 .f32 := broadcastInDim S4x8192x8x64 ![] bcast_S_S4x8192x8x64 main_cst_0
  let main_v3 : IVec S4x8192x8x64 1 := cmpf .olt main_arg0 main_v2
  let main_v4 : IVec S4x8192x8x64 1 := andi main_v1 main_v3
  let main_cst_1 : FVec F S_ .f32 := constant S_ .f32 0xFF800000#32
  let main_v5 : FVec F S4x8192x8x64 .f32 := broadcastInDim S4x8192x8x64 ![] bcast_S_S4x8192x8x64 main_cst_1
  let main_v6 : IVec S4x8192x8x64 1 := cmpf .ogt main_arg1 main_v5
  let main_v7 : IVec S4x8192x8x64 1 := andi main_v4 main_v6
  let main_cst_2 : FVec F S_ .f32 := constant S_ .f32 0x7F800000#32
  let main_v8 : FVec F S4x8192x8x64 .f32 := broadcastInDim S4x8192x8x64 ![] bcast_S_S4x8192x8x64 main_cst_2
  let main_v9 : IVec S4x8192x8x64 1 := cmpf .olt main_arg1 main_v8
  let main_v10 : IVec S4x8192x8x64 1 := andi main_v7 main_v9
  main_v10
-- ==== Pre_numbers.lean ====
abbrev S32x4x8x64 : Shape := ⟨4, ![32, 4, 8, 64]⟩
abbrev S32x8x64x64 : Shape := ⟨4, ![32, 8, 64, 64]⟩
abbrev S_ : Shape := ⟨0, ![]⟩
abbrev S32x4x8x1x64 : Shape := ⟨5, ![32, 4, 8, 1, 64]⟩
abbrev S32x1x8x64x64 : Shape := ⟨5, ![32, 1, 8, 64, 64]⟩
abbrev S32x4x8x64x64 : Shape := ⟨5, ![32, 4, 8, 64, 64]⟩

class Facts : Prop where
  bcast_S_S32x4x8x64 : S_.BroadcastsInDim S32x4x8x64 (![] : Fin 0 → Fin S32x4x8x64.rank)
  bcast_S32x4x8x64_S32x4x8x1x64_0_1_2_4 : S32x4x8x64.BroadcastsInDim S32x4x8x1x64 (![0, 1, 2, 4] : Fin 4 → Fin S32x4x8x1x64.rank)
  bcast_S_S32x8x64x64 : S_.BroadcastsInDim S32x8x64x64 (![] : Fin 0 → Fin S32x8x64x64.rank)
  bcast_S32x8x64x64_S32x1x8x64x64_0_2_3_4 : S32x8x64x64.BroadcastsInDim S32x1x8x64x64 (![0, 2, 3, 4] : Fin 4 → Fin S32x1x8x64x64.rank)
  bcast_S32x4x8x1x64_S32x4x8x64x64_0_1_2_3_4 : S32x4x8x1x64.BroadcastsInDim S32x4x8x64x64 (![0, 1, 2, 3, 4] : Fin 5 → Fin S32x4x8x64x64.rank)
  bcast_S32x1x8x64x64_S32x4x8x64x64_0_1_2_3_4 : S32x1x8x64x64.BroadcastsInDim S32x4x8x64x64 (![0, 1, 2, 3, 4] : Fin 5 → Fin S32x4x8x64x64.rank)

variable [Facts]

def fn_part2 {F : FTy → Type} [FloatOps F] (main_v29 : IVec S32x4x8x1x64 1) (main_v35 : IVec S32x1x8x64x64 1) : IVec S32x4x8x64x64 1 :=
  let main_v36 : IVec S32x4x8x64x64 1 := broadcastInDim S32x4x8x64x64 ![0, 1, 2, 3, 4] bcast_S32x4x8x1x64_S32x4x8x64x64_0_1_2_3_4 main_v29
  let main_v37 : IVec S32x4x8x64x64 1 := broadcastInDim S32x4x8x64x64 ![0, 1, 2, 3, 4] bcast_S32x1x8x64x64_S32x4x8x64x64_0_1_2_3_4 main_v35
  let main_v38 : IVec S32x4x8x64x64 1 := andi main_v36 main_v37
  main_v38

def fn_part1 {F : FTy → Type} [FloatOps F] (main_arg4 : FVec F S32x4x8x64 .f32) (main_arg5 : FVec F S32x4x8x64 .f32) (main_arg6 : FVec F S32x8x64x64 .f32) (main_v16 : IVec S32x4x8x64 1) (main_cst_5 : FVec F S_ .f32) : IVec S32x4x8x64x64 1 :=
  let main_v17 : FVec F S32x4x8x64 .f32 := broadcastInDim S32x4x8x64 ![] bcast_S_S32x4x8x64 main_cst_5
  let main_v18 : IVec S32x4x8x64 1 := cmpf .ogt main_arg4 main_v17
  let main_cst_6 : FVec F S_ .f32 := constant S_ .f32 0x7F800000#32
  let main_v19 : FVec F S32x4x8x64 .f32 := broadcastInDim S32x4x8x64 ![] bcast_S_S32x4x8x64 main_cst_6
  let main_v20 : IVec S32x4x8x64 1 := cmpf .olt main_arg4 main_v19
  let main_v21 : IVec S32x4x8x64 1 := andi main_v18 main_v20
  let main_v22 : IVec S32x4x8x64 1 := andi main_v16 main_v21
  let main_cst_7 : FVec F S_ .f32 := constant S_ .f32 0xFF800000#32
  let main_v23 : FVec F S32x4x8x64 .f32 := broadcastInDim S32x4x8x64 ![] bcast_S_S32x4x8x64 main_cst_7
  let main_v24 : IVec S32x4x8x64 1 := cmpf .ogt main_arg5 main_v23
  let main_cst_8 : FVec F S_ .f32 := constant S_ .f32 0x7F800000#32
  let main_v25 : FVec F S32x4x8x64 .f32 := broadcastInDim S32x4x8x64 ![] bcast_S_S32x4x8x64 main_cst_8
  let main_v26 : IVec S32x4x8x64 1 := cmpf .olt main_arg5 main_v25
  let main_v27 : IVec S32x4x8x64 1 := andi main_v24 main_v26
  let main_v28 : IVec S32x4x8x64 1 := andi main_v22 main_v27
  let main_v29 : IVec S32x4x8x1x64 1 := broadcastInDim S32x4x8x1x64 ![0, 1, 2, 4] bcast_S32x4x8x64_S32x4x8x1x64_0_1_2_4 main_v28
  let main_cst_9 : FVec F S_ .f32 := constant S_ .f32 0xFF800000#32
  let main_v30 : FVec F S32x8x64x64 .f32 := broadcastInDim S32x8x64x64 ![] bcast_S_S32x8x64x64 main_cst_9
  let main_v31 : IVec S32x8x64x64 1 := cmpf .ogt main_arg6 main_v30
  let main_cst_10 : FVec F S_ .f32 := constant S_ .f32 0x7F800000#32
  let main_v32 : FVec F S32x8x64x64 .f32 := broadcastInDim S32x8x64x64 ![] bcast_S_S32x8x64x64 main_cst_10
  let main_v33 : IVec S32x8x64x64 1 := cmpf .olt main_arg6 main_v32
  let main_v34 : IVec S32x8x64x64 1 := andi main_v31 main_v33
  let main_v35 : IVec S32x1x8x64x64 1 := broadcastInDim S32x1x8x64x64 ![0, 2, 3, 4] bcast_S32x8x64x64_S32x1x8x64x64_0_2_3_4 main_v34
  fn_part2 (F := F) main_v29 main_v35

def fn {F : FTy → Type} [FloatOps F] (main_arg0 : FVec F S32x4x8x64 .f32) (main_arg1 : FVec F S32x4x8x64 .f32) (main_arg2 : FVec F S32x4x8x64 .f32) (main_arg3 : FVec F S32x4x8x64 .f32) (main_arg4 : FVec F S32x4x8x64 .f32) (main_arg5 : FVec F S32x4x8x64 .f32) (main_arg6 : FVec F S32x8x64x64 .f32) : IVec S32x4x8x64x64 1 :=
  let main_cst : FVec F S_ .f32 := constant S_ .f32 0xFF800000#32
  let main_v0 : FVec F S32x4x8x64 .f32 := broadcastInDim S32x4x8x64 ![] bcast_S_S32x4x8x64 main_cst
  let main_v1 : IVec S32x4x8x64 1 := cmpf .ogt main_arg1 main_v0
  let main_cst_0 : FVec F S_ .f32 := constant S_ .f32 0x7F800000#32
  let main_v2 : FVec F S32x4x8x64 .f32 := broadcastInDim S32x4x8x64 ![] bcast_S_S32x4x8x64 main_cst_0
  let main_v3 : IVec S32x4x8x64 1 := cmpf .olt main_arg1 main_v2
  let main_v4 : IVec S32x4x8x64 1 := andi main_v1 main_v3
  let main_cst_1 : FVec F S_ .f32 := constant S_ .f32 0xFF800000#32
  let main_v5 : FVec F S32x4x8x64 .f32 := broadcastInDim S32x4x8x64 ![] bcast_S_S32x4x8x64 main_cst_1
  let main_v6 : IVec S32x4x8x64 1 := cmpf .ogt main_arg2 main_v5
  let main_cst_2 : FVec F S_ .f32 := constant S_ .f32 0x7F800000#32
  let main_v7 : FVec F S32x4x8x64 .f32 := broadcastInDim S32x4x8x64 ![] bcast_S_S32x4x8x64 main_cst_2
  let main_v8 : IVec S32x4x8x64 1 := cmpf .olt main_arg2 main_v7
  let main_v9 : IVec S32x4x8x64 1 := andi main_v6 main_v8
  let main_v10 : IVec S32x4x8x64 1 := andi main_v4 main_v9
  let main_cst_3 : FVec F S_ .f32 := constant S_ .f32 0xFF800000#32
  let main_v11 : FVec F S32x4x8x64 .f32 := broadcastInDim S32x4x8x64 ![] bcast_S_S32x4x8x64 main_cst_3
  let main_v12 : IVec S32x4x8x64 1 := cmpf .ogt main_arg3 main_v11
  let main_cst_4 : FVec F S_ .f32 := constant S_ .f32 0x7F800000#32
  let main_v13 : FVec F S32x4x8x64 .f32 := broadcastInDim S32x4x8x64 ![] bcast_S_S32x4x8x64 main_cst_4
  let main_v14 : IVec S32x4x8x64 1 := cmpf .olt main_arg3 main_v13
  let main_v15 : IVec S32x4x8x64 1 := andi main_v12 main_v14
  let main_v16 : IVec S32x4x8x64 1 := andi main_v10 main_v15
  let main_cst_5 : FVec F S_ .f32 := constant S_ .f32 0xFF800000#32
  fn_part1 (F := F) main_arg4 main_arg5 main_arg6 main_v16 main_cst_5
-- ==== KFfn.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1408 : Shape := ⟨2, ![1024, 1408]⟩
abbrev S1408x1024 : Shape := ⟨2, ![1408, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RFfnIdeal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x2816, .f32⟩
  | .hbm, ⟨22, _⟩ => ⟨S4x8192x2816, .f32⟩
  | .hbm, ⟨23, _⟩ => ⟨S4x8192x2816, .f32⟩
  | .hbm, ⟨24, _⟩ => ⟨S_, .f32⟩
  | .hbm, ⟨25, _⟩ => ⟨S4x8192x2816, .f32⟩
  | .hbm, ⟨26, _⟩ => ⟨S4x8192x2816, .f32⟩
  | .hbm, ⟨27, _⟩ => ⟨S_, .f32⟩
  | .hbm, ⟨28, _⟩ => ⟨S4x8192x2816, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== KShift.lean ====
abbrev S4x8192x1024 : Shape := ⟨3, ![4, 8192, 1024]⟩
abbrev S1024 : Shape := ⟨1, ![1024]⟩
abbrev S4x1x1024 : Shape := ⟨3, ![4, 1, 1024]⟩
abbrev S4x1024 : Shape := ⟨2, ![4, 1024]⟩
abbrev S1x1024 : Shape := ⟨2, ![1, 1024]⟩
abbrev S4 : Shape := ⟨1, ![4]⟩
abbrev S4x1 : Shape := ⟨2, ![4, 1]⟩

abbrev nBuf : Space → Nat
  | .hbm => 6
  | .vmem => 3
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1024, .f32⟩
  | .hbm, ⟨4, _⟩ => ⟨S1x1024, .f32⟩
  | .hbm, ⟨5, _⟩ => ⟨S4x1024, .f32⟩
  | .local _ .vmem, ⟨0, _⟩ => ⟨S4x1024, .f32⟩
  | .local _ .vmem, ⟨1, _⟩ => ⟨S1x1024, .f32⟩
  | .local _ .vmem, ⟨2, _⟩ => ⟨S4x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RShiftIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x8192x1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x1024, .f32⟩
  | .hbm, ⟨14, _⟩ => ⟨S4x8192x1024, .f32⟩
  | .hbm, ⟨15, _⟩ => ⟨S1x1x1024, .f32⟩
  | .hbm, ⟨16, _⟩ => ⟨S4x8192x1024, .f32⟩
  | .hbm, ⟨17, _⟩ => ⟨S4x8192x1024, .f32⟩
  | .hbm, ⟨18, _⟩ => ⟨S4x1x1024, .f32⟩
  | .hbm, ⟨19, _⟩ => ⟨S4x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KNorm.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RNormIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x8192x1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x1024, .f32⟩
  | .hbm, ⟨14, _⟩ => ⟨S4x8192x1024, .f32⟩
  | .hbm, ⟨15, _⟩ => ⟨S1x1x1024, .f32⟩
  | .hbm, ⟨16, _⟩ => ⟨S4x8192x1024, .f32⟩
  | .hbm, ⟨17, _⟩ => ⟨S4x8192x1024, .f32⟩
  | .hbm, ⟨18, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KProjR.lean ====
abbrev S4x8192x1024 : Shape := ⟨3, ![4, 8192, 1024]⟩
abbrev S1024 : Shape := ⟨1, ![1024]⟩
abbrev S1024x3328 : Shape := ⟨2, ![1024, 3328]⟩
abbrev S32768x1024 : Shape := ⟨2, ![32768, 1024]⟩
abbrev S1024x1792 : Shape := ⟨2, ![1024, 1792]⟩
abbrev S1x1024 : Shape := ⟨2, ![1, 1024]⟩
abbrev S32768x1792 : Shape := ⟨2, ![32768, 1792]⟩
abbrev S1024x1024 : Shape := ⟨2, ![1024, 1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3328, .f32⟩
  | .hbm, ⟨3, _⟩ => ⟨S32768x1024, .f32⟩
  | .hbm, ⟨4, _⟩ => ⟨S1024x1792, .f32⟩
  | .hbm, ⟨5, _⟩ => ⟨S1024x1792, .bf16⟩
  | .hbm, ⟨6, _⟩ => ⟨S1x1024, .f32⟩
  | .hbm, ⟨7, _⟩ => ⟨S32768x1792, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | .local _ .vmem, ⟨6, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RProjRIdeal.lean ====
abbrev S4x8192x1024 : Shape := ⟨3, ![4, 8192, 1024]⟩
abbrev S1024 : Shape := ⟨1, ![1024]⟩
abbrev S1024x3328 : Shape := ⟨2, ![1024, 3328]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3328 : Shape := ⟨3, ![4, 8192, 3328]⟩
abbrev S4x8192x1792 : Shape := ⟨3, ![4, 8192, 1792]⟩
abbrev S32768x1792 : Shape := ⟨2, ![32768, 1792]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3328, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x3328, .f32⟩
  | .hbm, ⟨20, _⟩ => ⟨S4x8192x1792, .f32⟩
  | .hbm, ⟨21, _⟩ => ⟨S32768x1792, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KProjM.lean ====
abbrev S4x8192x1024 : Shape := ⟨3, ![4, 8192, 1024]⟩
abbrev S1024 : Shape := ⟨1, ![1024]⟩
abbrev S1024x3328 : Shape := ⟨2, ![1024, 3328]⟩
abbrev S32768x1024 : Shape := ⟨2, ![32768, 1024]⟩
abbrev S1024x1536 : Shape := ⟨2, ![1024, 1536]⟩
abbrev S1x1024 : Shape := ⟨2, ![1, 1024]⟩
abbrev S32768x1536 : Shape := ⟨2, ![32768, 1536]⟩
abbrev S1024x1024 : Shape := ⟨2, ![1024, 1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3328, .f32⟩
  | .hbm, ⟨3, _⟩ => ⟨S32768x1024, .f32⟩
  | .hbm, ⟨4, _⟩ => ⟨S1024x1536, .f32⟩
  | .hbm, ⟨5, _⟩ => ⟨S1024x1536, .bf16⟩
  | .hbm, ⟨6, _⟩ => ⟨S1x1024, .f32⟩
  | .hbm, ⟨7, _⟩ => ⟨S32768x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RProjMIdeal.lean ====
abbrev S4x8192x1024 : Shape := ⟨3, ![4, 8192, 1024]⟩
abbrev S1024 : Shape := ⟨1, ![1024]⟩
abbrev S1024x3328 : Shape := ⟨2, ![1024, 3328]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3328 : Shape := ⟨3, ![4, 8192, 3328]⟩
abbrev S4x8192x1536 : Shape := ⟨3, ![4, 8192, 1536]⟩
abbrev S32768x1536 : Shape := ⟨2, ![32768, 1536]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3328, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x3328, .f32⟩
  | .hbm, ⟨20, _⟩ => ⟨S4x8192x1536, .f32⟩
  | .hbm, ⟨21, _⟩ => ⟨S32768x1536, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KRope.lean ====
abbrev S4x8192x1536 : Shape := ⟨3, ![4, 8192, 1536]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S4x8192x512 : Shape := ⟨3, ![4, 8192, 512]⟩
abbrev S4x8x8192x64 : Shape := ⟨4, ![4, 8, 8192, 64]⟩
abbrev S4x8x32x80x256 : Shape := ⟨5, ![4, 8, 32, 80, 256]⟩
abbrev S1x512x1536 : Shape := ⟨3, ![1, 512, 1536]⟩
abbrev S512x512 : Shape := ⟨2, ![512, 512]⟩
abbrev S1x512x512 : Shape := ⟨3, ![1, 512, 512]⟩
abbrev S1x8x512x64 : Shape := ⟨4, ![1, 8, 512, 64]⟩
abbrev S1x8x2x80x256 : Shape := ⟨5, ![1, 8, 2, 80, 256]⟩
abbrev S512x1536 : Shape := ⟨2, ![512, 1536]⟩
abbrev S512x64 : Shape := ⟨2, ![512, 64]⟩
abbrev S1x1x512x64 : Shape := ⟨4, ![1, 1, 512, 64]⟩
abbrev S256x64 : Shape := ⟨2, ![256, 64]⟩
abbrev S64x256 : Shape := ⟨2, ![64, 256]⟩
abbrev S16x256 : Shape := ⟨2, ![16, 256]⟩
abbrev S80x256 : Shape := ⟨2, ![80, 256]⟩
abbrev S1x1x1x80x256 : Shape := ⟨5, ![1, 1, 1, 80, 256]⟩

abbrev nBuf : Space → Nat
  | .hbm => 31
  | .vmem => 14
  | .smem => 0
  | _ => 0

abbrev bufTy : (tb : Table) → Fin (tcTables nBuf tb) → BufTy
  | .hbm, ⟨0, _⟩ => ⟨S4x8192x1536, .f32⟩
  | .hbm, ⟨1, _⟩ => ⟨S8192, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S8192, .f32⟩
  | .hbm, ⟨11, _⟩ => ⟨S8192x1, .f32⟩
  | .hbm, ⟨12, _⟩ => ⟨S1x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x64, .f32⟩
  | .hbm, ⟨19, _⟩ => ⟨S1x8192x1x64, .f32⟩
  | .hbm, ⟨20, _⟩ => ⟨S1x8192x8x64, .f32⟩
  | .hbm, ⟨21, _⟩ => ⟨S8192x512, .f32⟩
  | .hbm, ⟨22, _⟩ => ⟨S8192x32, .f32⟩
  | .hbm, ⟨23, _⟩ => ⟨S8192x64, .f32⟩
  | .hbm, ⟨24, _⟩ => ⟨S1x8192x1x64, .f32⟩
  | .hbm, ⟨25, _⟩ => ⟨S1x8192x8x64, .f32⟩
  | .hbm, ⟨26, _⟩ => ⟨S8192x512, .f32⟩
  | .hbm, ⟨27, _⟩ => ⟨S4x8192x512, .f32⟩
  | .hbm, ⟨28, _⟩ => ⟨S4x8x8192x64, .f32⟩
  | .hbm, ⟨29, _⟩ => ⟨S4x8x8192x64, .bf16⟩
  | .hbm, ⟨30, _⟩ => ⟨S4x8x32x80x256, .bf16⟩
  | .local _ .vmem, ⟨0, _⟩ => ⟨S1x512x1536, .f32⟩
  | .local _ .vmem, ⟨1, _⟩ => ⟨S1x512x1536, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S1x8x512x64, .f32⟩
  | .local _ .vmem, ⟨9, _⟩ => ⟨S1x8x512x64, .f32⟩
  | .local _ .vmem, ⟨10, _⟩ => ⟨S1x8x512x64, .bf16⟩
  | .local _ .vmem, ⟨11, _⟩ => ⟨S1x8x512x64, .bf16⟩
  | .local _ .vmem, ⟨12, _⟩ => ⟨S1x8x2x80x256, .bf16⟩
  | .local _ .vmem, ⟨13, _⟩ => ⟨S1x8x2x80x256, .bf16⟩
  | _, _ => ⟨S4x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24_0 : Ref sig .tc := ⟨.hbm, 27, rfl⟩
abbrev main_v24_1 : Ref sig .tc := ⟨.hbm, 28, rfl⟩
abbrev main_v24_2 : Ref sig .tc := ⟨.hbm, 29, rfl⟩
abbrev main_v24_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x2x80x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RRopeIdeal.lean ====
abbrev S4x8192x1536 : Shape := ⟨3, ![4, 8192, 1536]⟩
abbrev S8192 : Shape := ⟨1, ![8192]⟩
abbrev S4x8192x3x8x64 : Shape := ⟨5, ![4, 8192, 3, 8, 64]⟩
abbrev S4x8192x1x8x64 : Shape := ⟨5, ![4, 8192, 1, 8, 64]⟩
abbrev S4x8192x8x64 : Shape := ⟨4, ![4, 8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x8x32 : Shape := ⟨4, ![4, 8192, 8, 32]⟩
abbrev S4x8192x512 : Shape := ⟨3, ![4, 8192, 512]⟩
abbrev S4x8x8192x64 : Shape := ⟨4, ![4, 8, 8192, 64]⟩

abbrev nBuf : Space → Nat
  | .hbm => 73
  | .vmem => 0
  | .smem => 0
  | _ => 0

abbrev bufTy : (tb : Table) → Fin (tcTables nBuf tb) → BufTy
  | .hbm, ⟨0, _⟩ => ⟨S4x8192x1536, .f32⟩
  | .hbm, ⟨1, _⟩ => ⟨S8192, .i32⟩
  | .hbm, ⟨2, _⟩ => ⟨S4x8192x3x8x64, .f32⟩
  | .hbm, ⟨3, _⟩ => ⟨S4x8192x1x8x64, .f32⟩
  | .hbm, ⟨4, _⟩ => ⟨S4x8192x8x64, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S1x8192x1x32, .f32⟩
  | .hbm, ⟨21, _⟩ => ⟨S8192x32, .f32⟩
  | .hbm, ⟨22, _⟩ => ⟨S1x8192x1x32, .f32⟩
  | .hbm, ⟨23, _⟩ => ⟨S4x8192x8x32, .f32⟩
  | .hbm, ⟨24, _⟩ => ⟨S4x8192x8x32, .f32⟩
  | .hbm, ⟨25, _⟩ => ⟨S4x8192x8x32, .f32⟩
  | .hbm, ⟨26, _⟩ => ⟨S4x8192x8x32, .f32⟩
  | .hbm, ⟨27, _⟩ => ⟨S4x8192x8x32, .f32⟩
  | .hbm, ⟨28, _⟩ => ⟨S4x8192x8x32, .f32⟩
  | .hbm, ⟨29, _⟩ => ⟨S4x8192x8x32, .f32⟩
  | .hbm, ⟨30, _⟩ => ⟨S4x8192x8x32, .f32⟩
  | .hbm, ⟨31, _⟩ => ⟨S4x8192x8x32, .f32⟩
  | .hbm, ⟨32, _⟩ => ⟨S4x8192x8x32, .f32⟩
  | .hbm, ⟨33, _⟩ => ⟨S4x8192x8x32, .f32⟩
  | .hbm, ⟨34, _⟩ => ⟨S4x8192x8x32, .f32⟩
  | .hbm, ⟨35, _⟩ => ⟨S4x8192x8x64, .f32⟩
  | .hbm, ⟨36, _⟩ => ⟨S4x8192x1x8x64, .f32⟩
  | .hbm, ⟨37, _⟩ => ⟨S4x8192x8x64, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S8192, .f32⟩
  | .hbm, ⟨47, _⟩ => ⟨S8192x1, .f32⟩
  | .hbm, ⟨48, _⟩ => ⟨S1x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S1x8192x1x32, .f32⟩
  | .hbm, ⟨54, _⟩ => ⟨S8192x32, .f32⟩
  | .hbm, ⟨55, _⟩ => ⟨S1x8192x1x32, .f32⟩
  | .hbm, ⟨56, _⟩ => ⟨S4x8192x8x32, .f32⟩
  | .hbm, ⟨57, _⟩ => ⟨S4x8192x8x32, .f32⟩
  | .hbm, ⟨58, _⟩ => ⟨S4x8192x8x32, .f32⟩
  | .hbm, ⟨59, _⟩ => ⟨S4x8192x8x32, .f32⟩
  | .hbm, ⟨60, _⟩ => ⟨S4x8192x8x32, .f32⟩
  | .hbm, ⟨61, _⟩ => ⟨S4x8192x8x32, .f32⟩
  | .hbm, ⟨62, _⟩ => ⟨S4x8192x8x32, .f32⟩
  | .hbm, ⟨63, _⟩ => ⟨S4x8192x8x32, .f32⟩
  | .hbm, ⟨64, _⟩ => ⟨S4x8192x8x32, .f32⟩
  | .hbm, ⟨65, _⟩ => ⟨S4x8192x8x32, .f32⟩
  | .hbm, ⟨66, _⟩ => ⟨S4x8192x8x32, .f32⟩
  | .hbm, ⟨67, _⟩ => ⟨S4x8192x8x32, .f32⟩
  | .hbm, ⟨68, _⟩ => ⟨S4x8192x8x64, .f32⟩
  | .hbm, ⟨69, _⟩ => ⟨S4x8192x512, .f32⟩
  | .hbm, ⟨70, _⟩ => ⟨S4x8x8192x64, .f32⟩
  | .hbm, ⟨71, _⟩ => ⟨S4x8x8192x64, .f32⟩
  | .hbm, ⟨72, _⟩ => ⟨S4x8x8192x64, .bf16⟩
  | _, _ => ⟨S4x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst_1 : Ref sig .tc := ⟨.hbm, 40, rfl⟩
abbrev main_v37 : Ref sig .tc := ⟨.hbm, 41, rfl⟩
abbrev main_v38 : Ref sig .tc := ⟨.hbm, 42, rfl⟩
abbrev main_cst_2 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩

abbrev nD : Nat := 1
abbrev τ : Topo := Topo.v7x

variable {F : FTy → Type} [FloatOps F]
-- ==== KMix.lean ====
abbrev S4x8192x8x64 : Shape := ⟨4, ![4, 8192, 8, 64]⟩
abbrev S4x8192x512 : Shape := ⟨3, ![4, 8192, 512]⟩
abbrev S4x8192x1024 : Shape := ⟨3, ![4, 8192, 1024]⟩
abbrev S1024x1024 : Shape := ⟨2, ![1024, 1024]⟩
abbrev S512 : Shape := ⟨1, ![512]⟩
abbrev S8x64 : Shape := ⟨2, ![8, 64]⟩
abbrev S4x8x8192x64 : Shape := ⟨4, ![4, 8, 8192, 64]⟩
abbrev S1x8x512x64 : Shape := ⟨4, ![1, 8, 512, 64]⟩
abbrev S1x512x1024 : Shape := ⟨3, ![1, 512, 1024]⟩
abbrev S1x1x512x64 : Shape := ⟨4, ![1, 1, 512, 64]⟩
abbrev S512x64 : Shape := ⟨2, ![512, 64]⟩
abbrev S512x1 : Shape := ⟨2, ![512, 1]⟩
abbrev S1x64 : Shape := ⟨2, ![1, 64]⟩
abbrev S512x1024 : Shape := ⟨2, ![512, 1024]⟩

abbrev nBuf : Space → Nat
  | .hbm => 22
  | .vmem => 20
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8192x8x64, .f32⟩
  | .hbm, ⟨4, _⟩ => ⟨S4x8192x512, .f32⟩
  | .hbm, ⟨5, _⟩ => ⟨S4x8192x8x64, .f32⟩
  | .hbm, ⟨6, _⟩ => ⟨S4x8192x1024, .f32⟩
  | .hbm, ⟨7, _⟩ => ⟨S1024x1024, .f32⟩
  | .hbm, ⟨8, _⟩ => ⟨S512, .f32⟩
  | .hbm, ⟨9, _⟩ => ⟨S512, .f32⟩
  | .hbm, ⟨10, _⟩ => ⟨S8x64, .f32⟩
  | .hbm, ⟨11, _⟩ => ⟨S4x8192x8x64, .f32⟩
  | .hbm, ⟨12, _⟩ => ⟨S4x8x8192x64, .f32⟩
  | .hbm, ⟨13, _⟩ => ⟨S4x8x8192x64, .f32⟩
  | .hbm, ⟨14, _⟩ => ⟨S4x8x8192x64, .f32⟩
  | .hbm, ⟨15, _⟩ => ⟨S4x8x8192x64, .f32⟩
  | .hbm, ⟨16, _⟩ => ⟨S4x8x8192x64, .f32⟩
  | .hbm, ⟨17, _⟩ => ⟨S4x8x8192x64, .f32⟩
  | .hbm, ⟨18, _⟩ => ⟨S1024x1024, .bf16⟩
  | .hbm, ⟨19, _⟩ => ⟨S8x64, .f32⟩
  | .hbm, ⟨20, _⟩ => ⟨S8x64, .f32⟩
  | .hbm, ⟨21, _⟩ => ⟨S4x8192x1024, .f32⟩
  | .local _ .vmem, ⟨0, _⟩ => ⟨S1x8x512x64, .f32⟩
  | .local _ .vmem, ⟨1, _⟩ => ⟨S1x8x512x64, .f32⟩
  | .local _ .vmem, ⟨2, _⟩ => ⟨S1x8x512x64, .f32⟩
  | .local _ .vmem, ⟨3, _⟩ => ⟨S1x8x512x64, .f32⟩
  | .local _ .vmem, ⟨4, _⟩ => ⟨S1x8x512x64, .f32⟩
  | .local _ .vmem, ⟨5, _⟩ => ⟨S1x8x512x64, .f32⟩
  | .local _ .vmem, ⟨6, _⟩ => ⟨S1x8x512x64, .f32⟩
  | .local _ .vmem, ⟨7, _⟩ => ⟨S1x8x512x64, .f32⟩
  | .local _ .vmem, ⟨8, _⟩ => ⟨S1x8x512x64, .f32⟩
  | .local _ .vmem, ⟨9, _⟩ => ⟨S1x8x512x64, .f32⟩
  | .local _ .vmem, ⟨10, _⟩ => ⟨S1x8x512x64, .f32⟩
  | .local _ .vmem, ⟨11, _⟩ => ⟨S1x8x512x64, .f32⟩
  | .local _ .vmem, ⟨12, _⟩ => ⟨S1x512x1024, .f32⟩
  | .local _ .vmem, ⟨13, _⟩ => ⟨S1x512x1024, .f32⟩
  | .local _ .vmem, ⟨14, _⟩ => ⟨S1024x1024, .bf16⟩
  | .local _ .vmem, ⟨15, _⟩ => ⟨S8x64, .f32⟩
  | .local _ .vmem, ⟨16, _⟩ => ⟨S8x64, .f32⟩
  | .local _ .vmem, ⟨17, _⟩ => ⟨S8x64, .f32⟩
  | .local _ .vmem, ⟨18, _⟩ => ⟨S1x512x1024, .f32⟩
  | .local _ .vmem, ⟨19, _⟩ => ⟨S1x512x1024, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RMixIdeal.lean ====
abbrev S4x8192x8x64 : Shape := ⟨4, ![4, 8192, 8, 64]⟩
abbrev S4x8192x512 : Shape := ⟨3, ![4, 8192, 512]⟩
abbrev S4x8192x1024 : Shape := ⟨3, ![4, 8192, 1024]⟩
abbrev S1024x1024 : Shape := ⟨2, ![1024, 1024]⟩
abbrev S512 : Shape := ⟨1, ![512]⟩
abbrev S8x64 : Shape := ⟨2, ![8, 64]⟩
abbrev S_ : Shape := ⟨0, ![]⟩
abbrev S4x8192x8 : Shape := ⟨3, ![4, 8192, 8]⟩
abbrev S4x8192x8x1 : Shape := ⟨4, ![4, 8192, 8, 1]⟩
abbrev S1x1x8x64 : Shape := ⟨4, ![1, 1, 8, 64]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8192x8x64, .f32⟩
  | .hbm, ⟨4, _⟩ => ⟨S4x8192x512, .f32⟩
  | .hbm, ⟨5, _⟩ => ⟨S4x8192x8x64, .f32⟩
  | .hbm, ⟨6, _⟩ => ⟨S4x8192x1024, .f32⟩
  | .hbm, ⟨7, _⟩ => ⟨S1024x1024, .f32⟩
  | .hbm, ⟨8, _⟩ => ⟨S512, .f32⟩
  | .hbm, ⟨9, _⟩ => ⟨S512, .f32⟩
  | .hbm, ⟨10, _⟩ => ⟨S8x64, .f32⟩
  | .hbm, ⟨11, _⟩ => ⟨S_, .f32⟩
  | .hbm, ⟨12, _⟩ => ⟨S4x8192x8, .f32⟩
  | .hbm, ⟨13, _⟩ => ⟨S4x8192x8x1, .f32⟩
  | .hbm, ⟨14, _⟩ => ⟨S_, .f32⟩
  | .hbm, ⟨15, _⟩ => ⟨S4x8192x8x1, .f32⟩
  | .hbm, ⟨16, _⟩ => ⟨S4x8192x8x1, .f32⟩
  | .hbm, ⟨17, _⟩ => ⟨S4x8192x8x64, .f32⟩
  | .hbm, ⟨18, _⟩ => ⟨S4x8192x8x64, .f32⟩
  | .hbm, ⟨19, _⟩ => ⟨S4x8192x8x64, .f32⟩
  | .hbm, ⟨20, _⟩ => ⟨S_, .f32⟩
  | .hbm, ⟨21, _⟩ => ⟨S4x8192x8, .f32⟩
  | .hbm, ⟨22, _⟩ => ⟨S4x8192x8x1, .f32⟩
  | .hbm, ⟨23, _⟩ => ⟨S_, .f32⟩
  | .hbm, ⟨24, _⟩ => ⟨S4x8192x8x1, .f32⟩
  | .hbm, ⟨25, _⟩ => ⟨S4x8192x8x1, .f32⟩
  | .hbm, ⟨26, _⟩ => ⟨S8x64, .f32⟩
  | .hbm, ⟨27, _⟩ => ⟨S8x64, .f32⟩
  | .hbm, ⟨28, _⟩ => ⟨S4x8192x8x64, .f32⟩
  | .hbm, ⟨29, _⟩ => ⟨S4x8192x8x64, .f32⟩
  | .hbm, ⟨30, _⟩ => ⟨S_, .f32⟩
  | .hbm, ⟨31, _⟩ => ⟨S4x8192x8x1, .f32⟩
  | .hbm, ⟨32, _⟩ => ⟨S4x8192x8x1, .f32⟩
  | .hbm, ⟨33, _⟩ => ⟨S4x8192x8x1, .f32⟩
  | .hbm, ⟨34, _⟩ => ⟨S4x8192x8x64, .f32⟩
  | .hbm, ⟨35, _⟩ => ⟨S4x8192x8x64, .f32⟩
  | .hbm, ⟨36, _⟩ => ⟨S1x1x8x64, .f32⟩
  | .hbm, ⟨37, _⟩ => ⟨S4x8192x8x64, .f32⟩
  | .hbm, ⟨38, _⟩ => ⟨S4x8192x8x64, .f32⟩
  | .hbm, ⟨39, _⟩ => ⟨S1x1x8x64, .f32⟩
  | .hbm, ⟨40, _⟩ => ⟨S4x8192x8x64, .f32⟩
  | .hbm, ⟨41, _⟩ => ⟨S4x8192x8x64, .f32⟩
  | .hbm, ⟨42, _⟩ => ⟨S4x8192x8x64, .f32⟩
  | .hbm, ⟨43, _⟩ => ⟨S1x1x8x64, .f32⟩
  | .hbm, ⟨44, _⟩ => ⟨S4x8192x8x64, .f32⟩
  | .hbm, ⟨45, _⟩ => ⟨S4x8192x8x64, .f32⟩
  | .hbm, ⟨46, _⟩ => ⟨S_, .f32⟩
  | .hbm, ⟨47, _⟩ => ⟨S4x8192x8, .f32⟩
  | .hbm, ⟨48, _⟩ => ⟨S4x8192x8x1, .f32⟩
  | .hbm, ⟨49, _⟩ => ⟨S4x8192x8x64, .f32⟩
  | .hbm, ⟨50, _⟩ => ⟨S4x8192x8x64, .f32⟩
  | .hbm, ⟨51, _⟩ => ⟨S4x8192x8x64, .f32⟩
  | .hbm, ⟨52, _⟩ => ⟨S4x8192x512, .f32⟩
  | .hbm, ⟨53, _⟩ => ⟨S4x8192x512, .f32⟩
  | .hbm, ⟨54, _⟩ => ⟨S4x8192x512, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== KMoba.lean ====
abbrev S4x8192x8x64 : Shape := ⟨4, ![4, 8192, 8, 64]⟩
abbrev S4x8x8192x64 : Shape := ⟨4, ![4, 8, 8192, 64]⟩
abbrev S4x8x32x256x64 : Shape := ⟨5, ![4, 8, 32, 256, 64]⟩
abbrev S_ : Shape := ⟨0, ![]⟩
abbrev S4x8x32x64 : Shape := ⟨4, ![4, 8, 32, 64]⟩
abbrev S4x8x32x64x256 : Shape := ⟨5, ![4, 8, 32, 64, 256]⟩
abbrev S4x8x32x16x256 : Shape := ⟨5, ![4, 8, 32, 16, 256]⟩
abbrev S4x8x32x80x256 : Shape := ⟨5, ![4, 8, 32, 80, 256]⟩
abbrev S1x4x256x64 : Shape := ⟨4, ![1, 4, 256, 64]⟩
abbrev S1x4x8192x64 : Shape := ⟨4, ![1, 4, 8192, 64]⟩
abbrev S1x4x32x80x256 : Shape := ⟨5, ![1, 4, 32, 80, 256]⟩
abbrev S1x4x32x64 : Shape := ⟨4, ![1, 4, 32, 64]⟩
abbrev S4x32x256 : Shape := ⟨3, ![4, 32, 256]⟩
abbrev S4x256x64 : Shape := ⟨3, ![4, 256, 64]⟩
abbrev S256x256 : Shape := ⟨2, ![256, 256]⟩
abbrev S4x256x256 : Shape := ⟨3, ![4, 256, 256]⟩
abbrev S1x256x256 : Shape := ⟨3, ![1, 256, 256]⟩
abbrev S4x256 : Shape := ⟨2, ![4, 256]⟩
abbrev S4x1x256 : Shape := ⟨3, ![4, 1, 256]⟩
abbrev S1x4x1x80x256 : Shape := ⟨5, ![1, 4, 1, 80, 256]⟩
abbrev S4x80x256 : Shape := ⟨3, ![4, 80, 256]⟩
abbrev S4x32x64 : Shape := ⟨3, ![4, 32, 64]⟩
abbrev S32x256 : Shape := ⟨2, ![32, 256]⟩
abbrev S1x32x256 : Shape := ⟨3, ![1, 32, 256]⟩
abbrev S4x8x256 : Shape := ⟨3, ![4, 8, 256]⟩
abbrev S4x4x256 : Shape := ⟨3, ![4, 4, 256]⟩
abbrev S1x4x1024x64 : Shape := ⟨4, ![1, 4, 1024, 64]⟩
abbrev S4x1024x64 : Shape := ⟨3, ![4, 1024, 64]⟩
abbrev S4x1024x256 : Shape := ⟨3, ![4, 1024, 256]⟩
abbrev S4x4x256x256 : Shape := ⟨4, ![4, 4, 256, 256]⟩
abbrev S4x1x1x256 : Shape := ⟨4, ![4, 1, 1, 256]⟩
abbrev S4x1x256x256 : Shape := ⟨4, ![4, 1, 256, 256]⟩
abbrev S4x64x256 : Shape := ⟨3, ![4, 64, 256]⟩
abbrev S1x64x256 : Shape := ⟨3, ![1, 64, 256]⟩
abbrev S64x256 : Shape := ⟨2, ![64, 256]⟩
abbrev S256x64 : Shape := ⟨2, ![256, 64]⟩
abbrev S1x1x256x64 : Shape := ⟨4, ![1, 1, 256, 64]⟩

abbrev nBuf : Space → Nat
  | .hbm => 24
  | .vmem => 11
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8x8192x64, .f32⟩
  | .hbm, ⟨4, _⟩ => ⟨S4x8x32x256x64, .f32⟩
  | .hbm, ⟨5, _⟩ => ⟨S_, .f32⟩
  | .hbm, ⟨6, _⟩ => ⟨S4x8x32x64, .f32⟩
  | .hbm, ⟨7, _⟩ => ⟨S_, .f32⟩
  | .hbm, ⟨8, _⟩ => ⟨S4x8x32x64, .f32⟩
  | .hbm, ⟨9, _⟩ => ⟨S4x8x32x64, .f32⟩
  | .hbm, ⟨10, _⟩ => ⟨S4x8x8192x64, .f32⟩
  | .hbm, ⟨11, _⟩ => ⟨S4x8x32x256x64, .f32⟩
  | .hbm, ⟨12, _⟩ => ⟨S4x8x32x64x256, .f32⟩
  | .hbm, ⟨13, _⟩ => ⟨S_, .f32⟩
  | .hbm, ⟨14, _⟩ => ⟨S4x8x32x16x256, .f32⟩
  | .hbm, ⟨15, _⟩ => ⟨S4x8x32x80x256, .f32⟩
  | .hbm, ⟨16, _⟩ => ⟨S4x8x8192x64, .f32⟩
  | .hbm, ⟨17, _⟩ => ⟨S4x8x8192x64, .f32⟩
  | .hbm, ⟨18, _⟩ => ⟨S4x8x8192x64, .bf16⟩
  | .hbm, ⟨19, _⟩ => ⟨S4x8x32x80x256, .bf16⟩
  | .hbm, ⟨20, _⟩ => ⟨S_, .i32⟩
  | .hbm, ⟨21, _⟩ => ⟨S_, .f32⟩
  | .hbm, ⟨22, _⟩ => ⟨S4x8x32x64, .f32⟩
  | .hbm, ⟨23, _⟩ => ⟨S4x8x8192x64, .f32⟩
  | .local _ .vmem, ⟨0, _⟩ => ⟨S1x4x256x64, .f32⟩
  | .local _ .vmem, ⟨1, _⟩ => ⟨S1x4x256x64, .f32⟩
  | .local _ .vmem, ⟨2, _⟩ => ⟨S1x4x8192x64, .bf16⟩
  | .local _ .vmem, ⟨3, _⟩ => ⟨S1x4x8192x64, .bf16⟩
  | .local _ .vmem, ⟨4, _⟩ => ⟨S1x4x32x80x256, .bf16⟩
  | .local _ .vmem, ⟨5, _⟩ => ⟨S1x4x32x80x256, .bf16⟩
  | .local _ .vmem, ⟨6, _⟩ => ⟨S1x4x32x64, .f32⟩
  | .local _ .vmem, ⟨7, _⟩ => ⟨S1x4x32x64, .f32⟩
  | .local _ .vmem, ⟨8, _⟩ => ⟨S1x4x256x64, .f32⟩
  | .local _ .vmem, ⟨9, _⟩ => ⟨S1x4x256x64, .f32⟩
  | .local _ .vmem, ⟨10, _⟩ => ⟨S4x32x256, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 32], ![false, false, false]⟩

def k0_mult1 (i : grid0.Coords) : BitVec 32 :=
  let arg2 : BitVec 32 := BitVec.ofNat 32 (i 2).val
  let c256_i32 : BitVec 32 := 256#32
  let v8 : BitVec 32 := Scalar.muli arg2 c256_i32
  v8
def k0_off1 (i : grid0.Coords) : Fin 4 → Nat :=
  let c0_3 : Index := 0#32
  let c0_4 : Index := 0#32
  let arg2 : BitVec 32 := BitVec.ofNat 32 (i 2).val
  let c256_i32 : BitVec 32 := 256#32
  let v8 : BitVec 32 := Scalar.muli arg2 c256_i32
  let v9 : BitVec 32 := v8
  let v10 : Index := Scalar.indexCast v9
  let c0_5 : Index := 0#32
  ![0, 0, v10.toNat, 0]
def k0_off2 (i : grid0.Coords) : Fin 5 → Nat :=
  let c0_9 : Index := 0#32
  let c0_10 : Index := 0#32
  let arg2 : BitVec 32 := BitVec.ofNat 32 (i 2).val
  let c0_i32 : BitVec 32 := 0#32
  let v23 : BitVec 32 := Scalar.addi arg2 c0_i32
  let v24 : Index := Scalar.indexCast v23
  let c0_11 : Index := 0#32
  let c0_12 : Index := 0#32
  ![0, 0, v24.toNat, 0, 0]
@[reducible] def k0_t1_loop (i : grid0.Coords) : Scf.Loop 32 :=
  let c0_i32_46 : BitVec 32 := 0#32
  let arg2 : BitVec 32 := BitVec.ofNat 32 (i 2).val
  let c4_i32 : BitVec 32 := 4#32
  let v91 : BitVec 32 := Scalar.addi arg2 c4_i32
  let c1_i32 : BitVec 32 := 1#32
  let v92 : BitVec 32 := Scalar.subi v91 c1_i32
  let c0_i32_40 : BitVec 32 := 0#32
  let v94 : BitVec 1 := Scalar.cmpi .sgt v92 c0_i32_40
  let v95 : BitVec 32 := Scalar.extui v94
  let c0_i32_41 : BitVec 32 := 0#32
  let v96 : BitVec 1 := Scalar.cmpi .slt v92 c0_i32_41
  let v97 : BitVec 32 := Scalar.extui v96
  let v98 : BitVec 32 := Scalar.subi v95 v97
  let c4_i32_39 : BitVec 32 := 4#32
  let c0_i32_42 : BitVec 32 := 0#32
  let v99 : BitVec 1 := Scalar.cmpi .sgt c4_i32_39 c0_i32_42
  let v100 : BitVec 32 := Scalar.extui v99
  let c0_i32_43 : BitVec 32 := 0#32
  let v101 : BitVec 1 := Scalar.cmpi .slt c4_i32_39 c0_i32_43
  let v102 : BitVec 32 := Scalar.extui v101
  let v103 : BitVec 32 := Scalar.subi v100 v102
  let v104 : BitVec 1 := Scalar.cmpi .ne v98 v103
  let v105 : BitVec 32 := Scalar.remsi v92 c4_i32_39
  let c0_i32_44 : BitVec 32 := 0#32
  let v106 : BitVec 1 := Scalar.cmpi .ne v105 c0_i32_44
  let v107 : BitVec 1 := Scalar.andi v104 v106
  let v93 : BitVec 32 := Scalar.divsi v92 c4_i32_39
  let c1_i32_45 : BitVec 32 := 1#32
  let v108 : BitVec 32 := Scalar.subi v93 c1_i32_45
  let v109 : BitVec 32 := Scalar.select v107 v108 v93
  let v110 : BitVec 32 := Scalar.subi v109 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_48 : BitVec 32 := 1#32
  ⟨c0_i32_46, v114, c1_i32_48⟩
def k0_mult2 (i : grid0.Coords) (k0_t1 : Fin (k0_t1_loop i).trips) : BitVec 32 :=
  let c0_i32_46 : BitVec 32 := 0#32
  let c1_i32_48 : BitVec 32 := 1#32
  let arg9 : BitVec 32 := Scf.iv c0_i32_46 c1_i32_48 k0_t1
  let c0_i32_64 : BitVec 32 := 0#32
  let v147 : BitVec 1 := Scalar.cmpi .sgt arg9 c0_i32_64
  let v148 : BitVec 32 := Scalar.extui v147
  let c0_i32_65 : BitVec 32 := 0#32
  let v149 : BitVec 1 := Scalar.cmpi .slt arg9 c0_i32_65
  let v150 : BitVec 32 := Scalar.extui v149
  let v151 : BitVec 32 := Scalar.subi v148 v150
  let c2_i32 : BitVec 32 := 2#32
  let c0_i32_66 : BitVec 32 := 0#32
  let v152 : BitVec 1 := Scalar.cmpi .sgt c2_i32 c0_i32_66
  let v153 : BitVec 32 := Scalar.extui v152
  let c0_i32_67 : BitVec 32 := 0#32
  let v154 : BitVec 1 := Scalar.cmpi .slt c2_i32 c0_i32_67
  let v155 : BitVec 32 := Scalar.extui v154
  let v156 : BitVec 32 := Scalar.subi v153 v155
  let v157 : BitVec 1 := Scalar.cmpi .ne v151 v156
  let v158 : BitVec 32 := Scalar.remsi arg9 c2_i32
  let c0_i32_68 : BitVec 32 := 0#32
  let v159 : BitVec 1 := Scalar.cmpi .ne v158 c0_i32_68
  let v160 : BitVec 1 := Scalar.andi v157 v159
  let v146 : BitVec 32 := Scalar.divsi arg9 c2_i32
  let c1_i32_69 : BitVec 32 := 1#32
  let v161 : BitVec 32 := Scalar.subi v146 c1_i32_69
  let v162 : BitVec 32 := Scalar.select v160 v161 v146
  let c8_i32 : BitVec 32 := 8#32
  let v163 : BitVec 32 := Scalar.muli v162 c8_i32
  v163
def k0_off3 (i : grid0.Coords) (k0_t1 : Fin (k0_t1_loop i).trips) : Fin 3 → Nat :=
  let c0_70 : Index := 0#32
  let c0_i32_46 : BitVec 32 := 0#32
  let c1_i32_48 : BitVec 32 := 1#32
  let arg9 : BitVec 32 := Scf.iv c0_i32_46 c1_i32_48 k0_t1
  let c0_i32_64 : BitVec 32 := 0#32
  let v147 : BitVec 1 := Scalar.cmpi .sgt arg9 c0_i32_64
  let v148 : BitVec 32 := Scalar.extui v147
  let c0_i32_65 : BitVec 32 := 0#32
  let v149 : BitVec 1 := Scalar.cmpi .slt arg9 c0_i32_65
  let v150 : BitVec 32 := Scalar.extui v149
  let v151 : BitVec 32 := Scalar.subi v148 v150
  let c2_i32 : BitVec 32 := 2#32
  let c0_i32_66 : BitVec 32 := 0#32
  let v152 : BitVec 1 := Scalar.cmpi .sgt c2_i32 c0_i32_66
  let v153 : BitVec 32 := Scalar.extui v152
  let c0_i32_67 : BitVec 32 := 0#32
  let v154 : BitVec 1 := Scalar.cmpi .slt c2_i32 c0_i32_67
  let v155 : BitVec 32 := Scalar.extui v154
  let v156 : BitVec 32 := Scalar.subi v153 v155
  let v157 : BitVec 1 := Scalar.cmpi .ne v151 v156
  let v158 : BitVec 32 := Scalar.remsi arg9 c2_i32
  let c0_i32_68 : BitVec 32 := 0#32
  let v159 : BitVec 1 := Scalar.cmpi .ne v158 c0_i32_68
  let v160 : BitVec 1 := Scalar.andi v157 v159
  let v146 : BitVec 32 := Scalar.divsi arg9 c2_i32
  let c1_i32_69 : BitVec 32 := 1#32
  let v161 : BitVec 32 := Scalar.subi v146 c1_i32_69
  let v162 : BitVec 32 := Scalar.select v160 v161 v146
  let c8_i32 : BitVec 32 := 8#32
  let v163 : BitVec 32 := Scalar.muli v162 c8_i32
  let v164 : BitVec 32 := v163
  let v165 : Index := Scalar.indexCast v164
  let c0_71 : Index := 0#32
  ![0, v165.toNat, 0]
def k0_mult3 (i : grid0.Coords) (k0_t1 : Fin (k0_t1_loop i).trips) : BitVec 32 :=
  let c0_i32_46 : BitVec 32 := 0#32
  let c1_i32_48 : BitVec 32 := 1#32
  let arg9 : BitVec 32 := Scf.iv c0_i32_46 c1_i32_48 k0_t1
  let c4_i32_63 : BitVec 32 := 4#32
  let v145 : BitVec 32 := Scalar.muli arg9 c4_i32_63
  let c256_i32_80 : BitVec 32 := 256#32
  let v183 : BitVec 32 := Scalar.muli v145 c256_i32_80
  v183
def k0_off4 (i : grid0.Coords) (k0_t1 : Fin (k0_t1_loop i).trips) : Fin 4 → Nat :=
  let c0_81 : Index := 0#32
  let c0_82 : Index := 0#32
  let c0_i32_46 : BitVec 32 := 0#32
  let c1_i32_48 : BitVec 32 := 1#32
  let arg9 : BitVec 32 := Scf.iv c0_i32_46 c1_i32_48 k0_t1
  let c4_i32_63 : BitVec 32 := 4#32
  let v145 : BitVec 32 := Scalar.muli arg9 c4_i32_63
  let c256_i32_80 : BitVec 32 := 256#32
  let v183 : BitVec 32 := Scalar.muli v145 c256_i32_80
  let v184 : BitVec 32 := v183
  let v185 : Index := Scalar.indexCast v184
  let c0_83 : Index := 0#32
  ![0, 0, v185.toNat, 0]
def k0_off5 (i : grid0.Coords) (k0_t1 : Fin (k0_t1_loop i).trips) (c0_i32_88 : BitVec 32) : Fin 5 → Nat :=
  let c0_89 : Index := 0#32
  let c0_90 : Index := 0#32
  let c0_i32_46 : BitVec 32 := 0#32
  let c1_i32_48 : BitVec 32 := 1#32
  let arg9 : BitVec 32 := Scf.iv c0_i32_46 c1_i32_48 k0_t1
  let c4_i32_63 : BitVec 32 := 4#32
  let v145 : BitVec 32 := Scalar.muli arg9 c4_i32_63
  let v204 : BitVec 32 := Scalar.addi v145 c0_i32_88
  let v205 : Index := Scalar.indexCast v204
  let c0_91 : Index := 0#32
  let c0_92 : Index := 0#32
  ![0, 0, v205.toNat, 0, 0]
@[reducible] def k0_t2_loop (i : grid0.Coords) : Scf.Loop 32 :=
  let c0_i32_46 : BitVec 32 := 0#32
  let arg2 : BitVec 32 := BitVec.ofNat 32 (i 2).val
  let c4_i32 : BitVec 32 := 4#32
  let v91 : BitVec 32 := Scalar.addi arg2 c4_i32
  let c1_i32 : BitVec 32 := 1#32
  let v92 : BitVec 32 := Scalar.subi v91 c1_i32
  let c0_i32_40 : BitVec 32 := 0#32
  let v94 : BitVec 1 := Scalar.cmpi .sgt v92 c0_i32_40
  let v95 : BitVec 32 := Scalar.extui v94
  let c0_i32_41 : BitVec 32 := 0#32
  let v96 : BitVec 1 := Scalar.cmpi .slt v92 c0_i32_41
  let v97 : BitVec 32 := Scalar.extui v96
  let v98 : BitVec 32 := Scalar.subi v95 v97
  let c4_i32_39 : BitVec 32 := 4#32
  let c0_i32_42 : BitVec 32 := 0#32
  let v99 : BitVec 1 := Scalar.cmpi .sgt c4_i32_39 c0_i32_42
  let v100 : BitVec 32 := Scalar.extui v99
  let c0_i32_43 : BitVec 32 := 0#32
  let v101 : BitVec 1 := Scalar.cmpi .slt c4_i32_39 c0_i32_43
  let v102 : BitVec 32 := Scalar.extui v101
  let v103 : BitVec 32 := Scalar.subi v100 v102
  let v104 : BitVec 1 := Scalar.cmpi .ne v98 v103
  let v105 : BitVec 32 := Scalar.remsi v92 c4_i32_39
  let c0_i32_44 : BitVec 32 := 0#32
  let v106 : BitVec 1 := Scalar.cmpi .ne v105 c0_i32_44
  let v107 : BitVec 1 := Scalar.andi v104 v106
  let v93 : BitVec 32 := Scalar.divsi v92 c4_i32_39
  let c1_i32_45 : BitVec 32 := 1#32
  let v108 : BitVec 32 := Scalar.subi v93 c1_i32_45
  let v109 : BitVec 32 := Scalar.select v107 v108 v93
  let v110 : BitVec 32 := Scalar.subi v109 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let v111 : BitVec 32 := Scalar.addi c0_i32_46 v110
  let c1_i32_49 : BitVec 32 := 1#32
  ⟨v114, v111, c1_i32_49⟩
def k0_mult4 (i : grid0.Coords) (k0_t2 : Fin (k0_t2_loop i).trips) : BitVec 32 :=
  let c0_i32_46 : BitVec 32 := 0#32
  let arg2 : BitVec 32 := BitVec.ofNat 32 (i 2).val
  let c4_i32 : BitVec 32 := 4#32
  let v91 : BitVec 32 := Scalar.addi arg2 c4_i32
  let c1_i32 : BitVec 32 := 1#32
  let v92 : BitVec 32 := Scalar.subi v91 c1_i32
  let c0_i32_40 : BitVec 32 := 0#32
  let v94 : BitVec 1 := Scalar.cmpi .sgt v92 c0_i32_40
  let v95 : BitVec 32 := Scalar.extui v94
  let c0_i32_41 : BitVec 32 := 0#32
  let v96 : BitVec 1 := Scalar.cmpi .slt v92 c0_i32_41
  let v97 : BitVec 32 := Scalar.extui v96
  let v98 : BitVec 32 := Scalar.subi v95 v97
  let c4_i32_39 : BitVec 32 := 4#32
  let c0_i32_42 : BitVec 32 := 0#32
  let v99 : BitVec 1 := Scalar.cmpi .sgt c4_i32_39 c0_i32_42
  let v100 : BitVec 32 := Scalar.extui v99
  let c0_i32_43 : BitVec 32 := 0#32
  let v101 : BitVec 1 := Scalar.cmpi .slt c4_i32_39 c0_i32_43
  let v102 : BitVec 32 := Scalar.extui v101
  let v103 : BitVec 32 := Scalar.subi v100 v102
  let v104 : BitVec 1 := Scalar.cmpi .ne v98 v103
  let v105 : BitVec 32 := Scalar.remsi v92 c4_i32_39
  let c0_i32_44 : BitVec 32 := 0#32
  let v106 : BitVec 1 := Scalar.cmpi .ne v105 c0_i32_44
  let v107 : BitVec 1 := Scalar.andi v104 v106
  let v93 : BitVec 32 := Scalar.divsi v92 c4_i32_39
  let c1_i32_45 : BitVec 32 := 1#32
  let v108 : BitVec 32 := Scalar.subi v93 c1_i32_45
  let v109 : BitVec 32 := Scalar.select v107 v108 v93
  let v110 : BitVec 32 := Scalar.subi v109 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg9 : BitVec 32 := Scf.iv v114 c1_i32_49 k0_t2
  let c0_i32_64 : BitVec 32 := 0#32
  let v147 : BitVec 1 := Scalar.cmpi .sgt arg9 c0_i32_64
  let v148 : BitVec 32 := Scalar.extui v147
  let c0_i32_65 : BitVec 32 := 0#32
  let v149 : BitVec 1 := Scalar.cmpi .slt arg9 c0_i32_65
  let v150 : BitVec 32 := Scalar.extui v149
  let v151 : BitVec 32 := Scalar.subi v148 v150
  let c2_i32 : BitVec 32 := 2#32
  let c0_i32_66 : BitVec 32 := 0#32
  let v152 : BitVec 1 := Scalar.cmpi .sgt c2_i32 c0_i32_66
  let v153 : BitVec 32 := Scalar.extui v152
  let c0_i32_67 : BitVec 32 := 0#32
  let v154 : BitVec 1 := Scalar.cmpi .slt c2_i32 c0_i32_67
  let v155 : BitVec 32 := Scalar.extui v154
  let v156 : BitVec 32 := Scalar.subi v153 v155
  let v157 : BitVec 1 := Scalar.cmpi .ne v151 v156
  let v158 : BitVec 32 := Scalar.remsi arg9 c2_i32
  let c0_i32_68 : BitVec 32 := 0#32
  let v159 : BitVec 1 := Scalar.cmpi .ne v158 c0_i32_68
  let v160 : BitVec 1 := Scalar.andi v157 v159
  let v146 : BitVec 32 := Scalar.divsi arg9 c2_i32
  let c1_i32_69 : BitVec 32 := 1#32
  let v161 : BitVec 32 := Scalar.subi v146 c1_i32_69
  let v162 : BitVec 32 := Scalar.select v160 v161 v146
  let c8_i32 : BitVec 32 := 8#32
  let v163 : BitVec 32 := Scalar.muli v162 c8_i32
  v163
def k0_off6 (i : grid0.Coords) (k0_t2 : Fin (k0_t2_loop i).trips) : Fin 3 → Nat :=
  let c0_70 : Index := 0#32
  let c0_i32_46 : BitVec 32 := 0#32
  let arg2 : BitVec 32 := BitVec.ofNat 32 (i 2).val
  let c4_i32 : BitVec 32 := 4#32
  let v91 : BitVec 32 := Scalar.addi arg2 c4_i32
  let c1_i32 : BitVec 32 := 1#32
  let v92 : BitVec 32 := Scalar.subi v91 c1_i32
  let c0_i32_40 : BitVec 32 := 0#32
  let v94 : BitVec 1 := Scalar.cmpi .sgt v92 c0_i32_40
  let v95 : BitVec 32 := Scalar.extui v94
  let c0_i32_41 : BitVec 32 := 0#32
  let v96 : BitVec 1 := Scalar.cmpi .slt v92 c0_i32_41
  let v97 : BitVec 32 := Scalar.extui v96
  let v98 : BitVec 32 := Scalar.subi v95 v97
  let c4_i32_39 : BitVec 32 := 4#32
  let c0_i32_42 : BitVec 32 := 0#32
  let v99 : BitVec 1 := Scalar.cmpi .sgt c4_i32_39 c0_i32_42
  let v100 : BitVec 32 := Scalar.extui v99
  let c0_i32_43 : BitVec 32 := 0#32
  let v101 : BitVec 1 := Scalar.cmpi .slt c4_i32_39 c0_i32_43
  let v102 : BitVec 32 := Scalar.extui v101
  let v103 : BitVec 32 := Scalar.subi v100 v102
  let v104 : BitVec 1 := Scalar.cmpi .ne v98 v103
  let v105 : BitVec 32 := Scalar.remsi v92 c4_i32_39
  let c0_i32_44 : BitVec 32 := 0#32
  let v106 : BitVec 1 := Scalar.cmpi .ne v105 c0_i32_44
  let v107 : BitVec 1 := Scalar.andi v104 v106
  let v93 : BitVec 32 := Scalar.divsi v92 c4_i32_39
  let c1_i32_45 : BitVec 32 := 1#32
  let v108 : BitVec 32 := Scalar.subi v93 c1_i32_45
  let v109 : BitVec 32 := Scalar.select v107 v108 v93
  let v110 : BitVec 32 := Scalar.subi v109 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg9 : BitVec 32 := Scf.iv v114 c1_i32_49 k0_t2
  let c0_i32_64 : BitVec 32 := 0#32
  let v147 : BitVec 1 := Scalar.cmpi .sgt arg9 c0_i32_64
  let v148 : BitVec 32 := Scalar.extui v147
  let c0_i32_65 : BitVec 32 := 0#32
  let v149 : BitVec 1 := Scalar.cmpi .slt arg9 c0_i32_65
  let v150 : BitVec 32 := Scalar.extui v149
  let v151 : BitVec 32 := Scalar.subi v148 v150
  let c2_i32 : BitVec 32 := 2#32
  let c0_i32_66 : BitVec 32 := 0#32
  let v152 : BitVec 1 := Scalar.cmpi .sgt c2_i32 c0_i32_66
  let v153 : BitVec 32 := Scalar.extui v152
  let c0_i32_67 : BitVec 32 := 0#32
  let v154 : BitVec 1 := Scalar.cmpi .slt c2_i32 c0_i32_67
  let v155 : BitVec 32 := Scalar.extui v154
  let v156 : BitVec 32 := Scalar.subi v153 v155
  let v157 : BitVec 1 := Scalar.cmpi .ne v151 v156
  let v158 : BitVec 32 := Scalar.remsi arg9 c2_i32
  let c0_i32_68 : BitVec 32 := 0#32
  let v159 : BitVec 1 := Scalar.cmpi .ne v158 c0_i32_68
  let v160 : BitVec 1 := Scalar.andi v157 v159
  let v146 : BitVec 32 := Scalar.divsi arg9 c2_i32
  let c1_i32_69 : BitVec 32 := 1#32
  let v161 : BitVec 32 := Scalar.subi v146 c1_i32_69
  let v162 : BitVec 32 := Scalar.select v160 v161 v146
  let c8_i32 : BitVec 32 := 8#32
  let v163 : BitVec 32 := Scalar.muli v162 c8_i32
  let v164 : BitVec 32 := v163
  let v165 : Index := Scalar.indexCast v164
  let c0_71 : Index := 0#32
  ![0, v165.toNat, 0]
def k0_mult5 (i : grid0.Coords) (k0_t2 : Fin (k0_t2_loop i).trips) : BitVec 32 :=
  let c0_i32_46 : BitVec 32 := 0#32
  let arg2 : BitVec 32 := BitVec.ofNat 32 (i 2).val
  let c4_i32 : BitVec 32 := 4#32
  let v91 : BitVec 32 := Scalar.addi arg2 c4_i32
  let c1_i32 : BitVec 32 := 1#32
  let v92 : BitVec 32 := Scalar.subi v91 c1_i32
  let c0_i32_40 : BitVec 32 := 0#32
  let v94 : BitVec 1 := Scalar.cmpi .sgt v92 c0_i32_40
  let v95 : BitVec 32 := Scalar.extui v94
  let c0_i32_41 : BitVec 32 := 0#32
  let v96 : BitVec 1 := Scalar.cmpi .slt v92 c0_i32_41
  let v97 : BitVec 32 := Scalar.extui v96
  let v98 : BitVec 32 := Scalar.subi v95 v97
  let c4_i32_39 : BitVec 32 := 4#32
  let c0_i32_42 : BitVec 32 := 0#32
  let v99 : BitVec 1 := Scalar.cmpi .sgt c4_i32_39 c0_i32_42
  let v100 : BitVec 32 := Scalar.extui v99
  let c0_i32_43 : BitVec 32 := 0#32
  let v101 : BitVec 1 := Scalar.cmpi .slt c4_i32_39 c0_i32_43
  let v102 : BitVec 32 := Scalar.extui v101
  let v103 : BitVec 32 := Scalar.subi v100 v102
  let v104 : BitVec 1 := Scalar.cmpi .ne v98 v103
  let v105 : BitVec 32 := Scalar.remsi v92 c4_i32_39
  let c0_i32_44 : BitVec 32 := 0#32
  let v106 : BitVec 1 := Scalar.cmpi .ne v105 c0_i32_44
  let v107 : BitVec 1 := Scalar.andi v104 v106
  let v93 : BitVec 32 := Scalar.divsi v92 c4_i32_39
  let c1_i32_45 : BitVec 32 := 1#32
  let v108 : BitVec 32 := Scalar.subi v93 c1_i32_45
  let v109 : BitVec 32 := Scalar.select v107 v108 v93
  let v110 : BitVec 32 := Scalar.subi v109 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg9 : BitVec 32 := Scf.iv v114 c1_i32_49 k0_t2
  let c4_i32_63 : BitVec 32 := 4#32
  let v145 : BitVec 32 := Scalar.muli arg9 c4_i32_63
  let c256_i32_80 : BitVec 32 := 256#32
  let v183 : BitVec 32 := Scalar.muli v145 c256_i32_80
  v183
def k0_off7 (i : grid0.Coords) (k0_t2 : Fin (k0_t2_loop i).trips) : Fin 4 → Nat :=
  let c0_81 : Index := 0#32
  let c0_82 : Index := 0#32
  let c0_i32_46 : BitVec 32 := 0#32
  let arg2 : BitVec 32 := BitVec.ofNat 32 (i 2).val
  let c4_i32 : BitVec 32 := 4#32
  let v91 : BitVec 32 := Scalar.addi arg2 c4_i32
  let c1_i32 : BitVec 32 := 1#32
  let v92 : BitVec 32 := Scalar.subi v91 c1_i32
  let c0_i32_40 : BitVec 32 := 0#32
  let v94 : BitVec 1 := Scalar.cmpi .sgt v92 c0_i32_40
  let v95 : BitVec 32 := Scalar.extui v94
  let c0_i32_41 : BitVec 32 := 0#32
  let v96 : BitVec 1 := Scalar.cmpi .slt v92 c0_i32_41
  let v97 : BitVec 32 := Scalar.extui v96
  let v98 : BitVec 32 := Scalar.subi v95 v97
  let c4_i32_39 : BitVec 32 := 4#32
  let c0_i32_42 : BitVec 32 := 0#32
  let v99 : BitVec 1 := Scalar.cmpi .sgt c4_i32_39 c0_i32_42
  let v100 : BitVec 32 := Scalar.extui v99
  let c0_i32_43 : BitVec 32 := 0#32
  let v101 : BitVec 1 := Scalar.cmpi .slt c4_i32_39 c0_i32_43
  let v102 : BitVec 32 := Scalar.extui v101
  let v103 : BitVec 32 := Scalar.subi v100 v102
  let v104 : BitVec 1 := Scalar.cmpi .ne v98 v103
  let v105 : BitVec 32 := Scalar.remsi v92 c4_i32_39
  let c0_i32_44 : BitVec 32 := 0#32
  let v106 : BitVec 1 := Scalar.cmpi .ne v105 c0_i32_44
  let v107 : BitVec 1 := Scalar.andi v104 v106
  let v93 : BitVec 32 := Scalar.divsi v92 c4_i32_39
  let c1_i32_45 : BitVec 32 := 1#32
  let v108 : BitVec 32 := Scalar.subi v93 c1_i32_45
  let v109 : BitVec 32 := Scalar.select v107 v108 v93
  let v110 : BitVec 32 := Scalar.subi v109 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg9 : BitVec 32 := Scf.iv v114 c1_i32_49 k0_t2
  let c4_i32_63 : BitVec 32 := 4#32
  let v145 : BitVec 32 := Scalar.muli arg9 c4_i32_63
  let c256_i32_80 : BitVec 32 := 256#32
  let v183 : BitVec 32 := Scalar.muli v145 c256_i32_80
  let v184 : BitVec 32 := v183
  let v185 : Index := Scalar.indexCast v184
  let c0_83 : Index := 0#32
  ![0, 0, v185.toNat, 0]
def k0_off8 (i : grid0.Coords) (k0_t2 : Fin (k0_t2_loop i).trips) (c0_i32_88 : BitVec 32) : Fin 5 → Nat :=
  let c0_89 : Index := 0#32
  let c0_90 : Index := 0#32
  let c0_i32_46 : BitVec 32 := 0#32
  let arg2 : BitVec 32 := BitVec.ofNat 32 (i 2).val
  let c4_i32 : BitVec 32 := 4#32
  let v91 : BitVec 32 := Scalar.addi arg2 c4_i32
  let c1_i32 : BitVec 32 := 1#32
  let v92 : BitVec 32 := Scalar.subi v91 c1_i32
  let c0_i32_40 : BitVec 32 := 0#32
  let v94 : BitVec 1 := Scalar.cmpi .sgt v92 c0_i32_40
  let v95 : BitVec 32 := Scalar.extui v94
  let c0_i32_41 : BitVec 32 := 0#32
  let v96 : BitVec 1 := Scalar.cmpi .slt v92 c0_i32_41
  let v97 : BitVec 32 := Scalar.extui v96
  let v98 : BitVec 32 := Scalar.subi v95 v97
  let c4_i32_39 : BitVec 32 := 4#32
  let c0_i32_42 : BitVec 32 := 0#32
  let v99 : BitVec 1 := Scalar.cmpi .sgt c4_i32_39 c0_i32_42
  let v100 : BitVec 32 := Scalar.extui v99
  let c0_i32_43 : BitVec 32 := 0#32
  let v101 : BitVec 1 := Scalar.cmpi .slt c4_i32_39 c0_i32_43
  let v102 : BitVec 32 := Scalar.extui v101
  let v103 : BitVec 32 := Scalar.subi v100 v102
  let v104 : BitVec 1 := Scalar.cmpi .ne v98 v103
  let v105 : BitVec 32 := Scalar.remsi v92 c4_i32_39
  let c0_i32_44 : BitVec 32 := 0#32
  let v106 : BitVec 1 := Scalar.cmpi .ne v105 c0_i32_44
  let v107 : BitVec 1 := Scalar.andi v104 v106
  let v93 : BitVec 32 := Scalar.divsi v92 c4_i32_39
  let c1_i32_45 : BitVec 32 := 1#32
  let v108 : BitVec 32 := Scalar.subi v93 c1_i32_45
  let v109 : BitVec 32 := Scalar.select v107 v108 v93
  let v110 : BitVec 32 := Scalar.subi v109 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg9 : BitVec 32 := Scf.iv v114 c1_i32_49 k0_t2
  let c4_i32_63 : BitVec 32 := 4#32
  let v145 : BitVec 32 := Scalar.muli arg9 c4_i32_63
  let v204 : BitVec 32 := Scalar.addi v145 c0_i32_88
  let v205 : Index := Scalar.indexCast v204
  let c0_91 : Index := 0#32
  let c0_92 : Index := 0#32
  ![0, 0, v205.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x32x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KMobaIdeal.lean ====
variable {F : FTy → Type} [FloatOps F] [Named F]
def κ : String → Option EReal := fun
  | "mask" => some ⊥
  | "scale_log2e" => some (((8 * (Real.log 2))⁻¹ : ℝ) : EReal)
  | _ => none
-- ==== RMobaIdeal.lean ====
abbrev S4x8192x8x64 : Shape := ⟨4, ![4, 8192, 8, 64]⟩
abbrev S4x32x256x8x64 : Shape := ⟨5, ![4, 32, 256, 8, 64]⟩
abbrev S4x8x32x256x64 : Shape := ⟨5, ![4, 8, 32, 256, 64]⟩
abbrev S_ : Shape := ⟨0, ![]⟩
abbrev S4x8x32x64 : Shape := ⟨4, ![4, 8, 32, 64]⟩
abbrev S4 : Shape := ⟨1, ![4]⟩
abbrev S4x1x1x1x1 : Shape := ⟨5, ![4, 1, 1, 1, 1]⟩
abbrev S8 : Shape := ⟨1, ![8]⟩
abbrev S1x8x1x1x1 : Shape := ⟨5, ![1, 8, 1, 1, 1]⟩
abbrev S32 : Shape := ⟨1, ![32]⟩
abbrev S256 : Shape := ⟨1, ![256]⟩
abbrev S4x8x32x256x256 : Shape := ⟨5, ![4, 8, 32, 256, 256]⟩
abbrev S1x256 : Shape := ⟨2, ![1, 256]⟩
abbrev S256x1 : Shape := ⟨2, ![256, 1]⟩
abbrev S256x256 : Shape := ⟨2, ![256, 256]⟩
abbrev S4x8x32x256x32 : Shape := ⟨5, ![4, 8, 32, 256, 32]⟩
abbrev S1x32 : Shape := ⟨2, ![1, 32]⟩
abbrev S32x1 : Shape := ⟨2, ![32, 1]⟩
abbrev S32x32 : Shape := ⟨2, ![32, 32]⟩
abbrev S32x1x32 : Shape := ⟨3, ![32, 1, 32]⟩
abbrev S4x8x32x256x3 : Shape := ⟨5, ![4, 8, 32, 256, 3]⟩
abbrev S32x1x1 : Shape := ⟨3, ![32, 1, 1]⟩
abbrev S1x1x32x1x1 : Shape := ⟨5, ![1, 1, 32, 1, 1]⟩
abbrev S4x8x32x256x3x1 : Shape := ⟨6, ![4, 8, 32, 256, 3, 1]⟩
abbrev S4x8x32x256x3x3 : Shape := ⟨6, ![4, 8, 32, 256, 3, 3]⟩
abbrev S4x8x32x256x3x256x64 : Shape := ⟨7, ![4, 8, 32, 256, 3, 256, 64]⟩
abbrev S4x8x32x256x3x256 : Shape := ⟨6, ![4, 8, 32, 256, 3, 256]⟩
abbrev S4x8x32x256x768 : Shape := ⟨5, ![4, 8, 32, 256, 768]⟩
abbrev S4x8x32x256x1024 : Shape := ⟨5, ![4, 8, 32, 256, 1024]⟩
abbrev S4x8x32x256 : Shape := ⟨4, ![4, 8, 32, 256]⟩
abbrev S4x8x32x256x1 : Shape := ⟨5, ![4, 8, 32, 256, 1]⟩
abbrev S4x8x8192x64 : Shape := ⟨4, ![4, 8, 8192, 64]⟩

abbrev nBuf : Space → Nat
  | .hbm => 142
  | .vmem => 0
  | .smem => 0
  | _ => 0

abbrev hbmTy0_0 (i : Nat) : BufTy := match i % 128 with
  | 0 => ⟨S4x8192x8x64, .f32⟩
  | 1 => ⟨S4x8192x8x64, .f32⟩
  | 2 => ⟨S4x8192x8x64, .f32⟩
  | 3 => ⟨S4x32x256x8x64, .f32⟩
  | 4 => ⟨S4x8x32x256x64, .f32⟩
  | 5 => ⟨S4x32x256x8x64, .f32⟩
  | 6 => ⟨S4x8x32x256x64, .f32⟩
  | 7 => ⟨S4x32x256x8x64, .f32⟩
  | 8 => ⟨S4x8x32x256x64, .f32⟩
  | 9 => ⟨S_, .f32⟩
  | 10 => ⟨S4x8x32x64, .f32⟩
  | 11 => ⟨S_, .f32⟩
  | 12 => ⟨S4x8x32x64, .f32⟩
  | 13 => ⟨S4x8x32x64, .f32⟩
  | 14 => ⟨S4, .i32⟩
  | 15 => ⟨S4x1x1x1x1, .i32⟩
  | 16 => ⟨S8, .i32⟩
  | 17 => ⟨S1x8x1x1x1, .i32⟩
  | 18 => ⟨S32, .i32⟩
  | 19 => ⟨S256, .i32⟩
  | 20 => ⟨S4x8x32x256x256, .f32⟩
  | 21 => ⟨S_, .f32⟩
  | 22 => ⟨S4x8x32x256x256, .f32⟩
  | 23 => ⟨S4x8x32x256x256, .f32⟩
  | 24 => ⟨S1x256, .i32⟩
  | 25 => ⟨S256x1, .i32⟩
  | 26 => ⟨S256x256, .i32⟩
  | 27 => ⟨S256x256, .i32⟩
  | 28 => ⟨S256x256, .i1⟩
  | 29 => ⟨S_, .f32⟩
  | 30 => ⟨S_, .f32⟩
  | 31 => ⟨S4x8x32x256x256, .i1⟩
  | 32 => ⟨S4x8x32x256x256, .f32⟩
  | 33 => ⟨S4x8x32x256x256, .f32⟩
  | 34 => ⟨S4x8x32x256x32, .f32⟩
  | 35 => ⟨S32, .i32⟩
  | 36 => ⟨S1x32, .i32⟩
  | 37 => ⟨S32x1, .i32⟩
  | 38 => ⟨S32x32, .i32⟩
  | 39 => ⟨S32x32, .i32⟩
  | 40 => ⟨S32x32, .i1⟩
  | 41 => ⟨S32x1x32, .i1⟩
  | 42 => ⟨S_, .f32⟩
  | 43 => ⟨S_, .f32⟩
  | 44 => ⟨S4x8x32x256x32, .i1⟩
  | 45 => ⟨S4x8x32x256x32, .f32⟩
  | 46 => ⟨S4x8x32x256x32, .f32⟩
  | 47 => ⟨S4x8x32x256x3, .f32⟩
  | 48 => ⟨S4x8x32x256x3, .i32⟩
  | 49 => ⟨S32x1x1, .i32⟩
  | 50 => ⟨S1x1x32x1x1, .i32⟩
  | 51 => ⟨S4x8x32x256x3, .i32⟩
  | 52 => ⟨S4x8x32x256x3, .i1⟩
  | 53 => ⟨S_, .i32⟩
  | 54 => ⟨S4x1x1x1x1, .i32⟩
  | 55 => ⟨S4x1x1x1x1, .i1⟩
  | 56 => ⟨S_, .i32⟩
  | 57 => ⟨S4x1x1x1x1, .i32⟩
  | 58 => ⟨S4x1x1x1x1, .i32⟩
  | 59 => ⟨S4x1x1x1x1, .i32⟩
  | 60 => ⟨S_, .i32⟩
  | 61 => ⟨S1x8x1x1x1, .i32⟩
  | 62 => ⟨S1x8x1x1x1, .i1⟩
  | 63 => ⟨S_, .i32⟩
  | 64 => ⟨S1x8x1x1x1, .i32⟩
  | 65 => ⟨S1x8x1x1x1, .i32⟩
  | 66 => ⟨S1x8x1x1x1, .i32⟩
  | 67 => ⟨S_, .i32⟩
  | 68 => ⟨S4x8x32x256x3, .i32⟩
  | 69 => ⟨S4x8x32x256x3, .i1⟩
  | 70 => ⟨S_, .i32⟩
  | 71 => ⟨S4x8x32x256x3, .i32⟩
  | 72 => ⟨S4x8x32x256x3, .i32⟩
  | 73 => ⟨S4x8x32x256x3, .i32⟩
  | 74 => ⟨S4x8x32x256x3, .i32⟩
  | 75 => ⟨S4x8x32x256x3, .i32⟩
  | 76 => ⟨S4x8x32x256x3x1, .i32⟩
  | 77 => ⟨S4x8x32x256x3x1, .i32⟩
  | 78 => ⟨S4x8x32x256x3x1, .i32⟩
  | 79 => ⟨S4x8x32x256x3x3, .i32⟩
  | 80 => ⟨S4x8x32x256x3x256x64, .f32⟩
  | 81 => ⟨S_, .i32⟩
  | 82 => ⟨S4x1x1x1x1, .i32⟩
  | 83 => ⟨S4x1x1x1x1, .i1⟩
  | 84 => ⟨S_, .i32⟩
  | 85 => ⟨S4x1x1x1x1, .i32⟩
  | 86 => ⟨S4x1x1x1x1, .i32⟩
  | 87 => ⟨S4x1x1x1x1, .i32⟩
  | 88 => ⟨S_, .i32⟩
  | 89 => ⟨S1x8x1x1x1, .i32⟩
  | 90 => ⟨S1x8x1x1x1, .i1⟩
  | 91 => ⟨S_, .i32⟩
  | 92 => ⟨S1x8x1x1x1, .i32⟩
  | 93 => ⟨S1x8x1x1x1, .i32⟩
  | 94 => ⟨S1x8x1x1x1, .i32⟩
  | 95 => ⟨S_, .i32⟩
  | 96 => ⟨S4x8x32x256x3, .i32⟩
  | 97 => ⟨S4x8x32x256x3, .i1⟩
  | 98 => ⟨S_, .i32⟩
  | 99 => ⟨S4x8x32x256x3, .i32⟩
  | 100 => ⟨S4x8x32x256x3, .i32⟩
  | 101 => ⟨S4x8x32x256x3, .i32⟩
  | 102 => ⟨S4x8x32x256x3, .i32⟩
  | 103 => ⟨S4x8x32x256x3, .i32⟩
  | 104 => ⟨S4x8x32x256x3x1, .i32⟩
  | 105 => ⟨S4x8x32x256x3x1, .i32⟩
  | 106 => ⟨S4x8x32x256x3x1, .i32⟩
  | 107 => ⟨S4x8x32x256x3x3, .i32⟩
  | 108 => ⟨S4x8x32x256x3x256x64, .f32⟩
  | 109 => ⟨S4x8x32x256x3x256, .f32⟩
  | 110 => ⟨S_, .f32⟩
  | 111 => ⟨S4x8x32x256x3x256, .f32⟩
  | 112 => ⟨S4x8x32x256x3x256, .f32⟩
  | 113 => ⟨S4x8x32x256x3x1, .i1⟩
  | 114 => ⟨S_, .f32⟩
  | 115 => ⟨S_, .f32⟩
  | 116 => ⟨S4x8x32x256x3x256, .i1⟩
  | 117 => ⟨S4x8x32x256x3x256, .f32⟩
  | 118 => ⟨S4x8x32x256x3x256, .f32⟩
  | 119 => ⟨S4x8x32x256x768, .f32⟩
  | 120 => ⟨S4x8x32x256x1024, .f32⟩
  | 121 => ⟨S_, .f32⟩
  | 122 => ⟨S4x8x32x256, .f32⟩
  | 123 => ⟨S_, .f32⟩
  | 124 => ⟨S4x8x32x256, .f32⟩
  | 125 => ⟨S4x8x32x256, .f32⟩
  | 126 => ⟨S4x8x32x256x1, .f32⟩
  | 127 => ⟨S4x8x32x256x1024, .f32⟩
  | _ => ⟨S4x8192x8x64, .f32⟩

abbrev hbmTy0_1 (i : Nat) : BufTy := match i % 128 with
  | 0 => ⟨S4x8x32x256x1024, .f32⟩
  | 1 => ⟨S4x8x32x256x1024, .f32⟩
  | 2 => ⟨S_, .f32⟩
  | 3 => ⟨S4x8x32x256, .f32⟩
  | 4 => ⟨S4x8x32x256x1, .f32⟩
  | 5 => ⟨S4x8x32x256x1024, .f32⟩
  | 6 => ⟨S4x8x32x256x1024, .f32⟩
  | 7 => ⟨S4x8x32x256x768, .f32⟩
  | 8 => ⟨S4x8x32x256x3x256, .f32⟩
  | 9 => ⟨S4x8x32x256x256, .f32⟩
  | 10 => ⟨S4x8x32x256x64, .f32⟩
  | 11 => ⟨S4x8x32x256x64, .f32⟩
  | 12 => ⟨S4x8x32x256x64, .f32⟩
  | 13 => ⟨S4x8x8192x64, .f32⟩
  | _ => ⟨S4x8192x8x64, .f32⟩

abbrev hbmTy (i : Nat) : BufTy := match i / 128 with
  | 0 => hbmTy0_0 i
  | 1 => hbmTy0_1 i
  | _ => ⟨S4x8192x8x64, .f32⟩

abbrev bufTy : (tb : Table) → Fin (tcTables nBuf tb) → BufTy
  | .hbm, ⟨i, _⟩ => hbmTy i
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v32 : Ref sig .tc := ⟨.hbm, 46, rfl⟩
abbrev main_values : Ref sig .tc := ⟨.hbm, 47, rfl⟩
abbrev main_indices : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_9 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_17 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== KScan.lean ====
abbrev S32x4x8x64 : Shape := ⟨4, ![32, 4, 8, 64]⟩
abbrev S32x8x64x64 : Shape := ⟨4, ![32, 8, 64, 64]⟩
abbrev S32x8x4x64 : Shape := ⟨4, ![32, 8, 4, 64]⟩
abbrev S1x8x4x64 : Shape := ⟨4, ![1, 8, 4, 64]⟩
abbrev S1x8x64x64 : Shape := ⟨4, ![1, 8, 64, 64]⟩
abbrev S8x64x64 : Shape := ⟨3, ![8, 64, 64]⟩
abbrev S64x64 : Shape := ⟨2, ![64, 64]⟩
abbrev S1x64x64 : Shape := ⟨3, ![1, 64, 64]⟩
abbrev S1x1x1x64 : Shape := ⟨4, ![1, 1, 1, 64]⟩
abbrev S1x64 : Shape := ⟨2, ![1, 64]⟩
abbrev S64 : Shape := ⟨1, ![64]⟩
abbrev S64x1 : Shape := ⟨2, ![64, 1]⟩

abbrev nBuf : Space → Nat
  | .hbm => 16
  | .vmem => 19
  | .smem => 0
  | _ => 0

abbrev bufTy : (tb : Table) → Fin (tcTables nBuf tb) → BufTy
  | .hbm, ⟨0, _⟩ => ⟨S32x4x8x64, .f32⟩
  | .hbm, ⟨1, _⟩ => ⟨S32x4x8x64, .f32⟩
  | .hbm, ⟨2, _⟩ => ⟨S32x4x8x64, .f32⟩
  | .hbm, ⟨3, _⟩ => ⟨S32x4x8x64, .f32⟩
  | .hbm, ⟨4, _⟩ => ⟨S32x4x8x64, .f32⟩
  | .hbm, ⟨5, _⟩ => ⟨S32x4x8x64, .f32⟩
  | .hbm, ⟨6, _⟩ => ⟨S32x8x64x64, .f32⟩
  | .hbm, ⟨7, _⟩ => ⟨S32x8x4x64, .f32⟩
  | .hbm, ⟨8, _⟩ => ⟨S32x8x4x64, .f32⟩
  | .hbm, ⟨9, _⟩ => ⟨S32x8x4x64, .f32⟩
  | .hbm, ⟨10, _⟩ => ⟨S32x8x4x64, .f32⟩
  | .hbm, ⟨11, _⟩ => ⟨S32x8x4x64, .f32⟩
  | .hbm, ⟨12, _⟩ => ⟨S32x4x8x64, .f32⟩
  | .hbm, ⟨13, _⟩ => ⟨S32x8x4x64, .f32⟩
  | .hbm, ⟨14, _⟩ => ⟨S32x8x4x64, .f32⟩
  | .hbm, ⟨15, _⟩ => ⟨S32x8x64x64, .f32⟩
  | .local _ .vmem, ⟨0, _⟩ => ⟨S1x8x4x64, .f32⟩
  | .local _ .vmem, ⟨1, _⟩ => ⟨S1x8x4x64, .f32⟩
  | .local _ .vmem, ⟨2, _⟩ => ⟨S1x8x4x64, .f32⟩
  | .local _ .vmem, ⟨3, _⟩ => ⟨S1x8x4x64, .f32⟩
  | .local _ .vmem, ⟨4, _⟩ => ⟨S1x8x4x64, .f32⟩
  | .local _ .vmem, ⟨5, _⟩ => ⟨S1x8x4x64, .f32⟩
  | .local _ .vmem, ⟨6, _⟩ => ⟨S1x8x4x64, .f32⟩
  | .local _ .vmem, ⟨7, _⟩ => ⟨S1x8x4x64, .f32⟩
  | .local _ .vmem, ⟨8, _⟩ => ⟨S1x8x4x64, .f32⟩
  | .local _ .vmem, ⟨9, _⟩ => ⟨S1x8x4x64, .f32⟩
  | .local _ .vmem, ⟨10, _⟩ => ⟨S1x8x4x64, .f32⟩
  | .local _ .vmem, ⟨11, _⟩ => ⟨S1x8x4x64, .f32⟩
  | .local _ .vmem, ⟨12, _⟩ => ⟨S1x8x64x64, .f32⟩
  | .local _ .vmem, ⟨13, _⟩ => ⟨S1x8x64x64, .f32⟩
  | .local _ .vmem, ⟨14, _⟩ => ⟨S1x8x4x64, .f32⟩
  | .local _ .vmem, ⟨15, _⟩ => ⟨S1x8x4x64, .f32⟩
  | .local _ .vmem, ⟨16, _⟩ => ⟨S1x8x64x64, .f32⟩
  | .local _ .vmem, ⟨17, _⟩ => ⟨S1x8x64x64, .f32⟩
  | .local _ .vmem, ⟨18, _⟩ => ⟨S8x64x64, .f32⟩
  | _, _ => ⟨S32x4x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32_1 : BitVec 32 := 0#32
  let c4_i32 : BitVec 32 := 4#32
  let v6 : BitVec 32 := Scalar.addi c0_i32_1 c4_i32
  let c1_i32 : BitVec 32 := 1#32
  ⟨c0_i32_1, v6, c1_i32⟩
def k0_off1 (k0_t1 : Fin k0_t1_loop.trips) : Fin 4 → Nat :=
  let c0_12 : Index := 0#32
  let c0_13 : Index := 0#32
  let c0_i32_1 : BitVec 32 := 0#32
  let c1_i32 : BitVec 32 := 1#32
  let arg12 : BitVec 32 := Scf.iv c0_i32_1 c1_i32 k0_t1
  let v13 : Index := Scalar.indexCast arg12
  let c0_14 : Index := 0#32
  ![0, 0, v13.toNat, 0]
def k0_off2 (k0_t1 : Fin k0_t1_loop.trips) : Fin 4 → Nat :=
  let c0_44 : Index := 0#32
  let c1_45 : Index := 1#32
  let c0_i32_1 : BitVec 32 := 0#32
  let c1_i32 : BitVec 32 := 1#32
  let arg12 : BitVec 32 := Scf.iv c0_i32_1 c1_i32 k0_t1
  let v73 : Index := Scalar.indexCast arg12
  let c0_46 : Index := 0#32
  ![0, 1, v73.toNat, 0]
def k0_off3 (k0_t1 : Fin k0_t1_loop.trips) : Fin 4 → Nat :=
  let c0_77 : Index := 0#32
  let c2_78 : Index := 2#32
  let c0_i32_1 : BitVec 32 := 0#32
  let c1_i32 : BitVec 32 := 1#32
  let arg12 : BitVec 32 := Scf.iv c0_i32_1 c1_i32 k0_t1
  let v133 : Index := Scalar.indexCast arg12
  let c0_79 : Index := 0#32
  ![0, 2, v133.toNat, 0]
def k0_off4 (k0_t1 : Fin k0_t1_loop.trips) : Fin 4 → Nat :=
  let c0_110 : Index := 0#32
  let c3_111 : Index := 3#32
  let c0_i32_1 : BitVec 32 := 0#32
  let c1_i32 : BitVec 32 := 1#32
  let arg12 : BitVec 32 := Scf.iv c0_i32_1 c1_i32 k0_t1
  let v193 : Index := Scalar.indexCast arg12
  let c0_112 : Index := 0#32
  ![0, 3, v193.toNat, 0]
def k0_off5 (k0_t1 : Fin k0_t1_loop.trips) : Fin 4 → Nat :=
  let c0_143 : Index := 0#32
  let c4_144 : Index := 4#32
  let c0_i32_1 : BitVec 32 := 0#32
  let c1_i32 : BitVec 32 := 1#32
  let arg12 : BitVec 32 := Scf.iv c0_i32_1 c1_i32 k0_t1
  let v253 : Index := Scalar.indexCast arg12
  let c0_145 : Index := 0#32
  ![0, 4, v253.toNat, 0]
def k0_off6 (k0_t1 : Fin k0_t1_loop.trips) : Fin 4 → Nat :=
  let c0_176 : Index := 0#32
  let c5_177 : Index := 5#32
  let c0_i32_1 : BitVec 32 := 0#32
  let c1_i32 : BitVec 32 := 1#32
  let arg12 : BitVec 32 := Scf.iv c0_i32_1 c1_i32 k0_t1
  let v313 : Index := Scalar.indexCast arg12
  let c0_178 : Index := 0#32
  ![0, 5, v313.toNat, 0]
def k0_off7 (k0_t1 : Fin k0_t1_loop.trips) : Fin 4 → Nat :=
  let c0_209 : Index := 0#32
  let c6_210 : Index := 6#32
  let c0_i32_1 : BitVec 32 := 0#32
  let c1_i32 : BitVec 32 := 1#32
  let arg12 : BitVec 32 := Scf.iv c0_i32_1 c1_i32 k0_t1
  let v373 : Index := Scalar.indexCast arg12
  let c0_211 : Index := 0#32
  ![0, 6, v373.toNat, 0]
def k0_off8 (k0_t1 : Fin k0_t1_loop.trips) : Fin 4 → Nat :=
  let c0_242 : Index := 0#32
  let c7_243 : Index := 7#32
  let c0_i32_1 : BitVec 32 := 0#32
  let c1_i32 : BitVec 32 := 1#32
  let arg12 : BitVec 32 := Scf.iv c0_i32_1 c1_i32 k0_t1
  let v433 : Index := Scalar.indexCast arg12
  let c0_244 : Index := 0#32
  ![0, 7, v433.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x4x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RScanIdeal.lean ====
abbrev S32x4x8x64 : Shape := ⟨4, ![32, 4, 8, 64]⟩
abbrev S32x8x64x64 : Shape := ⟨4, ![32, 8, 64, 64]⟩
abbrev S4x32x8x64 : Shape := ⟨4, ![4, 32, 8, 64]⟩
abbrev S1x32x8x64 : Shape := ⟨4, ![1, 32, 8, 64]⟩
abbrev S32x8x64 : Shape := ⟨3, ![32, 8, 64]⟩
abbrev S32x8x1x64 : Shape := ⟨4, ![32, 8, 1, 64]⟩
abbrev S32x8x64x1 : Shape := ⟨4, ![32, 8, 64, 1]⟩
abbrev S32x8x4x64 : Shape := ⟨4, ![32, 8, 4, 64]⟩

abbrev nBuf : Space → Nat
  | .hbm => 143
  | .vmem => 0
  | .smem => 0
  | _ => 0

abbrev hbmTy0_0 (i : Nat) : BufTy := match i % 128 with
  | 0 => ⟨S32x4x8x64, .f32⟩
  | 1 => ⟨S32x4x8x64, .f32⟩
  | 2 => ⟨S32x4x8x64, .f32⟩
  | 3 => ⟨S32x4x8x64, .f32⟩
  | 4 => ⟨S32x4x8x64, .f32⟩
  | 5 => ⟨S32x4x8x64, .f32⟩
  | 6 => ⟨S32x8x64x64, .f32⟩
  | 7 => ⟨S32x4x8x64, .f32⟩
  | 8 => ⟨S4x32x8x64, .f32⟩
  | 9 => ⟨S4x32x8x64, .f32⟩
  | 10 => ⟨S4x32x8x64, .f32⟩
  | 11 => ⟨S4x32x8x64, .f32⟩
  | 12 => ⟨S4x32x8x64, .f32⟩
  | 13 => ⟨S4x32x8x64, .f32⟩
  | 14 => ⟨S1x32x8x64, .f32⟩
  | 15 => ⟨S32x8x64, .f32⟩
  | 16 => ⟨S1x32x8x64, .f32⟩
  | 17 => ⟨S32x8x64, .f32⟩
  | 18 => ⟨S1x32x8x64, .f32⟩
  | 19 => ⟨S32x8x64, .f32⟩
  | 20 => ⟨S1x32x8x64, .f32⟩
  | 21 => ⟨S32x8x64, .f32⟩
  | 22 => ⟨S1x32x8x64, .f32⟩
  | 23 => ⟨S32x8x64, .f32⟩
  | 24 => ⟨S1x32x8x64, .f32⟩
  | 25 => ⟨S32x8x64, .f32⟩
  | 26 => ⟨S32x8x64, .f32⟩
  | 27 => ⟨S32x8x64, .f32⟩
  | 28 => ⟨S32x8x1x64, .f32⟩
  | 29 => ⟨S32x8x64x64, .f32⟩
  | 30 => ⟨S32x8x64x64, .f32⟩
  | 31 => ⟨S32x8x64x1, .f32⟩
  | 32 => ⟨S32x8x64, .f32⟩
  | 33 => ⟨S32x8x1x64, .f32⟩
  | 34 => ⟨S32x8x64x64, .f32⟩
  | 35 => ⟨S32x8x64x64, .f32⟩
  | 36 => ⟨S32x8x64x64, .f32⟩
  | 37 => ⟨S32x8x64x64, .f32⟩
  | 38 => ⟨S32x8x64x1, .f32⟩
  | 39 => ⟨S32x8x1x64, .f32⟩
  | 40 => ⟨S32x8x64x64, .f32⟩
  | 41 => ⟨S32x8x64x64, .f32⟩
  | 42 => ⟨S32x8x64x64, .f32⟩
  | 43 => ⟨S32x8x64x64, .f32⟩
  | 44 => ⟨S32x8x64, .f32⟩
  | 45 => ⟨S1x32x8x64, .f32⟩
  | 46 => ⟨S32x8x64, .f32⟩
  | 47 => ⟨S1x32x8x64, .f32⟩
  | 48 => ⟨S32x8x64, .f32⟩
  | 49 => ⟨S1x32x8x64, .f32⟩
  | 50 => ⟨S32x8x64, .f32⟩
  | 51 => ⟨S1x32x8x64, .f32⟩
  | 52 => ⟨S32x8x64, .f32⟩
  | 53 => ⟨S1x32x8x64, .f32⟩
  | 54 => ⟨S32x8x64, .f32⟩
  | 55 => ⟨S1x32x8x64, .f32⟩
  | 56 => ⟨S32x8x64, .f32⟩
  | 57 => ⟨S32x8x64, .f32⟩
  | 58 => ⟨S32x8x64, .f32⟩
  | 59 => ⟨S32x8x1x64, .f32⟩
  | 60 => ⟨S32x8x64x64, .f32⟩
  | 61 => ⟨S32x8x64x64, .f32⟩
  | 62 => ⟨S32x8x64x1, .f32⟩
  | 63 => ⟨S32x8x64, .f32⟩
  | 64 => ⟨S32x8x1x64, .f32⟩
  | 65 => ⟨S32x8x64x64, .f32⟩
  | 66 => ⟨S32x8x64x64, .f32⟩
  | 67 => ⟨S32x8x64x64, .f32⟩
  | 68 => ⟨S32x8x64x64, .f32⟩
  | 69 => ⟨S32x8x64x1, .f32⟩
  | 70 => ⟨S32x8x1x64, .f32⟩
  | 71 => ⟨S32x8x64x64, .f32⟩
  | 72 => ⟨S32x8x64x64, .f32⟩
  | 73 => ⟨S32x8x64x64, .f32⟩
  | 74 => ⟨S32x8x64x64, .f32⟩
  | 75 => ⟨S32x8x64, .f32⟩
  | 76 => ⟨S1x32x8x64, .f32⟩
  | 77 => ⟨S32x8x64, .f32⟩
  | 78 => ⟨S1x32x8x64, .f32⟩
  | 79 => ⟨S32x8x64, .f32⟩
  | 80 => ⟨S1x32x8x64, .f32⟩
  | 81 => ⟨S32x8x64, .f32⟩
  | 82 => ⟨S1x32x8x64, .f32⟩
  | 83 => ⟨S32x8x64, .f32⟩
  | 84 => ⟨S1x32x8x64, .f32⟩
  | 85 => ⟨S32x8x64, .f32⟩
  | 86 => ⟨S1x32x8x64, .f32⟩
  | 87 => ⟨S32x8x64, .f32⟩
  | 88 => ⟨S32x8x64, .f32⟩
  | 89 => ⟨S32x8x64, .f32⟩
  | 90 => ⟨S32x8x1x64, .f32⟩
  | 91 => ⟨S32x8x64x64, .f32⟩
  | 92 => ⟨S32x8x64x64, .f32⟩
  | 93 => ⟨S32x8x64x1, .f32⟩
  | 94 => ⟨S32x8x64, .f32⟩
  | 95 => ⟨S32x8x1x64, .f32⟩
  | 96 => ⟨S32x8x64x64, .f32⟩
  | 97 => ⟨S32x8x64x64, .f32⟩
  | 98 => ⟨S32x8x64x64, .f32⟩
  | 99 => ⟨S32x8x64x64, .f32⟩
  | 100 => ⟨S32x8x64x1, .f32⟩
  | 101 => ⟨S32x8x1x64, .f32⟩
  | 102 => ⟨S32x8x64x64, .f32⟩
  | 103 => ⟨S32x8x64x64, .f32⟩
  | 104 => ⟨S32x8x64x64, .f32⟩
  | 105 => ⟨S32x8x64x64, .f32⟩
  | 106 => ⟨S32x8x64, .f32⟩
  | 107 => ⟨S1x32x8x64, .f32⟩
  | 108 => ⟨S32x8x64, .f32⟩
  | 109 => ⟨S1x32x8x64, .f32⟩
  | 110 => ⟨S32x8x64, .f32⟩
  | 111 => ⟨S1x32x8x64, .f32⟩
  | 112 => ⟨S32x8x64, .f32⟩
  | 113 => ⟨S1x32x8x64, .f32⟩
  | 114 => ⟨S32x8x64, .f32⟩
  | 115 => ⟨S1x32x8x64, .f32⟩
  | 116 => ⟨S32x8x64, .f32⟩
  | 117 => ⟨S1x32x8x64, .f32⟩
  | 118 => ⟨S32x8x64, .f32⟩
  | 119 => ⟨S32x8x64, .f32⟩
  | 120 => ⟨S32x8x64, .f32⟩
  | 121 => ⟨S32x8x1x64, .f32⟩
  | 122 => ⟨S32x8x64x64, .f32⟩
  | 123 => ⟨S32x8x64x64, .f32⟩
  | 124 => ⟨S32x8x64x1, .f32⟩
  | 125 => ⟨S32x8x64, .f32⟩
  | 126 => ⟨S32x8x1x64, .f32⟩
  | 127 => ⟨S32x8x64x64, .f32⟩
  | _ => ⟨S32x4x8x64, .f32⟩

abbrev hbmTy0_1 (i : Nat) : BufTy := match i % 128 with
  | 0 => ⟨S32x8x64x64, .f32⟩
  | 1 => ⟨S32x8x64x64, .f32⟩
  | 2 => ⟨S32x8x64x64, .f32⟩
  | 3 => ⟨S32x8x64x1, .f32⟩
  | 4 => ⟨S32x8x1x64, .f32⟩
  | 5 => ⟨S32x8x64x64, .f32⟩
  | 6 => ⟨S32x8x64x64, .f32⟩
  | 7 => ⟨S32x8x64x64, .f32⟩
  | 8 => ⟨S32x8x64x64, .f32⟩
  | 9 => ⟨S32x8x64, .f32⟩
  | 10 => ⟨S32x8x1x64, .f32⟩
  | 11 => ⟨S32x8x1x64, .f32⟩
  | 12 => ⟨S32x8x1x64, .f32⟩
  | 13 => ⟨S32x8x1x64, .f32⟩
  | 14 => ⟨S32x8x4x64, .f32⟩
  | _ => ⟨S32x4x8x64, .f32⟩

abbrev hbmTy (i : Nat) : BufTy := match i / 128 with
  | 0 => hbmTy0_0 i
  | 1 => hbmTy0_1 i
  | _ => ⟨S32x4x8x64, .f32⟩

abbrev bufTy : (tb : Table) → Fin (tcTables nBuf tb) → BufTy
  | .hbm, ⟨i, _⟩ => hbmTy i
  | _, _ => ⟨S32x4x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩

abbrev nD : Nat := 1
abbrev τ : Topo := Topo.v7x

variable {F : FTy → Type} [FloatOps F]
-- ==== KSRope.lean ====
abbrev S32x4x1536 : Shape := ⟨3, ![32, 4, 1536]⟩
abbrev S4 : Shape := ⟨1, ![4]⟩
abbrev S_ : Shape := ⟨0, ![]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x64 : Shape := ⟨2, ![4, 64]⟩
abbrev S1x4x1x64 : Shape := ⟨4, ![1, 4, 1, 64]⟩
abbrev S1x4x8x64 : Shape := ⟨4, ![1, 4, 8, 64]⟩
abbrev S4x512 : Shape := ⟨2, ![4, 512]⟩
abbrev S32x4x512 : Shape := ⟨3, ![32, 4, 512]⟩
abbrev S1x4x1536 : Shape := ⟨3, ![1, 4, 1536]⟩
abbrev S1x4x512 : Shape := ⟨3, ![1, 4, 512]⟩
abbrev S4x1536 : Shape := ⟨2, ![4, 1536]⟩
abbrev S4x480 : Shape := ⟨2, ![4, 480]⟩

abbrev nBuf : Space → Nat
  | .hbm => 32
  | .vmem => 8
  | .smem => 0
  | _ => 0

abbrev bufTy : (tb : Table) → Fin (tcTables nBuf tb) → BufTy
  | .hbm, ⟨0, _⟩ => ⟨S32x4x1536, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4, .f32⟩
  | .hbm, ⟨14, _⟩ => ⟨S4x1, .f32⟩
  | .hbm, ⟨15, _⟩ => ⟨S1x32, .f32⟩
  | .hbm, ⟨16, _⟩ => ⟨S4x32, .f32⟩
  | .hbm, ⟨17, _⟩ => ⟨S4x32, .f32⟩
  | .hbm, ⟨18, _⟩ => ⟨S4x32, .f32⟩
  | .hbm, ⟨19, _⟩ => ⟨S4x32, .f32⟩
  | .hbm, ⟨20, _⟩ => ⟨S4x32, .f32⟩
  | .hbm, ⟨21, _⟩ => ⟨S4x64, .f32⟩
  | .hbm, ⟨22, _⟩ => ⟨S1x4x1x64, .f32⟩
  | .hbm, ⟨23, _⟩ => ⟨S1x4x8x64, .f32⟩
  | .hbm, ⟨24, _⟩ => ⟨S4x512, .f32⟩
  | .hbm, ⟨25, _⟩ => ⟨S4x32, .f32⟩
  | .hbm, ⟨26, _⟩ => ⟨S4x64, .f32⟩
  | .hbm, ⟨27, _⟩ => ⟨S1x4x1x64, .f32⟩
  | .hbm, ⟨28, _⟩ => ⟨S1x4x8x64, .f32⟩
  | .hbm, ⟨29, _⟩ => ⟨S4x512, .f32⟩
  | .hbm, ⟨30, _⟩ => ⟨S32x4x512, .f32⟩
  | .hbm, ⟨31, _⟩ => ⟨S32x4x512, .f32⟩
  | .local _ .vmem, ⟨0, _⟩ => ⟨S1x4x1536, .f32⟩
  | .local _ .vmem, ⟨1, _⟩ => ⟨S1x4x1536, .f32⟩
  | .local _ .vmem, ⟨2, _⟩ => ⟨S4x512, .f32⟩
  | .local _ .vmem, ⟨3, _⟩ => ⟨S4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | _, _ => ⟨S32x4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26_0 : Ref sig .tc := ⟨.hbm, 30, rfl⟩
abbrev main_v26_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RSRopeIdeal.lean ====
abbrev S32x4x1536 : Shape := ⟨3, ![32, 4, 1536]⟩
abbrev S4 : Shape := ⟨1, ![4]⟩
abbrev S_ : Shape := ⟨0, ![]⟩
abbrev S32x4x3x8x64 : Shape := ⟨5, ![32, 4, 3, 8, 64]⟩
abbrev S32x4x1x8x64 : Shape := ⟨5, ![32, 4, 1, 8, 64]⟩
abbrev S32x4x8x64 : Shape := ⟨4, ![32, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S32x4x8x32 : Shape := ⟨4, ![32, 4, 8, 32]⟩
abbrev S32x4x512 : Shape := ⟨3, ![32, 4, 512]⟩

abbrev nBuf : Space → Nat
  | .hbm => 74
  | .vmem => 0
  | .smem => 0
  | _ => 0

abbrev bufTy : (tb : Table) → Fin (tcTables nBuf tb) → BufTy
  | .hbm, ⟨0, _⟩ => ⟨S32x4x1536, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i32⟩
  | .hbm, ⟨5, _⟩ => ⟨S32x4x3x8x64, .f32⟩
  | .hbm, ⟨6, _⟩ => ⟨S32x4x1x8x64, .f32⟩
  | .hbm, ⟨7, _⟩ => ⟨S32x4x8x64, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4, .f32⟩
  | .hbm, ⟨17, _⟩ => ⟨S4x1, .f32⟩
  | .hbm, ⟨18, _⟩ => ⟨S1x32, .f32⟩
  | .hbm, ⟨19, _⟩ => ⟨S4x32, .f32⟩
  | .hbm, ⟨20, _⟩ => ⟨S4x32, .f32⟩
  | .hbm, ⟨21, _⟩ => ⟨S4x32, .f32⟩
  | .hbm, ⟨22, _⟩ => ⟨S4x32, .f32⟩
  | .hbm, ⟨23, _⟩ => ⟨S1x4x1x32, .f32⟩
  | .hbm, ⟨24, _⟩ => ⟨S4x32, .f32⟩
  | .hbm, ⟨25, _⟩ => ⟨S1x4x1x32, .f32⟩
  | .hbm, ⟨26, _⟩ => ⟨S32x4x8x32, .f32⟩
  | .hbm, ⟨27, _⟩ => ⟨S32x4x8x32, .f32⟩
  | .hbm, ⟨28, _⟩ => ⟨S32x4x8x32, .f32⟩
  | .hbm, ⟨29, _⟩ => ⟨S32x4x8x32, .f32⟩
  | .hbm, ⟨30, _⟩ => ⟨S32x4x8x32, .f32⟩
  | .hbm, ⟨31, _⟩ => ⟨S32x4x8x32, .f32⟩
  | .hbm, ⟨32, _⟩ => ⟨S32x4x8x32, .f32⟩
  | .hbm, ⟨33, _⟩ => ⟨S32x4x8x32, .f32⟩
  | .hbm, ⟨34, _⟩ => ⟨S32x4x8x32, .f32⟩
  | .hbm, ⟨35, _⟩ => ⟨S32x4x8x32, .f32⟩
  | .hbm, ⟨36, _⟩ => ⟨S32x4x8x32, .f32⟩
  | .hbm, ⟨37, _⟩ => ⟨S32x4x8x32, .f32⟩
  | .hbm, ⟨38, _⟩ => ⟨S32x4x8x64, .f32⟩
  | .hbm, ⟨39, _⟩ => ⟨S32x4x1x8x64, .f32⟩
  | .hbm, ⟨40, _⟩ => ⟨S32x4x8x64, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S4, .f32⟩
  | .hbm, ⟨50, _⟩ => ⟨S4x1, .f32⟩
  | .hbm, ⟨51, _⟩ => ⟨S1x32, .f32⟩
  | .hbm, ⟨52, _⟩ => ⟨S4x32, .f32⟩
  | .hbm, ⟨53, _⟩ => ⟨S4x32, .f32⟩
  | .hbm, ⟨54, _⟩ => ⟨S4x32, .f32⟩
  | .hbm, ⟨55, _⟩ => ⟨S4x32, .f32⟩
  | .hbm, ⟨56, _⟩ => ⟨S1x4x1x32, .f32⟩
  | .hbm, ⟨57, _⟩ => ⟨S4x32, .f32⟩
  | .hbm, ⟨58, _⟩ => ⟨S1x4x1x32, .f32⟩
  | .hbm, ⟨59, _⟩ => ⟨S32x4x8x32, .f32⟩
  | .hbm, ⟨60, _⟩ => ⟨S32x4x8x32, .f32⟩
  | .hbm, ⟨61, _⟩ => ⟨S32x4x8x32, .f32⟩
  | .hbm, ⟨62, _⟩ => ⟨S32x4x8x32, .f32⟩
  | .hbm, ⟨63, _⟩ => ⟨S32x4x8x32, .f32⟩
  | .hbm, ⟨64, _⟩ => ⟨S32x4x8x32, .f32⟩
  | .hbm, ⟨65, _⟩ => ⟨S32x4x8x32, .f32⟩
  | .hbm, ⟨66, _⟩ => ⟨S32x4x8x32, .f32⟩
  | .hbm, ⟨67, _⟩ => ⟨S32x4x8x32, .f32⟩
  | .hbm, ⟨68, _⟩ => ⟨S32x4x8x32, .f32⟩
  | .hbm, ⟨69, _⟩ => ⟨S32x4x8x32, .f32⟩
  | .hbm, ⟨70, _⟩ => ⟨S32x4x8x32, .f32⟩
  | .hbm, ⟨71, _⟩ => ⟨S32x4x8x64, .f32⟩
  | .hbm, ⟨72, _⟩ => ⟨S32x4x512, .f32⟩
  | .hbm, ⟨73, _⟩ => ⟨S32x4x512, .f32⟩
  | _, _ => ⟨S32x4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩

abbrev nD : Nat := 1
abbrev τ : Topo := Topo.v7x

variable {F : FTy → Type} [FloatOps F]
-- ==== Proof.FfnSpec.lean ====
/-
  The half-step feed-forward layer as a function of one token's row: RMS norm, the gated hidden units, the projection back
  and the half residual, over the extended reals. Both programs are read as this function.
-/
module

public import Idealize.ShloMosaic.Lib.Pointwise

@[expose] public section

noncomputable section

namespace Cert.Ffn

open Idealize.ShloMosaic

/-- The RMS-normalised row, scaled by the gain. -/
def normed (row gain : Fin 1024 → EReal) (k : Fin 1024) : EReal :=
  row k * Ideal.rsqrt (Ideal.div (∑ j, row j * row j) (Ideal.ofBits FTy.f32 1149239296#32) + Ideal.ofBits FTy.f32 897988541#32)
    * gain k

/-- One hidden unit: `silu (h · gate) * (h · up)`. -/
def unit (h gate up : Fin 1024 → EReal) : EReal :=
  (∑ k, h k * gate k) * Ideal.logistic (∑ k, h k * gate k) * ∑ k, h k * up k

/-- One entry of the layer's result, `s` the sum over the hidden units. -/
def addHalf (x s : EReal) : EReal := x + Ideal.ofBits FTy.f32 1056964608#32 * s

/-- One token's row through the layer. -/
def layer (row gain : Fin 1024 → EReal) (gate up : Fin 1024 → Fin 2816 → EReal) (down : Fin 2816 → Fin 1024 → EReal)
    (d : Fin 1024) : EReal :=
  addHalf (row d) (∑ f, unit (normed row gain) (gate · f) (up · f) * down f d)

/-- A sum over the hidden units is the sum over the first tile and the sum over the second. -/
theorem sum_tiles (u : Fin 2816 → EReal) :
    (∑ f, u f) = (∑ f : Fin 1408, u ⟨f.val, by omega⟩) + ∑ f : Fin 1408, u ⟨1408 + f.val, by omega⟩ :=
  Fin.sum_univ_add (a := 1408) (b := 1408) u

end Cert.Ffn

end
-- ==== Proof.FfnRef.lean ====
/-
  The reference's feed-forward layer, read at an entry of its result.
-/
module

public import proofs.«01_k».proof.Proof.FfnSpec
public import proofs.«01_k».proof.Proof.Gen.RFfnIdeal.Run
public import proofs.«01_k».proof.Proof.Gen.RFfnIdeal.Read

@[expose] public section

noncomputable section

namespace Cert.RFfnIdeal.Layer

open Cert.RFfnIdeal Idealize.ShloMosaic Cert.Ffn

/-- The batch and the position of row `r` of the flattened tokens. -/
abbrev batchOf (r : Fin 32768) : Fin 4 := ⟨r.val / 8192, by omega⟩
abbrev posOf (r : Fin 32768) : Fin 8192 := ⟨r.val % 8192, Nat.mod_lt _ (by decide)⟩

/-- The reference at row `r`, column `d` is the layer on that token's row. -/
theorem read (x : (⟨S4x8192x1024, .f32⟩ : BufTy).Contents (Elt Ideal)) (g : (⟨S1024, .f32⟩ : BufTy).Contents (Elt Ideal))
    (wg wu : (⟨S1024x2816, .f32⟩ : BufTy).Contents (Elt Ideal)) (wd : (⟨S2816x1024, .f32⟩ : BufTy).Contents (Elt Ideal))
    (r : Fin 32768) (d : Fin 1024) :
    Read.val_main_v21 (F := Ideal) x g wg wu wd (ix2 r d)
      = layer (fun k => x (ix3 (batchOf r) (posOf r) k)) (fun k => g (ix1 k)) (fun k f => wg (ix2 k f))
          (fun k f => wu (ix2 k f)) (fun f d => wd (ix2 f d)) d := by
  rw [← Read.val_main_v21_eq]
  unfold layer addHalf Ffn.unit normed Ideal.logistic
  pointwise

end Cert.RFfnIdeal.Layer

end
-- ==== Proof.FfnBlock.lean ====
/-
  The feed-forward half-block, one grid point at a time: what the body of the kernel leaves in its two scratch arrays
  and in its output block, as the payloads of its stores over the input blocks.
-/
module

public import proofs.«01_k».proof.Proof.Gen.KFfnIdeal.Value
public import Idealize.ShloMosaic.Lib.Tactic

@[expose] public section

noncomputable section

namespace Cert.KFfnIdeal.Block

open Cert.KFfnIdeal Cert.KFfnIdeal.Gen Idealize.ShloMosaic Idealize.ShloMosaic.TcCoe Idealize.SL.Sem

variable {F : FTy → Type} [FloatOps F]

theorem offsets_zero : (![0, 0] : Fin 2 → Nat) = fun _ => 0 := funext fun a => by fin_cases a <;> rfl

section
variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x1408 .bf16) (h4 : a4.IsWhole) (a5 : Memref sig .tc .vmem S1024x1408 .bf16) (h5 : a5.IsWhole)
  (a6 : Memref sig .tc .vmem S1408x1024 .bf16) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole)
  (x0 : Vec F S1024x1024 .f32) (x1 : Vec F S1x1024 .f32) (x2 x3 : Vec F S1024x1408 .bf16) (x4 : Vec F S1408x1024 .bf16)

/-- The first point of a row block leaves the normalised rows in the first scratch array. -/
theorem normed_first (hc0 : cond0_0 i) (hc1 : ¬cond0_1 i) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero offsets_zero]
  simp only [View.readAt_eq_ld, h2.read_unread, h3.read_unread, View.ld_unit_zero (S := S1024x1024) offsets_zero,
    View.ld_unit_zero (S := S1x1024) offsets_zero]

/-- The first point of a row block leaves the first tile's contribution, added to zero, in the accumulator. -/
theorem acc_first (hc0 : cond0_0 i) (hc1 : ¬cond0_1 i) :
    sout0_A_1 c i a2 h2 a3 h3 a4 h4 a5 h5 a6 h6 a7 h7 a8 h8 a9 h9 hc0 hc1 x0 x1 x2 x3 x4
      = k0_pay3 (k0_pay1 x0 x1) x2 x3 (k0_pay2 (F := F)) x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1024) offsets_zero]
  simp only [View.readCov_unit_zero (S := S1024x1024) _ offsets_zero, View.readAt_eq_ld, h2.read_unread, h3.read_unread,
    h4.read_unread, h5.read_unread, h6.read_unread, View.ld_unit_zero (S := S1024x1024) offsets_zero,
    View.ld_unit_zero (S := S1x1024) offsets_zero, View.ld_unit_zero (S := S1024x1408) offsets_zero,
    View.ld_unit_zero (S := S1408x1024) offsets_zero]

/-- The last point of a row block writes the block of the result. -/
theorem out_last (hc0 : ¬cond0_0 i) (hc1 : cond0_1 i) (s0 : Vec F S1024x1024 .bf16) (s1 : Vec F S1024x1024 .f32) :
    out0_B_5 c i a2 h2 a3 h3 a4 h4 a5 h5 a6 h6 a7 h7 a8 h8 a9 h9 hc0 hc1 x0 x1 x2 x3 x4 s0 s1
      = k0_pay4 x0 (k0_pay3 s0 x2 x3 s1 x4) := by
  unfold out0_B_5
  rw [View.read_writes_eq_canon _ _ _ (cover0_B_5 c i a2 h2 a3 h3 a4 h4 a5 h5 a6 h6 a7 h7 a8 h8 a9 h9 hc0 hc1 x0 x1 x2 x3 x4 s0 s1)]
  unfold kernelRun0_B
  dsimp only
  sl_unfold_words
  rw [View.canon_unit_zero offsets_zero]
  simp only [View.readCov_unit_zero (S := S1024x1024) _ offsets_zero, View.readAt_eq_ld, h2.read_unread, h3.read_unread,
    h4.read_unread, h5.read_unread, h6.read_unread, h8.read_unread, h9.read_unread, View.ld_unit_zero (S := S1024x1024) offsets_zero,
    View.ld_unit_zero (S := S1x1024) offsets_zero, View.ld_unit_zero (S := S1024x1408) offsets_zero,
    View.ld_unit_zero (S := S1408x1024) offsets_zero]

end

end Cert.KFfnIdeal.Block

end
-- ==== Proof.FfnValue.lean ====
/-
  The feed-forward kernel's result array, read at an entry: the layer on that token's row.
-/
module

public import proofs.«01_k».proof.Proof.FfnSpec
public import proofs.«01_k».proof.Proof.FfnBlock

@[expose] public section

noncomputable section

namespace Cert.KFfnIdeal.Layer

open Cert.KFfnIdeal Cert.KFfnIdeal.Gen Cert.KFfnIdeal.Block Idealize.ShloMosaic Idealize.ShloMosaic.TcCoe Idealize.SL.Sem Cert.Ffn
open Cert.KFfnIdeal.Value

/-! ## The stores' payloads at an entry -/

theorem normed_apply (x : Vec Ideal S1024x1024 .f32) (g : Vec Ideal S1x1024 .f32) (r k : Fin 1024) :
    k0_pay1 (F := Ideal) x g (ix2 r k) = normed (fun k => x (ix2 r k)) (fun k => g (ix2 0 k)) k := by
  unfold_payloads
  unfold normed
  pointwise

theorem zero_apply (r d : Fin 1024) : k0_pay2 (F := Ideal) (ix2 r d) = 0 := by
  unfold_payloads
  pointwise

theorem tile_apply (h : Vec Ideal S1024x1024 .bf16) (wg wu : Vec Ideal S1024x1408 .bf16) (a : Vec Ideal S1024x1024 .f32)
    (wd : Vec Ideal S1408x1024 .bf16) (r d : Fin 1024) :
    k0_pay3 (F := Ideal) h wg wu a wd (ix2 r d)
      = a (ix2 r d) + ∑ f : Fin 1408, Ffn.unit (fun k => h (ix2 r k)) (fun k => wg (ix2 k f)) (fun k => wu (ix2 k f)) * wd (ix2 f d) := by
  unfold_payloads
  unfold Ffn.unit
  pointwise

theorem addHalf_apply (x a : Vec Ideal S1024x1024 .f32) (r d : Fin 1024) :
    k0_pay4 (F := Ideal) x a (ix2 r d) = addHalf (x (ix2 r d)) (a (ix2 r d)) := by
  unfold_payloads
  unfold addHalf
  pointwise

/-! ## The input blocks at an entry -/

variable (m : (ℓ : Loc nD τ sig) → Buf (Elt Ideal) ℓ)

theorem index0 : ∀ t : Fin cfg0.N, win0_0.index t = ![t.val / 2, 0] := by decide +kernel
theorem index1 : ∀ t : Fin cfg0.N, win0_1.index t = ![0, 0] := by decide +kernel
theorem index2 : ∀ t : Fin cfg0.N, win0_2.index t = ![0, t.val % 2] := by decide +kernel
theorem index3 : ∀ t : Fin cfg0.N, win0_3.index t = ![0, t.val % 2] := by decide +kernel
theorem index4 : ∀ t : Fin cfg0.N, win0_4.index t = ![t.val % 2, 0] := by decide +kernel

theorem at_x (c : Dev nD) : (V m c main_v0 : S32768x1024.Idx → EReal)
    = shapeCast S32768x1024 (m ((c : Thread nD τ).loc main_arg0)) shapeCasts_S4x8192x1024_S32768x1024 := by
  unfold V; simp only [hostOps0]; after_results_simp; rfl
theorem at_gate (c : Dev nD) : (V m c main_v1 : S1024x2816.Idx → EReal) = m ((c : Thread nD τ).loc main_arg2) := by
  unfold V; simp only [hostOps0]; after_results_simp; rfl
theorem at_up (c : Dev nD) : (V m c main_v2 : S1024x2816.Idx → EReal) = m ((c : Thread nD τ).loc main_arg3) := by
  unfold V; simp only [hostOps0]; after_results_simp; rfl
theorem at_down (c : Dev nD) : (V m c main_v3 : S2816x1024.Idx → EReal) = m ((c : Thread nD τ).loc main_arg4) := by
  unfold V; simp only [hostOps0]; after_results_simp; rfl
theorem at_gain (c : Dev nD) : (V m c main_v4 : S1x1024.Idx → EReal)
    = shapeCast S1x1024 (m ((c : Thread nD τ).loc main_arg1)) shapeCasts_S1024_S1x1024 := by
  unfold V; simp only [hostOps0]; after_results_simp; rfl

/-- The arguments by plain indices. -/
abbrev argX (c : Dev nD) (r : Fin 32768) (k : Fin 1024) : EReal :=
  (m ((c : Thread nD τ).loc main_arg0) : S4x8192x1024.Idx → EReal)
    (ix3 ⟨r.val / 8192, by omega⟩ ⟨r.val % 8192, Nat.mod_lt _ (by decide)⟩ k)
abbrev argG (c : Dev nD) (k : Fin 1024) : EReal := (m ((c : Thread nD τ).loc main_arg1) : S1024.Idx → EReal) (ix1 k)
abbrev argGate (c : Dev nD) (k : Fin 1024) (f : Fin 2816) : EReal :=
  (m ((c : Thread nD τ).loc main_arg2) : S1024x2816.Idx → EReal) (ix2 k f)
abbrev argUp (c : Dev nD) (k : Fin 1024) (f : Fin 2816) : EReal :=
  (m ((c : Thread nD τ).loc main_arg3) : S1024x2816.Idx → EReal) (ix2 k f)
abbrev argDown (c : Dev nD) (f : Fin 2816) (d : Fin 1024) : EReal :=
  (m ((c : Thread nD τ).loc main_arg4) : S2816x1024.Idx → EReal) (ix2 f d)

theorem blk_x (c : Dev nD) (t : Fin cfg0.N) (r k : Fin 1024) (R : Fin 32768) (hR : R.val = t.val / 2 * 1024 + r.val) :
    (iblk m c 0 t : S1024x1024.Idx → EReal) (ix2 r k) = argX m c R k := by
  unfold iblk
  rw [View.read_apply]
  show (V m c main_v0 : S32768x1024.Idx → EReal) _ = _
  have he : ((cfg0.win 0).blk t).view.emb (ix2 r k) = (ix2 R k : S32768x1024.Idx) := by
    funext a; apply Fin.ext
    match a with
    | ⟨0, _⟩ => show win0_0.index t 0 * 1024 + 1 * r.val = R.val; rw [index0, hR]; simp
    | ⟨1, _⟩ => show win0_0.index t 1 * 1024 + 1 * k.val = k.val; rw [index0]; simp
  rw [at_x, he]
  refine (shapeCast_apply _ _ _ _ ?_)
  show (S4x8192x1024.rowMajor (ix3 _ _ k)).val = (S32768x1024.rowMajor (ix2 R k)).val
  rewrite [Shape.rowMajor_val_three, Shape.rowMajor_val_two]
  show (R.val / 8192 * 8192 + R.val % 8192) * 1024 + k.val = R.val * 1024 + k.val
  omega

theorem blk_gain (c : Dev nD) (t : Fin cfg0.N) (k : Fin 1024) :
    (iblk m c 1 t : S1x1024.Idx → EReal) (ix2 0 k) = argG m c k := by
  unfold iblk
  rw [View.read_apply]
  show (V m c main_v4 : S1x1024.Idx → EReal) _ = _
  have he : ((cfg0.win 1).blk t).view.emb (ix2 0 k : S1x1024.Idx) = (ix2 0 k : S1x1024.Idx) := by
    funext a; apply Fin.ext
    match a with
    | ⟨0, _⟩ => show win0_1.index t 0 * 1 + 1 * 0 = 0; rw [index1]; simp
    | ⟨1, _⟩ => show win0_1.index t 1 * 1024 + 1 * k.val = k.val; rw [index1]; simp
  rw [at_gain, he]
  pointwise

theorem blk_gate (c : Dev nD) (t : Fin cfg0.N) (k : Fin 1024) (f : Fin 1408) (f' : Fin 2816) (hf : f'.val = t.val % 2 * 1408 + f.val) :
    (iblk m c 2 t : S1024x1408.Idx → EReal) (ix2 k f) = argGate m c k f' := by
  unfold iblk
  rw [View.read_apply]
  show (V m c main_v1 : S1024x2816.Idx → EReal) _ = _
  have he : ((cfg0.win 2).blk t).view.emb (ix2 k f) = (ix2 k f' : S1024x2816.Idx) := by
    funext a; apply Fin.ext
    match a with
    | ⟨0, _⟩ => show win0_2.index t 0 * 1024 + 1 * k.val = k.val; rw [index2]; simp
    | ⟨1, _⟩ => show win0_2.index t 1 * 1408 + 1 * f.val = f'.val; rw [index2, hf]; simp
  rw [at_gate, he]

theorem blk_up (c : Dev nD) (t : Fin cfg0.N) (k : Fin 1024) (f : Fin 1408) (f' : Fin 2816) (hf : f'.val = t.val % 2 * 1408 + f.val) :
    (iblk m c 3 t : S1024x1408.Idx → EReal) (ix2 k f) = argUp m c k f' := by
  unfold iblk
  rw [View.read_apply]
  show (V m c main_v2 : S1024x2816.Idx → EReal) _ = _
  have he : ((cfg0.win 3).blk t).view.emb (ix2 k f) = (ix2 k f' : S1024x2816.Idx) := by
    funext a; apply Fin.ext
    match a with
    | ⟨0, _⟩ => show win0_3.index t 0 * 1024 + 1 * k.val = k.val; rw [index3]; simp
    | ⟨1, _⟩ => show win0_3.index t 1 * 1408 + 1 * f.val = f'.val; rw [index3, hf]; simp
  rw [at_up, he]

theorem blk_down (c : Dev nD) (t : Fin cfg0.N) (f : Fin 1408) (d : Fin 1024) (f' : Fin 2816) (hf : f'.val = t.val % 2 * 1408 + f.val) :
    (iblk m c 4 t : S1408x1024.Idx → EReal) (ix2 f d) = argDown m c f' d := by
  unfold iblk
  rw [View.read_apply]
  show (V m c main_v3 : S2816x1024.Idx → EReal) _ = _
  have he : ((cfg0.win 4).blk t).view.emb (ix2 f d) = (ix2 f' d : S2816x1024.Idx) := by
    funext a; apply Fin.ext
    match a with
    | ⟨0, _⟩ => show win0_4.index t 0 * 1408 + 1 * f.val = f'.val; rw [index4, hf]; simp
    | ⟨1, _⟩ => show win0_4.index t 1 * 1024 + 1 * d.val = d.val; rw [index4]; simp
  rw [at_down, he]

/-! ## The result -/

/-- The layer on the token of row `R`. -/
abbrev result (c : Dev nD) (R : Fin 32768) (d : Fin 1024) : EReal :=
  layer (argX m c R) (argG m c) (argGate m c) (argUp m c) (argDown m c) d

/-- What the last point of row block `b` leaves in the output's block. -/
theorem block_eq (c : Dev nD) (t : Fin cfg0.N) (ht : t.val % 2 = 1) (r d : Fin 1024) (R : Fin 32768)
    (hR : R.val = t.val / 2 * 1024 + r.val) :
    (outsAt0 m c t.val t.isLt).1 (ix2 r d) = result m c R d := by
  have h0 : ¬t.val % 2 = 0 := by omega
  have hp : t.val - 1 < cfg0.N := Nat.lt_of_le_of_lt (Nat.sub_le _ _) t.isLt
  rw [outsAt0_B m c t h0 ht]
  dsimp only
  have hA := outsAt0_A m c ⟨t.val - 1, hp⟩ (by show (t.val - 1) % 2 = 0; omega) (by show ¬(t.val - 1) % 2 = 1; omega)
  dsimp only at hA
  rw [out_last, hA]
  dsimp only
  rw [normed_first, acc_first, addHalf_apply, tile_apply, tile_apply, zero_apply, zero_add]
  have hRp : R.val = (t.val - 1) / 2 * 1024 + r.val := by omega
  simp only [normed_apply]
  have ex : ∀ k, (iblk m c 0 t : S1024x1024.Idx → EReal) (ix2 r k) = argX m c R k := fun k => blk_x m c t r k R hR
  have ex' : ∀ k, (iblk m c 0 ⟨t.val - 1, hp⟩ : S1024x1024.Idx → EReal) (ix2 r k) = argX m c R k := fun k => blk_x m c _ r k R hRp
  have eg : ∀ (s : Fin cfg0.N) k, (iblk m c 1 s : S1x1024.Idx → EReal) (ix2 0 k) = argG m c k := fun s k => blk_gain m c s k
  have gate0 : ∀ k (f : Fin 1408), (iblk m c 2 ⟨t.val - 1, hp⟩ : S1024x1408.Idx → EReal) (ix2 k f) = argGate m c k ⟨f.val, by omega⟩ :=
    fun k f => blk_gate m c _ k f _ (by show f.val = (t.val - 1) % 2 * 1408 + f.val; omega)
  have gate1 : ∀ k (f : Fin 1408), (iblk m c 2 t : S1024x1408.Idx → EReal) (ix2 k f) = argGate m c k ⟨1408 + f.val, by omega⟩ :=
    fun k f => blk_gate m c _ k f _ (by show 1408 + f.val = t.val % 2 * 1408 + f.val; omega)
  have up0 : ∀ k (f : Fin 1408), (iblk m c 3 ⟨t.val - 1, hp⟩ : S1024x1408.Idx → EReal) (ix2 k f) = argUp m c k ⟨f.val, by omega⟩ :=
    fun k f => blk_up m c _ k f _ (by show f.val = (t.val - 1) % 2 * 1408 + f.val; omega)
  have up1 : ∀ k (f : Fin 1408), (iblk m c 3 t : S1024x1408.Idx → EReal) (ix2 k f) = argUp m c k ⟨1408 + f.val, by omega⟩ :=
    fun k f => blk_up m c _ k f _ (by show 1408 + f.val = t.val % 2 * 1408 + f.val; omega)
  have down0 : ∀ (f : Fin 1408) d, (iblk m c 4 ⟨t.val - 1, hp⟩ : S1408x1024.Idx → EReal) (ix2 f d) = argDown m c ⟨f.val, by omega⟩ d :=
    fun f d => blk_down m c _ f d _ (by show f.val = (t.val - 1) % 2 * 1408 + f.val; omega)
  have down1 : ∀ (f : Fin 1408) d, (iblk m c 4 t : S1408x1024.Idx → EReal) (ix2 f d) = argDown m c ⟨1408 + f.val, by omega⟩ d :=
    fun f d => blk_down m c _ f d _ (by show 1408 + f.val = t.val % 2 * 1408 + f.val; omega)
  unfold result layer
  rw [sum_tiles]
  simp only [ex, ex', eg, gate0, gate1, up0, up1, down0, down1]

/-- The kernel's result array at row `R`, column `d`. -/
theorem final (c : Dev nD) (R : Fin 32768) (d : Fin 1024) :
    (G5 m c : S32768x1024.Idx → EReal) (ix2 R d) = result m c R d := by
  have hN : cfg0.N = 64 := N_0
  have hpt : pt5Of (ix2 R d) = 2 * (R.val / 1024) + 1 := by
    show 2 * (1 * (R.val / 1024 - 0) + 1 * (d.val / 1024 - 0)) + 1 = _
    have := d.isLt; omega
  have hlt : 2 * (R.val / 1024) + 1 < cfg0.N := by have := R.isLt; omega
  unfold G5
  rw [dif_pos (by rw [hpt]; exact hlt)]
  have key := block_eq m c ⟨2 * (R.val / 1024) + 1, hlt⟩ (by show (2 * (R.val / 1024) + 1) % 2 = 1; omega)
    ⟨R.val % 1024, Nat.mod_lt _ (by decide)⟩ d R (by show R.val = (2 * (R.val / 1024) + 1) / 2 * 1024 + R.val % 1024; omega)
  have hl : loc5Of (ix2 R d) = (ix2 ⟨R.val % 1024, Nat.mod_lt _ (by decide)⟩ d : S1024x1024.Idx) := by
    funext a; apply Fin.ext
    match a with
    | ⟨0, _⟩ => rfl
    | ⟨1, _⟩ => show d.val % 1024 = d.val; exact Nat.mod_eq_of_lt d.isLt
  rw [← key, outsAt0_sweep, hl]
  exact congrFun (congrArg Prod.fst (fold0_congr m c _ _ _ _ hpt)) _

end Cert.KFfnIdeal.Layer

end
-- ==== Proof.FfnClaim.lean ====
/-
  The feed-forward kernel and the reference's feed-forward layer end with equal results.
-/
module

public import proofs.«01_k».proof.Defs
public import proofs.«01_k».proof.Proof.FfnRef
public import proofs.«01_k».proof.Proof.FfnValue

@[expose] public section

noncomputable section

namespace Cert.Ffn

open Idealize.ShloMosaic Idealize.ShloMosaic.TcCoe Idealize.SL.Sem

theorem equal : Cert.algebraic_KFfnIdeal_RFfnIdeal := by
  intro m g m' g' _ hagree
  refine ⟨fun c => Cert.KFfnIdeal.Value.G5 m c, Cert.KFfnIdeal.Value.run m g, ?_⟩
  refine (θ_run _ _ _).mono (fun r h c => ⟨(h c).1.trans ?_, (h c).2⟩) (Cert.RFfnIdeal.Value.run m' g')
  obtain ⟨h0, h1, h2, h3, h4⟩ := hagree c
  rw [h0, h1, h2, h3, h4]
  refine (Cert.RFfnIdeal.Read.val_main_v21_eq (F := Ideal) _ _ _ _ _).trans ?_
  funext i
  obtain ⟨R, d, rfl⟩ : ∃ (R : Fin 32768) (d : Fin 1024), i = ix2 R d := ⟨i 0, i 1, eq_ix2 i⟩
  exact (Cert.RFfnIdeal.Layer.read _ _ _ _ _ R d).trans (Cert.KFfnIdeal.Layer.final m c R d).symm

end Cert.Ffn

end
-- ==== Proof.ShiftRef.lean ====
/-
  The reference's lines for this call, read at an entry of the result.
-/
module

public import proofs.«01_k».proof.Proof.FfnSpec
public import proofs.«01_k».proof.Proof.Gen.RShiftIdeal.Run
public import proofs.«01_k».proof.Proof.Gen.RShiftIdeal.Read

@[expose] public section

noncomputable section

namespace Cert.RShiftIdeal.Layer

open Cert.RShiftIdeal Idealize.ShloMosaic Cert.Ffn

theorem read (x : (⟨S4x8192x1024, .f32⟩ : BufTy).Contents (Elt Ideal)) (g : (⟨S1024, .f32⟩ : BufTy).Contents (Elt Ideal))
    (R : Fin 4) (d : Fin 1024) :
    Read.val_main_v14 (F := Ideal) x g (ix2 R d)
      = normed (fun k => x (ix3 R 8191 k)) (fun k => g (ix1 k)) d := by
  rw [← Read.val_main_v14_eq]
  unfold normed
  pointwise

end Cert.RShiftIdeal.Layer

end
-- ==== Proof.ShiftValue.lean ====
/-
  The row-normalising call's result array, read at an entry: the RMS norm of that row.
-/
module

public import proofs.«01_k».proof.Proof.FfnSpec
public import proofs.«01_k».proof.Proof.Gen.KShiftIdeal.Value
public import Idealize.ShloMosaic.Lib.Tactic

@[expose] public section

noncomputable section

namespace Cert.KShiftIdeal.Layer

open Cert.KShiftIdeal Cert.KShiftIdeal.Gen Idealize.ShloMosaic Idealize.ShloMosaic.TcCoe Idealize.SL.Sem Cert.Ffn

theorem offsets_zero : (![0, 0] : Fin 2 → Nat) = fun _ => 0 := funext fun a => by fin_cases a <;> rfl

/-- What a grid point leaves in the output's block: the payload of its one store over the input blocks. -/
theorem out_eq {F : FTy → Type} [FloatOps F] (x0 : Vec F S4x1024 .f32) (x1 : Vec F S1x1024 .f32) :
    out0_2 x0 x1 = k0_pay1 x0 x1 := by
  unfold out0_2
  rw [View.canon_unit_zero offsets_zero]
  simp only [View.ld_unit_zero (S := S4x1024) offsets_zero, View.ld_unit_zero (S := S1x1024) offsets_zero]

theorem normed_apply (x : Vec Ideal S4x1024 .f32) (g : Vec Ideal S1x1024 .f32) (r : Fin 4) (k : Fin 1024) :
    k0_pay1 (F := Ideal) x g (ix2 r k) = normed (fun k => x (ix2 r k)) (fun k => g (ix2 0 k)) k := by
  unfold_payloads
  unfold normed
  pointwise

variable (m : (ℓ : Loc nD τ sig) → Buf (Elt Ideal) ℓ)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem flush2 : ∀ t : Fin cfg0.N, (cfg0.win 2).flush t = true := by decide +kernel

/-- The arguments by plain indices: the last position of each sequence. -/
abbrev argX (c : Dev nD) (b : Fin 4) (k : Fin 1024) : EReal :=
  (m ((c : Thread nD τ).loc main_arg0) : S4x8192x1024.Idx → EReal) (ix3 b 8191 k)
abbrev argG (c : Dev nD) (k : Fin 1024) : EReal := (m ((c : Thread nD τ).loc main_arg1) : S1024.Idx → EReal) (ix1 k)

theorem at_x (c : Dev nD) : (V m c main_v1 : S4x1024.Idx → EReal)
    = shapeCast S4x1024 (extractStridedSlice S4x1x1024 ![0, 8191, 0] (m ((c : Thread nD τ).loc main_arg0)) slices_S4x8192x1024_S4x1x1024_0_8191_0) shapeCasts_S4x1x1024_S4x1024 := by
  unfold V; simp only [hostOps0]; after_results_simp; rfl
theorem at_gain (c : Dev nD) : (V m c main_v2 : S1x1024.Idx → EReal)
    = shapeCast S1x1024 (m ((c : Thread nD τ).loc main_arg1)) shapeCasts_S1024_S1x1024 := by
  unfold V; simp only [hostOps0]; after_results_simp; rfl

theorem blk_x (c : Dev nD) (t : Fin cfg0.N) (r : Fin 4) (k : Fin 1024) (R : Fin 4) (hR : R.val = t.val * 4 + r.val) :
    (iblk m c 0 t : S4x1024.Idx → EReal) (ix2 r k) = argX m c R k := by
  unfold iblk
  rw [View.read_apply]
  show (V m c main_v1 : S4x1024.Idx → EReal) _ = _
  have he : ((cfg0.win 0).blk t).view.emb (ix2 r k) = (ix2 R k : S4x1024.Idx) := by
    funext a; apply Fin.ext
    match a with
    | ⟨0, _⟩ => show win0_0.index t 0 * 4 + 1 * r.val = R.val; rw [index0, hR]; simp
    | ⟨1, _⟩ => show win0_0.index t 1 * 1024 + 1 * k.val = k.val; rw [index0]; simp
  rw [at_x, he]
  pointwise

theorem blk_gain (c : Dev nD) (t : Fin cfg0.N) (k : Fin 1024) :
    (iblk m c 1 t : S1x1024.Idx → EReal) (ix2 0 k) = argG m c k := by
  unfold iblk
  rw [View.read_apply]
  show (V m c main_v2 : S1x1024.Idx → EReal) _ = _
  have he : ((cfg0.win 1).blk t).view.emb (ix2 0 k : S1x1024.Idx) = (ix2 0 k : S1x1024.Idx) := by
    funext a; apply Fin.ext
    match a with
    | ⟨0, _⟩ => show win0_1.index t 0 * 1 + 1 * 0 = 0; rw [index1]; simp
    | ⟨1, _⟩ => show win0_1.index t 1 * 1024 + 1 * k.val = k.val; rw [index1]; simp
  rw [at_gain, he]
  pointwise

/-- The call's result array at row `R`, column `d`. -/
theorem final (c : Dev nD) (R : Fin 4) (d : Fin 1024) :
    ((dats m 0 c).arrAt 2 cfg0.N : S4x1024.Idx → EReal) (ix2 R d) = normed (argX m c R) (argG m c) d := by
  have hN : cfg0.N = 1 := N_0
  have hlt : R.val / 4 < cfg0.N := by have := R.isLt; omega
  have key := congrFun (Value.blocks2 m c ⟨R.val / 4, hlt⟩ (flush2 _)) (ix2 ⟨R.val % 4, Nat.mod_lt _ (by decide)⟩ d : S4x1024.Idx)
  rw [View.read_apply] at key
  have he : ((cfg0.win 2).blk ⟨R.val / 4, hlt⟩).view.emb (ix2 ⟨R.val % 4, Nat.mod_lt _ (by decide)⟩ d : S4x1024.Idx)
      = (ix2 R d : S4x1024.Idx) := by
    funext a; apply Fin.ext
    match a with
    | ⟨0, _⟩ =>
      show win0_2.index _ 0 * 4 + 1 * (R.val % 4) = R.val
      rw [index2]; show R.val / 4 * 4 + 1 * (R.val % 4) = R.val; omega
    | ⟨1, _⟩ => show win0_2.index _ 1 * 1024 + 1 * d.val = d.val; rw [index2]; simp
  rw [he, Value.flushed2, out_eq] at key
  refine key.trans ((normed_apply _ _ ⟨R.val % 4, Nat.mod_lt _ (by decide)⟩ d).trans ?_)
  have ex : ∀ k, (iblk m c 0 ⟨R.val / 4, hlt⟩ : S4x1024.Idx → EReal) (ix2 ⟨R.val % 4, Nat.mod_lt _ (by decide)⟩ k) = argX m c R k :=
    fun k => blk_x m c _ _ k R (by show R.val = R.val / 4 * 4 + R.val % 4; omega)
  simp only [ex, blk_gain]

end Cert.KShiftIdeal.Layer

end
-- ==== Proof.ShiftClaim.lean ====
/-
  The call and the reference's lines for it end with equal results.
-/
module

public import proofs.«01_k».proof.Defs
public import proofs.«01_k».proof.Proof.ShiftRef
public import proofs.«01_k».proof.Proof.ShiftValue

@[expose] public section

noncomputable section

namespace Cert.Shift

open Idealize.ShloMosaic Idealize.ShloMosaic.TcCoe Idealize.SL.Sem

theorem equal : Cert.algebraic_KShiftIdeal_RShiftIdeal := by
  intro m g m' g' _ hagree
  refine ⟨fun c => (Cert.KShiftIdeal.Gen.dats m 0 c).arrAt 2 Cert.KShiftIdeal.cfg0.N, Cert.KShiftIdeal.Value.run_blocks m g, ?_⟩
  refine (θ_run _ _ _).mono (fun r h c => ⟨(h c).1.trans ?_, (h c).2⟩) (Cert.RShiftIdeal.Value.run m' g')
  obtain ⟨h0, h1⟩ := hagree c
  rw [h0, h1]
  refine (Cert.RShiftIdeal.Read.val_main_v14_eq (F := Ideal) _ _).trans ?_
  funext i
  obtain ⟨R, d, rfl⟩ : ∃ (R : Fin 4) (d : Fin 1024), i = ix2 R d := ⟨i 0, i 1, eq_ix2 i⟩
  exact (Cert.RShiftIdeal.Layer.read _ _ R d).trans (Cert.KShiftIdeal.Layer.final m c R d).symm

end Cert.Shift

end
-- ==== Proof.NormRef.lean ====
/-
  The reference's lines for this call, read at an entry of the result.
-/
module

public import proofs.«01_k».proof.Proof.FfnSpec
public import proofs.«01_k».proof.Proof.Gen.RNormIdeal.Run
public import proofs.«01_k».proof.Proof.Gen.RNormIdeal.Read

@[expose] public section

noncomputable section

namespace Cert.RNormIdeal.Layer

open Cert.RNormIdeal Idealize.ShloMosaic Cert.Ffn

theorem read (x : (⟨S4x8192x1024, .f32⟩ : BufTy).Contents (Elt Ideal)) (g : (⟨S1024, .f32⟩ : BufTy).Contents (Elt Ideal))
    (R : Fin 32768) (d : Fin 1024) :
    Read.val_main_v13 (F := Ideal) x g (ix2 R d)
      = normed (fun k => x (ix3 ⟨R.val / 8192, by omega⟩ ⟨R.val % 8192, Nat.mod_lt _ (by decide)⟩ k)) (fun k => g (ix1 k)) d := by
  rw [← Read.val_main_v13_eq]
  unfold normed
  pointwise

end Cert.RNormIdeal.Layer

end
-- ==== Proof.NormValue.lean ====
/-
  The row-normalising call's result array, read at an entry: the RMS norm of that row.
-/
module

public import proofs.«01_k».proof.Proof.FfnSpec
public import proofs.«01_k».proof.Proof.Gen.KNormIdeal.Value
public import Idealize.ShloMosaic.Lib.Tactic

@[expose] public section

noncomputable section

namespace Cert.KNormIdeal.Layer

open Cert.KNormIdeal Cert.KNormIdeal.Gen Idealize.ShloMosaic Idealize.ShloMosaic.TcCoe Idealize.SL.Sem Cert.Ffn

theorem offsets_zero : (![0, 0] : Fin 2 → Nat) = fun _ => 0 := funext fun a => by fin_cases a <;> rfl

/-- What a grid point leaves in the output's block: the payload of its one store over the input blocks. -/
theorem out_eq {F : FTy → Type} [FloatOps F] (x0 : Vec F S1024x1024 .f32) (x1 : Vec F S1x1024 .f32) :
    out0_2 x0 x1 = k0_pay1 x0 x1 := by
  unfold out0_2
  rw [View.canon_unit_zero offsets_zero]
  simp only [View.ld_unit_zero (S := S1024x1024) offsets_zero, View.ld_unit_zero (S := S1x1024) offsets_zero]

theorem normed_apply (x : Vec Ideal S1024x1024 .f32) (g : Vec Ideal S1x1024 .f32) (r : Fin 1024) (k : Fin 1024) :
    k0_pay1 (F := Ideal) x g (ix2 r k) = normed (fun k => x (ix2 r k)) (fun k => g (ix2 0 k)) k := by
  unfold_payloads
  unfold normed
  pointwise

variable (m : (ℓ : Loc nD τ sig) → Buf (Elt Ideal) ℓ)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem flush2 : ∀ t : Fin cfg0.N, (cfg0.win 2).flush t = true := by decide +kernel

/-- The arguments by plain indices. -/
abbrev argX (c : Dev nD) (r : Fin 32768) (k : Fin 1024) : EReal :=
  (m ((c : Thread nD τ).loc main_arg0) : S4x8192x1024.Idx → EReal)
    (ix3 ⟨r.val / 8192, by omega⟩ ⟨r.val % 8192, Nat.mod_lt _ (by decide)⟩ k)
abbrev argG (c : Dev nD) (k : Fin 1024) : EReal := (m ((c : Thread nD τ).loc main_arg1) : S1024.Idx → EReal) (ix1 k)

theorem at_x (c : Dev nD) : (V m c main_v0 : S32768x1024.Idx → EReal)
    = shapeCast S32768x1024 (m ((c : Thread nD τ).loc main_arg0)) shapeCasts_S4x8192x1024_S32768x1024 := by
  unfold V; simp only [hostOps0]; after_results_simp; rfl
theorem at_gain (c : Dev nD) : (V m c main_v1 : S1x1024.Idx → EReal)
    = shapeCast S1x1024 (m ((c : Thread nD τ).loc main_arg1)) shapeCasts_S1024_S1x1024 := by
  unfold V; simp only [hostOps0]; after_results_simp; rfl

theorem blk_x (c : Dev nD) (t : Fin cfg0.N) (r k : Fin 1024) (R : Fin 32768) (hR : R.val = t.val * 1024 + r.val) :
    (iblk m c 0 t : S1024x1024.Idx → EReal) (ix2 r k) = argX m c R k := by
  unfold iblk
  rw [View.read_apply]
  show (V m c main_v0 : S32768x1024.Idx → EReal) _ = _
  have he : ((cfg0.win 0).blk t).view.emb (ix2 r k) = (ix2 R k : S32768x1024.Idx) := by
    funext a; apply Fin.ext
    match a with
    | ⟨0, _⟩ => show win0_0.index t 0 * 1024 + 1 * r.val = R.val; rw [index0, hR]; simp
    | ⟨1, _⟩ => show win0_0.index t 1 * 1024 + 1 * k.val = k.val; rw [index0]; simp
  rw [at_x, he]
  refine (shapeCast_apply _ _ _ _ ?_)
  show (S4x8192x1024.rowMajor (ix3 _ _ k)).val = (S32768x1024.rowMajor (ix2 R k)).val
  rewrite [Shape.rowMajor_val_three, Shape.rowMajor_val_two]
  show (R.val / 8192 * 8192 + R.val % 8192) * 1024 + k.val = R.val * 1024 + k.val
  omega

theorem blk_gain (c : Dev nD) (t : Fin cfg0.N) (k : Fin 1024) :
    (iblk m c 1 t : S1x1024.Idx → EReal) (ix2 0 k) = argG m c k := by
  unfold iblk
  rw [View.read_apply]
  show (V m c main_v1 : S1x1024.Idx → EReal) _ = _
  have he : ((cfg0.win 1).blk t).view.emb (ix2 0 k : S1x1024.Idx) = (ix2 0 k : S1x1024.Idx) := by
    funext a; apply Fin.ext
    match a with
    | ⟨0, _⟩ => show win0_1.index t 0 * 1 + 1 * 0 = 0; rw [index1]; simp
    | ⟨1, _⟩ => show win0_1.index t 1 * 1024 + 1 * k.val = k.val; rw [index1]; simp
  rw [at_gain, he]
  pointwise

/-- The call's result array at row `R`, column `d`. -/
theorem final (c : Dev nD) (R : Fin 32768) (d : Fin 1024) :
    ((dats m 0 c).arrAt 2 cfg0.N : S32768x1024.Idx → EReal) (ix2 R d) = normed (argX m c R) (argG m c) d := by
  have hN : cfg0.N = 32 := N_0
  have hlt : R.val / 1024 < cfg0.N := by have := R.isLt; omega
  have key := congrFun (Value.blocks2 m c ⟨R.val / 1024, hlt⟩ (flush2 _)) (ix2 ⟨R.val % 1024, Nat.mod_lt _ (by decide)⟩ d : S1024x1024.Idx)
  rw [View.read_apply] at key
  have he : ((cfg0.win 2).blk ⟨R.val / 1024, hlt⟩).view.emb (ix2 ⟨R.val % 1024, Nat.mod_lt _ (by decide)⟩ d : S1024x1024.Idx)
      = (ix2 R d : S32768x1024.Idx) := by
    funext a; apply Fin.ext
    match a with
    | ⟨0, _⟩ =>
      show win0_2.index _ 0 * 1024 + 1 * (R.val % 1024) = R.val
      rw [index2]; show R.val / 1024 * 1024 + 1 * (R.val % 1024) = R.val; omega
    | ⟨1, _⟩ => show win0_2.index _ 1 * 1024 + 1 * d.val = d.val; rw [index2]; simp
  rw [he, Value.flushed2, out_eq] at key
  refine key.trans ((normed_apply _ _ ⟨R.val % 1024, Nat.mod_lt _ (by decide)⟩ d).trans ?_)
  have ex : ∀ k, (iblk m c 0 ⟨R.val / 1024, hlt⟩ : S1024x1024.Idx → EReal) (ix2 ⟨R.val % 1024, Nat.mod_lt _ (by decide)⟩ k) = argX m c R k :=
    fun k => blk_x m c _ _ k R (by show R.val = R.val / 1024 * 1024 + R.val % 1024; omega)
  simp only [ex, blk_gain]

end Cert.KNormIdeal.Layer

end
-- ==== Proof.NormClaim.lean ====
/-
  The call and the reference's lines for it end with equal results.
-/
module

public import proofs.«01_k».proof.Defs
public import proofs.«01_k».proof.Proof.NormRef
public import proofs.«01_k».proof.Proof.NormValue

@[expose] public section

noncomputable section

namespace Cert.Norm

open Idealize.ShloMosaic Idealize.ShloMosaic.TcCoe Idealize.SL.Sem

theorem equal : Cert.algebraic_KNormIdeal_RNormIdeal := by
  intro m g m' g' _ hagree
  refine ⟨fun c => (Cert.KNormIdeal.Gen.dats m 0 c).arrAt 2 Cert.KNormIdeal.cfg0.N, Cert.KNormIdeal.Value.run_blocks m g, ?_⟩
  refine (θ_run _ _ _).mono (fun r h c => ⟨(h c).1.trans ?_, (h c).2⟩) (Cert.RNormIdeal.Value.run m' g')
  obtain ⟨h0, h1⟩ := hagree c
  rw [h0, h1]
  refine (Cert.RNormIdeal.Read.val_main_v13_eq (F := Ideal) _ _).trans ?_
  funext i
  obtain ⟨R, d, rfl⟩ : ∃ (R : Fin 32768) (d : Fin 1024), i = ix2 R d := ⟨i 0, i 1, eq_ix2 i⟩
  exact (Cert.RNormIdeal.Layer.read _ _ R d).trans (Cert.KNormIdeal.Layer.final m c R d).symm

end Cert.Norm

end
-- ==== Proof.ProjRRef.lean ====
/-
  The reference's lines for this call, read at an entry of the result.
-/
module

public import proofs.«01_k».proof.Proof.FfnSpec
public import proofs.«01_k».proof.Proof.Gen.RProjRIdeal.Run
public import proofs.«01_k».proof.Proof.Gen.RProjRIdeal.Read

@[expose] public section

noncomputable section

namespace Cert.RProjRIdeal.Layer

open Cert.RProjRIdeal Idealize.ShloMosaic Cert.Ffn

theorem read (x : (⟨S4x8192x1024, .f32⟩ : BufTy).Contents (Elt Ideal)) (g : (⟨S1024, .f32⟩ : BufTy).Contents (Elt Ideal))
    (w : (⟨S1024x3328, .f32⟩ : BufTy).Contents (Elt Ideal))
    (R : Fin 32768) (d : Fin 1792) :
    Read.val_main_v15 (F := Ideal) x g w (ix2 R d)
      = ∑ k, normed (fun k => x (ix3 ⟨R.val / 8192, by omega⟩ ⟨R.val % 8192, Nat.mod_lt _ (by decide)⟩ k)) (fun k => g (ix1 k)) k * w (ix2 k ⟨d.val, by omega⟩) := by
  rw [← Read.val_main_v15_eq]
  unfold normed
  pointwise

end Cert.RProjRIdeal.Layer

end
-- ==== Proof.ProjRValue.lean ====
/-
  The projecting call's result array, read at an entry: the normalised row times the weight's column.
-/
module

public import proofs.«01_k».proof.Proof.FfnSpec
public import proofs.«01_k».proof.Proof.Gen.KProjRIdeal.Value
public import Idealize.ShloMosaic.Lib.Tactic

@[expose] public section

noncomputable section

namespace Cert.KProjRIdeal.Layer

open Cert.KProjRIdeal Cert.KProjRIdeal.Gen Idealize.ShloMosaic Idealize.ShloMosaic.TcCoe Idealize.SL.Sem Cert.Ffn

theorem offsets_zero : (![0, 0] : Fin 2 → Nat) = fun _ => 0 := funext fun a => by fin_cases a <;> rfl

/-- What a grid point leaves in the output's block: the product payload over the normalised rows it has just stored. -/
theorem out_eq {F : FTy → Type} [FloatOps F] (c : Dev nD) (i : grid0.Coords)
    (a2 : Memref sig .tc .vmem S1024x1024 .f32) (h2 : a2.IsWhole) (a3 : Memref sig .tc .vmem S1x1024 .f32) (h3 : a3.IsWhole)
    (a4 : Memref sig .tc .vmem S1024x1792 .bf16) (h4 : a4.IsWhole) (a5 : Memref sig .tc .vmem S1024x1792 .f32) (h5 : a5.IsWhole)
    (a6 : Memref sig .tc .vmem S1024x1024 .bf16) (h6 : a6.IsWhole) (hc : cond0_0 i)
    (x0 : Vec F S1024x1024 .f32) (x1 : Vec F S1x1024 .f32) (x2 : Vec F S1024x1792 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero offsets_zero]
  simp only [View.readCov_unit_zero (S := S1024x1024) _ offsets_zero, View.readAt_eq_ld, h2.read_unread, h3.read_unread,
    h4.read_unread, View.ld_unit_zero (S := S1024x1024) offsets_zero,
    View.ld_unit_zero (S := S1x1024) offsets_zero, View.ld_unit_zero (S := S1024x1792) offsets_zero]

theorem product_apply (h : Vec Ideal S1024x1024 .bf16) (w : Vec Ideal S1024x1792 .bf16) (r : Fin 1024) (d : Fin 1792) :
    k0_pay2 (F := Ideal) h w (ix2 r d) = ∑ k, h (ix2 r k) * w (ix2 k d) := by
  unfold_payloads
  pointwise

theorem normed_apply (x : Vec Ideal S1024x1024 .f32) (g : Vec Ideal S1x1024 .f32) (r : Fin 1024) (k : Fin 1024) :
    k0_pay1 (F := Ideal) x g (ix2 r k) = normed (fun k => x (ix2 r k)) (fun k => g (ix2 0 k)) k := by
  unfold_payloads
  unfold normed
  pointwise

variable (m : (ℓ : Loc nD τ sig) → Buf (Elt Ideal) ℓ)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val, 0] := by decide +kernel
theorem flush3 : ∀ t : Fin cfg0.N, (cfg0.win 3).flush t = true := by decide +kernel

/-- The arguments by plain indices. -/
abbrev argX (c : Dev nD) (r : Fin 32768) (k : Fin 1024) : EReal :=
  (m ((c : Thread nD τ).loc main_arg0) : S4x8192x1024.Idx → EReal)
    (ix3 ⟨r.val / 8192, by omega⟩ ⟨r.val % 8192, Nat.mod_lt _ (by decide)⟩ k)
abbrev argG (c : Dev nD) (k : Fin 1024) : EReal := (m ((c : Thread nD τ).loc main_arg1) : S1024.Idx → EReal) (ix1 k)

theorem at_x (c : Dev nD) : (V m c main_v0 : S32768x1024.Idx → EReal)
    = shapeCast S32768x1024 (m ((c : Thread nD τ).loc main_arg0)) shapeCasts_S4x8192x1024_S32768x1024 := by
  unfold V; simp only [hostOps0]; after_results_simp; rfl
theorem at_gain (c : Dev nD) : (V m c main_v3 : S1x1024.Idx → EReal)
    = shapeCast S1x1024 (m ((c : Thread nD τ).loc main_arg1)) shapeCasts_S1024_S1x1024 := by
  unfold V; simp only [hostOps0]; after_results_simp; rfl

theorem blk_x (c : Dev nD) (t : Fin cfg0.N) (r k : Fin 1024) (R : Fin 32768) (hR : R.val = t.val * 1024 + r.val) :
    (iblk m c 0 t : S1024x1024.Idx → EReal) (ix2 r k) = argX m c R k := by
  unfold iblk
  rw [View.read_apply]
  show (V m c main_v0 : S32768x1024.Idx → EReal) _ = _
  have he : ((cfg0.win 0).blk t).view.emb (ix2 r k) = (ix2 R k : S32768x1024.Idx) := by
    funext a; apply Fin.ext
    match a with
    | ⟨0, _⟩ => show win0_0.index t 0 * 1024 + 1 * r.val = R.val; rw [index0, hR]; simp
    | ⟨1, _⟩ => show win0_0.index t 1 * 1024 + 1 * k.val = k.val; rw [index0]; simp
  rw [at_x, he]
  refine (shapeCast_apply _ _ _ _ ?_)
  show (S4x8192x1024.rowMajor (ix3 _ _ k)).val = (S32768x1024.rowMajor (ix2 R k)).val
  rewrite [Shape.rowMajor_val_three, Shape.rowMajor_val_two]
  show (R.val / 8192 * 8192 + R.val % 8192) * 1024 + k.val = R.val * 1024 + k.val
  omega

theorem blk_gain (c : Dev nD) (t : Fin cfg0.N) (k : Fin 1024) :
    (iblk m c 1 t : S1x1024.Idx → EReal) (ix2 0 k) = argG m c k := by
  unfold iblk
  rw [View.read_apply]
  show (V m c main_v3 : S1x1024.Idx → EReal) _ = _
  have he : ((cfg0.win 1).blk t).view.emb (ix2 0 k : S1x1024.Idx) = (ix2 0 k : S1x1024.Idx) := by
    funext a; apply Fin.ext
    match a with
    | ⟨0, _⟩ => show win0_1.index t 0 * 1 + 1 * 0 = 0; rw [index1]; simp
    | ⟨1, _⟩ => show win0_1.index t 1 * 1024 + 1 * k.val = k.val; rw [index1]; simp
  rw [at_gain, he]
  pointwise

abbrev argW (c : Dev nD) (k : Fin 1024) (d : Fin 1792) : EReal :=
  (m ((c : Thread nD τ).loc main_arg2) : S1024x3328.Idx → EReal) (ix2 k ⟨d.val, by omega⟩)

theorem at_w (c : Dev nD) : (V m c main_v2 : S1024x1792.Idx → EReal)
    = extractStridedSlice S1024x1792 ![0, 0] (m ((c : Thread nD τ).loc main_arg2)) slices_S1024x3328_S1024x1792_0_0 := by
  unfold V; simp only [hostOps0]; after_results_simp; rfl

theorem blk_w (c : Dev nD) (t : Fin cfg0.N) (k : Fin 1024) (d : Fin 1792) :
    (iblk m c 2 t : S1024x1792.Idx → EReal) (ix2 k d) = argW m c k d := by
  unfold iblk
  rw [View.read_apply]
  show (V m c main_v2 : S1024x1792.Idx → EReal) _ = _
  have he : ((cfg0.win 2).blk t).view.emb (ix2 k d : S1024x1792.Idx) = (ix2 k d : S1024x1792.Idx) := by
    funext a; apply Fin.ext
    match a with
    | ⟨0, _⟩ => show win0_2.index t 0 * 1024 + 1 * k.val = k.val; rw [index2]; simp
    | ⟨1, _⟩ => show win0_2.index t 1 * 1792 + 1 * d.val = d.val; rw [index2]; simp
  rw [at_w, he]
  pointwise

/-- The call's result array at row `R`, column `d`. -/
theorem final (c : Dev nD) (R : Fin 32768) (d : Fin 1792) :
    ((dats m 0 c).arrAt 3 cfg0.N : S32768x1792.Idx → EReal) (ix2 R d)
      = ∑ k, normed (argX m c R) (argG m c) k * argW m c k d := by
  have hN : cfg0.N = 32 := N_0
  have hlt : R.val / 1024 < cfg0.N := by have := R.isLt; omega
  have key := congrFun (Value.blocks3 m c ⟨R.val / 1024, hlt⟩ (flush3 _)) (ix2 ⟨R.val % 1024, Nat.mod_lt _ (by decide)⟩ d : S1024x1792.Idx)
  rw [View.read_apply] at key
  have he : ((cfg0.win 3).blk ⟨R.val / 1024, hlt⟩).view.emb (ix2 ⟨R.val % 1024, Nat.mod_lt _ (by decide)⟩ d : S1024x1792.Idx)
      = (ix2 R d : S32768x1792.Idx) := by
    funext a; apply Fin.ext
    match a with
    | ⟨0, _⟩ =>
      show win0_3.index _ 0 * 1024 + 1 * (R.val % 1024) = R.val
      rw [index3]; show R.val / 1024 * 1024 + 1 * (R.val % 1024) = R.val; omega
    | ⟨1, _⟩ => show win0_3.index _ 1 * 1792 + 1 * d.val = d.val; rw [index3]; simp
  rw [he, Value.flushed3_A, out_eq] at key
  refine key.trans ((product_apply _ _ ⟨R.val % 1024, Nat.mod_lt _ (by decide)⟩ d).trans ?_)
  have ex : ∀ k, (iblk m c 0 ⟨R.val / 1024, hlt⟩ : S1024x1024.Idx → EReal) (ix2 ⟨R.val % 1024, Nat.mod_lt _ (by decide)⟩ k) = argX m c R k :=
    fun k => blk_x m c _ _ k R (by show R.val = R.val / 1024 * 1024 + R.val % 1024; omega)
  simp only [normed_apply, ex, blk_gain, blk_w]

end Cert.KProjRIdeal.Layer

end
-- ==== Proof.ProjRClaim.lean ====
/-
  The call and the reference's lines for it end with equal results.
-/
module

public import proofs.«01_k».proof.Defs
public import proofs.«01_k».proof.Proof.ProjRRef
public import proofs.«01_k».proof.Proof.ProjRValue

@[expose] public section

noncomputable section

namespace Cert.ProjR

open Idealize.ShloMosaic Idealize.ShloMosaic.TcCoe Idealize.SL.Sem

theorem equal : Cert.algebraic_KProjRIdeal_RProjRIdeal := by
  intro m g m' g' _ hagree
  refine ⟨fun c => (Cert.KProjRIdeal.Gen.dats m 0 c).arrAt 3 Cert.KProjRIdeal.cfg0.N, Cert.KProjRIdeal.Value.run_blocks m g, ?_⟩
  refine (θ_run _ _ _).mono (fun r h c => ⟨(h c).1.trans ?_, (h c).2⟩) (Cert.RProjRIdeal.Value.run m' g')
  obtain ⟨h0, h1, h2⟩ := hagree c
  rw [h0, h1, h2]
  refine (Cert.RProjRIdeal.Read.val_main_v15_eq (F := Ideal) _ _ _).trans ?_
  funext i
  obtain ⟨R, d, rfl⟩ : ∃ (R : Fin 32768) (d : Fin 1792), i = ix2 R d := ⟨i 0, i 1, eq_ix2 i⟩
  exact (Cert.RProjRIdeal.Layer.read _ _ _ R d).trans (Cert.KProjRIdeal.Layer.final m c R d).symm

end Cert.ProjR

end
-- ==== Proof.ProjMRef.lean ====
/-
  The reference's lines for this call, read at an entry of the result.
-/
module

public import proofs.«01_k».proof.Proof.FfnSpec
public import proofs.«01_k».proof.Proof.Gen.RProjMIdeal.Run
public import proofs.«01_k».proof.Proof.Gen.RProjMIdeal.Read

@[expose] public section

noncomputable section

namespace Cert.RProjMIdeal.Layer

open Cert.RProjMIdeal Idealize.ShloMosaic Cert.Ffn

theorem read (x : (⟨S4x8192x1024, .f32⟩ : BufTy).Contents (Elt Ideal)) (g : (⟨S1024, .f32⟩ : BufTy).Contents (Elt Ideal))
    (w : (⟨S1024x3328, .f32⟩ : BufTy).Contents (Elt Ideal))
    (R : Fin 32768) (d : Fin 1536) :
    Read.val_main_v15 (F := Ideal) x g w (ix2 R d)
      = ∑ k, normed (fun k => x (ix3 ⟨R.val / 8192, by omega⟩ ⟨R.val % 8192, Nat.mod_lt _ (by decide)⟩ k)) (fun k => g (ix1 k)) k * w (ix2 k ⟨1792 + d.val, by omega⟩) := by
  rw [← Read.val_main_v15_eq]
  unfold normed
  pointwise

end Cert.RProjMIdeal.Layer

end
-- ==== Proof.ProjMValue.lean ====
/-
  The projecting call's result array, read at an entry: the normalised row times the weight's column.
-/
module

public import proofs.«01_k».proof.Proof.FfnSpec
public import proofs.«01_k».proof.Proof.Gen.KProjMIdeal.Value
public import Idealize.ShloMosaic.Lib.Tactic

@[expose] public section

noncomputable section

namespace Cert.KProjMIdeal.Layer

open Cert.KProjMIdeal Cert.KProjMIdeal.Gen Idealize.ShloMosaic Idealize.ShloMosaic.TcCoe Idealize.SL.Sem Cert.Ffn

theorem offsets_zero : (![0, 0] : Fin 2 → Nat) = fun _ => 0 := funext fun a => by fin_cases a <;> rfl

/-- What a grid point leaves in the output's block: the product payload over the normalised rows it has just stored. -/
theorem out_eq {F : FTy → Type} [FloatOps F] (c : Dev nD) (i : grid0.Coords)
    (a2 : Memref sig .tc .vmem S1024x1024 .f32) (h2 : a2.IsWhole) (a3 : Memref sig .tc .vmem S1x1024 .f32) (h3 : a3.IsWhole)
    (a4 : Memref sig .tc .vmem S1024x1536 .bf16) (h4 : a4.IsWhole) (a5 : Memref sig .tc .vmem S1024x1536 .f32) (h5 : a5.IsWhole)
    (a6 : Memref sig .tc .vmem S1024x1024 .bf16) (h6 : a6.IsWhole) (hc : cond0_0 i)
    (x0 : Vec F S1024x1024 .f32) (x1 : Vec F S1x1024 .f32) (x2 : Vec F S1024x1536 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero offsets_zero]
  simp only [View.readCov_unit_zero (S := S1024x1024) _ offsets_zero, View.readAt_eq_ld, h2.read_unread, h3.read_unread,
    h4.read_unread, View.ld_unit_zero (S := S1024x1024) offsets_zero,
    View.ld_unit_zero (S := S1x1024) offsets_zero, View.ld_unit_zero (S := S1024x1536) offsets_zero]

theorem product_apply (h : Vec Ideal S1024x1024 .bf16) (w : Vec Ideal S1024x1536 .bf16) (r : Fin 1024) (d : Fin 1536) :
    k0_pay2 (F := Ideal) h w (ix2 r d) = ∑ k, h (ix2 r k) * w (ix2 k d) := by
  unfold_payloads
  pointwise

theorem normed_apply (x : Vec Ideal S1024x1024 .f32) (g : Vec Ideal S1x1024 .f32) (r : Fin 1024) (k : Fin 1024) :
    k0_pay1 (F := Ideal) x g (ix2 r k) = normed (fun k => x (ix2 r k)) (fun k => g (ix2 0 k)) k := by
  unfold_payloads
  unfold normed
  pointwise

variable (m : (ℓ : Loc nD τ sig) → Buf (Elt Ideal) ℓ)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val, 0] := by decide +kernel
theorem flush3 : ∀ t : Fin cfg0.N, (cfg0.win 3).flush t = true := by decide +kernel

/-- The arguments by plain indices. -/
abbrev argX (c : Dev nD) (r : Fin 32768) (k : Fin 1024) : EReal :=
  (m ((c : Thread nD τ).loc main_arg0) : S4x8192x1024.Idx → EReal)
    (ix3 ⟨r.val / 8192, by omega⟩ ⟨r.val % 8192, Nat.mod_lt _ (by decide)⟩ k)
abbrev argG (c : Dev nD) (k : Fin 1024) : EReal := (m ((c : Thread nD τ).loc main_arg1) : S1024.Idx → EReal) (ix1 k)

theorem at_x (c : Dev nD) : (V m c main_v0 : S32768x1024.Idx → EReal)
    = shapeCast S32768x1024 (m ((c : Thread nD τ).loc main_arg0)) shapeCasts_S4x8192x1024_S32768x1024 := by
  unfold V; simp only [hostOps0]; after_results_simp; rfl
theorem at_gain (c : Dev nD) : (V m c main_v3 : S1x1024.Idx → EReal)
    = shapeCast S1x1024 (m ((c : Thread nD τ).loc main_arg1)) shapeCasts_S1024_S1x1024 := by
  unfold V; simp only [hostOps0]; after_results_simp; rfl

theorem blk_x (c : Dev nD) (t : Fin cfg0.N) (r k : Fin 1024) (R : Fin 32768) (hR : R.val = t.val * 1024 + r.val) :
    (iblk m c 0 t : S1024x1024.Idx → EReal) (ix2 r k) = argX m c R k := by
  unfold iblk
  rw [View.read_apply]
  show (V m c main_v0 : S32768x1024.Idx → EReal) _ = _
  have he : ((cfg0.win 0).blk t).view.emb (ix2 r k) = (ix2 R k : S32768x1024.Idx) := by
    funext a; apply Fin.ext
    match a with
    | ⟨0, _⟩ => show win0_0.index t 0 * 1024 + 1 * r.val = R.val; rw [index0, hR]; simp
    | ⟨1, _⟩ => show win0_0.index t 1 * 1024 + 1 * k.val = k.val; rw [index0]; simp
  rw [at_x, he]
  refine (shapeCast_apply _ _ _ _ ?_)
  show (S4x8192x1024.rowMajor (ix3 _ _ k)).val = (S32768x1024.rowMajor (ix2 R k)).val
  rewrite [Shape.rowMajor_val_three, Shape.rowMajor_val_two]
  show (R.val / 8192 * 8192 + R.val % 8192) * 1024 + k.val = R.val * 1024 + k.val
  omega

theorem blk_gain (c : Dev nD) (t : Fin cfg0.N) (k : Fin 1024) :
    (iblk m c 1 t : S1x1024.Idx → EReal) (ix2 0 k) = argG m c k := by
  unfold iblk
  rw [View.read_apply]
  show (V m c main_v3 : S1x1024.Idx → EReal) _ = _
  have he : ((cfg0.win 1).blk t).view.emb (ix2 0 k : S1x1024.Idx) = (ix2 0 k : S1x1024.Idx) := by
    funext a; apply Fin.ext
    match a with
    | ⟨0, _⟩ => show win0_1.index t 0 * 1 + 1 * 0 = 0; rw [index1]; simp
    | ⟨1, _⟩ => show win0_1.index t 1 * 1024 + 1 * k.val = k.val; rw [index1]; simp
  rw [at_gain, he]
  pointwise

abbrev argW (c : Dev nD) (k : Fin 1024) (d : Fin 1536) : EReal :=
  (m ((c : Thread nD τ).loc main_arg2) : S1024x3328.Idx → EReal) (ix2 k ⟨1792 + d.val, by omega⟩)

theorem at_w (c : Dev nD) : (V m c main_v2 : S1024x1536.Idx → EReal)
    = extractStridedSlice S1024x1536 ![0, 1792] (m ((c : Thread nD τ).loc main_arg2)) slices_S1024x3328_S1024x1536_0_1792 := by
  unfold V; simp only [hostOps0]; after_results_simp; rfl

theorem blk_w (c : Dev nD) (t : Fin cfg0.N) (k : Fin 1024) (d : Fin 1536) :
    (iblk m c 2 t : S1024x1536.Idx → EReal) (ix2 k d) = argW m c k d := by
  unfold iblk
  rw [View.read_apply]
  show (V m c main_v2 : S1024x1536.Idx → EReal) _ = _
  have he : ((cfg0.win 2).blk t).view.emb (ix2 k d : S1024x1536.Idx) = (ix2 k d : S1024x1536.Idx) := by
    funext a; apply Fin.ext
    match a with
    | ⟨0, _⟩ => show win0_2.index t 0 * 1024 + 1 * k.val = k.val; rw [index2]; simp
    | ⟨1, _⟩ => show win0_2.index t 1 * 1536 + 1 * d.val = d.val; rw [index2]; simp
  rw [at_w, he]
  pointwise

/-- The call's result array at row `R`, column `d`. -/
theorem final (c : Dev nD) (R : Fin 32768) (d : Fin 1536) :
    ((dats m 0 c).arrAt 3 cfg0.N : S32768x1536.Idx → EReal) (ix2 R d)
      = ∑ k, normed (argX m c R) (argG m c) k * argW m c k d := by
  have hN : cfg0.N = 32 := N_0
  have hlt : R.val / 1024 < cfg0.N := by have := R.isLt; omega
  have key := congrFun (Value.blocks3 m c ⟨R.val / 1024, hlt⟩ (flush3 _)) (ix2 ⟨R.val % 1024, Nat.mod_lt _ (by decide)⟩ d : S1024x1536.Idx)
  rw [View.read_apply] at key
  have he : ((cfg0.win 3).blk ⟨R.val / 1024, hlt⟩).view.emb (ix2 ⟨R.val % 1024, Nat.mod_lt _ (by decide)⟩ d : S1024x1536.Idx)
      = (ix2 R d : S32768x1536.Idx) := by
    funext a; apply Fin.ext
    match a with
    | ⟨0, _⟩ =>
      show win0_3.index _ 0 * 1024 + 1 * (R.val % 1024) = R.val
      rw [index3]; show R.val / 1024 * 1024 + 1 * (R.val % 1024) = R.val; omega
    | ⟨1, _⟩ => show win0_3.index _ 1 * 1536 + 1 * d.val = d.val; rw [index3]; simp
  rw [he, Value.flushed3_A, out_eq] at key
  refine key.trans ((product_apply _ _ ⟨R.val % 1024, Nat.mod_lt _ (by decide)⟩ d).trans ?_)
  have ex : ∀ k, (iblk m c 0 ⟨R.val / 1024, hlt⟩ : S1024x1024.Idx → EReal) (ix2 ⟨R.val % 1024, Nat.mod_lt _ (by decide)⟩ k) = argX m c R k :=
    fun k => blk_x m c _ _ k R (by show R.val = R.val / 1024 * 1024 + R.val % 1024; omega)
  simp only [normed_apply, ex, blk_gain, blk_w]

end Cert.KProjMIdeal.Layer

end
-- ==== Proof.ProjMClaim.lean ====
/-
  The call and the reference's lines for it end with equal results.
-/
module

public import proofs.«01_k».proof.Defs
public import proofs.«01_k».proof.Proof.ProjMRef
public import proofs.«01_k».proof.Proof.ProjMValue

@[expose] public section

noncomputable section

namespace Cert.ProjM

open Idealize.ShloMosaic Idealize.ShloMosaic.TcCoe Idealize.SL.Sem

theorem equal : Cert.algebraic_KProjMIdeal_RProjMIdeal := by
  intro m g m' g' _ hagree
  refine ⟨fun c => (Cert.KProjMIdeal.Gen.dats m 0 c).arrAt 3 Cert.KProjMIdeal.cfg0.N, Cert.KProjMIdeal.Value.run_blocks m g, ?_⟩
  refine (θ_run _ _ _).mono (fun r h c => ⟨(h c).1.trans ?_, (h c).2⟩) (Cert.RProjMIdeal.Value.run m' g')
  obtain ⟨h0, h1, h2⟩ := hagree c
  rw [h0, h1, h2]
  refine (Cert.RProjMIdeal.Read.val_main_v15_eq (F := Ideal) _ _ _).trans ?_
  funext i
  obtain ⟨R, d, rfl⟩ : ∃ (R : Fin 32768) (d : Fin 1536), i = ix2 R d := ⟨i 0, i 1, eq_ix2 i⟩
  exact (Cert.RProjMIdeal.Layer.read _ _ _ R d).trans (Cert.KProjMIdeal.Layer.final m c R d).symm

end Cert.ProjM

end
-- ==== Proof.RopeSpec.lean ====
/-
  The rotary embedding over the extended reals: a head's 64 columns turned by the angles of one position.
-/
module

public import Idealize.ShloMosaic.Lib.Pointwise
public import Idealize.ShloMosaic.Lib.Tactic

@[expose] public section

noncomputable section

namespace Cert.Rope

open Idealize.ShloMosaic

/-- The angle of position `p` on frequency `j`: `p · 10000 ^ (−j / 32)`. -/
def angle (p j : Nat) : EReal :=
  FloatOps.sitofp (F := Ideal) FTy.f32 (BitVec.ofNat 32 p) *
    Ideal.pow (Ideal.ofBits FTy.f32 1176256512#32)
      (Ideal.div (-FloatOps.sitofp (F := Ideal) FTy.f32 (BitVec.ofNat 32 j)) (Ideal.ofBits FTy.f32 1107296256#32))

/-- Column `d` of a head's row `x` turned at position `p`: the first half pairs with the second. -/
def turn (x : Fin 64 → EReal) (p : Nat) (d : Fin 64) : EReal :=
  if h : d.val < 32 then
    x d * Ideal.cos (angle p d.val) - x ⟨32 + d.val, by omega⟩ * Ideal.sin (angle p d.val)
  else
    x d * Ideal.cos (angle p (d.val - 32)) + x ⟨d.val - 32, by omega⟩ * Ideal.sin (angle p (d.val - 32))

theorem turn_low (x : Fin 64 → EReal) (p : Nat) (d : Fin 64) (h : d.val < 32) :
    turn x p d = x d * Ideal.cos (angle p d.val) + x ⟨32 + d.val, by omega⟩ * -Ideal.sin (angle p d.val) := by
  rw [turn, dif_pos h, sub_eq_add_neg, mul_neg]

theorem turn_high (x : Fin 64 → EReal) (p : Nat) (d : Fin 64) (h : ¬d.val < 32) :
    turn x p d = x d * Ideal.cos (angle p (d.val - 32)) + x ⟨d.val - 32, by omega⟩ * Ideal.sin (angle p (d.val - 32)) := by
  rw [turn, dif_neg h]

end Cert.Rope

end
-- ==== Proof.RopeRef.lean ====
/-
  The reference's rotary embedding, each of its three results read at an entry.
-/
module

public import proofs.«01_k».proof.Proof.RopeSpec
public import proofs.«01_k».proof.Proof.Gen.RRopeIdeal.Run
public import proofs.«01_k».proof.Proof.Gen.RRopeIdeal.Read

@[expose] public section

noncomputable section

namespace Cert.RRopeIdeal.Layer

open Cert.RRopeIdeal Idealize.ShloMosaic Idealize.ShloMosaic.TcCoe Idealize.SL.Sem Cert.Rope

variable (m : (ℓ : Loc nD τ sig) → Buf (Elt Ideal) ℓ) (c : Dev nD)

/-- The argument: the 1536 columns of the projection, by batch, position and column. -/
abbrev arg : S4x8192x1536.Idx → EReal := m ((c : Thread nD τ).loc main_arg0)

theorem read_q (b : Fin 4) (h : Fin 8) (t : Fin 8192) (d : Fin 64) :
    (Value.res_main_v65 (F := Ideal) m c : S4x8x8192x64.Idx → EReal) (ix4 b h t d)
      = turn (fun e => arg m c (ix3 b t ⟨h.val * 64 + e.val, by omega⟩)) t.val d := by
  unfold Value.res_main_v65
  pointwise
  unfold turn angle
  split
  · rfl
  · rename_i hd
    have e : 32 + (d.val - 32) = d.val := by omega
    simp only [e]

theorem read_k (b : Fin 4) (h : Fin 8) (t : Fin 8192) (d : Fin 64) :
    (Value.res_main_v67 (F := Ideal) m c : S4x8x8192x64.Idx → EReal) (ix4 b h t d)
      = turn (fun e => arg m c (ix3 b t ⟨512 + h.val * 64 + e.val, by omega⟩)) t.val d := by
  unfold Value.res_main_v67
  pointwise
  unfold turn angle
  split
  · rfl
  · rename_i hd
    have e : 32 + (d.val - 32) = d.val := by omega
    simp only [e]

theorem read_rows (b : Fin 4) (t : Fin 8192) (k : Fin 512) :
    (Value.res_main_v64 (F := Ideal) m c : S4x8192x512.Idx → EReal) (ix3 b t k)
      = turn (fun e => arg m c (ix3 b t ⟨512 + k.val / 64 * 64 + e.val, by omega⟩)) t.val ⟨k.val % 64, by omega⟩ := by
  unfold Value.res_main_v64
  pointwise
  unfold turn angle
  split
  · rfl
  · rename_i hd
    have e : 32 + (k.val % 64 - 32) = k.val % 64 := by omega
    simp only [e]

end Cert.RRopeIdeal.Layer

end
-- ==== Proof.RopeValue.lean ====
/-
  The rotary call's three result arrays, each read at an entry: the columns of one head turned by the
  angles of the row's position.
-/
module

public import proofs.«01_k».proof.Proof.RopeSpec
public import proofs.«01_k».proof.Proof.Gen.KRopeIdeal.Value

@[expose] public section

noncomputable section

namespace Cert.KRopeIdeal.Layer

open Cert.KRopeIdeal Cert.KRopeIdeal.Gen Idealize.ShloMosaic Idealize.ShloMosaic.TcCoe Idealize.SL.Sem Cert.Rope

theorem offsets_zero : (![0, 0] : Fin 2 → Nat) = fun _ => 0 := funext fun a => by fin_cases a <;> rfl
theorem offsets_zero3 : (![0, 0, 0] : Fin 3 → Nat) = fun _ => 0 := funext fun a => by fin_cases a <;> rfl

/-- The kernel's test for the first half of a head's columns. -/
abbrev lowHalf (k : Fin 512) : BitVec 1 :=
          (IntOp.cmpi CmpIPredicate.slt
            (Scalar.select
              (IntOp.andi
                (IntOp.xori
                  (IntOp.cmpi CmpIPredicate.slt
                    (IntOp.remsi ArithUnit.vector (BitVec.ofNat 32 k.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 k.val)
                    (Scalar.select (Scalar.cmpi CmpIPredicate.eq 64#32 0#32) 1#32 64#32))
                  0#32))
              (IntOp.addi
                (IntOp.remsi ArithUnit.vector (BitVec.ofNat 32 k.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 k.val)
                (Scalar.select (Scalar.cmpi CmpIPredicate.eq 64#32 0#32) 1#32 64#32)))
            32#32)

theorem lowHalf_eq : ∀ k : Fin 512, lowHalf k = if k.val % 64 < 32 then 1#1 else 0#1 := by decide +kernel

theorem pick_low {α : Type} (k : Fin 512) (h : k.val % 64 < 32) (a b : α) : Scalar.select (lowHalf k) a b = a := by
  rw [lowHalf_eq, if_pos h]; rfl
theorem pick_high {α : Type} (k : Fin 512) (h : ¬k.val % 64 < 32) (a b : α) : Scalar.select (lowHalf k) a b = b := by
  rw [lowHalf_eq, if_neg h]; rfl

/-- The angles of every position on every frequency, as the host computes them. -/
def table {F : FTy → Type} [FloatOps F] : (⟨S8192x32, .f32⟩ : BufTy).Contents (Elt F) :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

def cosTable {F : FTy → Type} [FloatOps F] : (⟨S8192x32, .f32⟩ : BufTy).Contents (Elt F) :=
  (Host.cos : (⟨S8192x32, .f32⟩ : BufTy).Contents (Elt F) → (⟨S8192x32, .f32⟩ : BufTy).Contents (Elt F)) table
def sinTable {F : FTy → Type} [FloatOps F] : (⟨S8192x32, .f32⟩ : BufTy).Contents (Elt F) :=
  (Host.sin : (⟨S8192x32, .f32⟩ : BufTy).Contents (Elt F) → (⟨S8192x32, .f32⟩ : BufTy).Contents (Elt F)) table
def negSinTable {F : FTy → Type} [FloatOps F] : (⟨S8192x32, .f32⟩ : BufTy).Contents (Elt F) :=
  (Host.negf : (⟨S8192x32, .f32⟩ : BufTy).Contents (Elt F) → (⟨S8192x32, .f32⟩ : BufTy).Contents (Elt F)) sinTable

/-- A table of 64 columns per head repeated for the eight heads. -/
def spread {F : FTy → Type} [FloatOps F] (a b : (⟨S8192x32, .f32⟩ : BufTy).Contents (Elt F)) : (⟨S8192x512, .f32⟩ : BufTy).Contents (Elt F) :=
  shapeCast S8192x512
    (broadcastInDim S1x8192x8x64 ![0, 1, 2, 3] bcast_S1x8192x1x64_S1x8192x8x64_0_1_2_3
      (shapeCast S1x8192x1x64 (concatenate S8192x64 1 [⟨S8192x32, a⟩, ⟨S8192x32, b⟩] concatenates_S8192x32_S8192x32_S8192x64_d1)
        shapeCasts_S8192x64_S1x8192x1x64)) shapeCasts_S1x8192x8x64_S8192x512

variable (m : (ℓ : Loc nD τ sig) → Buf (Elt Ideal) ℓ)

theorem at_cos (c : Dev nD) : (V m c main_v18 : S8192x512.Idx → EReal) = spread (F := Ideal) cosTable cosTable := by
  unfold V; simp only [hostOps0]; after_results_simp; rfl
theorem at_sin (c : Dev nD) : (V m c main_v23 : S8192x512.Idx → EReal) = spread (F := Ideal) negSinTable sinTable := by
  unfold V; simp only [hostOps0]; after_results_simp; rfl
theorem at_pm (c : Dev nD) : (V m c main_arg0 : S4x8192x1536.Idx → EReal) = m ((c : Thread nD τ).loc main_arg0) := V_main_arg0 m c

theorem spread_apply (a b : (⟨S8192x32, .f32⟩ : BufTy).Contents (Elt Ideal)) (p : Fin 8192) (k : Fin 512) :
    spread (F := Ideal) a b (ix2 p k) = if h : k.val % 64 < 32 then a (ix2 p ⟨k.val % 64, h⟩) else b (ix2 p ⟨k.val % 64 - 32, by omega⟩) := by
  unfold spread
  pointwise

theorem table_apply (p : Fin 8192) (j : Fin 32) : table (F := Ideal) (ix2 p j) = angle p.val j.val := by
  unfold table
  pointwise
  rfl

theorem cos_apply (p : Fin 8192) (j : Fin 32) : cosTable (F := Ideal) (ix2 p j) = Ideal.cos (angle p.val j.val) :=
  congrArg Ideal.cos (table_apply p j)
theorem sin_apply (p : Fin 8192) (j : Fin 32) : sinTable (F := Ideal) (ix2 p j) = Ideal.sin (angle p.val j.val) :=
  congrArg Ideal.sin (table_apply p j)
theorem neg_sin_apply (p : Fin 8192) (j : Fin 32) : negSinTable (F := Ideal) (ix2 p j) = -Ideal.sin (angle p.val j.val) :=
  congrArg (fun a => -Ideal.sin a) (table_apply p j)

/-- What both turned blocks hold at row `r`, column `k`, from the 512 columns `x` of the projection that start at `o`. -/
theorem turned (x : Fin 512 → EReal) (p : Fin 8192) (k : Fin 512)
    (cosv sinv : EReal) (hc : cosv = spread (F := Ideal) cosTable cosTable (ix2 p k))
    (hs : sinv = spread (F := Ideal) negSinTable sinTable (ix2 p k)) :
    x k * cosv + Scalar.select (lowHalf k) (x ⟨(k.val + 512 - 480) % 512, Nat.mod_lt _ (by decide)⟩) (x ⟨(k.val + 512 - 32) % 512, Nat.mod_lt _ (by decide)⟩) * sinv
      = turn (fun e => x ⟨k.val / 64 * 64 + e.val, by omega⟩) p.val ⟨k.val % 64, by omega⟩ := by
  have hk : (⟨k.val / 64 * 64 + k.val % 64, by omega⟩ : Fin 512) = k := Fin.ext (by show k.val / 64 * 64 + k.val % 64 = k.val; omega)
  rw [hc, hs, spread_apply, spread_apply]
  by_cases h : k.val % 64 < 32
  · rw [pick_low k h, turn_low _ _ _ h, dif_pos h, dif_pos h, cos_apply, neg_sin_apply]
    have h1 : (⟨(k.val + 512 - 480) % 512, Nat.mod_lt _ (by decide)⟩ : Fin 512) = ⟨k.val / 64 * 64 + (32 + k.val % 64), by omega⟩ :=
      Fin.ext (by show (k.val + 512 - 480) % 512 = k.val / 64 * 64 + (32 + k.val % 64); omega)
    simp only [hk, h1]
  · rw [pick_high k h, turn_high _ _ _ h, dif_neg h, dif_neg h, cos_apply, sin_apply]
    have h1 : (⟨(k.val + 512 - 32) % 512, Nat.mod_lt _ (by decide)⟩ : Fin 512) = ⟨k.val / 64 * 64 + (k.val % 64 - 32), by omega⟩ :=
      Fin.ext (by show (k.val + 512 - 32) % 512 = k.val / 64 * 64 + (k.val % 64 - 32); omega)
    simp only [hk, h1]

theorem pay_q (c s : Vec Ideal S512x512 .f32) (x : Vec Ideal S1x512x1536 .f32) (r : Fin 512) (k : Fin 512) :
    k0_pay8 (F := Ideal) c s x (ix2 r k)
      = x (ix3 0 r ⟨k.val, by omega⟩) * c (ix2 r k)
        + Scalar.select (lowHalf k) (x (ix3 0 r ⟨(k.val + 512 - 480) % 512, by omega⟩)) (x (ix3 0 r ⟨(k.val + 512 - 32) % 512, by omega⟩)) * s (ix2 r k) := by
  unfold_payloads
  pointwise

theorem pay_k (c s : Vec Ideal S512x512 .f32) (x : Vec Ideal S1x512x1536 .f32) (r : Fin 512) (k : Fin 512) :
    k0_pay9 (F := Ideal) c s x (ix2 r k)
      = x (ix3 0 r ⟨512 + k.val, by omega⟩) * c (ix2 r k)
        + Scalar.select (lowHalf k) (x (ix3 0 r ⟨512 + (k.val + 512 - 480) % 512, by omega⟩)) (x (ix3 0 r ⟨512 + (k.val + 512 - 32) % 512, by omega⟩)) * s (ix2 r k) := by
  unfold_payloads
  pointwise

theorem index0 : ∀ t : Fin cfg0.N, win0_0.index t = ![t.val / 16, t.val % 16, 0] := by decide +kernel
theorem index1 : ∀ t : Fin cfg0.N, win0_1.index t = ![t.val % 16, 0] := by decide +kernel
theorem index2 : ∀ t : Fin cfg0.N, win0_2.index t = ![t.val % 16, 0] := by decide +kernel
theorem index3 : ∀ t : Fin cfg0.N, win0_3.index t = ![t.val / 16, t.val % 16, 0] := by decide +kernel
theorem index4 : ∀ t : Fin cfg0.N, win0_4.index t = ![t.val / 16, 0, t.val % 16, 0] := by decide +kernel
theorem index5 : ∀ t : Fin cfg0.N, win0_5.index t = ![t.val / 16, 0, t.val % 16, 0] := by decide +kernel
theorem flush3 : ∀ t : Fin cfg0.N, (cfg0.win 3).flush t = true := by decide +kernel
theorem flush4 : ∀ t : Fin cfg0.N, (cfg0.win 4).flush t = true := by decide +kernel
theorem flush5 : ∀ t : Fin cfg0.N, (cfg0.win 5).flush t = true := by decide +kernel

/-- The argument. -/
abbrev arg (c : Dev nD) : S4x8192x1536.Idx → EReal := m ((c : Thread nD τ).loc main_arg0)

theorem blk_pm (c : Dev nD) (t : Fin cfg0.N) (r : Fin 512) (k : Fin 1536) (b : Fin 4) (p : Fin 8192)
    (hb : b.val = t.val / 16) (hp : p.val = t.val % 16 * 512 + r.val) :
    (iblk m c 0 t : S1x512x1536.Idx → EReal) (ix3 0 r k) = arg m c (ix3 b p k) := by
  unfold iblk
  rw [View.read_apply]
  show (V m c main_arg0 : S4x8192x1536.Idx → EReal) _ = _
  have he : ((cfg0.win 0).blk t).view.emb (ix3 0 r k) = (ix3 b p k : S4x8192x1536.Idx) := by
    funext a; apply Fin.ext
    match a with
    | ⟨0, _⟩ => show win0_0.index t 0 * 1 + 1 * 0 = b.val; rw [index0, hb]; simp
    | ⟨1, _⟩ => show win0_0.index t 1 * 512 + 1 * r.val = p.val; rw [index0, hp]; simp
    | ⟨2, _⟩ => show win0_0.index t 2 * 1536 + 1 * k.val = k.val; rw [index0]; simp
  rw [at_pm, he]

theorem blk_cos (c : Dev nD) (t : Fin cfg0.N) (r k : Fin 512) (p : Fin 8192) (hp : p.val = t.val % 16 * 512 + r.val) :
    (iblk m c 1 t : S512x512.Idx → EReal) (ix2 r k) = spread (F := Ideal) cosTable cosTable (ix2 p k) := by
  unfold iblk
  rw [View.read_apply]
  show (V m c main_v18 : S8192x512.Idx → EReal) _ = _
  have he : ((cfg0.win 1).blk t).view.emb (ix2 r k) = (ix2 p k : S8192x512.Idx) := by
    funext a; apply Fin.ext
    match a with
    | ⟨0, _⟩ => show win0_1.index t 0 * 512 + 1 * r.val = p.val; rw [index1, hp]; simp
    | ⟨1, _⟩ => show win0_1.index t 1 * 512 + 1 * k.val = k.val; rw [index1]; simp
  rw [at_cos, he]

theorem blk_sin (c : Dev nD) (t : Fin cfg0.N) (r k : Fin 512) (p : Fin 8192) (hp : p.val = t.val % 16 * 512 + r.val) :
    (iblk m c 2 t : S512x512.Idx → EReal) (ix2 r k) = spread (F := Ideal) negSinTable sinTable (ix2 p k) := by
  unfold iblk
  rw [View.read_apply]
  show (V m c main_v23 : S8192x512.Idx → EReal) _ = _
  have he : ((cfg0.win 2).blk t).view.emb (ix2 r k) = (ix2 p k : S8192x512.Idx) := by
    funext a; apply Fin.ext
    match a with
    | ⟨0, _⟩ => show win0_2.index t 0 * 512 + 1 * r.val = p.val; rw [index2, hp]; simp
    | ⟨1, _⟩ => show win0_2.index t 1 * 512 + 1 * k.val = k.val; rw [index2]; simp
  rw [at_sin, he]

/-- The turned queries of grid point `t`. -/
theorem q_block (c : Dev nD) (t : Fin cfg0.N) (r k : Fin 512) (b : Fin 4) (p : Fin 8192)
    (hb : b.val = t.val / 16) (hp : p.val = t.val % 16 * 512 + r.val) :
    k0_pay8 (F := Ideal) (iblk m c 1 t) (iblk m c 2 t) (iblk m c 0 t) (ix2 r k)
      = turn (fun e => arg m c (ix3 b p ⟨k.val / 64 * 64 + e.val, by omega⟩)) p.val ⟨k.val % 64, by omega⟩ := by
  refine (pay_q _ _ _ r k).trans ?_
  have h := turned (fun k => arg m c (ix3 b p ⟨k.val, by omega⟩)) p k _ _ (blk_cos m c t r k p hp) (blk_sin m c t r k p hp)
  simp only [blk_pm m c t r _ b p hb hp]
  exact h

/-- The turned keys of grid point `t`. -/
theorem k_block (c : Dev nD) (t : Fin cfg0.N) (r k : Fin 512) (b : Fin 4) (p : Fin 8192)
    (hb : b.val = t.val / 16) (hp : p.val = t.val % 16 * 512 + r.val) :
    k0_pay9 (F := Ideal) (iblk m c 1 t) (iblk m c 2 t) (iblk m c 0 t) (ix2 r k)
      = turn (fun e => arg m c (ix3 b p ⟨512 + k.val / 64 * 64 + e.val, by omega⟩)) p.val ⟨k.val % 64, by omega⟩ := by
  refine (pay_k _ _ _ r k).trans ?_
  have h := turned (fun k => arg m c (ix3 b p ⟨512 + k.val, by omega⟩)) p k _ _ (blk_cos m c t r k p hp) (blk_sin m c t r k p hp)
  simp only [blk_pm m c t r _ b p hb hp]
  refine h.trans ?_
  simp only [Nat.add_assoc]

theorem at_row (r k : Fin 512) : Value.ix3_0 (ix3 0 r k) = ix2 r k := by
  rw [eq_ix2 (Value.ix3_0 (ix3 0 r k))]; rfl

theorem out3_at (x0 : Vec Ideal S1x512x1536 .f32) (x1 x2 : Vec Ideal S512x512 .f32) (y : S1x512x512.Idx) :
    out0_3 x0 x1 x2 y = k0_pay9 x1 x2 x0 (Value.ix3_0 y) := by
  unfold_out out0_3
  rw [Value.canon3_eq]
  simp only [View.ld_unit_zero (S := S512x512) offsets_zero, View.ld_unit_zero (S := S1x512x1536) offsets_zero3]

theorem out3_apply (x0 : Vec Ideal S1x512x1536 .f32) (x1 x2 : Vec Ideal S512x512 .f32) (r k : Fin 512) :
    out0_3 x0 x1 x2 (ix3 0 r k) = k0_pay9 x1 x2 x0 (ix2 r k) :=
  (out3_at x0 x1 x2 _).trans (congrArg (k0_pay9 x1 x2 x0) (at_row r k))

theorem at_head4 (h : Fin 8) (r : Fin 512) (d : Fin 64) :
    Value.ix4_0 (ix4 0 h r d) = ix2 r (⟨h.val * 64 + d.val, by omega⟩ : Fin 512) := by
  rw [eq_ix2 (Value.ix4_0 (ix4 0 h r d))]; rfl

theorem at_head5 (h : Fin 8) (r : Fin 512) (d : Fin 64) :
    Value.ix5_0 (ix4 0 h r d) = ix2 r (⟨h.val * 64 + d.val, by omega⟩ : Fin 512) := by
  rw [eq_ix2 (Value.ix5_0 (ix4 0 h r d))]; rfl

theorem out4_at {F : FTy → Type} [FloatOps F] (x0 : Vec F S1x512x1536 .f32) (x1 x2 : Vec F S512x512 .f32) (y : S1x8x512x64.Idx) :
    out0_4 x0 x1 x2 y = k0_pay8 x1 x2 x0 (Value.ix4_0 y) := by
  unfold_out out0_4
  rw [Value.canon4_eq]
  simp only [View.ld_unit_zero (S := S512x512) offsets_zero, View.ld_unit_zero (S := S1x512x1536) offsets_zero3]

theorem out5_at (x0 : Vec Ideal S1x512x1536 .f32) (x1 x2 : Vec Ideal S512x512 .f32) (y : S1x8x512x64.Idx) :
    (out0_5 x0 x1 x2 y : EReal) = k0_pay9 x1 x2 x0 (Value.ix5_0 y) := by
  unfold_out out0_5
  rw [Value.canon5_eq]
  simp only [View.ld_unit_zero (S := S512x512) offsets_zero, View.ld_unit_zero (S := S1x512x1536) offsets_zero3]
  rfl

theorem out4_apply (x0 : Vec Ideal S1x512x1536 .f32) (x1 x2 : Vec Ideal S512x512 .f32) (h : Fin 8) (r : Fin 512) (d : Fin 64) :
    out0_4 x0 x1 x2 (ix4 0 h r d) = k0_pay8 x1 x2 x0 (ix2 r ⟨h.val * 64 + d.val, by omega⟩) :=
  (out4_at x0 x1 x2 _).trans (congrArg (k0_pay8 x1 x2 x0) (at_head4 h r d))

theorem out5_apply (x0 : Vec Ideal S1x512x1536 .f32) (x1 x2 : Vec Ideal S512x512 .f32) (h : Fin 8) (r : Fin 512) (d : Fin 64) :
    (out0_5 x0 x1 x2 (ix4 0 h r d) : EReal) = k0_pay9 x1 x2 x0 (ix2 r ⟨h.val * 64 + d.val, by omega⟩) :=
  (out5_at x0 x1 x2 _).trans (congrArg (k0_pay9 x1 x2 x0) (at_head5 h r d))

/-- The grid point of batch `b`, position `p`. -/
abbrev pt (b : Fin 4) (p : Fin 8192) : Fin cfg0.N := ⟨b.val * 16 + p.val / 512, by have : cfg0.N = 64 := N_0; omega⟩
theorem pt_batch (b : Fin 4) (p : Fin 8192) : b.val = (pt b p).val / 16 := by show _ = (b.val * 16 + p.val / 512) / 16; omega
theorem pt_row (b : Fin 4) (p : Fin 8192) : p.val = (pt b p).val % 16 * 512 + p.val % 512 := by
  show _ = (b.val * 16 + p.val / 512) % 16 * 512 + p.val % 512; omega

/-- The key rows at batch `b`, position `p`, column `k`. -/
theorem final_rows (c : Dev nD) (b : Fin 4) (p : Fin 8192) (k : Fin 512) :
    ((dats m 0 c).arrAt 3 cfg0.N : S4x8192x512.Idx → EReal) (ix3 b p k)
      = turn (fun e => arg m c (ix3 b p ⟨512 + k.val / 64 * 64 + e.val, by omega⟩)) p.val ⟨k.val % 64, by omega⟩ := by
  have key := congrFun (Value.blocks3 m c (pt b p) (flush3 _)) (ix3 0 ⟨p.val % 512, Nat.mod_lt _ (by decide)⟩ k : S1x512x512.Idx)
  rw [View.read_apply] at key
  have he : ((cfg0.win 3).blk (pt b p)).view.emb (ix3 0 ⟨p.val % 512, Nat.mod_lt _ (by decide)⟩ k : S1x512x512.Idx) = (ix3 b p k : S4x8192x512.Idx) := by
    funext a; apply Fin.ext
    match a with
    | ⟨0, _⟩ => show win0_3.index _ 0 * 1 + 1 * 0 = b.val; rw [index3]; exact (by have := pt_batch b p; simp at *; omega)
    | ⟨1, _⟩ => show win0_3.index _ 1 * 512 + 1 * (p.val % 512) = p.val; rw [index3]; exact (by have := pt_row b p; simp at *; omega)
    | ⟨2, _⟩ => show win0_3.index _ 2 * 512 + 1 * k.val = k.val; rw [index3]; simp
  rw [he, Value.flushed3] at key
  refine key.trans ((out3_apply _ _ _ ⟨p.val % 512, Nat.mod_lt _ (by decide)⟩ k).trans ?_)
  exact k_block m c _ _ k b p (pt_batch b p) (pt_row b p)

/-- The queries of head `h`. -/
theorem final_q (c : Dev nD) (b : Fin 4) (h : Fin 8) (p : Fin 8192) (d : Fin 64) :
    ((dats m 0 c).arrAt 4 cfg0.N : S4x8x8192x64.Idx → EReal) (ix4 b h p d)
      = turn (fun e => arg m c (ix3 b p ⟨h.val * 64 + e.val, by omega⟩)) p.val d := by
  have key := congrFun (Value.blocks4 m c (pt b p) (flush4 _)) (ix4 0 h ⟨p.val % 512, Nat.mod_lt _ (by decide)⟩ d : S1x8x512x64.Idx)
  rw [View.read_apply] at key
  have he : ((cfg0.win 4).blk (pt b p)).view.emb (ix4 0 h ⟨p.val % 512, Nat.mod_lt _ (by decide)⟩ d : S1x8x512x64.Idx) = (ix4 b h p d : S4x8x8192x64.Idx) := by
    funext a; apply Fin.ext
    match a with
    | ⟨0, _⟩ => show win0_4.index _ 0 * 1 + 1 * 0 = b.val; rw [index4]; exact (by have := pt_batch b p; simp at *; omega)
    | ⟨1, _⟩ => show win0_4.index _ 1 * 8 + 1 * h.val = h.val; rw [index4]; simp
    | ⟨2, _⟩ => show win0_4.index _ 2 * 512 + 1 * (p.val % 512) = p.val; rw [index4]; exact (by have := pt_row b p; simp at *; omega)
    | ⟨3, _⟩ => show win0_4.index _ 3 * 64 + 1 * d.val = d.val; rw [index4]; simp
  rw [he, Value.flushed4] at key
  refine key.trans ((out4_apply _ _ _ h ⟨p.val % 512, Nat.mod_lt _ (by decide)⟩ d).trans ?_)
  refine (q_block m c _ _ _ b p (pt_batch b p) (pt_row b p)).trans ?_
  have e1 : (h.val * 64 + d.val) / 64 = h.val := by omega
  have e2 : (⟨(h.val * 64 + d.val) % 64, by omega⟩ : Fin 64) = d := Fin.ext (by show (h.val * 64 + d.val) % 64 = d.val; omega)
  simp only [e1, e2]

/-- The keys of head `h`. -/
theorem final_k (c : Dev nD) (b : Fin 4) (h : Fin 8) (p : Fin 8192) (d : Fin 64) :
    ((dats m 0 c).arrAt 5 cfg0.N : S4x8x8192x64.Idx → EReal) (ix4 b h p d)
      = turn (fun e => arg m c (ix3 b p ⟨512 + h.val * 64 + e.val, by omega⟩)) p.val d := by
  have key := congrFun (Value.blocks5 m c (pt b p) (flush5 _)) (ix4 0 h ⟨p.val % 512, Nat.mod_lt _ (by decide)⟩ d : S1x8x512x64.Idx)
  rw [View.read_apply] at key
  have he : ((cfg0.win 5).blk (pt b p)).view.emb (ix4 0 h ⟨p.val % 512, Nat.mod_lt _ (by decide)⟩ d : S1x8x512x64.Idx) = (ix4 b h p d : S4x8x8192x64.Idx) := by
    funext a; apply Fin.ext
    match a with
    | ⟨0, _⟩ => show win0_5.index _ 0 * 1 + 1 * 0 = b.val; rw [index5]; exact (by have := pt_batch b p; simp at *; omega)
    | ⟨1, _⟩ => show win0_5.index _ 1 * 8 + 1 * h.val = h.val; rw [index5]; simp
    | ⟨2, _⟩ => show win0_5.index _ 2 * 512 + 1 * (p.val % 512) = p.val; rw [index5]; exact (by have := pt_row b p; simp at *; omega)
    | ⟨3, _⟩ => show win0_5.index _ 3 * 64 + 1 * d.val = d.val; rw [index5]; simp
  rw [he, Value.flushed5] at key
  refine key.trans ((out5_apply _ _ _ h ⟨p.val % 512, Nat.mod_lt _ (by decide)⟩ d).trans ?_)
  refine (k_block m c _ _ _ b p (pt_batch b p) (pt_row b p)).trans ?_
  have e1 : (h.val * 64 + d.val) / 64 = h.val := by omega
  have e2 : (⟨(h.val * 64 + d.val) % 64, by omega⟩ : Fin 64) = d := Fin.ext (by show (h.val * 64 + d.val) % 64 = d.val; omega)
  simp only [e1, e2]

end Cert.KRopeIdeal.Layer

end
-- ==== Proof.RopeClaim.lean ====
/-
  The rotary call and the reference's lines for it end with equal results.
-/
module

public import proofs.«01_k».proof.Defs
public import proofs.«01_k».proof.Proof.RopeRef
public import proofs.«01_k».proof.Proof.RopeValue

@[expose] public section

noncomputable section

namespace Cert.Rope

open Idealize.ShloMosaic Idealize.ShloMosaic.TcCoe Idealize.SL.Sem

theorem equal : Cert.algebraic_KRopeIdeal_RRopeIdeal := by
  intro m g m' g' _ hagree
  refine ⟨fun c => (Cert.KRopeIdeal.Gen.dats m 0 c).arrAt 3 Cert.KRopeIdeal.cfg0.N,
    fun c => (Cert.KRopeIdeal.Gen.dats m 0 c).arrAt 4 Cert.KRopeIdeal.cfg0.N,
    fun c => (Cert.KRopeIdeal.Gen.dats m 0 c).arrAt 5 Cert.KRopeIdeal.cfg0.N,
    (θ_run _ _ _).mono (fun r h c => ⟨(h c).1, (h c).2.1, (h c).2.2.1, (h c).2.2.2.2⟩) (Cert.KRopeIdeal.Value.run_blocks m g), ?_⟩
  refine (θ_run _ _ _).mono (fun r h c => ⟨(h c).1.trans ?_, (h c).2.1.trans ?_, (h c).2.2.1.trans ?_, (h c).2.2.2⟩)
    (Cert.RRopeIdeal.Value.run m' g')
  · funext i
    obtain ⟨b, p, k, rfl⟩ : ∃ (b : Fin 4) (p : Fin 8192) (k : Fin 512), i = ix3 b p k := ⟨i 0, i 1, i 2, eq_ix3 i⟩
    refine (Cert.RRopeIdeal.Layer.read_rows m' c b p k).trans (Eq.trans ?_ (Cert.KRopeIdeal.Layer.final_rows m c b p k).symm)
    unfold Cert.RRopeIdeal.Layer.arg; rw [hagree c]
  · funext i
    obtain ⟨b, h, p, d, rfl⟩ : ∃ (b : Fin 4) (h : Fin 8) (p : Fin 8192) (d : Fin 64), i = ix4 b h p d := ⟨i 0, i 1, i 2, i 3, eq_ix4 i⟩
    refine (Cert.RRopeIdeal.Layer.read_q m' c b h p d).trans (Eq.trans ?_ (Cert.KRopeIdeal.Layer.final_q m c b h p d).symm)
    unfold Cert.RRopeIdeal.Layer.arg; rw [hagree c]
  · funext i
    obtain ⟨b, h, p, d, rfl⟩ : ∃ (b : Fin 4) (h : Fin 8) (p : Fin 8192) (d : Fin 64), i = ix4 b h p d := ⟨i 0, i 1, i 2, i 3, eq_ix4 i⟩
    refine (Cert.RRopeIdeal.Layer.read_k m' c b h p d).trans (Eq.trans ?_ (Cert.KRopeIdeal.Layer.final_k m c b h p d).symm)
    unfold Cert.RRopeIdeal.Layer.arg; rw [hagree c]

end Cert.Rope

end
-- ==== Proof.MixSpec.lean ====
/-
  The mixing layer's output over the extended reals: the heads of the recurrence normalised, given their
  bonus and gated, set beside the attention's heads and multiplied with the output weights.
-/
module

public import Idealize.ShloMosaic.Lib.Pointwise
public import Idealize.ShloMosaic.Lib.Tactic

@[expose] public section

noncomputable section

namespace Cert.Mix

open Idealize.ShloMosaic

/-- A head's mean over its 64 columns. -/
def mean (y : Fin 64 → EReal) : EReal := Ideal.div (∑ x, y x) (Ideal.ofBits FTy.f32 1115684864#32)

/-- One head's output row: the group norm of `y`, the bonus `(Σ r·k·u) v`, the gate `g`. -/
def headOut (y r k v g w b u : Fin 64 → EReal) (d : Fin 64) : EReal :=
  ((y d - mean y) * Ideal.rsqrt (Ideal.div (∑ x, (y x - mean y) * (y x - mean y)) (Ideal.ofBits FTy.f32 1115684864#32)
      + Ideal.ofBits FTy.f32 975685036#32) * w d + b d + (∑ x, r x * k x * u x) * v d) * g d

/-- The sum over the 1024 mixed columns, the recurrence's half and the attention's half apart. -/
theorem sum_halves (f : Fin 1024 → EReal) :
    ∑ c, f c = ∑ x : Fin 512, f ⟨x.val, by omega⟩ + ∑ x : Fin 512, f ⟨512 + x.val, by omega⟩ :=
  Fin.sum_univ_add (a := 512) (b := 512) f

end Cert.Mix

end
-- ==== Proof.MixRef.lean ====
/-
  The reference's output lines, read at an entry of the result.
-/
module

public import proofs.«01_k».proof.Proof.MixSpec
public import proofs.«01_k».proof.Proof.Gen.RMixIdeal.Run
public import proofs.«01_k».proof.Proof.Gen.RMixIdeal.Read

@[expose] public section

noncomputable section

namespace Cert.RMixIdeal.Layer

open Cert.RMixIdeal Idealize.ShloMosaic Idealize.ShloMosaic.TcCoe Idealize.SL.Sem Cert.Mix

theorem read (y r k v : (⟨S4x8192x8x64, .f32⟩ : BufTy).Contents (Elt Ideal)) (g : (⟨S4x8192x512, .f32⟩ : BufTy).Contents (Elt Ideal))
    (om : (⟨S4x8192x8x64, .f32⟩ : BufTy).Contents (Elt Ideal)) (x : (⟨S4x8192x1024, .f32⟩ : BufTy).Contents (Elt Ideal))
    (wo : (⟨S1024x1024, .f32⟩ : BufTy).Contents (Elt Ideal)) (lw lb : (⟨S512, .f32⟩ : BufTy).Contents (Elt Ideal))
    (u : (⟨S8x64, .f32⟩ : BufTy).Contents (Elt Ideal)) (b : Fin 4) (t : Fin 8192) (d : Fin 1024) :
    Read.val_main_v40 (F := Ideal) y r k v g om x wo lw lb u (ix3 b t d)
      = x (ix3 b t d)
        + (∑ c : Fin 512, headOut (fun e => y (ix4 b t ⟨c.val / 64, by omega⟩ e)) (fun e => r (ix4 b t ⟨c.val / 64, by omega⟩ e))
              (fun e => k (ix4 b t ⟨c.val / 64, by omega⟩ e)) (fun e => v (ix4 b t ⟨c.val / 64, by omega⟩ e))
              (fun e => g (ix3 b t ⟨c.val / 64 * 64 + e.val, by omega⟩))
              (fun e => lw (ix1 ⟨c.val / 64 * 64 + e.val, by omega⟩)) (fun e => lb (ix1 ⟨c.val / 64 * 64 + e.val, by omega⟩))
              (fun e => u (ix2 ⟨c.val / 64, by omega⟩ e)) ⟨c.val % 64, by omega⟩ * wo (ix2 ⟨c.val, by omega⟩ d)
          + ∑ c : Fin 512, om (ix4 b t ⟨c.val / 64, by omega⟩ ⟨c.val % 64, by omega⟩) * wo (ix2 ⟨512 + c.val, by omega⟩ d)) := by
  have e : ∀ c : Fin 512, (⟨c.val / 64 * 64 + c.val % 64, by omega⟩ : Fin 512) = c :=
    fun c => Fin.ext (by show c.val / 64 * 64 + c.val % 64 = c.val; omega)
  rw [← Read.val_main_v40_eq]
  unfold headOut mean
  simp only [e]
  pointwise
  simp only [e]

end Cert.RMixIdeal.Layer

end
-- ==== Proof.MixBlock.lean ====
/-
  The output call's result array, read at an entry.
-/
module

public import proofs.«01_k».proof.Proof.MixSpec
public import proofs.«01_k».proof.Proof.Gen.KMixIdeal.Value

@[expose] public section

noncomputable section

namespace Cert.KMixIdeal.Layer

open Cert.KMixIdeal Cert.KMixIdeal.Gen Idealize.ShloMosaic Idealize.ShloMosaic.TcCoe Idealize.SL.Sem Cert.Mix

theorem offsets_zero : (![0, 0] : Fin 2 → Nat) = fun _ => 0 := funext fun a => by fin_cases a <;> rfl
theorem offsets_zero3 : (![0, 0, 0] : Fin 3 → Nat) = fun _ => 0 := funext fun a => by fin_cases a <;> rfl

/-- The sixteen heads' columns side by side, over the blocks of a grid point. -/
def heads (x0 x1 x2 x3 x4 x5 : Vec Ideal S1x8x512x64 .f32) (x8 x9 x10 : Vec Ideal S8x64 .f32) : FVec Ideal S512x1024 .bf16 :=
  k0_pay27 (k0_pay4 (k0_pay2 (View.ld x0 r0_0) (View.ld x8 r0_1) (View.ld x9 r0_1)) (k0_pay3 (View.ld x1 r0_0) (View.ld x2 r0_0) (View.ld x10 r0_1)) (View.ld x3 r0_0) (View.ld x4 r0_0)) (k0_pay6 (k0_pay5 (View.ld x0 r0_2) (View.ld x8 r0_3) (View.ld x9 r0_3)) (View.ld x1 r0_2) (View.ld x2 r0_2) (View.ld x10 r0_3) (View.ld x3 r0_2) (View.ld x4 r0_2)) (k0_pay9 (k0_pay7 (View.ld x0 r0_4)) (k0_pay8 (View.ld x0 r0_4)) (View.ld x8 r0_5) (View.ld x9 r0_5) (View.ld x1 r0_4) (View.ld x2 r0_4) (View.ld x10 r0_5) (View.ld x3 r0_4) (View.ld x4 r0_4)) (k0_pay13 (k0_pay12 (k0_pay10 (View.ld x0 r0_6)) (k0_pay11 (View.ld x0 r0_6)) (Scalar.ofBits .f32 0x42800000#32) (View.ld x8 r0_7) (View.ld x9 r0_7) (View.ld x1 r0_6) (View.ld x2 r0_6) (View.ld x10 r0_7) (View.ld x3 r0_6)) (View.ld x4 r0_6)) (k0_pay16 (k0_pay14 (View.ld x0 r0_8) (View.ld x8 r0_9) (View.ld x9 r0_9)) (k0_pay15 (View.ld x1 r0_8) (View.ld x2 r0_8)) (View.ld x10 r0_9) (View.ld x3 r0_8) (View.ld x4 r0_8)) (k0_pay19 (k0_pay17 (View.ld x0 r0_10) (View.ld x8 r0_11)) (k0_pay18 (View.ld x9 r0_11)) (View.ld x1 r0_10) (View.ld x2 r0_10) (View.ld x10 r0_11) (View.ld x3 r0_10) (View.ld x4 r0_10)) (k0_pay22 (k0_pay20 (View.ld x0 r0_12)) (k0_pay21 (View.ld x0 r0_12)) (Scalar.ofBits .f32 0x3A27C5AC#32) (View.ld x8 r0_13) (View.ld x9 r0_13) (View.ld x1 r0_12) (View.ld x2 r0_12) (View.ld x10 r0_13) (View.ld x3 r0_12) (View.ld x4 r0_12)) (k0_pay24 (k0_pay23 (View.ld x0 r0_14)) (View.ld x8 r0_15) (View.ld x9 r0_15)) (k0_pay25 (View.ld x1 r0_14) (View.ld x2 r0_14) (View.ld x10 r0_15)) (k0_pay26 (View.ld x3 r0_14)) (View.ld x4 r0_14) (View.ld x5 r0_0) (View.ld x5 r0_2) (View.ld x5 r0_4) (View.ld x5 r0_6) (View.ld x5 r0_8) (View.ld x5 r0_10) (View.ld x5 r0_12) (View.ld x5 r0_14)

theorem out_eq (x0 x1 x2 x3 x4 x5 : Vec Ideal S1x8x512x64 .f32) (x6 : Vec Ideal S1x512x1024 .f32) (x7 : Vec Ideal S1024x1024 .bf16) (x8 x9 x10 : Vec Ideal S8x64 .f32) :
    out0_11 x0 x1 x2 x3 x4 x5 x6 x7 x8 x9 x10 = k0_pay1 (heads x0 x1 x2 x3 x4 x5 x8 x9 x10) x6 x7 := by
  unfold out0_11
  rw [View.canon_unit_zero offsets_zero3, View.ld_unit_zero (S := S1x512x1024) offsets_zero3, View.ld_unit_zero (S := S1024x1024) offsets_zero]
  rfl

theorem out_apply (a : FVec Ideal S512x1024 .bf16) (x : Vec Ideal S1x512x1024 .f32) (w : Vec Ideal S1024x1024 .bf16) (i : Fin 512) (c : Fin 1024) :
    k0_pay1 a x w (ix3 0 i c) = x (ix3 0 i c) + ∑ x, a (ix2 i x) * w (ix2 x c) := by
  unfold_payloads
  pointwise

/-- The sixteen pieces joined along the columns, read at column `64 n + e`. -/
theorem joined (a0 a1 a2 a3 a4 a5 a6 p : FVec Ideal S512x64 .f32) (s : FVec Ideal S512x1 .f32) (v : FVec Ideal S512x64 .f32)
    (g o0 o1 o2 o3 o4 o5 o6 o7 : Vec Ideal S1x1x512x64 .f32) (i : Fin 512) (n : Fin 16) (e : Fin 64) (c : Fin 1024) (hc : c.val = 64 * n.val + e.val) :
    k0_pay27 a0 a1 a2 a3 a4 a5 a6 p s v g o0 o1 o2 o3 o4 o5 o6 o7 (ix2 i c)
      = (![a0, a1, a2, a3, a4, a5, a6,
          mulf (addf p (mulf (broadcastTo S512x64 s broadcasts_S512x1_S512x64) v)) (shapeCast S512x64 g shapeCasts_S1x1x512x64_S512x64),
          shapeCast S512x64 o0 shapeCasts_S1x1x512x64_S512x64, shapeCast S512x64 o1 shapeCasts_S1x1x512x64_S512x64,
          shapeCast S512x64 o2 shapeCasts_S1x1x512x64_S512x64, shapeCast S512x64 o3 shapeCasts_S1x1x512x64_S512x64,
          shapeCast S512x64 o4 shapeCasts_S1x1x512x64_S512x64, shapeCast S512x64 o5 shapeCasts_S1x1x512x64_S512x64,
          shapeCast S512x64 o6 shapeCasts_S1x1x512x64_S512x64, shapeCast S512x64 o7 shapeCasts_S1x1x512x64_S512x64] : Fin 16 → FVec Ideal S512x64 .f32) n (ix2 i e) := by
  unfold k0_pay27
  refine concatenate_ofFn_apply (t := S512x1024) (s₁ := S512x64) 1
    (![a0, a1, a2, a3, a4, a5, a6,
          mulf (addf p (mulf (broadcastTo S512x64 s broadcasts_S512x1_S512x64) v)) (shapeCast S512x64 g shapeCasts_S1x1x512x64_S512x64),
          shapeCast S512x64 o0 shapeCasts_S1x1x512x64_S512x64, shapeCast S512x64 o1 shapeCasts_S1x1x512x64_S512x64,
          shapeCast S512x64 o2 shapeCasts_S1x1x512x64_S512x64, shapeCast S512x64 o3 shapeCasts_S1x1x512x64_S512x64,
          shapeCast S512x64 o4 shapeCasts_S1x1x512x64_S512x64, shapeCast S512x64 o5 shapeCasts_S1x1x512x64_S512x64,
          shapeCast S512x64 o6 shapeCasts_S1x1x512x64_S512x64, shapeCast S512x64 o7 shapeCasts_S1x1x512x64_S512x64] : Fin 16 → FVec Ideal S512x64 .f32) concatenates_S512x64_S512x64_S512x64_S512x64_S512x64_S512x64_S512x64_S512x64_S512x64_S512x64_S512x64_S512x64_S512x64_S512x64_S512x64_S512x64_S512x1024_d1 rfl 64 rfl (ix2 i c) n ?_ (ix2 i e) ?_ ?_
  · show c.val / 64 = n.val; omega
  · show e.val = c.val % 64; omega
  · intro b hb
    match b with
    | ⟨0, _⟩ => rfl
    | ⟨1, _⟩ => exact absurd rfl hb

/-- The recurrence's head `h` at column `e`. -/
theorem heads_low (x0 x1 x2 x3 x4 x5 : Vec Ideal S1x8x512x64 .f32) (x8 x9 x10 : Vec Ideal S8x64 .f32) (i : Fin 512) (h : Fin 8) (e : Fin 64)
    (c : Fin 1024) (hc : c.val = 64 * h.val + e.val) :
    heads x0 x1 x2 x3 x4 x5 x8 x9 x10 (ix2 i c)
      = headOut (fun e => x0 (ix4 0 h i e)) (fun e => x1 (ix4 0 h i e)) (fun e => x2 (ix4 0 h i e)) (fun e => x3 (ix4 0 h i e)) (fun e => x4 (ix4 0 h i e))
          (fun e => x8 (ix2 h e)) (fun e => x9 (ix2 h e)) (fun e => x10 (ix2 h e)) e := by
  unfold heads
  match h, hc with
  | ⟨0, _⟩, hc =>
    refine (joined _ _ _ _ _ _ _ _ _ _ _ _ _ _ _ _ _ _ _ i 0 e c hc).trans ?_
    dsimp only [Matrix.cons_val]
    unfold_payloads
    unfold headOut mean
    pointwise
  | ⟨1, _⟩, hc =>
    refine (joined _ _ _ _ _ _ _ _ _ _ _ _ _ _ _ _ _ _ _ i 1 e c hc).trans ?_
    dsimp only [Matrix.cons_val]
    unfold_payloads
    unfold headOut mean
    pointwise
  | ⟨2, _⟩, hc =>
    refine (joined _ _ _ _ _ _ _ _ _ _ _ _ _ _ _ _ _ _ _ i 2 e c hc).trans ?_
    dsimp only [Matrix.cons_val]
    unfold_payloads
    unfold headOut mean
    pointwise
  | ⟨3, _⟩, hc =>
    refine (joined _ _ _ _ _ _ _ _ _ _ _ _ _ _ _ _ _ _ _ i 3 e c hc).trans ?_
    dsimp only [Matrix.cons_val]
    unfold_payloads
    unfold headOut mean
    pointwise
  | ⟨4, _⟩, hc =>
    refine (joined _ _ _ _ _ _ _ _ _ _ _ _ _ _ _ _ _ _ _ i 4 e c hc).trans ?_
    dsimp only [Matrix.cons_val]
    unfold_payloads
    unfold headOut mean
    pointwise
  | ⟨5, _⟩, hc =>
    refine (joined _ _ _ _ _ _ _ _ _ _ _ _ _ _ _ _ _ _ _ i 5 e c hc).trans ?_
    dsimp only [Matrix.cons_val]
    unfold_payloads
    unfold headOut mean
    pointwise
  | ⟨6, _⟩, hc =>
    refine (joined _ _ _ _ _ _ _ _ _ _ _ _ _ _ _ _ _ _ _ i 6 e c hc).trans ?_
    dsimp only [Matrix.cons_val]
    unfold_payloads
    unfold headOut mean
    pointwise
  | ⟨7, _⟩, hc =>
    refine (joined _ _ _ _ _ _ _ _ _ _ _ _ _ _ _ _ _ _ _ i 7 e c hc).trans ?_
    dsimp only [Matrix.cons_val]
    unfold_payloads
    unfold headOut mean
    pointwise

/-- The attention's head `h` at column `e`. -/
theorem heads_high (x0 x1 x2 x3 x4 x5 : Vec Ideal S1x8x512x64 .f32) (x8 x9 x10 : Vec Ideal S8x64 .f32) (i : Fin 512) (h : Fin 8) (e : Fin 64)
    (c : Fin 1024) (hc : c.val = 512 + (64 * h.val + e.val)) :
    (heads x0 x1 x2 x3 x4 x5 x8 x9 x10 (ix2 i c) : EReal) = x5 (ix4 0 h i e) := by
  unfold heads
  match h, hc with
  | ⟨0, _⟩, hc =>
    refine (joined _ _ _ _ _ _ _ _ _ _ _ _ _ _ _ _ _ _ _ i 8 e c (by rw [hc]; show 512 + (64 * 0 + e.val) = 64 * 8 + e.val; omega)).trans ?_
    dsimp only [Matrix.cons_val]
    pointwise
  | ⟨1, _⟩, hc =>
    refine (joined _ _ _ _ _ _ _ _ _ _ _ _ _ _ _ _ _ _ _ i 9 e c (by rw [hc]; show 512 + (64 * 1 + e.val) = 64 * 9 + e.val; omega)).trans ?_
    dsimp only [Matrix.cons_val]
    pointwise
  | ⟨2, _⟩, hc =>
    refine (joined _ _ _ _ _ _ _ _ _ _ _ _ _ _ _ _ _ _ _ i 10 e c (by rw [hc]; show 512 + (64 * 2 + e.val) = 64 * 10 + e.val; omega)).trans ?_
    dsimp only [Matrix.cons_val]
    pointwise
  | ⟨3, _⟩, hc =>
    refine (joined _ _ _ _ _ _ _ _ _ _ _ _ _ _ _ _ _ _ _ i 11 e c (by rw [hc]; show 512 + (64 * 3 + e.val) = 64 * 11 + e.val; omega)).trans ?_
    dsimp only [Matrix.cons_val]
    pointwise
  | ⟨4, _⟩, hc =>
    refine (joined _ _ _ _ _ _ _ _ _ _ _ _ _ _ _ _ _ _ _ i 12 e c (by rw [hc]; show 512 + (64 * 4 + e.val) = 64 * 12 + e.val; omega)).trans ?_
    dsimp only [Matrix.cons_val]
    pointwise
  | ⟨5, _⟩, hc =>
    refine (joined _ _ _ _ _ _ _ _ _ _ _ _ _ _ _ _ _ _ _ i 13 e c (by rw [hc]; show 512 + (64 * 5 + e.val) = 64 * 13 + e.val; omega)).trans ?_
    dsimp only [Matrix.cons_val]
    pointwise
  | ⟨6, _⟩, hc =>
    refine (joined _ _ _ _ _ _ _ _ _ _ _ _ _ _ _ _ _ _ _ i 14 e c (by rw [hc]; show 512 + (64 * 6 + e.val) = 64 * 14 + e.val; omega)).trans ?_
    dsimp only [Matrix.cons_val]
    pointwise
  | ⟨7, _⟩, hc =>
    refine (joined _ _ _ _ _ _ _ _ _ _ _ _ _ _ _ _ _ _ _ i 15 e c (by rw [hc]; show 512 + (64 * 7 + e.val) = 64 * 15 + e.val; omega)).trans ?_
    dsimp only [Matrix.cons_val]
    pointwise

end Cert.KMixIdeal.Layer

end
-- ==== Proof.MixValue.lean ====
/-
  The output call's result array, read at an entry of the result.
-/
module

public import proofs.«01_k».proof.Proof.MixBlock

@[expose] public section

noncomputable section

namespace Cert.KMixIdeal.Layer

open Cert.KMixIdeal Cert.KMixIdeal.Gen Idealize.ShloMosaic Idealize.ShloMosaic.TcCoe Idealize.SL.Sem Cert.Mix

variable (m : (ℓ : Loc nD τ sig) → Buf (Elt Ideal) ℓ)

/-- Argument 0. -/
abbrev y (c : Dev nD) : S4x8192x8x64.Idx → EReal := m ((c : Thread nD τ).loc main_arg0)
/-- Argument 1. -/
abbrev r (c : Dev nD) : S4x8192x8x64.Idx → EReal := m ((c : Thread nD τ).loc main_arg1)
/-- Argument 2. -/
abbrev k (c : Dev nD) : S4x8192x8x64.Idx → EReal := m ((c : Thread nD τ).loc main_arg2)
/-- Argument 3. -/
abbrev v (c : Dev nD) : S4x8192x8x64.Idx → EReal := m ((c : Thread nD τ).loc main_arg3)
/-- Argument 4. -/
abbrev g (c : Dev nD) : S4x8192x512.Idx → EReal := m ((c : Thread nD τ).loc main_arg4)
/-- Argument 5. -/
abbrev om (c : Dev nD) : S4x8192x8x64.Idx → EReal := m ((c : Thread nD τ).loc main_arg5)
/-- Argument 6. -/
abbrev x (c : Dev nD) : S4x8192x1024.Idx → EReal := m ((c : Thread nD τ).loc main_arg6)
/-- Argument 7. -/
abbrev wo (c : Dev nD) : S1024x1024.Idx → EReal := m ((c : Thread nD τ).loc main_arg7)
/-- Argument 8. -/
abbrev lw (c : Dev nD) : S512.Idx → EReal := m ((c : Thread nD τ).loc main_arg8)
/-- Argument 9. -/
abbrev lb (c : Dev nD) : S512.Idx → EReal := m ((c : Thread nD τ).loc main_arg9)
/-- Argument 10. -/
abbrev u (c : Dev nD) : S8x64.Idx → EReal := m ((c : Thread nD τ).loc main_arg10)

/-- An array by heads, heads first. -/
def turned (x : (⟨S4x8192x8x64, .f32⟩ : BufTy).Contents (Elt Ideal)) : (⟨S4x8x8192x64, .f32⟩ : BufTy).Contents (Elt Ideal) :=
  transpose S4x8x8192x64 [0, 2, 1, 3] x transposes_S4x8192x8x64_S4x8x8192x64_0_2_1_3
/-- The gates by heads. -/
def split (x : (⟨S4x8192x512, .f32⟩ : BufTy).Contents (Elt Ideal)) : (⟨S4x8192x8x64, .f32⟩ : BufTy).Contents (Elt Ideal) :=
  shapeCast S4x8192x8x64 x shapeCasts_S4x8192x512_S4x8192x8x64
/-- The norm's parameters by heads. -/
def params (x : (⟨S512, .f32⟩ : BufTy).Contents (Elt Ideal)) : (⟨S8x64, .f32⟩ : BufTy).Contents (Elt Ideal) :=
  shapeCast S8x64 x shapeCasts_S512_S8x64

theorem turned_apply (x : (⟨S4x8192x8x64, .f32⟩ : BufTy).Contents (Elt Ideal)) (b : Fin 4) (h : Fin 8) (p : Fin 8192) (d : Fin 64) :
    turned x (ix4 b h p d) = x (ix4 b p h d) := by
  unfold turned
  pointwise
theorem split_apply (x : (⟨S4x8192x512, .f32⟩ : BufTy).Contents (Elt Ideal)) (b : Fin 4) (h : Fin 8) (p : Fin 8192) (d : Fin 64) :
    split x (ix4 b p h d) = x (ix3 b p ⟨h.val * 64 + d.val, by omega⟩) := by
  unfold split
  pointwise
theorem params_apply (x : (⟨S512, .f32⟩ : BufTy).Contents (Elt Ideal)) (h : Fin 8) (d : Fin 64) :
    params x (ix2 h d) = x (ix1 ⟨h.val * 64 + d.val, by omega⟩) := by
  unfold params
  pointwise

theorem at_y (c : Dev nD) : (V m c main_v1 : S4x8x8192x64.Idx → EReal) = turned (y m c) := by
  unfold V; simp only [hostOps0]; after_results_simp; rfl
theorem at_r (c : Dev nD) : (V m c main_v2 : S4x8x8192x64.Idx → EReal) = turned (r m c) := by
  unfold V; simp only [hostOps0]; after_results_simp; rfl
theorem at_k (c : Dev nD) : (V m c main_v3 : S4x8x8192x64.Idx → EReal) = turned (k m c) := by
  unfold V; simp only [hostOps0]; after_results_simp; rfl
theorem at_v (c : Dev nD) : (V m c main_v4 : S4x8x8192x64.Idx → EReal) = turned (v m c) := by
  unfold V; simp only [hostOps0]; after_results_simp; rfl
theorem at_g (c : Dev nD) : (V m c main_v5 : S4x8x8192x64.Idx → EReal) = turned (split (g m c)) := by
  unfold V; simp only [hostOps0]; after_results_simp; rfl
theorem at_om (c : Dev nD) : (V m c main_v6 : S4x8x8192x64.Idx → EReal) = turned (om m c) := by
  unfold V; simp only [hostOps0]; after_results_simp; rfl
theorem at_x (c : Dev nD) : (V m c main_arg6 : S4x8192x1024.Idx → EReal) = x m c := V_main_arg6 m c
theorem at_wo (c : Dev nD) : (V m c main_v7 : S1024x1024.Idx → EReal) = wo m c := by
  unfold V; simp only [hostOps0]; after_results_simp; rfl
theorem at_lw (c : Dev nD) : (V m c main_v8 : S8x64.Idx → EReal) = params (lw m c) := by
  unfold V; simp only [hostOps0]; after_results_simp; rfl
theorem at_lb (c : Dev nD) : (V m c main_v9 : S8x64.Idx → EReal) = params (lb m c) := by
  unfold V; simp only [hostOps0]; after_results_simp; rfl
theorem at_u (c : Dev nD) : (V m c main_arg10 : S8x64.Idx → EReal) = u m c := V_main_arg10 m c

theorem index0 : ∀ t : Fin cfg0.N, win0_0.index t = ![t.val / 16, 0, t.val % 16, 0] := by decide +kernel
theorem index1 : ∀ t : Fin cfg0.N, win0_1.index t = ![t.val / 16, 0, t.val % 16, 0] := by decide +kernel
theorem index2 : ∀ t : Fin cfg0.N, win0_2.index t = ![t.val / 16, 0, t.val % 16, 0] := by decide +kernel
theorem index3 : ∀ t : Fin cfg0.N, win0_3.index t = ![t.val / 16, 0, t.val % 16, 0] := by decide +kernel
theorem index4 : ∀ t : Fin cfg0.N, win0_4.index t = ![t.val / 16, 0, t.val % 16, 0] := by decide +kernel
theorem index5 : ∀ t : Fin cfg0.N, win0_5.index t = ![t.val / 16, 0, t.val % 16, 0] := by decide +kernel
theorem index6 : ∀ t : Fin cfg0.N, win0_6.index t = ![t.val / 16, t.val % 16, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![t.val / 16, t.val % 16, 0] := by decide +kernel
theorem flush11 : ∀ t : Fin cfg0.N, (cfg0.win 11).flush t = true := by decide +kernel

theorem blk_y (c : Dev nD) (t : Fin cfg0.N) (h : Fin 8) (q : Fin 512) (d : Fin 64) (b : Fin 4) (p : Fin 8192)
    (hb : b.val = t.val / 16) (hp : p.val = t.val % 16 * 512 + q.val) :
    (iblk m c 0 t : S1x8x512x64.Idx → EReal) (ix4 0 h q d) = y m c (ix4 b p h d) := by
  unfold iblk
  rw [View.read_apply]
  show (V m c main_v1 : S4x8x8192x64.Idx → EReal) _ = _
  have he : ((cfg0.win 0).blk t).view.emb (ix4 0 h q d) = (ix4 b h p d : S4x8x8192x64.Idx) := by
    funext a; apply Fin.ext
    match a with
    | ⟨0, _⟩ => show win0_0.index t 0 * 1 + 1 * 0 = b.val; rw [index0, hb]; simp
    | ⟨1, _⟩ => show win0_0.index t 1 * 8 + 1 * h.val = h.val; rw [index0]; simp
    | ⟨2, _⟩ => show win0_0.index t 2 * 512 + 1 * q.val = p.val; rw [index0, hp]; simp
    | ⟨3, _⟩ => show win0_0.index t 3 * 64 + 1 * d.val = d.val; rw [index0]; simp
  rw [at_y, he, turned_apply]

theorem blk_r (c : Dev nD) (t : Fin cfg0.N) (h : Fin 8) (q : Fin 512) (d : Fin 64) (b : Fin 4) (p : Fin 8192)
    (hb : b.val = t.val / 16) (hp : p.val = t.val % 16 * 512 + q.val) :
    (iblk m c 1 t : S1x8x512x64.Idx → EReal) (ix4 0 h q d) = r m c (ix4 b p h d) := by
  unfold iblk
  rw [View.read_apply]
  show (V m c main_v2 : S4x8x8192x64.Idx → EReal) _ = _
  have he : ((cfg0.win 1).blk t).view.emb (ix4 0 h q d) = (ix4 b h p d : S4x8x8192x64.Idx) := by
    funext a; apply Fin.ext
    match a with
    | ⟨0, _⟩ => show win0_1.index t 0 * 1 + 1 * 0 = b.val; rw [index1, hb]; simp
    | ⟨1, _⟩ => show win0_1.index t 1 * 8 + 1 * h.val = h.val; rw [index1]; simp
    | ⟨2, _⟩ => show win0_1.index t 2 * 512 + 1 * q.val = p.val; rw [index1, hp]; simp
    | ⟨3, _⟩ => show win0_1.index t 3 * 64 + 1 * d.val = d.val; rw [index1]; simp
  rw [at_r, he, turned_apply]

theorem blk_k (c : Dev nD) (t : Fin cfg0.N) (h : Fin 8) (q : Fin 512) (d : Fin 64) (b : Fin 4) (p : Fin 8192)
    (hb : b.val = t.val / 16) (hp : p.val = t.val % 16 * 512 + q.val) :
    (iblk m c 2 t : S1x8x512x64.Idx → EReal) (ix4 0 h q d) = k m c (ix4 b p h d) := by
  unfold iblk
  rw [View.read_apply]
  show (V m c main_v3 : S4x8x8192x64.Idx → EReal) _ = _
  have he : ((cfg0.win 2).blk t).view.emb (ix4 0 h q d) = (ix4 b h p d : S4x8x8192x64.Idx) := by
    funext a; apply Fin.ext
    match a with
    | ⟨0, _⟩ => show win0_2.index t 0 * 1 + 1 * 0 = b.val; rw [index2, hb]; simp
    | ⟨1, _⟩ => show win0_2.index t 1 * 8 + 1 * h.val = h.val; rw [index2]; simp
    | ⟨2, _⟩ => show win0_2.index t 2 * 512 + 1 * q.val = p.val; rw [index2, hp]; simp
    | ⟨3, _⟩ => show win0_2.index t 3 * 64 + 1 * d.val = d.val; rw [index2]; simp
  rw [at_k, he, turned_apply]

theorem blk_v (c : Dev nD) (t : Fin cfg0.N) (h : Fin 8) (q : Fin 512) (d : Fin 64) (b : Fin 4) (p : Fin 8192)
    (hb : b.val = t.val / 16) (hp : p.val = t.val % 16 * 512 + q.val) :
    (iblk m c 3 t : S1x8x512x64.Idx → EReal) (ix4 0 h q d) = v m c (ix4 b p h d) := by
  unfold iblk
  rw [View.read_apply]
  show (V m c main_v4 : S4x8x8192x64.Idx → EReal) _ = _
  have he : ((cfg0.win 3).blk t).view.emb (ix4 0 h q d) = (ix4 b h p d : S4x8x8192x64.Idx) := by
    funext a; apply Fin.ext
    match a with
    | ⟨0, _⟩ => show win0_3.index t 0 * 1 + 1 * 0 = b.val; rw [index3, hb]; simp
    | ⟨1, _⟩ => show win0_3.index t 1 * 8 + 1 * h.val = h.val; rw [index3]; simp
    | ⟨2, _⟩ => show win0_3.index t 2 * 512 + 1 * q.val = p.val; rw [index3, hp]; simp
    | ⟨3, _⟩ => show win0_3.index t 3 * 64 + 1 * d.val = d.val; rw [index3]; simp
  rw [at_v, he, turned_apply]

theorem blk_g (c : Dev nD) (t : Fin cfg0.N) (h : Fin 8) (q : Fin 512) (d : Fin 64) (b : Fin 4) (p : Fin 8192)
    (hb : b.val = t.val / 16) (hp : p.val = t.val % 16 * 512 + q.val) :
    (iblk m c 4 t : S1x8x512x64.Idx → EReal) (ix4 0 h q d) = g m c (ix3 b p ⟨h.val * 64 + d.val, by omega⟩) := by
  unfold iblk
  rw [View.read_apply]
  show (V m c main_v5 : S4x8x8192x64.Idx → EReal) _ = _
  have he : ((cfg0.win 4).blk t).view.emb (ix4 0 h q d) = (ix4 b h p d : S4x8x8192x64.Idx) := by
    funext a; apply Fin.ext
    match a with
    | ⟨0, _⟩ => show win0_4.index t 0 * 1 + 1 * 0 = b.val; rw [index4, hb]; simp
    | ⟨1, _⟩ => show win0_4.index t 1 * 8 + 1 * h.val = h.val; rw [index4]; simp
    | ⟨2, _⟩ => show win0_4.index t 2 * 512 + 1 * q.val = p.val; rw [index4, hp]; simp
    | ⟨3, _⟩ => show win0_4.index t 3 * 64 + 1 * d.val = d.val; rw [index4]; simp
  rw [at_g, he, turned_apply, split_apply]

theorem blk_om (c : Dev nD) (t : Fin cfg0.N) (h : Fin 8) (q : Fin 512) (d : Fin 64) (b : Fin 4) (p : Fin 8192)
    (hb : b.val = t.val / 16) (hp : p.val = t.val % 16 * 512 + q.val) :
    (iblk m c 5 t : S1x8x512x64.Idx → EReal) (ix4 0 h q d) = om m c (ix4 b p h d) := by
  unfold iblk
  rw [View.read_apply]
  show (V m c main_v6 : S4x8x8192x64.Idx → EReal) _ = _
  have he : ((cfg0.win 5).blk t).view.emb (ix4 0 h q d) = (ix4 b h p d : S4x8x8192x64.Idx) := by
    funext a; apply Fin.ext
    match a with
    | ⟨0, _⟩ => show win0_5.index t 0 * 1 + 1 * 0 = b.val; rw [index5, hb]; simp
    | ⟨1, _⟩ => show win0_5.index t 1 * 8 + 1 * h.val = h.val; rw [index5]; simp
    | ⟨2, _⟩ => show win0_5.index t 2 * 512 + 1 * q.val = p.val; rw [index5, hp]; simp
    | ⟨3, _⟩ => show win0_5.index t 3 * 64 + 1 * d.val = d.val; rw [index5]; simp
  rw [at_om, he, turned_apply]

theorem blk_x (c : Dev nD) (t : Fin cfg0.N) (q : Fin 512) (d : Fin 1024) (b : Fin 4) (p : Fin 8192)
    (hb : b.val = t.val / 16) (hp : p.val = t.val % 16 * 512 + q.val) :
    (iblk m c 6 t : S1x512x1024.Idx → EReal) (ix3 0 q d) = x m c (ix3 b p d) := by
  unfold iblk
  rw [View.read_apply]
  show (V m c main_arg6 : S4x8192x1024.Idx → EReal) _ = _
  have he : ((cfg0.win 6).blk t).view.emb (ix3 0 q d) = (ix3 b p d : S4x8192x1024.Idx) := by
    funext a; apply Fin.ext
    match a with
    | ⟨0, _⟩ => show win0_6.index t 0 * 1 + 1 * 0 = b.val; rw [index6, hb]; simp
    | ⟨1, _⟩ => show win0_6.index t 1 * 512 + 1 * q.val = p.val; rw [index6, hp]; simp
    | ⟨2, _⟩ => show win0_6.index t 2 * 1024 + 1 * d.val = d.val; rw [index6]; simp
  rw [at_x, he]

theorem blk_wo (c : Dev nD) (t : Fin cfg0.N) (q : Fin 1024) (d : Fin 1024) :
    (iblk m c 7 t : S1024x1024.Idx → EReal) (ix2 q d) = wo m c (ix2 q d) := by
  unfold iblk
  rw [View.read_apply]
  show (V m c main_v7 : S1024x1024.Idx → EReal) _ = _
  have he : ((cfg0.win 7).blk t).view.emb (ix2 q d) = (ix2 q d : S1024x1024.Idx) := by
    funext a; apply Fin.ext
    match a with
    | ⟨0, _⟩ => show win0_7.index t 0 * 1024 + 1 * q.val = q.val; rw [index7]; simp
    | ⟨1, _⟩ => show win0_7.index t 1 * 1024 + 1 * d.val = d.val; rw [index7]; simp
  rw [at_wo, he]

theorem blk_lw (c : Dev nD) (t : Fin cfg0.N) (q : Fin 8) (d : Fin 64) :
    (iblk m c 8 t : S8x64.Idx → EReal) (ix2 q d) = lw m c (ix1 ⟨q.val * 64 + d.val, by omega⟩) := by
  unfold iblk
  rw [View.read_apply]
  show (V m c main_v8 : S8x64.Idx → EReal) _ = _
  have he : ((cfg0.win 8).blk t).view.emb (ix2 q d) = (ix2 q d : S8x64.Idx) := by
    funext a; apply Fin.ext
    match a with
    | ⟨0, _⟩ => show win0_8.index t 0 * 8 + 1 * q.val = q.val; rw [index8]; simp
    | ⟨1, _⟩ => show win0_8.index t 1 * 64 + 1 * d.val = d.val; rw [index8]; simp
  rw [at_lw, he, params_apply]

theorem blk_lb (c : Dev nD) (t : Fin cfg0.N) (q : Fin 8) (d : Fin 64) :
    (iblk m c 9 t : S8x64.Idx → EReal) (ix2 q d) = lb m c (ix1 ⟨q.val * 64 + d.val, by omega⟩) := by
  unfold iblk
  rw [View.read_apply]
  show (V m c main_v9 : S8x64.Idx → EReal) _ = _
  have he : ((cfg0.win 9).blk t).view.emb (ix2 q d) = (ix2 q d : S8x64.Idx) := by
    funext a; apply Fin.ext
    match a with
    | ⟨0, _⟩ => show win0_9.index t 0 * 8 + 1 * q.val = q.val; rw [index9]; simp
    | ⟨1, _⟩ => show win0_9.index t 1 * 64 + 1 * d.val = d.val; rw [index9]; simp
  rw [at_lb, he, params_apply]

theorem blk_u (c : Dev nD) (t : Fin cfg0.N) (q : Fin 8) (d : Fin 64) :
    (iblk m c 10 t : S8x64.Idx → EReal) (ix2 q d) = u m c (ix2 q d) := by
  unfold iblk
  rw [View.read_apply]
  show (V m c main_arg10 : S8x64.Idx → EReal) _ = _
  have he : ((cfg0.win 10).blk t).view.emb (ix2 q d) = (ix2 q d : S8x64.Idx) := by
    funext a; apply Fin.ext
    match a with
    | ⟨0, _⟩ => show win0_10.index t 0 * 8 + 1 * q.val = q.val; rw [index10]; simp
    | ⟨1, _⟩ => show win0_10.index t 1 * 64 + 1 * d.val = d.val; rw [index10]; simp
  rw [at_u, he]

/-- The grid point that writes row `p` of batch `b`. -/
def pt (b : Fin 4) (p : Fin 8192) : Fin cfg0.N := ⟨b.val * 16 + p.val / 512, by show _ < 64; omega⟩

/-- A head of the recurrence in the reference's terms. -/
abbrev headAt (c : Dev nD) (b : Fin 4) (p : Fin 8192) (h : Fin 8) : Fin 64 → EReal :=
  headOut (fun e => y m c (ix4 b p h e)) (fun e => r m c (ix4 b p h e)) (fun e => k m c (ix4 b p h e)) (fun e => v m c (ix4 b p h e))
    (fun e => g m c (ix3 b p ⟨h.val * 64 + e.val, by omega⟩)) (fun e => lw m c (ix1 ⟨h.val * 64 + e.val, by omega⟩))
    (fun e => lb m c (ix1 ⟨h.val * 64 + e.val, by omega⟩)) (fun e => u m c (ix2 h e))

theorem low (c : Dev nD) (b : Fin 4) (p : Fin 8192) (q j : Fin 512) (hb : b.val = (pt b p).val / 16) (hp : p.val = (pt b p).val % 16 * 512 + q.val) :
    heads (iblk m c 0 (pt b p)) (iblk m c 1 (pt b p)) (iblk m c 2 (pt b p)) (iblk m c 3 (pt b p)) (iblk m c 4 (pt b p)) (iblk m c 5 (pt b p))
      (iblk m c 8 (pt b p)) (iblk m c 9 (pt b p)) (iblk m c 10 (pt b p)) (ix2 q ⟨j.val, by omega⟩)
      = headAt m c b p ⟨j.val / 64, by omega⟩ ⟨j.val % 64, by omega⟩ := by
  refine (heads_low _ _ _ _ _ _ _ _ _ q ⟨j.val / 64, by omega⟩ ⟨j.val % 64, by omega⟩ _ (by show j.val = 64 * (j.val / 64) + j.val % 64; omega)).trans ?_
  unfold headAt
  simp only [blk_y m c (pt b p) _ q _ b p hb hp, blk_r m c (pt b p) _ q _ b p hb hp, blk_k m c (pt b p) _ q _ b p hb hp,
    blk_v m c (pt b p) _ q _ b p hb hp, blk_g m c (pt b p) _ q _ b p hb hp, blk_lw, blk_lb, blk_u]

theorem high (c : Dev nD) (b : Fin 4) (p : Fin 8192) (q j : Fin 512) (hb : b.val = (pt b p).val / 16) (hp : p.val = (pt b p).val % 16 * 512 + q.val) :
    heads (iblk m c 0 (pt b p)) (iblk m c 1 (pt b p)) (iblk m c 2 (pt b p)) (iblk m c 3 (pt b p)) (iblk m c 4 (pt b p)) (iblk m c 5 (pt b p))
      (iblk m c 8 (pt b p)) (iblk m c 9 (pt b p)) (iblk m c 10 (pt b p)) (ix2 q ⟨512 + j.val, by omega⟩)
      = om m c (ix4 b p ⟨j.val / 64, by omega⟩ ⟨j.val % 64, by omega⟩) :=
  (heads_high _ _ _ _ _ _ _ _ _ q ⟨j.val / 64, by omega⟩ ⟨j.val % 64, by omega⟩ _ (by show 512 + j.val = 512 + (64 * (j.val / 64) + j.val % 64); omega)).trans
    (blk_om m c (pt b p) _ q _ b p hb hp)

/-- The result array at row `p` of batch `b`, column `d`. -/
theorem final (c : Dev nD) (b : Fin 4) (p : Fin 8192) (d : Fin 1024) :
    ((dats m 0 c).arrAt 11 cfg0.N : S4x8192x1024.Idx → EReal) (ix3 b p d)
      = x m c (ix3 b p d)
        + (∑ j : Fin 512, headAt m c b p ⟨j.val / 64, by omega⟩ ⟨j.val % 64, by omega⟩ * wo m c (ix2 ⟨j.val, by omega⟩ d)
          + ∑ j : Fin 512, om m c (ix4 b p ⟨j.val / 64, by omega⟩ ⟨j.val % 64, by omega⟩) * wo m c (ix2 ⟨512 + j.val, by omega⟩ d)) := by
  obtain ⟨q, hq⟩ : ∃ q : Fin 512, q.val = p.val % 512 := ⟨⟨p.val % 512, by omega⟩, rfl⟩
  have hb : b.val = (pt b p).val / 16 := by show b.val = (b.val * 16 + p.val / 512) / 16; omega
  have hp : p.val = (pt b p).val % 16 * 512 + q.val := by show p.val = (b.val * 16 + p.val / 512) % 16 * 512 + q.val; omega
  have key := congrFun (Value.blocks11 m c (pt b p) (flush11 _)) (ix3 0 q d : S1x512x1024.Idx)
  rw [View.read_apply] at key
  have he : ((cfg0.win 11).blk (pt b p)).view.emb (ix3 0 q d) = (ix3 b p d : S4x8192x1024.Idx) := by
    funext a; apply Fin.ext
    match a with
    | ⟨0, _⟩ => show win0_11.index (pt b p) 0 * 1 + 1 * 0 = b.val; rw [index11, hb]; simp
    | ⟨1, _⟩ => show win0_11.index (pt b p) 1 * 512 + 1 * q.val = p.val; rw [index11]; exact (by rw [hp]; simp)
    | ⟨2, _⟩ => show win0_11.index (pt b p) 2 * 1024 + 1 * d.val = d.val; rw [index11]; simp
  rw [he, Value.flushed11] at key
  refine key.trans ((congrFun (out_eq _ _ _ _ _ _ _ _ _ _ _) _).trans ((out_apply _ _ _ q d).trans ?_))
  refine congrArg₂ (· + ·) (blk_x m c (pt b p) q d b p hb hp) ((sum_halves _).trans (congrArg₂ (· + ·) ?_ ?_))
  · exact Finset.sum_congr rfl fun j _ => congrArg₂ (· * ·) (low m c b p q j hb hp) (blk_wo m c _ _ _)
  · exact Finset.sum_congr rfl fun j _ => congrArg₂ (· * ·) (high m c b p q j hb hp) (blk_wo m c _ _ _)

end Cert.KMixIdeal.Layer

end
-- ==== Proof.MixClaim.lean ====
/-
  The output call and the reference's lines for it end with equal results.
-/
module

public import proofs.«01_k».proof.Defs
public import proofs.«01_k».proof.Proof.MixRef
public import proofs.«01_k».proof.Proof.MixValue

@[expose] public section

noncomputable section

namespace Cert.Mix

open Idealize.ShloMosaic Idealize.ShloMosaic.TcCoe Idealize.SL.Sem

theorem equal : Cert.algebraic_KMixIdeal_RMixIdeal := by
  intro m g m' g' _ hagree
  refine ⟨fun c => (Cert.KMixIdeal.Gen.dats m 0 c).arrAt 11 Cert.KMixIdeal.cfg0.N, Cert.KMixIdeal.Value.run_blocks m g, ?_⟩
  refine (θ_run _ _ _).mono (fun r h c => ⟨(h c).1.trans ?_, (h c).2⟩) (Cert.RMixIdeal.Value.run m' g')
  obtain ⟨h0, h1, h2, h3, h4, h5, h6, h7, h8, h9, h10⟩ := hagree c
  rw [h0, h1, h2, h3, h4, h5, h6, h7, h8, h9, h10]
  refine (Cert.RMixIdeal.Read.val_main_v40_eq (F := Ideal) _ _ _ _ _ _ _ _ _ _ _).trans ?_
  funext i
  obtain ⟨b, p, d, rfl⟩ : ∃ (b : Fin 4) (p : Fin 8192) (d : Fin 1024), i = ix3 b p d := ⟨i 0, i 1, i 2, eq_ix3 i⟩
  exact (Cert.RMixIdeal.Layer.read _ _ _ _ _ _ _ _ _ _ _ b p d).trans (Cert.KMixIdeal.Layer.final m c b p d).symm

end Cert.Mix

end
-- ==== Proof.MobaSoftmax.lean ====
/-
  The arithmetic of the blockwise softmax over the extended reals, with finite scores and arbitrary values:
  a sum of weighted values scales with the weights, so the running maximum drops out of the quotient.
-/
module

public import Idealize.ShloMosaic.Lib.Pointwise

@[expose] public section

noncomputable section

namespace Cert.Moba

open Idealize.ShloMosaic

theorem scale_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.mpr hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `x` is a real number. -/
def Real' (x : EReal) : Prop := ∃ r : ℝ, x = r

theorem real_of_ne {x : EReal} (h : x ≠ ⊥) (h' : x ≠ ⊤) : Real' x := ⟨x.toReal, (EReal.coe_toReal h' h).symm⟩

theorem exp2_sub (x M : ℝ) : Ideal.exp2 ((x : EReal) - (M : EReal)) = (((2 : ℝ) ^ (-M) * (2 : ℝ) ^ x : ℝ) : EReal) := by
  rw [← EReal.coe_sub]
  show ((Real.rpow 2 (x - M) : ℝ) : EReal) = _
  congr 1
  rw [mul_comm, ← Real.rpow_add (by norm_num)]
  rfl

theorem exp2_bot_sub (M : ℝ) : Ideal.exp2 ((⊥ : EReal) - (M : EReal)) = 0 := by
  rw [EReal.bot_sub]; rfl

theorem exp_sub (x M : ℝ) : Ideal.exp ((x : EReal) - (M : EReal)) = ((Real.exp (-M) * Real.exp x : ℝ) : EReal) := by
  rw [← EReal.coe_sub]
  show ((Real.exp (x - M) : ℝ) : EReal) = _
  congr 1
  rw [← Real.exp_add]
  congr 1
  ring

theorem exp_bot_sub (M : ℝ) : Ideal.exp ((⊥ : EReal) - (M : EReal)) = 0 := by
  rw [EReal.bot_sub]; rfl

/-- A score in units of `log 2` to the base two is the score to the base e. -/
theorem two_rpow (x : ℝ) : (2 : ℝ) ^ (x * (1 / Real.log 2)) = Real.exp x := by
  have h : Real.log 2 ≠ 0 := (Real.log_pos (by norm_num)).ne'
  rw [Real.rpow_def_of_pos (by norm_num)]
  congr 1
  field_simp

/-- The maximum of finitely many numbers below `⊤`, one of them real, is real. -/
theorem sup_real {ι : Type} (s : Finset ι) (f : ι → EReal) (h : ∀ i ∈ s, f i ≠ ⊤) (i : ι) (hi : i ∈ s) (h' : f i ≠ ⊥) :
    Real' (s.sup f) := by
  refine real_of_ne ?_ ?_
  · intro e
    exact h' (le_bot_iff.mp (e ▸ Finset.le_sup hi))
  · classical
    have : s.sup f < ⊤ := (Finset.sup_lt_iff (by exact bot_lt_top)).mpr fun i hi => lt_top_iff_ne_top.mpr (h i hi)
    exact this.ne

theorem div_real (x : EReal) (c L : ℝ) (hc : 0 < c) (hL : 0 < L) :
    Ideal.div ((c : EReal) * x) ((c : EReal) * (L : EReal)) = ((1 / L : ℝ) : EReal) * x := by
  have hne : c * L ≠ 0 := (mul_pos hc hL).ne'
  unfold Ideal.div
  rw [← EReal.coe_mul, if_neg (by exact_mod_cast hne), ← EReal.coe_inv, mul_comm, ← mul_assoc, ← EReal.coe_mul]
  congr 2
  field_simp

end Cert.Moba

end
-- ==== Proof.MobaConst.lean ====
/-
  The constants of the attention over the extended reals, and maxima of a row.
-/
module

public import proofs.«01_k».proof.Proof.MobaSoftmax
public import proofs.«01_k».proof.Proof.Gen.KMobaIdeal.Value

@[expose] public section

noncomputable section

namespace Cert.Moba

open Idealize.ShloMosaic

theorem neg_inf : Ideal.ofBits .f32 0xFF800000#32 = ⊥ := by simp [Ideal.ofBits, Ideal.ieee]

theorem block_length : Ideal.ofBits .f32 0x43800000#32 = ((256 : ℝ) : EReal) := by
  simp [Ideal.ofBits, Ideal.ieee]
  rw [← EReal.coe_mul]
  norm_num

theorem eighth : Ideal.ofBits .f32 0x3E000000#32 = ((1 / 8 : ℝ) : EReal) := by
  simp [Ideal.ofBits, Ideal.ieee]
  rw [← EReal.coe_mul]
  norm_num

theorem pos_inf : Ideal.ofBits .f32 0x7F800000#32 = ⊤ := by simp [Ideal.ofBits, Ideal.ieee]

/-- The kernel's scale, `1 / (8 log 2)`. -/
def base2 : ℝ := (8 * Real.log 2)⁻¹

theorem scale_eq : Named.named (F := Ideal) Cert.KMobaIdeal.κ "scale_log2e" (φ := .f32) 0x3E38AA3B#32 = ((base2 : ℝ) : EReal) :=
  IdealRules.named_const.ideal_named_scalar _ _ _ _ rfl

theorem mask_eq : Named.named (F := Ideal) Cert.KMobaIdeal.κ "mask" (φ := .f32) 0xF149F2CA#32 = (⊥ : EReal) :=
  IdealRules.named_const.ideal_named_scalar _ _ _ _ rfl

theorem fold_ne_top {ι : Type} (s : Finset ι) (f : ι → EReal) (h : ∀ i, f i ≠ ⊤) : Finset.fold max ⊥ f s ≠ ⊤ := by
  have : Finset.fold max ⊥ f s < ⊤ := (Finset.fold_max_lt (c := (⊤ : EReal))).mpr ⟨bot_lt_top, fun i _ => lt_top_iff_ne_top.mpr (h i)⟩
  exact this.ne

/-- The greatest of finitely many entries below `⊤`, one of them a number, is a number. -/
theorem fold_real {ι : Type} [Fintype ι] (f : ι → EReal) (h : ∀ i, f i ≠ ⊤) (i : ι) (h' : f i ≠ ⊥) : Real' (Finset.fold max ⊥ f Finset.univ) := by
  refine real_of_ne ?_ (fold_ne_top _ f h)
  intro e
  have : f i ≤ Finset.fold max ⊥ f Finset.univ := (Finset.le_fold_max (f i)).mpr (Or.inr ⟨i, Finset.mem_univ i, le_refl _⟩)
  rw [e] at this
  exact h' (le_bot_iff.mp this)

/-- A number's maximum with an entry below `⊤` is a number. -/
theorem max_real (M : ℝ) (x : EReal) (h : x ≠ ⊤) : Real' (max (M : EReal) x) := by
  refine real_of_ne ?_ ?_
  · intro e
    have : (M : EReal) ≤ ⊥ := e ▸ le_max_left _ _
    exact EReal.coe_ne_bot M (le_bot_iff.mp this)
  · rcases max_choice (M : EReal) x with e | e <;> rw [e]
    · exact EReal.coe_ne_top M
    · exact h

end Cert.Moba

end
-- ==== Proof.MobaLoads.lean ====
/-
  How often the attention kernel's two counted loops go round at a grid point, and where the loads of a trip lie. The
  facts are checked at every grid point and trip.
-/
module

public import proofs.«01_k».proof.Proof.Gen.KMobaIdeal.Value
public import Idealize.ShloMosaic.Lib.Pipeline.ValueKit
public import Idealize.ShloMosaic.Lib.Pointwise
public import Idealize.ShloMosaic.Lib.Tactic

@[expose] public section

set_option maxRecDepth 16384

noncomputable section

namespace Cert.KMobaIdeal.Layer

open Cert.KMobaIdeal Cert.KMobaIdeal.Gen Idealize.ShloMosaic Idealize.ShloMosaic.TcCoe Idealize.SL.Sem

/-! ## How often the loops go round, and where the loads lie -/

theorem no_rest : ∀ i : grid0.Coords, (k0_t2_loop i).trips = 0 := by decide +kernel
theorem rounds : ∀ i : grid0.Coords, (k0_t1_loop i).trips = ((i 2).val + 3) / 4 := by decide +kernel
theorem own_keys_at : ∀ i : grid0.Coords, k0_off1 i = ![0, 0, (i 2).val * 256, 0] := by decide +kernel
theorem own_values_at : ∀ i : grid0.Coords, k0_off2 i = ![0, 0, (i 2).val, 0, 0] := by decide +kernel
theorem choice_at : ∀ i : grid0.Coords, ∀ k : Fin (k0_t1_loop i).trips, k0_off3 i k = ![0, k.val / 2 * 8, 0] := by decide +kernel
theorem keys_at : ∀ i : grid0.Coords, ∀ k : Fin (k0_t1_loop i).trips, k0_off4 i k = ![0, 0, k.val * 1024, 0] := by decide +kernel
theorem values_at : ∀ i : grid0.Coords, ∀ k : Fin (k0_t1_loop i).trips, ∀ b : Fin 4,
    k0_off5 i k (BitVec.ofNat 32 b.val) = ![0, 0, 4 * k.val + b.val, 0, 0] := by decide +kernel

end Cert.KMobaIdeal.Layer
-- ==== Proof.MobaTrip.lean ====
/-
  The attention kernel's grid point, as the run of the program leaves it: a first pass over the query block's own keys,
  the choice of blocks, a counted loop over the earlier blocks four at a time, and the final quotient. The second counted
  loop the program holds, over what is left after the first, makes no trip.
-/
module

public import proofs.«01_k».proof.Proof.MobaLoads
public import Idealize.ShloMosaic.Lib.Pipeline.ValueKit
public import Idealize.ShloMosaic.Lib.Pointwise
public import Idealize.ShloMosaic.Lib.Tactic

@[expose] public section

set_option maxRecDepth 16384

noncomputable section

namespace Cert.KMobaIdeal.Layer

open Cert.KMobaIdeal Cert.KMobaIdeal.Gen Idealize.ShloMosaic Idealize.ShloMosaic.TcCoe Idealize.SL.Sem

theorem round_lt (i : grid0.Coords) (k : Fin (k0_t1_loop i).trips) : k.val < 8 := by
  have h := k.isLt
  have h2 : (i 2).val < 32 := (i 2).isLt
  have h3 := rounds i
  omega

/-- The query block of a grid point. -/
def ownBlock (i : grid0.Coords) : Fin 32 := ⟨(i 2).val, (i 2).isLt⟩

/-- Block `4 k + b`. -/
def blockAt (i : grid0.Coords) (k : Fin (k0_t1_loop i).trips) (b : Fin 4) : Fin 32 :=
  ⟨4 * k.val + b.val, by have := round_lt i k; have := b.isLt; omega⟩

/-! ## What the loads read -/

/-- The keys of the query block's own positions. -/
def ownKeys (i : grid0.Coords) (x1 : Vec Ideal S1x4x8192x64 .bf16) : Vec Ideal S1x4x256x64 .bf16 :=
  View.ld x1 (Rect.unit (s := S1x4x8192x64) (k0_off1 i) S1x4x256x64.size (k0_off1_inb i))

/-- The values of the query block's own positions. -/
def ownValues (i : grid0.Coords) (x2 : Vec Ideal S1x4x32x80x256 .bf16) : Vec Ideal S1x4x1x80x256 .bf16 :=
  View.ld x2 (Rect.unit (s := S1x4x32x80x256) (k0_off2 i) S1x4x1x80x256.size (k0_off2_inb i))

/-- The keys of trip `k`'s four blocks. -/
def keys (i : grid0.Coords) (k : Fin (k0_t1_loop i).trips) (x1 : Vec Ideal S1x4x8192x64 .bf16) : Vec Ideal S1x4x1024x64 .bf16 :=
  View.ld x1 (Rect.unit (s := S1x4x8192x64) (k0_off4 i k) S1x4x1024x64.size (k0_off4_inb i k))

/-- The values of block `b` of trip `k`. -/
def values (i : grid0.Coords) (k : Fin (k0_t1_loop i).trips) (b : Fin 4) (x2 : Vec Ideal S1x4x32x80x256 .bf16) :
    Vec Ideal S1x4x1x80x256 .bf16 :=
  View.ld x2 (Rect.unit (s := S1x4x32x80x256) (k0_off5 i k (BitVec.ofNat 32 b.val)) S1x4x1x80x256.size (k0_off5_inb i k b))

/-- The eight rows of the choice that trip `k` reads. -/
def choiceRows (i : grid0.Coords) (k : Fin (k0_t1_loop i).trips) (s : Vec Ideal S4x32x256 .f32) : Vec Ideal S4x8x256 .f32 :=
  View.ld s (Rect.unit (s := S4x32x256) (k0_off3 i k) S4x8x256.size (k0_off3_inb i k))

theorem ownKeys_apply (i : grid0.Coords) (x1 : Vec Ideal S1x4x8192x64 .bf16) (h : Fin 4) (t : Fin 256) (d : Fin 64) :
    ownKeys i x1 (ix4 0 h t d) = x1 (ix4 0 h ⟨(ownBlock i).val * 256 + t.val, by have := (ownBlock i).isLt; have := t.isLt; omega⟩ d) := by
  unfold ownKeys
  refine View.ld_unit_apply_of _ _ _ _ _ _ fun a => ?_
  refine Eq.trans ?_ (congrArg (· + _) (congrFun (own_keys_at i) a).symm)
  fin_cases a <;> simp [ix4, ownBlock]

theorem ownValues_apply (i : grid0.Coords) (x2 : Vec Ideal S1x4x32x80x256 .bf16) (h : Fin 4) (e : Fin 80) (t : Fin 256) :
    ownValues i x2 (ix5 0 h 0 e t) = x2 (ix5 0 h (ownBlock i) e t) := by
  unfold ownValues
  refine View.ld_unit_apply_of _ _ _ _ _ _ fun a => ?_
  refine Eq.trans ?_ (congrArg (· + _) (congrFun (own_values_at i) a).symm)
  fin_cases a <;> simp [ix5, ownBlock]

theorem keys_apply (i : grid0.Coords) (k : Fin (k0_t1_loop i).trips) (x1 : Vec Ideal S1x4x8192x64 .bf16) (h : Fin 4) (t : Fin 1024) (d : Fin 64) :
    keys i k x1 (ix4 0 h t d) = x1 (ix4 0 h ⟨k.val * 1024 + t.val, by have := round_lt i k; have := t.isLt; omega⟩ d) := by
  unfold keys
  refine View.ld_unit_apply_of _ _ _ _ _ _ fun a => ?_
  refine Eq.trans ?_ (congrArg (· + _) (congrFun (keys_at i k) a).symm)
  fin_cases a <;> simp [ix4]

theorem values_apply (i : grid0.Coords) (k : Fin (k0_t1_loop i).trips) (b : Fin 4) (x2 : Vec Ideal S1x4x32x80x256 .bf16) (h : Fin 4) (e : Fin 80) (t : Fin 256) :
    values i k b x2 (ix5 0 h 0 e t) = x2 (ix5 0 h (blockAt i k b) e t) := by
  unfold values
  refine View.ld_unit_apply_of _ _ _ _ _ _ fun a => ?_
  refine Eq.trans ?_ (congrArg (· + _) (congrFun (values_at i k b) a).symm)
  fin_cases a <;> simp [ix5, blockAt]

theorem choiceRows_apply (i : grid0.Coords) (k : Fin (k0_t1_loop i).trips) (s : Vec Ideal S4x32x256 .f32) (h : Fin 4) (b : Fin 8) (r : Fin 256) :
    choiceRows i k s (ix3 h b r) = s (ix3 h ⟨k.val / 2 * 8 + b.val, by have := round_lt i k; have := b.isLt; omega⟩ r) := by
  unfold choiceRows
  refine View.ld_unit_apply_of _ _ _ _ _ _ fun a => ?_
  refine Eq.trans ?_ (congrArg (· + _) (congrFun (choice_at i k) a).symm)
  fin_cases a <;> simp [ix3]

/-! ## A trip of the loop -/

/-- Which of trip `k`'s four blocks are chosen, per head and query. -/
def marked (i : grid0.Coords) (k : Fin (k0_t1_loop i).trips) (s : Vec Ideal S4x32x256 .f32) : IVec S4x4x256 1 :=
  k0_pay6 i 0#32 1#32 k (choiceRows i k s)

/-- Whether trip `k` reads the upper four of its eight rows, in the program's own words. -/
def evenTrip (k : ℕ) : BitVec 1 :=
  let v168 : BitVec 32 := Scalar.select (Scalar.cmpi .eq 2#32 0#32) 1#32 2#32
  let v169 : BitVec 32 := Scalar.remsi (Scf.iv 0#32 1#32 k) v168
  Scalar.cmpi .eq (Scalar.select (Scalar.andi (Scalar.xori (Scalar.cmpi .slt v169 0#32) (Scalar.cmpi .slt v168 0#32)) (Scalar.cmpi .ne v169 0#32))
    (Scalar.addi v169 v168) v169) 0#32

theorem evenTrip_eq : ∀ k : Fin 8, evenTrip k.val = BitVec.ofBool (decide (k.val % 2 = 0)) := by decide +kernel

theorem select_ofBool {α : Type} (p : Prop) [Decidable p] (u v : α) : Scalar.select (BitVec.ofBool (decide p)) u v = if p then u else v := by
  by_cases h : p <;> simp [Scalar.select, h]

theorem marked_apply (i : grid0.Coords) (k : Fin (k0_t1_loop i).trips) (s : Vec Ideal S4x32x256 .f32) (h : Fin 4) (b : Fin 4) (r : Fin 256) :
    marked i k s (ix3 h b r) = BitVec.ofBool (decide ((0 : EReal) < s (ix3 h (blockAt i k b) r))) := by
  have hk := round_lt i k
  show cmpf (F := Ideal) .ogt (Scalar.select (evenTrip k.val) (extractStridedSlice S4x4x256 ![0, 0, 0] (choiceRows i k s) slices_S4x8x256_o0_0_0_S4x4x256)
    (extractStridedSlice S4x4x256 ![0, 4, 0] (choiceRows i k s) slices_S4x8x256_o0_4_0_S4x4x256)) (broadcast S4x4x256 (Scalar.ofBits .f32 0x00000000#32)) (ix3 h b r) = _
  rw [evenTrip_eq ⟨k.val, hk⟩, select_ofBool]
  dsimp only
  by_cases hp : k.val % 2 = 0
  · rw [if_pos hp]
    pointwise
    rw [choiceRows_apply]
    have : (⟨k.val / 2 * 8 + b.val, by have := b.isLt; omega⟩ : Fin 32) = blockAt i k b := Fin.ext (by unfold blockAt; dsimp only; omega)
    rw [← this]
  · rw [if_neg hp]
    pointwise
    rw [choiceRows_apply]
    have : (⟨k.val / 2 * 8 + (4 + b.val), by have := b.isLt; omega⟩ : Fin 32) = blockAt i k b := Fin.ext (by unfold blockAt; dsimp only; omega)
    rw [← this]

/-- The running maximum and the running weighted values after trip `k`, from those before it. -/
def trip (i : grid0.Coords) (q : FVec Ideal S4x256x64 .bf16) (x1 : Vec Ideal S1x4x8192x64 .bf16) (x2 : Vec Ideal S1x4x32x80x256 .bf16)
    (s : Vec Ideal S4x32x256 .f32) (k : Fin (k0_t1_loop i).trips) (acc : FVec Ideal S4x1x256 .f32 × FVec Ideal S4x80x256 .f32) :
    FVec Ideal S4x1x256 .f32 × FVec Ideal S4x80x256 .f32 :=
  (k0_pay8 q acc.1 (marked i k s) (keys i k x1),
    k0_pay35 (marked i k s) (k0_pay9 q acc.1 (marked i k s) (keys i k x1))
      (k0_pay10 q acc.1 acc.2 (marked i k s) (keys i k x1) (values i k 0 x2)) (k0_pay11 (values i k 1 x2))
      (k0_pay12 q acc.1 (marked i k s) (keys i k x1)) (values i k 2 x2) (values i k 3 x2))

theorem trip_eq (𝒱 : Variants) (c : Dev nD) (bd : Option 𝒱.V) (i : grid0.Coords) (arg3 : Memref sig .tc .vmem S1x4x256x64 .f32) (harg3 : arg3.IsWhole) (arg4 : Memref sig .tc .vmem S1x4x8192x64 .bf16) (harg4 : arg4.IsWhole) (arg5 : Memref sig .tc .vmem S1x4x32x80x256 .bf16) (harg5 : arg5.IsWhole) (arg6 : Memref sig .tc .vmem S1x4x32x64 .f32) (harg6 : arg6.IsWhole) (arg7 : Memref sig .tc .vmem S1x4x256x64 .f32) (harg7 : arg7.IsWhole) (arg8 : Memref sig .tc .vmem S4x32x256 .f32) (harg8 : arg8.IsWhole) (arg2 : BitVec 32) (q : FVec Ideal S4x256x64 .bf16) (v19 : FVec Ideal S4x1x256 .f32) (v28 : FVec Ideal S4x80x256 .f32) (v35 : IVec S4x32x256 32) (v70 : FVec Ideal S4x32x256 .f32) (v72 : IVec S4x32x256 1) (v78 : IVec S4x32x256 1) (f4 : BufTy.Contents (Elt Ideal) arg4.view.ty) (f5 : BufTy.Contents (Elt Ideal) arg5.view.ty) (f8 : BufTy.Contents (Elt Ideal) arg8.view.ty) (k : Fin (k0_t1_loop i).trips) (acc : FVec Ideal S4x1x256 .f32 × FVec Ideal S4x80x256 .f32) :
    tripR_k0_t1 𝒱 c bd i arg3 harg3 arg4 harg4 arg5 harg5 arg6 harg6 arg7 harg7 arg8 harg8 arg2 q v19 v28 v35 v70 v72 v78 f4 f5 f8 k acc
      = trip i q (arg4.view.read (Elt Ideal) f4) (arg5.view.read (Elt Ideal) f5) (arg8.view.read (Elt Ideal) f8) k acc := by
  unfold tripR_k0_t1 trip_k0_t1
  dsimp only
  sl_unfold_words
  rfl

/-- The pair the loop carries, before trip `n`. -/
def carried (i : grid0.Coords) (q : FVec Ideal S4x256x64 .bf16) (x1 : Vec Ideal S1x4x8192x64 .bf16) (x2 : Vec Ideal S1x4x32x80x256 .bf16)
    (s : Vec Ideal S4x32x256 .f32) (init : FVec Ideal S4x1x256 .f32 × FVec Ideal S4x80x256 .f32) : ℕ → FVec Ideal S4x1x256 .f32 × FVec Ideal S4x80x256 .f32
  | 0 => init
  | n + 1 => if h : n < (k0_t1_loop i).trips then trip i q x1 x2 s ⟨n, h⟩ (carried i q x1 x2 s init n) else carried i q x1 x2 s init n

theorem carried_eq (𝒱 : Variants) (c : Dev nD) (bd : Option 𝒱.V) (i : grid0.Coords) (arg3 : Memref sig .tc .vmem S1x4x256x64 .f32) (harg3 : arg3.IsWhole) (arg4 : Memref sig .tc .vmem S1x4x8192x64 .bf16) (harg4 : arg4.IsWhole) (arg5 : Memref sig .tc .vmem S1x4x32x80x256 .bf16) (harg5 : arg5.IsWhole) (arg6 : Memref sig .tc .vmem S1x4x32x64 .f32) (harg6 : arg6.IsWhole) (arg7 : Memref sig .tc .vmem S1x4x256x64 .f32) (harg7 : arg7.IsWhole) (arg8 : Memref sig .tc .vmem S4x32x256 .f32) (harg8 : arg8.IsWhole) (arg2 : BitVec 32) (q : FVec Ideal S4x256x64 .bf16) (v19 : FVec Ideal S4x1x256 .f32) (v28 : FVec Ideal S4x80x256 .f32) (v35 : IVec S4x32x256 32) (v70 : FVec Ideal S4x32x256 .f32) (v72 : IVec S4x32x256 1) (v78 : IVec S4x32x256 1) (f4 : BufTy.Contents (Elt Ideal) arg4.view.ty) (f5 : BufTy.Contents (Elt Ideal) arg5.view.ty) (f8 : BufTy.Contents (Elt Ideal) arg8.view.ty) (init : FVec Ideal S4x1x256 .f32 × FVec Ideal S4x80x256 .f32) :
    ∀ n : ℕ, n ≤ (k0_t1_loop i).trips → st_k0_t1 𝒱 c bd i arg3 harg3 arg4 harg4 arg5 harg5 arg6 harg6 arg7 harg7 arg8 harg8 arg2 q v19 v28 v35 v70 v72 v78 f4 f5 f8 init n
      = carried i q (arg4.view.read (Elt Ideal) f4) (arg5.view.read (Elt Ideal) f5) (arg8.view.read (Elt Ideal) f8) init n
  | 0, _ => rfl
  | n + 1, h => by
    have hn : n < (k0_t1_loop i).trips := h
    rw [show n + 1 = (⟨n, hn⟩ : Fin (k0_t1_loop i).trips).val + 1 from rfl, st_k0_t1_succ, trip_eq, carried, dif_pos hn]
    exact congrArg _ (carried_eq 𝒱 c bd i arg3 harg3 arg4 harg4 arg5 harg5 arg6 harg6 arg7 harg7 arg8 harg8 arg2 q v19 v28 v35 v70 v72 v78 f4 f5 f8 init n (Nat.le_of_lt hn))

end Cert.KMobaIdeal.Layer
-- ==== Proof.MobaPoint.lean ====
/-
  What one grid point of the attention kernel writes back, from its blocks of the query, the keys, the values and the
  blocks' mean keys: per head, the weighted values over the weights' sums that the loop leaves.
-/
module

public import proofs.«01_k».proof.Proof.MobaTrip

@[expose] public section

set_option maxRecDepth 16384

noncomputable section

namespace Cert.KMobaIdeal.Layer

open Cert.KMobaIdeal Cert.KMobaIdeal.Gen Idealize.ShloMosaic Idealize.ShloMosaic.TcCoe Idealize.SL.Sem

/-! ## The whole grid point -/

/-- The query block's choice of blocks, as the scratch buffer holds it. -/
def choice (i : grid0.Coords) (x0 : Vec Ideal S1x4x256x64 .f32) (x3 : Vec Ideal S1x4x32x64 .f32) : Vec Ideal S4x32x256 .f32 :=
  k0_pay34 (iota .tc S4x32x256 32 [1] iota_S4x32x256_d1_w32)
    (k0_pay31 (k0_pay25 x0 x3) (iota .tc S32x256 32 [0] iota_S32x256_d0_w32) (k0_pay26 i))
    (k0_pay32 (k0_pay25 x0 x3) (iota .tc S32x256 32 [0] iota_S32x256_d0_w32) (k0_pay26 i))
    (k0_pay33 (k0_pay25 x0 x3) (iota .tc S32x256 32 [0] iota_S32x256_d0_w32) (k0_pay26 i))

/-- The weighted values and the weights' sums after the last trip. -/
def weighted (i : grid0.Coords) (x0 : Vec Ideal S1x4x256x64 .f32) (x1 : Vec Ideal S1x4x8192x64 .bf16) (x2 : Vec Ideal S1x4x32x80x256 .bf16)
    (x3 : Vec Ideal S1x4x32x64 .f32) : FVec Ideal S4x80x256 .f32 :=
  (carried i (k0_pay21 x0) x1 x2 (choice i x0 x3) (k0_pay23 x0 (ownKeys i x1), k0_pay24 x0 (ownKeys i x1) (ownValues i x2)) (k0_t1_loop i).trips).2

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

theorem scratch_read (arg8 : Memref sig .tc .vmem S4x32x256 .f32) (f : arg8.view.ty.Contents (Elt Ideal)) (w : Vec Ideal S4x32x256 .f32) :
    arg8.view.read (Elt Ideal) (arg8.view.writes (Elt Ideal) f
      [⟨Rect.unit (s := S4x32x256) ![0, 0, 0] S4x32x256.size inb_S4x32x256_S4x32x256_0_0_0, w⟩]) = w := by
  rw [View.read_writes_eq_canon arg8.view f _ (View.cover_of_tiled_head _ _ _ rfl), View.canon_unit_zero zeros3]

theorem out_eq (c : Dev nD) (i : grid0.Coords) (arg3 : Memref sig .tc .vmem S1x4x256x64 .f32) (harg3 : arg3.IsWhole) (arg4 : Memref sig .tc .vmem S1x4x8192x64 .bf16) (harg4 : arg4.IsWhole) (arg5 : Memref sig .tc .vmem S1x4x32x80x256 .bf16) (harg5 : arg5.IsWhole) (arg6 : Memref sig .tc .vmem S1x4x32x64 .f32) (harg6 : arg6.IsWhole) (arg7 : Memref sig .tc .vmem S1x4x256x64 .f32) (harg7 : arg7.IsWhole) (arg8 : Memref sig .tc .vmem S4x32x256 .f32) (harg8 : arg8.IsWhole)
    (x0 : Vec Ideal S1x4x256x64 .f32) (x1 : Vec Ideal S1x4x8192x64 .bf16) (x2 : Vec Ideal S1x4x32x80x256 .bf16) (x3 : Vec Ideal S1x4x32x64 .f32) :
    out0_A_4 c i arg3 harg3 arg4 harg4 arg5 harg5 arg6 harg6 arg7 harg7 arg8 harg8 x0 x1 x2 x3
      = View.canon [
          ⟨Rect.unit (s := S1x4x256x64) ![0, 3, 0, 0] S1x1x256x64.size inb_S1x4x256x64_S1x1x256x64_0_3_0_0, k0_pay5 (k0_pay37 (weighted i x0 x1 x2 x3)) (k0_pay38 (weighted i x0 x1 x2 x3))⟩,
          ⟨Rect.unit (s := S1x4x256x64) ![0, 2, 0, 0] S1x1x256x64.size inb_S1x4x256x64_S1x1x256x64_0_2_0_0, k0_pay4 (k0_pay37 (weighted i x0 x1 x2 x3)) (k0_pay38 (weighted i x0 x1 x2 x3))⟩,
          ⟨Rect.unit (s := S1x4x256x64) ![0, 1, 0, 0] S1x1x256x64.size inb_S1x4x256x64_S1x1x256x64_0_1_0_0, k0_pay3 (k0_pay37 (weighted i x0 x1 x2 x3)) (k0_pay38 (weighted i x0 x1 x2 x3))⟩,
          ⟨Rect.unit (s := S1x4x256x64) ![0, 0, 0, 0] S1x1x256x64.size inb_S1x4x256x64_S1x1x256x64_0_0_0_0, k0_pay2 (k0_pay37 (weighted i x0 x1 x2 x3)) (k0_pay38 (weighted i x0 x1 x2 x3))⟩] := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [show Scf.trips (k0_t2_loop i).lb (k0_t2_loop i).ub (k0_t2_loop i).st = 0 from no_rest i]
  simp only [st_k0_t2_zero]
  rw [carried_eq _ _ _ _ _ _ _ _ _ _ _ _ _ _ _ _ _ _ _ _ _ _ _ _ _ _ _ _ _ (le_refl _)]
  rw [scratch_read]
  simp only [View.readAt_eq_ld, harg3.read_unread, harg4.read_unread, harg5.read_unread, harg6.read_unread, View.ld_unit_zero (S := S1x4x256x64) zeros4, View.ld_unit_zero (S := S1x4x32x64) zeros4]
  rfl

end Cert.KMobaIdeal.Layer
-- ==== Proof.MobaPays.lean ====
/-
  The attention kernel's expressions read at one entry, over the extended reals.
-/
module

public import proofs.«01_k».proof.Proof.MobaConst
public import proofs.«01_k».proof.Proof.MobaPoint

@[expose] public section

set_option maxRecDepth 16384

noncomputable section

namespace Cert.KMobaIdeal.Layer

open Cert.KMobaIdeal Cert.KMobaIdeal.Gen Idealize.ShloMosaic Idealize.ShloMosaic.TcCoe Idealize.SL.Sem Cert.Moba

theorem query_apply (x0 : Vec Ideal S1x4x256x64 .f32) (h : Fin 4) (r : Fin 256) (d : Fin 64) :
    k0_pay21 x0 (ix3 h r d) = x0 (ix4 0 h r d) * (base2 : EReal) := by
  unfold k0_pay21 k0_pay20
  pointwise
  rw [scale_eq]

/-- A key's score against a query, in units of `log 2`. -/
theorem scores_apply (q : FVec Ideal S4x256x64 .bf16) (ks : Vec Ideal S1x4x1024x64 .bf16) (h b : Fin 4) (t r : Fin 256) :
    k0_pay7 q ks (ix4 h b t r) = ∑ d : Fin 64, ks (ix4 0 h ⟨b.val * 256 + t.val, by have := b.isLt; have := t.isLt; omega⟩ d) * q (ix3 h r d) := by
  unfold k0_pay7
  pointwise

theorem maximum_apply (q : FVec Ideal S4x256x64 .bf16) (M : FVec Ideal S4x1x256 .f32) (on : IVec S4x4x256 1) (ks : Vec Ideal S1x4x1024x64 .bf16) (h : Fin 4) (r : Fin 256) :
    k0_pay8 q M on ks (ix3 h 0 r) = max (M (ix3 h 0 r)) (Finset.fold max ⊥ (fun b : Fin 4 => Scalar.select (on (ix3 h b r))
      (Finset.fold max ⊥ (fun t : Fin 256 => k0_pay7 q ks (ix4 h b t r)) Finset.univ) ⊥) Finset.univ) := by
  unfold k0_pay8
  generalize k0_pay7 q ks = sc
  pointwise
  rw [mask_eq, neg_inf]

theorem weights_apply (q : FVec Ideal S4x256x64 .bf16) (M : FVec Ideal S4x1x256 .f32) (on : IVec S4x4x256 1) (ks : Vec Ideal S1x4x1024x64 .bf16) (h b : Fin 4) (t r : Fin 256) :
    k0_pay9 q M on ks (ix4 h b t r) = Ideal.exp2 (k0_pay7 q ks (ix4 h b t r) - k0_pay8 q M on ks (ix3 h 0 r)) := by
  unfold k0_pay9
  generalize k0_pay7 q ks = sc
  generalize k0_pay8 q M on ks = M'
  pointwise
  rfl

theorem first_apply (q : FVec Ideal S4x256x64 .bf16) (M : FVec Ideal S4x1x256 .f32) (a : FVec Ideal S4x80x256 .f32) (on : IVec S4x4x256 1) (ks : Vec Ideal S1x4x1024x64 .bf16)
    (v : Vec Ideal S1x4x1x80x256 .bf16) (h : Fin 4) (e : Fin 80) (r : Fin 256) :
    k0_pay10 q M a on ks v (ix3 h e r) = Ideal.exp2 (M (ix3 h 0 r) - k0_pay8 q M on ks (ix3 h 0 r)) * a (ix3 h e r)
      + Scalar.select (on (ix3 h 0 r)) (∑ t : Fin 256, v (ix5 0 h 0 e t) * k0_pay9 q M on ks (ix4 h 0 t r)) (0 : EReal) := by
  unfold k0_pay10
  generalize k0_pay8 q M on ks = M'
  generalize k0_pay9 q M on ks = P
  pointwise
  rfl

theorem rest_apply (on : IVec S4x4x256 1) (P : FVec Ideal S4x4x256x256 .f32) (a : FVec Ideal S4x80x256 .f32) (v1 : FVec Ideal S4x80x256 .bf16) (P1 : FVec Ideal S4x256x256 .bf16)
    (v2 v3 : Vec Ideal S1x4x1x80x256 .bf16) (h : Fin 4) (e : Fin 80) (r : Fin 256) :
    k0_pay35 on P a v1 P1 v2 v3 (ix3 h e r) = a (ix3 h e r) + Scalar.select (on (ix3 h 1 r)) (∑ t : Fin 256, v1 (ix3 h e t) * P1 (ix3 h t r)) (0 : EReal)
      + Scalar.select (on (ix3 h 2 r)) (∑ t : Fin 256, v2 (ix5 0 h 0 e t) * P (ix4 h 2 t r)) (0 : EReal)
      + Scalar.select (on (ix3 h 3 r)) (∑ t : Fin 256, v3 (ix5 0 h 0 e t) * P (ix4 h 3 t r)) (0 : EReal) := by
  unfold k0_pay35
  pointwise

theorem second_values_apply (v : Vec Ideal S1x4x1x80x256 .bf16) (h : Fin 4) (e : Fin 80) (t : Fin 256) : k0_pay11 v (ix3 h e t) = v (ix5 0 h 0 e t) := by
  unfold k0_pay11
  pointwise

theorem second_weights_apply (q : FVec Ideal S4x256x64 .bf16) (M : FVec Ideal S4x1x256 .f32) (on : IVec S4x4x256 1) (ks : Vec Ideal S1x4x1024x64 .bf16) (h : Fin 4) (t r : Fin 256) :
    k0_pay12 q M on ks (ix3 h t r) = k0_pay9 q M on ks (ix4 h 1 t r) := by
  unfold k0_pay12
  generalize k0_pay9 q M on ks = P
  pointwise

theorem not_after : ∀ t r : Fin 256, IntOp.cmpi .sle (BitVec.ofNat 32 t.val) (BitVec.ofNat 32 r.val) = BitVec.ofBool (decide (t.val ≤ r.val)) := by
  decide +kernel

theorem own_scores_apply (x0 : Vec Ideal S1x4x256x64 .f32) (ks : Vec Ideal S1x4x256x64 .bf16) (h : Fin 4) (t r : Fin 256) :
    k0_pay22 x0 ks (ix3 h t r) = if t.val ≤ r.val then ∑ d : Fin 64, ks (ix4 0 h t d) * (x0 (ix4 0 h r d) * (base2 : EReal)) else ⊥ := by
  have hq : ∀ d, k0_pay21 x0 (ix3 h r d) = x0 (ix4 0 h r d) * (base2 : EReal) := fun d => query_apply x0 h r d
  simp only [← hq]
  unfold k0_pay22
  generalize k0_pay21 x0 = q
  pointwise
  rw [mask_eq, ← select_ofBool, ← not_after]

theorem own_maximum_apply (x0 : Vec Ideal S1x4x256x64 .f32) (ks : Vec Ideal S1x4x256x64 .bf16) (h : Fin 4) (r : Fin 256) :
    k0_pay23 x0 ks (ix3 h 0 r) = Finset.fold max ⊥ (fun t : Fin 256 => k0_pay22 x0 ks (ix3 h t r)) Finset.univ := by
  unfold k0_pay23
  generalize k0_pay22 x0 ks = sc
  pointwise
  rw [neg_inf]

theorem own_weighted_apply (x0 : Vec Ideal S1x4x256x64 .f32) (ks : Vec Ideal S1x4x256x64 .bf16) (v : Vec Ideal S1x4x1x80x256 .bf16) (h : Fin 4) (e : Fin 80) (r : Fin 256) :
    k0_pay24 x0 ks v (ix3 h e r) = ∑ t : Fin 256, v (ix5 0 h 0 e t) * Ideal.exp2 (k0_pay22 x0 ks (ix3 h t r) - k0_pay23 x0 ks (ix3 h 0 r)) := by
  unfold k0_pay24
  generalize k0_pay22 x0 ks = sc
  generalize k0_pay23 x0 ks = M
  pointwise
  rfl

end Cert.KMobaIdeal.Layer

end
-- ==== Proof.MobaCarry.lean ====
/-
  The attention kernel's loop, for finite queries and keys: what it carries is the running maximum `M` and `2 ^ (-M)` times
  the weighted values of the blocks met so far, each weight two to the score.
-/
module

public import proofs.«01_k».proof.Proof.MobaPays

@[expose] public section

set_option maxRecDepth 16384

noncomputable section

namespace Cert.KMobaIdeal.Layer

open Cert.KMobaIdeal Cert.KMobaIdeal.Gen Idealize.ShloMosaic Idealize.ShloMosaic.TcCoe Idealize.SL.Sem Cert.Moba

/-- Position `t` of block `j`. -/
def place (j : Fin 32) (t : Fin 256) : Fin 8192 := ⟨j.val * 256 + t.val, by have := j.isLt; have := t.isLt; omega⟩

/-- A query's score against a position, in units of `log 2`. -/
def score (qr : Fin 4 → Fin 256 → Fin 64 → ℝ) (kr : Fin 4 → Fin 8192 → Fin 64 → ℝ) (h : Fin 4) (r : Fin 256) (p : Fin 8192) : ℝ :=
  ∑ d : Fin 64, kr h p d * (qr h r d * base2)

/-- Two to the score. -/
def weight (qr : Fin 4 → Fin 256 → Fin 64 → ℝ) (kr : Fin 4 → Fin 8192 → Fin 64 → ℝ) (h : Fin 4) (r : Fin 256) (p : Fin 8192) : ℝ :=
  (2 : ℝ) ^ score qr kr h r p

/-- The weighted values of a whole block. -/
def blockSum (w : Fin 8192 → ℝ) (v : Fin 32 → Fin 256 → EReal) (j : Fin 32) : EReal :=
  ∑ t : Fin 256, v j t * ((w (place j t) : ℝ) : EReal)

open Classical in
/-- What block number `n` adds: its weighted values if it is chosen. -/
def added (w : Fin 8192 → ℝ) (v : Fin 32 → Fin 256 → EReal) (on : Fin 32 → Prop) (n : ℕ) : EReal :=
  if hj : n < 32 then (if on ⟨n, hj⟩ then blockSum w v ⟨n, hj⟩ else 0) else 0

/-- The weighted values of the query's own block up to its own position. -/
def ownSum (own : Fin 32) (r : Fin 256) (w : Fin 8192 → ℝ) (v : Fin 32 → Fin 256 → EReal) : EReal :=
  ∑ t : Fin 256, if t.val ≤ r.val then v own t * ((w (place own t) : ℝ) : EReal) else 0

/-- The weighted values of the chosen blocks up to number `n`, over the query's own block up to its own position. -/
def met (own : Fin 32) (r : Fin 256) (w : Fin 8192 → ℝ) (v : Fin 32 → Fin 256 → EReal) (on : Fin 32 → Prop) (n : ℕ) : EReal :=
  ownSum own r w v + ∑ j ∈ Finset.range n, added w v on j

theorem score_real (qr : Fin 4 → Fin 256 → Fin 64 → ℝ) (kr : Fin 4 → Fin 8192 → Fin 64 → ℝ) (h : Fin 4) (r : Fin 256) (p : Fin 8192) :
    (∑ d : Fin 64, (kr h p d : EReal) * ((qr h r d : EReal) * (base2 : EReal))) = ((score qr kr h r p : ℝ) : EReal) := by
  unfold score
  rw [coe_sum]
  refine Finset.sum_congr rfl fun d _ => ?_
  rw [EReal.coe_mul, EReal.coe_mul]

theorem weighted_block (M : ℝ) (w : Fin 8192 → ℝ) (s : Fin 8192 → ℝ) (hw : ∀ p, w p = (2 : ℝ) ^ s p) (v : Fin 32 → Fin 256 → EReal) (j : Fin 32) :
    (∑ t : Fin 256, v j t * Ideal.exp2 ((s (place j t) : EReal) - (M : EReal))) = (((2 : ℝ) ^ (-M) : ℝ) : EReal) * blockSum w v j := by
  unfold blockSum
  rw [scale_sum _ _ (Real.rpow_nonneg (by norm_num) _)]
  refine Finset.sum_congr rfl fun t _ => ?_
  rw [exp2_sub, EReal.coe_mul, hw, mul_left_comm]

section Point

variable (i : grid0.Coords) (x0 : Vec Ideal S1x4x256x64 .f32) (x1 : Vec Ideal S1x4x8192x64 .bf16) (x2 : Vec Ideal S1x4x32x80x256 .bf16)
  (qr : Fin 4 → Fin 256 → Fin 64 → ℝ) (kr : Fin 4 → Fin 8192 → Fin 64 → ℝ)
  (hq : ∀ h r d, x0 (ix4 0 h r d) = (qr h r d : EReal)) (hk : ∀ h p d, x1 (ix4 0 h p d) = (kr h p d : EReal))

include hq hk

theorem own_score (h : Fin 4) (t r : Fin 256) :
    k0_pay22 x0 (ownKeys i x1) (ix3 h t r) = if t.val ≤ r.val then ((score qr kr h r (place (ownBlock i) t) : ℝ) : EReal) else ⊥ := by
  rw [own_scores_apply]
  split
  · rw [← score_real]
    refine Finset.sum_congr rfl fun d _ => ?_
    rw [ownKeys_apply, hq, hk]
    rfl
  · rfl

theorem own_max_real (h : Fin 4) (r : Fin 256) : ∃ M : ℝ, k0_pay23 x0 (ownKeys i x1) (ix3 h 0 r) = (M : EReal) := by
  rw [own_maximum_apply]
  refine fold_real _ (fun t => ?_) r ?_
  · rw [own_score i x0 x1 qr kr hq hk]
    split
    · exact EReal.coe_ne_top _
    · exact bot_ne_top
  · rw [own_score i x0 x1 qr kr hq hk, if_pos (le_refl _)]
    exact EReal.coe_ne_bot _

theorem trip_score (k : Fin (k0_t1_loop i).trips) (h b : Fin 4) (t r : Fin 256) :
    k0_pay7 (k0_pay21 x0) (keys i k x1) (ix4 h b t r) = ((score qr kr h r (place (blockAt i k b) t) : ℝ) : EReal) := by
  rw [scores_apply, ← score_real]
  refine Finset.sum_congr rfl fun d _ => ?_
  rw [keys_apply, query_apply, hq, hk]
  congr 3
  refine Fin.ext ?_
  unfold place blockAt
  dsimp only
  omega

theorem trip_max_real (s : Vec Ideal S4x32x256 .f32) (k : Fin (k0_t1_loop i).trips) (acc : FVec Ideal S4x1x256 .f32) (h : Fin 4) (r : Fin 256) (M : ℝ)
    (hM : acc (ix3 h 0 r) = (M : EReal)) : ∃ M' : ℝ, k0_pay8 (k0_pay21 x0) acc (marked i k s) (keys i k x1) (ix3 h 0 r) = (M' : EReal) := by
  rw [maximum_apply, hM]
  refine max_real M _ (fold_ne_top _ _ fun b => ?_)
  rw [marked_apply, select_ofBool]
  split
  · refine fold_ne_top _ _ fun t => ?_
    rw [trip_score i x0 x1 qr kr hq hk]
    exact EReal.coe_ne_top _
  · exact bot_ne_top

theorem trip_block (s : Vec Ideal S4x32x256 .f32) (k : Fin (k0_t1_loop i).trips) (acc : FVec Ideal S4x1x256 .f32) (h : Fin 4) (r : Fin 256) (M' : ℝ)
    (hM' : k0_pay8 (k0_pay21 x0) acc (marked i k s) (keys i k x1) (ix3 h 0 r) = (M' : EReal)) (e : Fin 80) (b : Fin 4) :
    Scalar.select (marked i k s (ix3 h b r)) (∑ t : Fin 256, values i k b x2 (ix5 0 h 0 e t) * k0_pay9 (k0_pay21 x0) acc (marked i k s) (keys i k x1) (ix4 h b t r)) (0 : EReal)
      = (((2 : ℝ) ^ (-M') : ℝ) : EReal) * (if (0 : EReal) < s (ix3 h (blockAt i k b) r) then blockSum (weight qr kr h r) (fun j t => x2 (ix5 0 h j e t)) (blockAt i k b) else 0) := by
  rw [marked_apply, select_ofBool]
  split
  · rw [← weighted_block M' (weight qr kr h r) (score qr kr h r) (fun _ => rfl)]
    refine Finset.sum_congr rfl fun t _ => ?_
    rw [values_apply, weights_apply, trip_score i x0 x1 qr kr hq hk, hM']
  · rw [mul_zero]

/-- One trip. -/
theorem trip_step (s : Vec Ideal S4x32x256 .f32) (k : Fin (k0_t1_loop i).trips) (acc : FVec Ideal S4x1x256 .f32 × FVec Ideal S4x80x256 .f32) (h : Fin 4) (r : Fin 256) (M : ℝ)
    (hM : acc.1 (ix3 h 0 r) = (M : EReal))
    (hT : ∀ e : Fin 80, acc.2 (ix3 h e r) = (((2 : ℝ) ^ (-M) : ℝ) : EReal) * met (ownBlock i) r (weight qr kr h r) (fun j t => x2 (ix5 0 h j e t)) (fun j => (0 : EReal) < s (ix3 h j r)) (4 * k.val)) :
    ∃ M' : ℝ, (trip i (k0_pay21 x0) x1 x2 s k acc).1 (ix3 h 0 r) = (M' : EReal)
      ∧ ∀ e : Fin 80, (trip i (k0_pay21 x0) x1 x2 s k acc).2 (ix3 h e r) = (((2 : ℝ) ^ (-M') : ℝ) : EReal) * met (ownBlock i) r (weight qr kr h r) (fun j t => x2 (ix5 0 h j e t)) (fun j => (0 : EReal) < s (ix3 h j r)) (4 * (k.val + 1)) := by
  obtain ⟨M', hM'⟩ := trip_max_real i x0 x1 qr kr hq hk s k acc.1 h r M hM
  refine ⟨M', hM', fun e => ?_⟩
  have hc : (0 : ℝ) ≤ (2 : ℝ) ^ (-M') := Real.rpow_nonneg (by norm_num) _
  have hold : Ideal.exp2 (acc.1 (ix3 h 0 r) - k0_pay8 (k0_pay21 x0) acc.1 (marked i k s) (keys i k x1) (ix3 h 0 r)) * acc.2 (ix3 h e r)
      = (((2 : ℝ) ^ (-M') : ℝ) : EReal) * met (ownBlock i) r (weight qr kr h r) (fun j t => x2 (ix5 0 h j e t)) (fun j => (0 : EReal) < s (ix3 h j r)) (4 * k.val) := by
    rw [hM, hM', hT, exp2_sub, ← mul_assoc, ← EReal.coe_mul, mul_assoc, ← Real.rpow_add (by norm_num), add_neg_cancel, Real.rpow_zero, mul_one]
  have hb := trip_block i x0 x1 x2 qr kr hq hk s k acc.1 h r M' hM' e
  have hsec : (∑ t : Fin 256, k0_pay11 (values i k 1 x2) (ix3 h e t) * k0_pay12 (k0_pay21 x0) acc.1 (marked i k s) (keys i k x1) (ix3 h t r))
      = ∑ t : Fin 256, values i k 1 x2 (ix5 0 h 0 e t) * k0_pay9 (k0_pay21 x0) acc.1 (marked i k s) (keys i k x1) (ix4 h 1 t r) :=
    Finset.sum_congr rfl fun t _ => by rw [second_values_apply, second_weights_apply]
  have hk8 := round_lt i k
  have hg : ∀ b : Fin 4, added (weight qr kr h r) (fun j t => x2 (ix5 0 h j e t)) (fun j => (0 : EReal) < s (ix3 h j r)) (4 * k.val + b.val)
      = if (0 : EReal) < s (ix3 h (blockAt i k b) r) then blockSum (weight qr kr h r) (fun j t => x2 (ix5 0 h j e t)) (blockAt i k b) else 0 := fun b => by
    unfold added
    rw [dif_pos (show 4 * k.val + b.val < 32 by have := b.isLt; omega)]
    congr
  show k0_pay35 _ _ _ _ _ _ _ (ix3 h e r) = _
  rw [rest_apply, first_apply, hsec, hold, hb 0, hb 1, hb 2, hb 3]
  rw [← EReal.left_distrib_of_nonneg_of_ne_top (EReal.coe_nonneg.mpr hc) (EReal.coe_ne_top _), ← EReal.left_distrib_of_nonneg_of_ne_top (EReal.coe_nonneg.mpr hc) (EReal.coe_ne_top _),
    ← EReal.left_distrib_of_nonneg_of_ne_top (EReal.coe_nonneg.mpr hc) (EReal.coe_ne_top _), ← EReal.left_distrib_of_nonneg_of_ne_top (EReal.coe_nonneg.mpr hc) (EReal.coe_ne_top _)]
  refine congrArg _ ?_
  unfold met
  rw [show 4 * (k.val + 1) = 4 * k.val + 0 + 1 + 1 + 1 + 1 by ring, Finset.sum_range_succ, Finset.sum_range_succ, Finset.sum_range_succ, Finset.sum_range_succ]
  rw [← hg 0, ← hg 1, ← hg 2, ← hg 3]
  simp only [add_assoc]
  rfl

/-- What the loop carries before trip `n`. -/
theorem carried_step (s : Vec Ideal S4x32x256 .f32) (h : Fin 4) (r : Fin 256) : ∀ n : ℕ, n ≤ (k0_t1_loop i).trips →
    ∃ M : ℝ, (carried i (k0_pay21 x0) x1 x2 s (k0_pay23 x0 (ownKeys i x1), k0_pay24 x0 (ownKeys i x1) (ownValues i x2)) n).1 (ix3 h 0 r) = (M : EReal)
      ∧ ∀ e : Fin 80, (carried i (k0_pay21 x0) x1 x2 s (k0_pay23 x0 (ownKeys i x1), k0_pay24 x0 (ownKeys i x1) (ownValues i x2)) n).2 (ix3 h e r)
        = (((2 : ℝ) ^ (-M) : ℝ) : EReal) * met (ownBlock i) r (weight qr kr h r) (fun j t => x2 (ix5 0 h j e t)) (fun j => (0 : EReal) < s (ix3 h j r)) (4 * n)
  | 0, _ => by
    obtain ⟨M, hM⟩ := own_max_real i x0 x1 qr kr hq hk h r
    simp only [carried]
    refine ⟨M, hM, fun e => ?_⟩
    unfold met ownSum
    rw [own_weighted_apply, hM, mul_zero, Finset.range_zero, Finset.sum_empty, add_zero, scale_sum _ _ (Real.rpow_nonneg (by norm_num) _)]
    refine Finset.sum_congr rfl fun t _ => ?_
    rw [own_score i x0 x1 qr kr hq hk, ownValues_apply]
    split
    · rw [exp2_sub, EReal.coe_mul, mul_left_comm]
      rfl
    · rw [exp2_bot_sub, mul_zero, mul_zero]
  | n + 1, hn => by
    obtain ⟨M, hM, hT⟩ := carried_step s h r n (Nat.le_of_succ_le hn)
    have := trip_step i x0 x1 x2 qr kr hq hk s ⟨n, hn⟩ _ h r M hM hT
    rw [carried, dif_pos (show n < (k0_t1_loop i).trips from hn)]
    exact this

end Point

end Cert.KMobaIdeal.Layer

end
-- ==== Proof.MobaSelect.lean ====
/-
  Which blocks a query takes. A stable sort by descending gate gives every block a slot; picking the greatest
  available gate (the lowest block among equals) round after round takes the available blocks slot by slot.
-/
module

public import Idealize.ShloMosaic.Lib.SortFacts
public import Idealize.ShloMosaic.Lib.Pointwise

@[expose] public section

noncomputable section

namespace Cert.Moba

open Idealize.ShloMosaic

/-- Block `i` comes before block `j`: its gate is greater, or the gates are equal and its number is lower. -/
def Ahead {n : Nat} (g : Fin n → EReal) (i j : Fin n) : Prop := g j < g i ∨ (g i = g j ∧ i < j)

open Classical in
/-- `Ahead` as a test. -/
def ahead {n : Nat} (g : Fin n → EReal) (i j : Fin n) : Bool := decide (Ahead g i j)

theorem ahead_iff {n : Nat} (g : Fin n → EReal) (i j : Fin n) : ahead g i j = true ↔ Ahead g i j := by
  classical
  unfold ahead; exact decide_eq_true_iff

theorem ahead_false {n : Nat} (g : Fin n → EReal) (i j : Fin n) : ahead g i j = false ↔ ¬Ahead g i j := by
  rw [← ahead_iff]; simp

theorem Ahead.ne {n : Nat} {g : Fin n → EReal} {i j : Fin n} (h : Ahead g i j) : i ≠ j := by
  rintro rfl
  rcases h with h | ⟨_, h⟩ <;> exact lt_irrefl _ h

theorem Ahead.asymm {n : Nat} {g : Fin n → EReal} {i j : Fin n} (h : Ahead g i j) : ¬Ahead g j i := by
  intro h'
  rcases h with h | ⟨e, h⟩ <;> rcases h' with h' | ⟨e', h'⟩
  · exact lt_asymm h h'
  · exact absurd e' (ne_of_gt h).symm
  · exact absurd e (ne_of_gt h').symm
  · exact lt_asymm h h'

theorem ahead_total {n : Nat} (g : Fin n → EReal) {i j : Fin n} (h : i ≠ j) : Ahead g i j ∨ Ahead g j i := by
  rcases lt_trichotomy (g i) (g j) with hg | hg | hg
  · exact Or.inr (Or.inl hg)
  · rcases lt_or_gt_of_ne h with hi | hi
    · exact Or.inl (Or.inr ⟨hg, hi⟩)
    · exact Or.inr (Or.inr ⟨hg.symm, hi⟩)
  · exact Or.inl (Or.inl hg)

theorem Ahead.trans {n : Nat} {g : Fin n → EReal} {i j k : Fin n} (h : Ahead g i j) (h' : Ahead g j k) : Ahead g i k := by
  rcases h with h | ⟨e, h⟩ <;> rcases h' with h' | ⟨e', h'⟩
  · exact Or.inl (lt_trans h' h)
  · exact Or.inl (e' ▸ h)
  · exact Or.inl (e ▸ h')
  · exact Or.inr ⟨e.trans e', lt_trans h h'⟩

/-- The stable sort by gate alone orders as `ahead` does: an inserted element precedes the list it meets. -/
theorem stableSort_ahead {n : Nat} (g : Fin n → EReal) (gt : Fin n → Fin n → Bool) (hgt : ∀ i j, gt i j = true ↔ g j < g i)
    (l : List (Fin n)) (hl : l.Pairwise (· < ·)) : stableSort gt l = stableSort (ahead g) l := by
  induction l with
  | nil => rfl
  | cons a l ih =>
    have ha := List.pairwise_cons.mp hl
    unfold stableSort
    rw [ih ha.2]
    refine insertBefore_congr _ _ a _ fun b hb => ?_
    have hab : a < b := ha.1 b ((perm_stableSort _ l).mem_iff.mp hb)
    rw [Bool.eq_iff_iff, hgt, ahead_iff]
    exact ⟨Or.inl, fun h => h.elim id fun h => absurd h.2 (lt_asymm hab)⟩

theorem sortedFrom_ahead {n : Nat} (g : Fin n → EReal) (gt : Fin n → Fin n → Bool) (hgt : ∀ i j, gt i j = true ↔ g j < g i) :
    sortedFrom gt = sortedFrom (ahead g) := by
  funext k
  unfold sortedFrom
  rw [List.get_of_eq (show sortPositions n gt = sortPositions n (ahead g) from stableSort_ahead g gt hgt _ (List.pairwise_lt_finRange n))]
  rfl

/-- Lower slots hold blocks that come before. -/
theorem slot_ahead {n : Nat} (g : Fin n → EReal) {a b : Fin n} (h : a < b) : Ahead g (sortedFrom (ahead g) a) (sortedFrom (ahead g) b) := by
  have hn := sortedFrom_noInversion (ahead g) (ahead g)
    (fun a b h => (ahead_false g b a).mpr ((ahead_iff g a b).mp h).asymm) (fun _ _ h => h)
    (fun a b c h h' => by
      rw [ahead_false] at h h' ⊢
      intro hac
      by_cases e : a = b
      · exact h' (e ▸ hac)
      · have hba := (ahead_total g e).resolve_left h
        exact h' (hba.trans hac)) a b h
  rw [ahead_false] at hn
  have hne : sortedFrom (ahead g) a ≠ sortedFrom (ahead g) b := fun e => (ne_of_lt h) (sortedFrom_injective _ e)
  exact (ahead_total g hne).resolve_right hn

/-- The slot of a block in the sort. -/
def slot {n : Nat} (g : Fin n → EReal) (j : Fin n) : Fin n := (sortedFrom_surjective (ahead g) j).choose

theorem sortedFrom_slot {n : Nat} (g : Fin n → EReal) (j : Fin n) : sortedFrom (ahead g) (slot g j) = j :=
  (sortedFrom_surjective (ahead g) j).choose_spec

theorem slot_sortedFrom {n : Nat} (g : Fin n → EReal) (k : Fin n) : slot g (sortedFrom (ahead g) k) = k :=
  sortedFrom_injective (ahead g) (sortedFrom_slot g _)

theorem ahead_of_slot_lt {n : Nat} (g : Fin n → EReal) {i j : Fin n} (h : slot g i < slot g j) : Ahead g i j := by
  have := slot_ahead g h
  rwa [sortedFrom_slot, sortedFrom_slot] at this

theorem slot_lt_of_ahead {n : Nat} (g : Fin n → EReal) {i j : Fin n} (h : Ahead g i j) : slot g i < slot g j := by
  rcases lt_trichotomy (slot g i) (slot g j) with h' | h' | h'
  · exact h'
  · exact absurd (by rw [← sortedFrom_slot g i, h', sortedFrom_slot]) h.ne
  · exact absurd (ahead_of_slot_lt g h') h.asymm

/-- A round's pick among the blocks still available. -/
def Pick {n : Nat} (g : Fin n → EReal) (avail : Fin n → Prop) (j : Fin n) : Prop :=
  avail j ∧ ∀ k, avail k → g k ≤ g j ∧ (g k = g j → j ≤ k)

theorem pick_iff_ahead {n : Nat} (g : Fin n → EReal) (avail : Fin n → Prop) (j : Fin n) :
    Pick g avail j ↔ avail j ∧ ∀ k, avail k → k ≠ j → Ahead g j k := by
  unfold Pick
  refine and_congr_right fun _ => forall_congr' fun k => forall_congr' fun _ => ?_
  constructor
  · rintro ⟨h1, h2⟩ hk
    rcases lt_or_eq_of_le h1 with h | h
    · exact Or.inl h
    · exact Or.inr ⟨h.symm, lt_of_le_of_ne (h2 h) hk.symm⟩
  · intro h
    by_cases hk : k = j
    · subst hk; exact ⟨le_refl _, fun _ => le_refl _⟩
    · rcases h hk with h | ⟨e, h⟩
      · exact ⟨le_of_lt h, fun e => absurd e (ne_of_lt h)⟩
      · exact ⟨e.ge, fun _ => le_of_lt h⟩

/-- With the blocks of slot `r` and later available, the round picks the block in slot `r`. Unavailable blocks
    have the gate masked to `⊥`, below every available one's. -/
theorem pick_slot {n : Nat} (g : Fin n → EReal) (A : Fin n → Prop) (hA : ∀ j, A j → g j ≠ ⊥) (hA' : ∀ j, ¬A j → g j = ⊥)
    (r : ℕ) (avail : Fin n → Prop) (hav : ∀ j, avail j ↔ A j ∧ r ≤ (slot g j).val) (j : Fin n) :
    Pick g avail j ↔ A j ∧ (slot g j).val = r := by
  rw [pick_iff_ahead]
  constructor
  · rintro ⟨hj, hmin⟩
    obtain ⟨hAj, hr⟩ := (hav j).mp hj
    refine ⟨hAj, le_antisymm ?_ hr⟩
    by_contra hlt
    have hrn : r < n := lt_of_le_of_lt hr (slot g j).isLt
    have hs : slot g (sortedFrom (ahead g) ⟨r, hrn⟩) = ⟨r, hrn⟩ := slot_sortedFrom g _
    have hk : Ahead g (sortedFrom (ahead g) ⟨r, hrn⟩) j :=
      ahead_of_slot_lt g (by rw [hs]; show r < (slot g j).val; omega)
    have hAk : A (sortedFrom (ahead g) ⟨r, hrn⟩) := by
      by_contra hn
      rcases hk with h | ⟨e, _⟩
      · rw [hA' _ hn] at h; exact not_lt_bot h
      · exact hA j hAj (e.symm.trans (hA' _ hn))
    exact hk.asymm (hmin _ ((hav _).mpr ⟨hAk, by rw [hs]⟩) hk.ne)
  · rintro ⟨hAj, hr⟩
    refine ⟨(hav j).mpr ⟨hAj, hr.ge⟩, fun k hk hkj => ahead_of_slot_lt g ?_⟩
    have h1 := ((hav k).mp hk).2
    have hne : slot g k ≠ slot g j := fun e => hkj (by rw [← sortedFrom_slot g k, e, sortedFrom_slot])
    have : (slot g k).val ≠ (slot g j).val := fun e => hne (Fin.ext e)
    show (slot g j).val < (slot g k).val
    omega

/-- Three rounds, each among the blocks not picked before, take the available blocks of the first three slots. -/
theorem three_rounds {n : Nat} (g : Fin n → EReal) (A : Fin n → Prop) (hA : ∀ j, A j → g j ≠ ⊥) (hA' : ∀ j, ¬A j → g j = ⊥)
    (p0 p1 p2 : Fin n → Prop) (h0 : ∀ j, p0 j ↔ Pick g A j) (h1 : ∀ j, p1 j ↔ Pick g (fun k => A k ∧ ¬p0 k) j)
    (h2 : ∀ j, p2 j ↔ Pick g (fun k => (A k ∧ ¬p0 k) ∧ ¬p1 k) j) (j : Fin n) :
    (p0 j ∨ p1 j ∨ p2 j) ↔ A j ∧ (slot g j).val < 3 := by
  have e0 : ∀ j, p0 j ↔ A j ∧ (slot g j).val = 0 := fun j =>
    (h0 j).trans (pick_slot g A hA hA' 0 _ (fun k => ⟨fun h => ⟨h, Nat.zero_le _⟩, fun h => h.1⟩) j)
  have e1 : ∀ j, p1 j ↔ A j ∧ (slot g j).val = 1 := fun j =>
    (h1 j).trans (pick_slot g A hA hA' 1 _ (fun k => by
      rw [e0]; constructor
      · rintro ⟨h, h'⟩; exact ⟨h, by by_contra hc; exact h' ⟨h, by omega⟩⟩
      · rintro ⟨h, h'⟩; exact ⟨h, fun hc => by omega⟩) j)
  have e2 : ∀ j, p2 j ↔ A j ∧ (slot g j).val = 2 := fun j =>
    (h2 j).trans (pick_slot g A hA hA' 2 (fun k => (A k ∧ ¬p0 k) ∧ ¬p1 k) (fun k => by
      rw [e0, e1]; constructor
      · rintro ⟨⟨h, h'⟩, h''⟩
        refine ⟨h, ?_⟩
        by_contra hc
        rcases (show (slot g k).val = 0 ∨ (slot g k).val = 1 by omega) with h0 | h0
        · exact h' ⟨h, h0⟩
        · exact h'' ⟨h, h0⟩
      · rintro ⟨h, h'⟩; exact ⟨⟨h, fun hc => by omega⟩, fun hc => by omega⟩) j)
  rw [e0, e1, e2]
  constructor
  · rintro (h | h | h) <;> exact ⟨h.1, by omega⟩
  · rintro ⟨h, h'⟩
    rcases (show (slot g j).val = 0 ∨ (slot g j).val = 1 ∨ (slot g j).val = 2 by omega) with h0 | h0 | h0
    · exact Or.inl ⟨h, h0⟩
    · exact Or.inr (Or.inl ⟨h, h0⟩)
    · exact Or.inr (Or.inr ⟨h, h0⟩)

/-- A sum over the first three slots, those that hold no available block left out, is the sum over the available
    blocks of the first three slots. -/
theorem sum_slots {M : Type} [AddCommMonoid M] (g : Fin 32 → EReal) (A : Fin 32 → Prop) (f : Fin 32 → M) [DecidablePred A] :
    (∑ s : Fin 3, if A (sortedFrom (ahead g) ⟨s.val, by omega⟩) then f (sortedFrom (ahead g) ⟨s.val, by omega⟩) else 0)
      = ∑ j : Fin 32, if A j ∧ (slot g j).val < 3 then f j else 0 := by
  have e : ∀ k : Fin 32, (if A (sortedFrom (ahead g) k) ∧ (slot g (sortedFrom (ahead g) k)).val < 3 then f (sortedFrom (ahead g) k) else 0)
      = if k.val < 3 then (if A (sortedFrom (ahead g) k) then f (sortedFrom (ahead g) k) else 0) else 0 := by
    intro k
    rw [slot_sortedFrom]
    by_cases h : k.val < 3 <;> by_cases h' : A (sortedFrom (ahead g) k) <;> simp [h, h']
  have hb : Function.Bijective (sortedFrom (ahead g)) := ⟨sortedFrom_injective _, sortedFrom_surjective _⟩
  rw [← hb.sum_comp (fun j => if A j ∧ (slot g j).val < 3 then f j else 0)]
  simp only [e]
  refine Eq.trans ?_ (Fin.sum_univ_add (a := 3) (b := 29) (fun k : Fin 32 =>
    if k.val < 3 then (if A (sortedFrom (ahead g) k) then f (sortedFrom (ahead g) k) else 0) else 0)).symm
  rw [Finset.sum_eq_zero (s := Finset.univ) (f := fun i : Fin 29 => _)]
  · rw [add_zero]
    refine Finset.sum_congr rfl fun s _ => ?_
    rw [if_pos (show (Fin.castAdd 29 s).val < 3 from s.isLt)]
    rfl
  · intro i _
    rw [if_neg (show ¬(Fin.natAdd 3 i).val < 3 by simp)]

end Cert.Moba

end
-- ==== Proof.MobaChoice.lean ====
/-
  The attention kernel's choice of blocks: three rounds, each marking the lowest-numbered block of greatest gate among
  those before the query's own block not marked yet. They mark the blocks of the first three slots.
-/
module

public import proofs.«01_k».proof.Proof.MobaSelect
public import proofs.«01_k».proof.Proof.MobaPays

@[expose] public section

set_option maxRecDepth 16384

noncomputable section

namespace Cert.Moba

open Idealize.ShloMosaic

/-! ## A round on one query -/

theorem select_one {α : Type} (c : BitVec 1) (a b : α) : Scalar.select c a b = if c = 1#1 then a else b := rfl

theorem and_one (a b : BitVec 1) : IntOp.andi a b = 1#1 ↔ a = 1#1 ∧ b = 1#1 := by
  revert a b; decide

theorem andNot_one (a b : BitVec 1) : IntOp.andi a (IntOp.xori b 1#1) = 1#1 ↔ a = 1#1 ∧ ¬b = 1#1 := by
  revert a b; decide

theorem bit_one (p : Prop) [Decidable p] : BitVec.ofBool (decide p) = 1#1 ↔ p := by
  by_cases hp : p <;> simp [hp]

/-- The least of numbers far from the sign bit. -/
theorem least_toNat (x y : BitVec 32) (hx : x.toNat < 2 ^ 31) (hy : y.toNat < 2 ^ 31) :
    IntOp.minsi x y = if x.toNat < y.toNat then x else y := by
  unfold IntOp.minsi
  have : x.slt y = decide (x.toNat < y.toNat) := by
    rw [BitVec.slt, BitVec.toInt_eq_toNat_of_lt (by omega), BitVec.toInt_eq_toNat_of_lt (by omega)]
    simp
  rw [this]
  by_cases h : x.toNat < y.toNat <;> simp [h]

theorem fold_least (f : Fin 32 → BitVec 32) (hf : ∀ x, (f x).toNat < 2 ^ 31) (S : Finset (Fin 32)) :
    (Finset.fold IntOp.minsi 2147483647#32 f S).toNat < 2 ^ 31
      ∧ (∀ x ∈ S, (Finset.fold IntOp.minsi 2147483647#32 f S).toNat ≤ (f x).toNat)
      ∧ (Finset.fold IntOp.minsi 2147483647#32 f S = 2147483647#32 ∨ ∃ x ∈ S, Finset.fold IntOp.minsi 2147483647#32 f S = f x) := by
  induction S using Finset.induction_on with
  | empty => exact ⟨by rw [Finset.fold_empty]; decide, fun x hx => absurd hx (Finset.notMem_empty x), Or.inl rfl⟩
  | insert a S ha ih =>
    obtain ⟨h1, h2, h3⟩ := ih
    rw [Finset.fold_insert ha, least_toNat _ _ (hf a) h1]
    by_cases hlt : (f a).toNat < (Finset.fold IntOp.minsi 2147483647#32 f S).toNat
    · rw [if_pos hlt]
      refine ⟨hf a, fun x hx => ?_, Or.inr ⟨a, Finset.mem_insert_self a S, rfl⟩⟩
      rcases Finset.mem_insert.mp hx with rfl | hx
      · exact le_refl _
      · exact le_trans hlt.le (h2 x hx)
    · rw [if_neg hlt]
      refine ⟨h1, fun x hx => ?_, ?_⟩
      · rcases Finset.mem_insert.mp hx with rfl | hx
        · exact not_lt.mp hlt
        · exact h2 x hx
      · rcases h3 with h3 | ⟨x, hx, h3⟩
        · exact Or.inl h3
        · exact Or.inr ⟨x, Finset.mem_insert_of_mem hx, h3⟩

theorem number (x : Fin 32) : (BitVec.ofNat 32 x.val).toNat = x.val := by
  rw [BitVec.toNat_ofNat]; omega

/-- A block's number is the least among those marked. -/
theorem first_iff (c : Fin 32 → BitVec 1) (j : Fin 32) :
    IntOp.cmpi .eq (BitVec.ofNat 32 j.val) (Finset.fold IntOp.minsi 2147483647#32 (fun x : Fin 32 => Scalar.select (c x) (BitVec.ofNat 32 x.val) 32#32) Finset.univ) = 1#1
      ↔ c j = 1#1 ∧ ∀ k, c k = 1#1 → j ≤ k := by
  have hf : ∀ x : Fin 32, (Scalar.select (c x) (BitVec.ofNat 32 x.val) 32#32).toNat < 2 ^ 31 := fun x => by
    rw [select_one]
    split
    · rw [number]; omega
    · decide
  obtain ⟨-, h2, h3⟩ := fold_least _ hf Finset.univ
  generalize Finset.fold IntOp.minsi 2147483647#32 (fun x : Fin 32 => Scalar.select (c x) (BitVec.ofNat 32 x.val) 32#32) Finset.univ = F at h2 h3
  have hc : IntOp.cmpi .eq (BitVec.ofNat 32 j.val) F = 1#1 ↔ F.toNat = j.val := by
    show BitVec.ofBool (BitVec.ofNat 32 j.val == F) = 1#1 ↔ _
    rw [show (BitVec.ofNat 32 j.val == F) = decide (BitVec.ofNat 32 j.val = F) from rfl, bit_one, ← BitVec.toNat_inj, number]
    exact eq_comm
  rw [hc]
  have hle : ∀ k, c k = 1#1 → F.toNat ≤ k.val := fun k hk => by
    have := h2 k (Finset.mem_univ k)
    rwa [select_one, if_pos hk, number] at this
  have hfrom : F.toNat < 32 → ∃ x, c x = 1#1 ∧ F.toNat = x.val := fun hlt => by
    rcases h3 with h3 | ⟨x, -, h3⟩
    · rw [h3] at hlt; exact absurd hlt (by decide)
    · rw [select_one] at h3
      split at h3
      · rename_i hx; exact ⟨x, hx, by rw [h3, number]⟩
      · rw [h3] at hlt; exact absurd hlt (by decide)
  constructor
  · intro h
    obtain ⟨x, hx, e⟩ := hfrom (by omega)
    have : x = j := Fin.ext (by omega)
    subst this
    exact ⟨hx, fun k hk => by have := hle k hk; show x.val ≤ k.val; omega⟩
  · rintro ⟨hj, hmin⟩
    have := hle j hj
    obtain ⟨x, hx, e⟩ := hfrom (by omega)
    have : j.val ≤ x.val := hmin x hx
    omega

/-- The greatest gate among the available blocks, reached by an available one. -/
theorem greatest_iff (A : Fin 32 → BitVec 1) (g : Fin 32 → EReal) (j : Fin 32) (hj : A j = 1#1) :
    Scalar.select (A j) (g j) ⊥ = Finset.fold max ⊥ (fun x => Scalar.select (A x) (g x) ⊥) Finset.univ ↔ ∀ k, A k = 1#1 → g k ≤ g j := by
  have hle : g j ≤ Finset.fold max ⊥ (fun x => Scalar.select (A x) (g x) ⊥) Finset.univ :=
    (Finset.le_fold_max _).mpr (Or.inr ⟨j, Finset.mem_univ j, by rw [select_one, if_pos hj]⟩)
  rw [select_one (A j), if_pos hj]
  constructor
  · intro h k hk
    rw [h]
    exact (Finset.le_fold_max _).mpr (Or.inr ⟨k, Finset.mem_univ k, by rw [select_one, if_pos hk]⟩)
  · intro h
    refine le_antisymm hle ((Finset.fold_max_le _).mpr ⟨bot_le, fun k _ => ?_⟩)
    rw [select_one]
    split
    · rename_i hk; exact h k hk
    · exact bot_le

/-- A round marks the pick. -/
theorem round_iff (A : Fin 32 → BitVec 1) (g : Fin 32 → EReal) (j : Fin 32) :
    IntOp.cmpi .eq (BitVec.ofNat 32 j.val) (Finset.fold IntOp.minsi 2147483647#32 (fun x : Fin 32 => Scalar.select
        (IntOp.andi (BitVec.ofBool (decide (Scalar.select (A x) (g x) ⊥ = Finset.fold max ⊥ (fun x => Scalar.select (A x) (g x) ⊥) Finset.univ))) (A x))
        (BitVec.ofNat 32 x.val) 32#32) Finset.univ) = 1#1
      ↔ Pick g (fun k => A k = 1#1) j := by
  rw [first_iff (fun x => IntOp.andi (BitVec.ofBool (decide (Scalar.select (A x) (g x) ⊥ = Finset.fold max ⊥ (fun x => Scalar.select (A x) (g x) ⊥) Finset.univ))) (A x))]
  have key : ∀ x, IntOp.andi (BitVec.ofBool (decide (Scalar.select (A x) (g x) ⊥ = Finset.fold max ⊥ (fun x => Scalar.select (A x) (g x) ⊥) Finset.univ))) (A x) = 1#1
      ↔ A x = 1#1 ∧ ∀ k, A k = 1#1 → g k ≤ g x := fun x => by
    rw [and_one, bit_one]
    constructor
    · rintro ⟨h, hx⟩; exact ⟨hx, (greatest_iff A g x hx).mp h⟩
    · rintro ⟨hx, h⟩; exact ⟨(greatest_iff A g x hx).mpr h, hx⟩
  simp only [key]
  unfold Pick
  constructor
  · rintro ⟨⟨hj, hmax⟩, hmin⟩
    exact ⟨hj, fun k hk => ⟨hmax k hk, fun e => hmin k ⟨hk, fun l hl => e ▸ hmax l hl⟩⟩⟩
  · rintro ⟨hj, h⟩
    exact ⟨⟨hj, fun k hk => (h k hk).1⟩, fun k hk => (h k hk.1).2 (le_antisymm (h k hk.1).1 (hk.2 j hj))⟩

theorem pick_congr {n : Nat} (g g' : Fin n → EReal) (A A' : Fin n → Prop) (hA : ∀ k, A k ↔ A' k) (hg : ∀ k, A k → g k = g' k) (j : Fin n) :
    Pick g A j ↔ Pick g' A' j := by
  have : A = A' := funext fun k => propext (hA k)
  subst this
  unfold Pick
  refine and_congr_right fun hj => forall_congr' fun k => forall_congr' fun hk => ?_
  rw [hg j hj, hg k hk]

theorem before_iff : ∀ j n : Fin 32, IntOp.cmpi .slt (BitVec.ofNat 32 j.val) (BitVec.ofNat 32 n.val) = 1#1 ↔ j < n := by decide +kernel

/-- A gate kept for the blocks before the query's own, `⊥` elsewhere. -/
def masked (n : Fin 32) (g : Fin 32 → EReal) (j : Fin 32) : EReal := if j < n then g j else ⊥

end Cert.Moba

namespace Cert.KMobaIdeal.Layer

open Cert.KMobaIdeal Cert.KMobaIdeal.Gen Idealize.ShloMosaic Idealize.ShloMosaic.TcCoe Idealize.SL.Sem Cert.Moba

/-! ## The kernel's rounds -/

theorem gate_apply (x0 : Vec Ideal S1x4x256x64 .f32) (x3 : Vec Ideal S1x4x32x64 .f32) (h : Fin 4) (j : Fin 32) (r : Fin 256) :
    k0_pay25 x0 x3 (ix3 h j r) = ∑ d : Fin 64, x3 (ix4 0 h j d) * x0 (ix4 0 h r d) := by
  unfold k0_pay25 k0_pay20
  pointwise

theorem first_round (g : FVec Ideal S4x32x256 .f32) (a b : IVec S32x256 32) (h : Fin 4) (j : Fin 32) (r : Fin 256) :
    k0_pay28 g a b (ix3 h j r) = 1#1 ↔ Pick (fun k : Fin 32 => g (ix3 h k r)) (fun k => k0_pay27 a b (ix3 h k r) = 1#1) j := by
  rw [← round_iff (fun k : Fin 32 => k0_pay27 a b (ix3 h k r))]
  unfold k0_pay28
  generalize k0_pay27 a b = A
  pointwise
  rw [neg_inf]

theorem second_round (g : FVec Ideal S4x32x256 .f32) (a b : IVec S32x256 32) (h : Fin 4) (j : Fin 32) (r : Fin 256) :
    k0_pay30 g a b (ix3 h j r) = 1#1 ↔ Pick (fun k : Fin 32 => g (ix3 h k r)) (fun k => k0_pay29 g a b (ix3 h k r) = 1#1) j := by
  rw [← round_iff (fun k : Fin 32 => k0_pay29 g a b (ix3 h k r))]
  unfold k0_pay30
  generalize k0_pay29 g a b = A
  pointwise
  rw [neg_inf]

/-- The test of the third round, whose pick the buffer's expression takes. -/
theorem third_test (g : FVec Ideal S4x32x256 .f32) (a b : IVec S32x256 32) (h : Fin 4) (j : Fin 32) (r : Fin 256) :
    k0_pay33 g a b (ix3 h j r) = BitVec.ofBool (decide (Scalar.select (k0_pay32 g a b (ix3 h j r)) (g (ix3 h j r)) ⊥
      = Finset.fold max ⊥ (fun x : Fin 32 => Scalar.select (k0_pay32 g a b (ix3 h x r)) (g (ix3 h x r)) ⊥) Finset.univ)) := by
  unfold k0_pay33
  generalize k0_pay32 g a b = A
  pointwise
  rw [neg_inf]

theorem marks (g : FVec Ideal S4x32x256 .f32) (a b : IVec S32x256 32) (h : Fin 4) (j : Fin 32) (r : Fin 256) :
    k0_pay31 g a b (ix3 h j r) = Scalar.select (k0_pay30 g a b (ix3 h j r)) 1 (Scalar.select (k0_pay28 g a b (ix3 h j r)) 1 0) := by
  unfold k0_pay31
  generalize k0_pay28 g a b = A
  generalize k0_pay30 g a b = B
  pointwise

theorem third_marks (w : FVec Ideal S4x32x256 .f32) (A B : IVec S4x32x256 1) (h : Fin 4) (j : Fin 32) (r : Fin 256) :
    k0_pay34 (iota .tc S4x32x256 32 [1] iota_S4x32x256_d1_w32) w A B (ix3 h j r) = Scalar.select
      (IntOp.cmpi .eq (BitVec.ofNat 32 j.val) (Finset.fold IntOp.minsi 2147483647#32
        (fun x : Fin 32 => Scalar.select (IntOp.andi (B (ix3 h x r)) (A (ix3 h x r))) (BitVec.ofNat 32 x.val) 32#32) Finset.univ)) 1 (w (ix3 h j r)) := by
  unfold k0_pay34
  pointwise

theorem available_apply (a b : IVec S32x256 32) (h : Fin 4) (j : Fin 32) (r : Fin 256) :
    k0_pay27 a b (ix3 h j r) = IntOp.cmpi .slt (a (ix2 j r)) (b (ix2 j r)) := by
  unfold k0_pay27
  pointwise

theorem second_available (g : FVec Ideal S4x32x256 .f32) (a b : IVec S32x256 32) (h : Fin 4) (j : Fin 32) (r : Fin 256) :
    k0_pay29 g a b (ix3 h j r) = 1#1 ↔ k0_pay27 a b (ix3 h j r) = 1#1 ∧ ¬k0_pay28 g a b (ix3 h j r) = 1#1 := by
  rw [← andNot_one]
  unfold k0_pay29
  generalize k0_pay28 g a b = B
  generalize k0_pay27 a b = A
  pointwise

theorem third_available (g : FVec Ideal S4x32x256 .f32) (a b : IVec S32x256 32) (h : Fin 4) (j : Fin 32) (r : Fin 256) :
    k0_pay32 g a b (ix3 h j r) = 1#1 ↔ k0_pay29 g a b (ix3 h j r) = 1#1 ∧ ¬k0_pay30 g a b (ix3 h j r) = 1#1 := by
  rw [← andNot_one]
  unfold k0_pay32
  generalize k0_pay30 g a b = B
  generalize k0_pay29 g a b = A
  pointwise

/-- A block is marked when it lies before the query's own and in one of the first three slots. -/
theorem choice_iff (i : grid0.Coords) (x0 : Vec Ideal S1x4x256x64 .f32) (x3 : Vec Ideal S1x4x32x64 .f32) (h : Fin 4) (r : Fin 256) (g : Fin 32 → EReal)
    (hg : ∀ j, ∑ d : Fin 64, x3 (ix4 0 h j d) * x0 (ix4 0 h r d) = g j) (hne : ∀ j, g j ≠ ⊥) (j : Fin 32) :
    0 < choice i x0 x3 (ix3 h j r) ↔ j < ownBlock i ∧ (slot (masked (ownBlock i) g) j).val < 3 := by
  unfold choice
  rw [third_marks, marks]
  have hG : ∀ k : Fin 32, k0_pay25 x0 x3 (ix3 h k r) = g k := fun k => (gate_apply x0 x3 h k r).trans (hg k)
  have hA : ∀ k : Fin 32, k0_pay27 (iota .tc S32x256 32 [0] iota_S32x256_d0_w32) (k0_pay26 i) (ix3 h k r) = 1#1 ↔ k < ownBlock i := fun k => by
    rw [available_apply, ← before_iff]
    unfold k0_pay26
    pointwise
    rfl
  generalize (iota .tc S32x256 32 [0] iota_S32x256_d0_w32 : IVec S32x256 32) = a at hA ⊢
  generalize k0_pay26 i = b at hA ⊢
  generalize k0_pay25 x0 x3 = G at hG ⊢
  have hm : ∀ k, k < ownBlock i → G (ix3 h k r) = masked (ownBlock i) g k := fun k hk => by
    rw [hG]; unfold masked; rw [if_pos hk]
  have h0 := fun j : Fin 32 => (first_round G a b h j r).trans (pick_congr _ (masked (ownBlock i) g) _ (fun k => k < ownBlock i) hA (fun k hk => hm k ((hA k).mp hk)) j)
  have hA1 : ∀ k : Fin 32, k0_pay29 G a b (ix3 h k r) = 1#1 ↔ k < ownBlock i ∧ ¬k0_pay28 G a b (ix3 h k r) = 1#1 := fun k => by
    rw [second_available, hA]
  have h1 := fun j : Fin 32 => (second_round G a b h j r).trans (pick_congr _ (masked (ownBlock i) g) _ _ hA1 (fun k hk => hm k ((hA1 k).mp hk).1) j)
  have hA2 : ∀ k : Fin 32, k0_pay32 G a b (ix3 h k r) = 1#1 ↔ (k < ownBlock i ∧ ¬k0_pay28 G a b (ix3 h k r) = 1#1) ∧ ¬k0_pay30 G a b (ix3 h k r) = 1#1 := fun k => by
    rw [third_available, hA1]
  have e2 : ∀ j : Fin 32, IntOp.cmpi .eq (BitVec.ofNat 32 j.val) (Finset.fold IntOp.minsi 2147483647#32
        (fun x : Fin 32 => Scalar.select (IntOp.andi (k0_pay33 G a b (ix3 h x r)) (k0_pay32 G a b (ix3 h x r))) (BitVec.ofNat 32 x.val) 32#32) Finset.univ) = 1#1
      ↔ Pick (fun k : Fin 32 => G (ix3 h k r)) (fun k => k0_pay32 G a b (ix3 h k r) = 1#1) j := fun j => by
    simp only [third_test]
    exact round_iff (fun k : Fin 32 => k0_pay32 G a b (ix3 h k r)) (fun k : Fin 32 => G (ix3 h k r)) j
  have h2 := fun j : Fin 32 => (e2 j).trans (pick_congr _ (masked (ownBlock i) g) _ _ hA2 (fun k hk => hm k ((hA2 k).mp hk).1.1) j)
  have hpos : ∀ c1 c2 c3 : BitVec 1, 0 < Scalar.select c3 (1 : EReal) (Scalar.select c2 1 (Scalar.select c1 1 0)) ↔ c1 = 1#1 ∨ c2 = 1#1 ∨ c3 = 1#1 := fun c1 c2 c3 => by
    simp only [select_one]
    by_cases e1 : c1 = 1#1 <;> by_cases e2 : c2 = 1#1 <;> by_cases e3 : c3 = 1#1 <;> simp [e1, e2, e3]
  rw [hpos]
  exact three_rounds (masked (ownBlock i) g) (fun k => k < ownBlock i) (fun k hk => by unfold masked; rw [if_pos hk]; exact hne k)
    (fun k hk => by unfold masked; rw [if_neg hk]) _ _ _ h0 h1 h2 j

end Cert.KMobaIdeal.Layer

end
-- ==== Proof.MobaOut.lean ====
/-
  What one grid point of the attention kernel writes back, read at an entry, in the weights of the keys it meets.
-/
module

public import proofs.«01_k».proof.Proof.MobaCarry
public import proofs.«01_k».proof.Proof.MobaChoice
public import proofs.«01_k».proof.Proof.MobaSoftmax
public import Idealize.ShloMosaic.Lib.Pipeline.ValueKit.Tiles

@[expose] public section

set_option maxRecDepth 16384

noncomputable section

namespace Cert.KMobaIdeal.Layer

open Cert.KMobaIdeal Cert.KMobaIdeal.Gen Idealize.ShloMosaic Idealize.ShloMosaic.TcCoe Idealize.SL.Sem Cert.Moba

theorem quotient0_apply (a : FVec Ideal S4x80x256 .f32) (r : Fin 256) (d : Fin 64) :
    k0_pay2 (k0_pay37 a) (k0_pay38 a) (ix4 0 0 r d) = Ideal.div (a (ix3 0 ⟨d.val, by omega⟩ r)) (a (ix3 0 64 r)) := by
  unfold k0_pay2 k0_pay1 k0_pay37 k0_pay38
  pointwise

theorem quotient1_apply (a : FVec Ideal S4x80x256 .f32) (r : Fin 256) (d : Fin 64) :
    k0_pay3 (k0_pay37 a) (k0_pay38 a) (ix4 0 0 r d) = Ideal.div (a (ix3 1 ⟨d.val, by omega⟩ r)) (a (ix3 1 64 r)) := by
  unfold k0_pay3 k0_pay1 k0_pay37 k0_pay38
  pointwise

theorem quotient2_apply (a : FVec Ideal S4x80x256 .f32) (r : Fin 256) (d : Fin 64) :
    k0_pay4 (k0_pay37 a) (k0_pay38 a) (ix4 0 0 r d) = Ideal.div (a (ix3 2 ⟨d.val, by omega⟩ r)) (a (ix3 2 64 r)) := by
  unfold k0_pay4 k0_pay1 k0_pay37 k0_pay38
  pointwise

theorem quotient3_apply (a : FVec Ideal S4x80x256 .f32) (r : Fin 256) (d : Fin 64) :
    k0_pay5 (k0_pay37 a) (k0_pay38 a) (ix4 0 0 r d) = Ideal.div (a (ix3 3 ⟨d.val, by omega⟩ r)) (a (ix3 3 64 r)) := by
  unfold k0_pay5 k0_pay1 k0_pay37 k0_pay38
  pointwise

theorem tile_index (h k : Fin 4) (r : Fin 256) (d : Fin 64) (x : S1x1x256x64.Idx)
    (hx : ∀ a, ((ix4 0 h r d : S1x4x256x64.Idx) a : Nat) = (![0, k.val, 0, 0] : Fin 4 → Nat) a + x a) : k = h ∧ x = ix4 0 0 r d := by
  have h0 : (x 0).val < 1 := (x 0).isLt
  have h1 : (x 1).val < 1 := (x 1).isLt
  have e1 : h.val = k.val + (x 1).val := hx 1
  have e2 : r.val = 0 + (x 2).val := hx 2
  have e3 : d.val = 0 + (x 3).val := hx 3
  refine ⟨Fin.ext (by omega), funext fun a => ?_⟩
  fin_cases a
  · exact Fin.ext (show (x 0).val = 0 by omega)
  · exact Fin.ext (show (x 1).val = 0 by omega)
  · exact Fin.ext (show (x 2).val = r.val by omega)
  · exact Fin.ext (show (x 3).val = d.val by omega)

/-- The four heads' quotients, read back. -/
theorem tiles (a : FVec Ideal S4x80x256 .f32) (h : Fin 4) (r : Fin 256) (d : Fin 64) :
    View.canon ([
          ⟨Rect.unit (s := S1x4x256x64) ![0, 3, 0, 0] S1x1x256x64.size inb_S1x4x256x64_S1x1x256x64_0_3_0_0, k0_pay5 (k0_pay37 a) (k0_pay38 a)⟩,
          ⟨Rect.unit (s := S1x4x256x64) ![0, 2, 0, 0] S1x1x256x64.size inb_S1x4x256x64_S1x1x256x64_0_2_0_0, k0_pay4 (k0_pay37 a) (k0_pay38 a)⟩,
          ⟨Rect.unit (s := S1x4x256x64) ![0, 1, 0, 0] S1x1x256x64.size inb_S1x4x256x64_S1x1x256x64_0_1_0_0, k0_pay3 (k0_pay37 a) (k0_pay38 a)⟩,
          ⟨Rect.unit (s := S1x4x256x64) ![0, 0, 0, 0] S1x1x256x64.size inb_S1x4x256x64_S1x1x256x64_0_0_0_0, k0_pay2 (k0_pay37 a) (k0_pay38 a)⟩] : List (View.Piece (Elt Ideal) S1x4x256x64 .f32)) (ix4 0 h r d)
      = Ideal.div (a (ix3 h ⟨d.val, by omega⟩ r)) (a (ix3 h 64 r)) := by
  refine View.canon_eq_of_allAt _ _ _ ?_ ?_
  · exact View.cover_of_tiled_head _ _ _ rfl _
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · obtain ⟨rfl, rfl⟩ := tile_index h 3 r d x hx
    exact quotient3_apply a r d
  · obtain ⟨rfl, rfl⟩ := tile_index h 2 r d x hx
    exact quotient2_apply a r d
  · obtain ⟨rfl, rfl⟩ := tile_index h 1 r d x hx
    exact quotient1_apply a r d
  · obtain ⟨rfl, rfl⟩ := tile_index h 0 r d x hx
    exact quotient0_apply a r d

/-! ## The weights' sum -/

open Classical in
/-- The weights of the keys a query meets. -/
def mass (own : Fin 32) (r : Fin 256) (w : Fin 8192 → ℝ) (on : Fin 32 → Prop) (n : ℕ) : ℝ :=
  (∑ t : Fin 256, if t.val ≤ r.val then w (place own t) else 0)
    + ∑ j ∈ Finset.range n, if hj : j < 32 then (if on ⟨j, hj⟩ then ∑ t : Fin 256, w (place ⟨j, hj⟩ t) else 0) else 0

theorem met_one (own : Fin 32) (r : Fin 256) (w : Fin 8192 → ℝ) (on : Fin 32 → Prop) (n : ℕ) :
    met own r w (fun _ _ => 1) on n = ((mass own r w on n : ℝ) : EReal) := by
  unfold met mass ownSum
  rw [EReal.coe_add, coe_sum, coe_sum]
  refine congrArg₂ (· + ·) (Finset.sum_congr rfl fun t _ => ?_) (Finset.sum_congr rfl fun j _ => ?_)
  · split
    · rw [one_mul]
    · rfl
  · unfold added blockSum
    by_cases hj : j < 32
    · rw [dif_pos hj, dif_pos hj]
      by_cases ho : on ⟨j, hj⟩
      · rw [if_pos ho, if_pos ho, coe_sum]
        exact Finset.sum_congr rfl fun t _ => one_mul _
      · rw [if_neg ho, if_neg ho]; rfl
    · rw [dif_neg hj, dif_neg hj]; rfl

theorem mass_pos (own : Fin 32) (r : Fin 256) (w : Fin 8192 → ℝ) (hw : ∀ p, 0 < w p) (on : Fin 32 → Prop) (n : ℕ) : 0 < mass own r w on n := by
  unfold mass
  refine add_pos_of_pos_of_nonneg ?_ (Finset.sum_nonneg fun j _ => ?_)
  · refine Finset.sum_pos' (fun t _ => ?_) ⟨0, Finset.mem_univ _, ?_⟩
    · split
      · exact (hw _).le
      · exact le_refl _
    · rw [if_pos (show (0 : Fin 256).val ≤ r.val from Nat.zero_le _)]; exact hw _
  · split
    · split
      · exact Finset.sum_nonneg fun t _ => (hw _).le
      · exact le_refl _
    · exact le_refl _

/-- Past the query's own block nothing is chosen. -/
theorem met_all (own : Fin 32) (r : Fin 256) (w : Fin 8192 → ℝ) (v : Fin 32 → Fin 256 → EReal) (on : Fin 32 → Prop) (hon : ∀ j, on j → j < own) (n : ℕ)
    (hn : own.val ≤ n) : met own r w v on n = met own r w v on 32 := by
  have key : ∀ m : ℕ, own.val ≤ m → ∑ j ∈ Finset.range m, added w v on j = ∑ j ∈ Finset.range own.val, added w v on j := fun m hm => by
    refine (Finset.sum_subset (fun j hj => Finset.mem_range.mpr (lt_of_lt_of_le (Finset.mem_range.mp hj) hm)) fun j _ hj => ?_).symm
    have hj' : own.val ≤ j := not_lt.mp fun h => hj (Finset.mem_range.mpr h)
    unfold added
    split
    · rename_i h32
      rw [if_neg]
      intro ho
      have : j < own.val := hon _ ho
      omega
    · rfl
  unfold met
  rw [key n hn, key 32 (by omega)]

/-- The entry a grid point writes back. -/
theorem out_apply (c : Dev nD) (i : grid0.Coords) (arg3 : Memref sig .tc .vmem S1x4x256x64 .f32) (harg3 : arg3.IsWhole) (arg4 : Memref sig .tc .vmem S1x4x8192x64 .bf16) (harg4 : arg4.IsWhole) (arg5 : Memref sig .tc .vmem S1x4x32x80x256 .bf16) (harg5 : arg5.IsWhole) (arg6 : Memref sig .tc .vmem S1x4x32x64 .f32) (harg6 : arg6.IsWhole) (arg7 : Memref sig .tc .vmem S1x4x256x64 .f32) (harg7 : arg7.IsWhole) (arg8 : Memref sig .tc .vmem S4x32x256 .f32) (harg8 : arg8.IsWhole)
    (x0 : Vec Ideal S1x4x256x64 .f32) (x1 : Vec Ideal S1x4x8192x64 .bf16) (x2 : Vec Ideal S1x4x32x80x256 .bf16) (x3 : Vec Ideal S1x4x32x64 .f32)
    (qr : Fin 4 → Fin 256 → Fin 64 → ℝ) (kr : Fin 4 → Fin 8192 → Fin 64 → ℝ)
    (hq : ∀ h r d, x0 (ix4 0 h r d) = ((qr h r d : ℝ) : EReal)) (hk : ∀ h p d, x1 (ix4 0 h p d) = ((kr h p d : ℝ) : EReal))
    (h : Fin 4) (r : Fin 256) (d : Fin 64) (hone : ∀ j t, x2 (ix5 0 h j 64 t) = 1)
    (g : Fin 32 → EReal) (hg : ∀ j, ∑ d : Fin 64, x3 (ix4 0 h j d) * x0 (ix4 0 h r d) = g j) (hne : ∀ j, g j ≠ ⊥) :
    out0_A_4 c i arg3 harg3 arg4 harg4 arg5 harg5 arg6 harg6 arg7 harg7 arg8 harg8 x0 x1 x2 x3 (ix4 0 h r d)
      = ((1 / mass (ownBlock i) r (weight qr kr h r) (fun j => j < ownBlock i ∧ (slot (masked (ownBlock i) g) j).val < 3) 32 : ℝ) : EReal)
        * met (ownBlock i) r (weight qr kr h r) (fun j t => x2 (ix5 0 h j ⟨d.val, by omega⟩ t)) (fun j => j < ownBlock i ∧ (slot (masked (ownBlock i) g) j).val < 3) 32 := by
  rw [out_eq, tiles]
  obtain ⟨M, -, hM⟩ := carried_step i x0 x1 x2 qr kr hq hk (choice i x0 x3) h r _ (le_refl _)
  have hon : (fun j : Fin 32 => (0 : EReal) < choice i x0 x3 (ix3 h j r)) = fun j => j < ownBlock i ∧ (slot (masked (ownBlock i) g) j).val < 3 :=
    funext fun j => propext (choice_iff i x0 x3 h r g hg hne j)
  have hn : (ownBlock i).val ≤ 4 * (k0_t1_loop i).trips := by
    rw [rounds]; show (i 2).val ≤ _; omega
  unfold weighted
  rw [hM, hM, hon, met_all _ _ _ _ _ (fun j hj => hj.1) _ hn, met_all _ _ _ _ _ (fun j hj => hj.1) _ hn]
  rw [show (fun j t => x2 (ix5 0 h j 64 t)) = fun _ _ => 1 from funext fun j => funext fun t => hone j t, met_one]
  exact div_real _ _ _ (Real.rpow_pos_of_pos (by norm_num) _) (mass_pos _ _ _ (fun p => Real.rpow_pos_of_pos (by norm_num) _) _ _)

end Cert.KMobaIdeal.Layer

end
-- ==== Proof.MobaArrays.lean ====
/-
  The arrays the attention kernel is called with, read at an entry of the arguments.
-/
module

public import proofs.«01_k».proof.Proof.MobaOut
public import proofs.«01_k».proof.Proof.Gen.KMobaIdeal.Value

@[expose] public section

set_option maxRecDepth 16384

noncomputable section

namespace Cert.KMobaIdeal.Layer

open Cert.KMobaIdeal Cert.KMobaIdeal.Gen Idealize.ShloMosaic Idealize.ShloMosaic.TcCoe Idealize.SL.Sem Cert.Moba

variable (m : (ℓ : Loc nD τ sig) → Buf (Elt Ideal) ℓ)

/-- The queries. -/
abbrev q (c : Dev nD) : S4x8192x8x64.Idx → EReal := m ((c : Thread nD τ).loc main_arg0)
/-- The keys. -/
abbrev k (c : Dev nD) : S4x8192x8x64.Idx → EReal := m ((c : Thread nD τ).loc main_arg1)
/-- The values. -/
abbrev v (c : Dev nD) : S4x8192x8x64.Idx → EReal := m ((c : Thread nD τ).loc main_arg2)

/-- An array by heads, heads first. -/
def turned (x : FVec Ideal S4x8192x8x64 .f32) : FVec Ideal S4x8x8192x64 .f32 :=
  transpose S4x8x8192x64 [0, 2, 1, 3] x transposes_S4x8192x8x64_S4x8x8192x64_0_2_1_3
/-- The same, converted. -/
def narrowed (x : FVec Ideal S4x8192x8x64 .f32) : FVec Ideal S4x8x8192x64 .bf16 :=
  truncf .bf16 (turned x : FVec Ideal S4x8x8192x64 .f32) bitsLt_bf16_f32
/-- The values block by block, positions last. -/
def valueBlocks (x : FVec Ideal S4x8192x8x64 .f32) : FVec Ideal S4x8x32x64x256 .f32 :=
  transpose S4x8x32x64x256 [0, 1, 2, 4, 3] (shapeCast S4x8x32x256x64 (turned x) shapeCasts_S4x8x8192x64_S4x8x32x256x64) transposes_S4x8x32x256x64_S4x8x32x64x256_0_1_2_4_3
/-- Sixteen rows of ones. -/
def ones : FVec Ideal S4x8x32x16x256 .f32 :=
  broadcastInDim S4x8x32x16x256 ![] bcast_S_S4x8x32x16x256 (constant S_ .f32 0x3F800000#32 : FVec Ideal S_ .f32)
/-- The values over the ones. -/
def stacked (x : FVec Ideal S4x8192x8x64 .f32) : FVec Ideal S4x8x32x80x256 .bf16 :=
  truncf .bf16 (concatenate S4x8x32x80x256 3 [⟨S4x8x32x64x256, valueBlocks x⟩, ⟨S4x8x32x16x256, ones⟩] concatenates_S4x8x32x64x256_S4x8x32x16x256_S4x8x32x80x256_d3 : FVec Ideal S4x8x32x80x256 .f32) bitsLt_bf16_f32
/-- The blocks' mean keys. -/
def means (x : FVec Ideal S4x8192x8x64 .f32) : FVec Ideal S4x8x32x64 .f32 :=
  Host.divf (Host.reduceAdd (shapeCast S4x8x32x256x64 (turned x) shapeCasts_S4x8x8192x64_S4x8x32x256x64 : FVec Ideal S4x8x32x256x64 .f32)
      (constant S_ .f32 0x00000000#32) reducesTo_S4x8x32x256x64_S4x8x32x64_d3 h_S_)
    (broadcastInDim S4x8x32x64 ![] bcast_S_S4x8x32x64 (constant S_ .f32 0x43800000#32 : FVec Ideal S_ .f32))
/-- The mean keys again, padded by nothing. -/
def padded (x : FVec Ideal S4x8192x8x64 .f32) : FVec Ideal S4x8x32x64 .f32 :=
  pad S4x8x32x64 ![0, 0, 0, 0] ![0, 0, 0, 0] ![0, 0, 0, 0] (means x : FVec Ideal S4x8x32x64 .f32) (sitofp .f32 (constantI S_ 32 0#32) : FVec Ideal S_ .f32) pads_S4x8x32x64_S4x8x32x64_000_000_000_000 h_S_

theorem turned_apply (x : FVec Ideal S4x8192x8x64 .f32) (b : Fin 4) (h : Fin 8) (p : Fin 8192) (d : Fin 64) :
    turned x (ix4 b h p d) = x (ix4 b p h d) := by
  unfold turned
  pointwise

theorem narrowed_apply (x : FVec Ideal S4x8192x8x64 .f32) (b : Fin 4) (h : Fin 8) (p : Fin 8192) (d : Fin 64) :
    narrowed x (ix4 b h p d) = x (ix4 b p h d) := by
  unfold narrowed
  pointwise
  exact turned_apply x b h p d

theorem valueBlocks_apply (x : FVec Ideal S4x8192x8x64 .f32) (b : Fin 4) (h : Fin 8) (j : Fin 32) (d : Fin 64) (t : Fin 256) :
    valueBlocks x (ix5 b h j d t) = x (ix4 b (place j t) h d) := by
  unfold valueBlocks turned
  pointwise
  rfl

theorem stacked_apply (x : FVec Ideal S4x8192x8x64 .f32) (b : Fin 4) (h : Fin 8) (j : Fin 32) (d : Fin 64) (t : Fin 256) :
    stacked x (ix5 b h j ⟨d.val, by omega⟩ t) = x (ix4 b (place j t) h d) := by
  rw [← valueBlocks_apply x b h j d t]
  unfold stacked
  generalize valueBlocks x = y
  generalize ones = z
  pointwise

theorem stacked_ones (x : FVec Ideal S4x8192x8x64 .f32) (b : Fin 4) (h : Fin 8) (j : Fin 32) (t : Fin 256) :
    stacked x (ix5 b h j 64 t) = 1 := by
  unfold stacked
  generalize valueBlocks x = y
  unfold ones
  pointwise

/-- A block's mean key. -/
def meanKey (x : Fin 8192 → Fin 64 → EReal) (j : Fin 32) (d : Fin 64) : EReal :=
  Ideal.div (∑ t : Fin 256, x (place j t) d) (Ideal.ofBits .f32 0x43800000#32)

theorem means_apply (x : FVec Ideal S4x8192x8x64 .f32) (b : Fin 4) (h : Fin 8) (j : Fin 32) (d : Fin 64) :
    means x (ix4 b h j d) = meanKey (fun p d => x (ix4 b p h d)) j d := by
  unfold means turned meanKey
  pointwise
  rfl

theorem padded_apply (x : FVec Ideal S4x8192x8x64 .f32) (b : Fin 4) (h : Fin 8) (j : Fin 32) (d : Fin 64) :
    padded x (ix4 b h j d) = meanKey (fun p d => x (ix4 b p h d)) j d := by
  rw [← means_apply]
  unfold padded
  generalize means x = y
  pointwise

theorem at_q (c : Dev nD) : (V m c main_v10 : S4x8x8192x64.Idx → EReal) = turned (q m c) := by
  unfold V
  simp only [hostOps0, hostOps0_1, List.flatten_cons, List.flatten_nil, List.append_nil, List.cons_append, List.nil_append]
  after_results_simp
  rfl

theorem at_k (c : Dev nD) : (V m c main_v12 : S4x8x8192x64.Idx → EReal) = narrowed (k m c) := by
  unfold V
  simp only [hostOps0, hostOps0_1, List.flatten_cons, List.flatten_nil, List.append_nil, List.cons_append, List.nil_append]
  after_results_simp
  rfl

theorem at_v (c : Dev nD) : (V m c main_v13 : S4x8x32x80x256.Idx → EReal) = stacked (v m c) := by
  unfold V
  simp only [hostOps0, hostOps0_1, List.flatten_cons, List.flatten_nil, List.append_nil, List.cons_append, List.nil_append]
  after_results_simp
  unfold stacked
  refine congrArg₂ (fun a b => (truncf .bf16 (concatenate S4x8x32x80x256 3 [⟨S4x8x32x64x256, a⟩, ⟨S4x8x32x16x256, b⟩] concatenates_S4x8x32x64x256_S4x8x32x16x256_S4x8x32x80x256_d3 : FVec Ideal S4x8x32x80x256 .f32) bitsLt_bf16_f32 : FVec Ideal S4x8x32x80x256 .bf16)) ?_ ?_
  · after_results_simp
    rfl
  · after_results_simp
    rfl

theorem at_mean (c : Dev nD) : (V m c main_v14 : S4x8x32x64.Idx → EReal) = padded (k m c) := by
  unfold V
  simp only [hostOps0, hostOps0_1, List.flatten_cons, List.flatten_nil, List.append_nil, List.cons_append, List.nil_append]
  after_results_simp
  rfl

end Cert.KMobaIdeal.Layer

end
-- ==== Proof.MobaAttn.lean ====
/-
  The attention of one query of one head: the value both programs hold at an entry of the result.
-/
module

public import proofs.«01_k».proof.Proof.MobaArrays

@[expose] public section

noncomputable section

namespace Cert.Moba

open Idealize.ShloMosaic Cert.KMobaIdeal.Layer

/-- The exponential of a query's score against position `p`. -/
def keyWeight (q k : Fin 8192 → Fin 64 → EReal) (n : Fin 32) (r : Fin 256) (p : Fin 8192) : ℝ :=
  Real.exp ((∑ d : Fin 64, (q (place n r) d).toReal * (k p d).toReal) * (1 / 8))

/-- A query's gate of block `j`: its product with the block's mean key. -/
def gate (q k : Fin 8192 → Fin 64 → EReal) (n : Fin 32) (r : Fin 256) (j : Fin 32) : EReal :=
  ∑ d : Fin 64, q (place n r) d * meanKey k j d

/-- Block `j` lies before the query's own and has one of the three greatest gates there. -/
def Chosen (q k : Fin 8192 → Fin 64 → EReal) (n : Fin 32) (r : Fin 256) (j : Fin 32) : Prop :=
  j < n ∧ (slot (masked n (gate q k n r)) j).val < 3

/-- The weighted mean of the values a query meets: its own block's up to its own position, and the chosen blocks'. -/
def attended (q k : Fin 8192 → Fin 64 → EReal) (v : Fin 8192 → EReal) (n : Fin 32) (r : Fin 256) : EReal :=
  ((1 / mass n r (keyWeight q k n r) (Chosen q k n r) 32 : ℝ) : EReal)
    * met n r (keyWeight q k n r) (fun j t => v (place j t)) (Chosen q k n r) 32

/-- The kernel's weight, two to a score in units of `log 2`, is the exponential of the score. -/
theorem weight_eq (q k : Fin 8192 → Fin 64 → EReal) (n : Fin 32) (r : Fin 256) (h : Fin 4) (qr : Fin 4 → Fin 256 → Fin 64 → ℝ) (kr : Fin 4 → Fin 8192 → Fin 64 → ℝ)
    (hq : ∀ d, qr h r d = (q (place n r) d).toReal) (hk : ∀ p d, kr h p d = (k p d).toReal) : weight qr kr h r = keyWeight q k n r := by
  funext p
  unfold weight keyWeight score
  rw [← two_rpow]
  congr 1
  rw [Finset.sum_mul, Finset.sum_mul]
  refine Finset.sum_congr rfl fun d _ => ?_
  rw [hq, hk]
  unfold base2
  rw [mul_inv]
  ring

/-- The gates of real queries and keys are real. -/
theorem gate_real (q k : Fin 8192 → Fin 64 → EReal) (hq : ∀ p d, Real' (q p d)) (hk : ∀ p d, Real' (k p d)) (n : Fin 32) (r : Fin 256) (j : Fin 32) :
    Real' (gate q k n r j) := by
  choose qr hqr using hq
  choose kr hkr using hk
  unfold gate meanKey
  simp only [hqr, hkr]
  refine ⟨∑ d : Fin 64, qr (place n r) d * ((∑ t : Fin 256, kr (place j t) d) / 256), ?_⟩
  rw [coe_sum]
  refine Finset.sum_congr rfl fun d _ => ?_
  rw [← coe_sum, EReal.coe_mul, block_length]
  unfold Ideal.div
  rw [if_neg (by norm_num), ← EReal.coe_inv, ← EReal.coe_mul, div_eq_mul_inv]

end Cert.Moba

end
-- ==== Proof.MobaRefOps.lean ====
/-
  Two operations of the plain attention read at an entry: the three greatest gates of a query, and the blocks they name.
-/
module

public import proofs.«01_k».proof.Proof.MobaSelect
public import proofs.«01_k».proof.Proof.Gen.RMobaIdeal.Read
public import Idealize.ShloMosaic.Lib.Pointwise
public import Idealize.ShloMosaic.Lib.Tactic

@[expose] public section

set_option maxRecDepth 16384

noncomputable section

namespace Cert.RMobaIdeal.Layer

open Cert.RMobaIdeal Cert.RMobaIdeal.Gen Idealize.ShloMosaic Cert.Moba

theorem along_last (b : Fin 4) (h : Fin 8) (n : Fin 32) (r : Fin 256) (j k : Fin 32) :
    (ix5 b h n r j : S4x8x32x256x32.Idx).along 4 k = ix5 b h n r k := by
  funext a
  match a with
  | ⟨0, _⟩ => rfl
  | ⟨1, _⟩ => rfl
  | ⟨2, _⟩ => rfl
  | ⟨3, _⟩ => rfl
  | ⟨4, _⟩ => rfl

theorem greater (x y : EReal) : (Ideal.cmpTotal .gt x y == 1#1) = true ↔ y < x := by
  show (BitVec.ofBool (decide (y < x)) == 1#1) = true ↔ y < x
  by_cases hxy : y < x <;> simp [hxy]

/-- The block of slot `s`. -/
def slotBlock (g : Fin 32 → EReal) (s : Fin 3) : Fin 32 := sortedFrom (ahead g) ⟨s.val, by omega⟩

theorem topK_at (X : FVec Ideal S4x8x32x256x32 .f32) (hf : S4x8x32x256x32.Slices (fun _ => 0) S4x8x32x256x3) (b : Fin 4) (h : Fin 8) (n : Fin 32) (r : Fin 256) (s : Fin 3) :
    (Host.topK S4x8x32x256x3 4 (FloatOps.cmpfTotal .gt) X hf).2 (ix5 b h n r s)
      = BitVec.ofNat 32 (slotBlock (fun j : Fin 32 => X (ix5 b h n r j)) s).val := by
  unfold Host.topK
  dsimp only
  rw [Host.sort2, dif_pos (by decide)]
  dsimp only
  pointwise
  simp only [along_last]
  rw [sortedFrom_ahead (fun j : Fin 32 => X (ix5 b h n r j)) (fun k k' => FloatOps.cmpfTotal (F := Ideal) .gt (X (ix5 b h n r k)) (X (ix5 b h n r k')) == 1#1) (fun i j => greater _ _)]
  unfold slotBlock
  rfl

theorem small : ∀ j : Fin 32, (BitVec.ofNat 32 j.val).toInt.toNat = j.val := by decide +kernel

theorem gather_at (X : FVec Ideal S4x8x32x256x64 .f32) (I : IVec S4x8x32x256x3x3 32) (b : Fin 4) (h : Fin 8) (n : Fin 32) (r : Fin 256) (s : Fin 3) (t : Fin 256) (d : Fin 64) (j : Fin 32)
    (h0 : I (ix6 b h n r s 0) = BitVec.ofNat 32 b.val) (h1 : I (ix6 b h n r s 1) = BitVec.ofNat 32 h.val) (h2 : I (ix6 b h n r s 2) = BitVec.ofNat 32 j.val) :
    Host.gather gather_S4x8x32x256x64_S4x8x32x256x3x3_S4x8x32x256x3x256x64_56_012_n_n_012_5_11125664 X I (ix7 b h n r s t d) = X (ix5 b h j t d) := by
  unfold Host.gather
  refine congrArg X (funext fun a => Fin.ext ?_)
  generalize hG : gather_S4x8x32x256x64_S4x8x32x256x3x3_S4x8x32x256x3x256x64_56_012_n_n_012_5_11125664 = G
  show G.start _ I a + G.batchCoord _ a + G.offCoord _ a = _
  subst hG
  rw [GatherDims.batchCoord_eq_zero _ _ _ List.not_mem_nil, Nat.add_zero]
  fin_cases a
  · show GatherDims.start _ _ _ 0 + GatherDims.offCoord _ _ 0 = _
    rw [GatherDims.offCoord_eq_zero _ _ _ (by decide +kernel), Nat.add_zero]
    unfold GatherDims.start
    rw [dif_pos (by decide +kernel)]
    rw [show GatherDims.siIdx _ (ix7 b h n r s t d) _ = ix6 b h n r s 0 from by
      funext c
      match c with
      | ⟨0, _⟩ => rfl
      | ⟨1, _⟩ => rfl
      | ⟨2, _⟩ => rfl
      | ⟨3, _⟩ => rfl
      | ⟨4, _⟩ => rfl
      | ⟨5, _⟩ => rfl]
    rw [h0, small ⟨b.val, by omega⟩]
    show min b.val (4 - 1) = b.val
    omega
  · show GatherDims.start _ _ _ 1 + GatherDims.offCoord _ _ 1 = _
    rw [GatherDims.offCoord_eq_zero _ _ _ (by decide +kernel), Nat.add_zero]
    unfold GatherDims.start
    rw [dif_pos (by decide +kernel)]
    rw [show GatherDims.siIdx _ (ix7 b h n r s t d) _ = ix6 b h n r s 1 from by
      funext c
      match c with
      | ⟨0, _⟩ => rfl
      | ⟨1, _⟩ => rfl
      | ⟨2, _⟩ => rfl
      | ⟨3, _⟩ => rfl
      | ⟨4, _⟩ => rfl
      | ⟨5, _⟩ => rfl]
    rw [h1, small ⟨h.val, by omega⟩]
    show min h.val (8 - 1) = h.val
    omega
  · show GatherDims.start _ _ _ 2 + GatherDims.offCoord _ _ 2 = _
    rw [GatherDims.offCoord_eq_zero _ _ _ (by decide +kernel), Nat.add_zero]
    unfold GatherDims.start
    rw [dif_pos (by decide +kernel)]
    rw [show GatherDims.siIdx _ (ix7 b h n r s t d) _ = ix6 b h n r s 2 from by
      funext c
      match c with
      | ⟨0, _⟩ => rfl
      | ⟨1, _⟩ => rfl
      | ⟨2, _⟩ => rfl
      | ⟨3, _⟩ => rfl
      | ⟨4, _⟩ => rfl
      | ⟨5, _⟩ => rfl]
    rw [h2, small j]
    show min j.val (32 - 1) = j.val
    omega
  · show GatherDims.start _ _ _ 3 + GatherDims.offCoord _ _ 3 = _
    unfold GatherDims.start
    rw [dif_neg (by decide +kernel), Nat.zero_add]
    rfl
  · show GatherDims.start _ _ _ 4 + GatherDims.offCoord _ _ 4 = _
    unfold GatherDims.start
    rw [dif_neg (by decide +kernel), Nat.zero_add]
    rfl

end Cert.RMobaIdeal.Layer

end
-- ==== Proof.MobaRefSel.lean ====
/-
  The plain attention's selection read at an entry: the gates, the slots' blocks, and the keys and values gathered from them.
-/
module

public import proofs.«01_k».proof.Proof.MobaAttn
public import proofs.«01_k».proof.Proof.MobaRefOps

@[expose] public section

set_option maxRecDepth 16384

noncomputable section

namespace Cert.RMobaIdeal.Layer

open Cert.RMobaIdeal Cert.RMobaIdeal.Gen Cert.RMobaIdeal.Read Idealize.ShloMosaic Cert.Moba Cert.KMobaIdeal.Layer

/-- An argument. -/
abbrev A := FVec Ideal S4x8192x8x64 .f32

variable (x0 x1 x2 : A)

theorem q_at (b : Fin 4) (h : Fin 8) (n : Fin 32) (r : Fin 256) (d : Fin 64) : val_main_v1 (F := Ideal) x0 (ix5 b h n r d) = x0 (ix4 b (place n r) h d) := by
  unfold val_main_v1 val_main_v0
  pointwise
  rfl

theorem k_at (b : Fin 4) (h : Fin 8) (n : Fin 32) (r : Fin 256) (d : Fin 64) : val_main_v3 (F := Ideal) x1 (ix5 b h n r d) = x1 (ix4 b (place n r) h d) := by
  unfold val_main_v3 val_main_v2
  pointwise
  rfl

theorem v_at (b : Fin 4) (h : Fin 8) (n : Fin 32) (r : Fin 256) (d : Fin 64) : val_main_v5 (F := Ideal) x2 (ix5 b h n r d) = x2 (ix4 b (place n r) h d) := by
  unfold val_main_v5 val_main_v4
  pointwise
  rfl

/-- The queries or keys of one head. -/
abbrev head (x : A) (b : Fin 4) (h : Fin 8) : Fin 8192 → Fin 64 → EReal := fun p d => x (ix4 b p h d)

theorem mean_at (b : Fin 4) (h : Fin 8) (j : Fin 32) (d : Fin 64) : val_main_v8 (F := Ideal) x1 (ix4 b h j d) = meanKey (head x1 b h) j d := by
  have e : ∀ t : Fin 256, val_main_v3 (F := Ideal) x1 (ix5 b h j t d) = x1 (ix4 b (place j t) h d) := fun t => k_at x1 b h j t d
  unfold val_main_v8 val_main_v7 val_main_v6 val_main_cst val_main_cst_0 meanKey head
  generalize val_main_v3 (F := Ideal) x1 = X at e ⊢
  simp only [← e]
  pointwise

theorem product_at (b : Fin 4) (h : Fin 8) (n : Fin 32) (r : Fin 256) (j : Fin 32) : val_main_v24 (F := Ideal) x0 x1 (ix5 b h n r j) = gate (head x0 b h) (head x1 b h) n r j := by
  have e : ∀ d : Fin 64, val_main_v1 (F := Ideal) x0 (ix5 b h n r d) = x0 (ix4 b (place n r) h d) := fun d => q_at x0 b h n r d
  have e' : ∀ d : Fin 64, val_main_v8 (F := Ideal) x1 (ix4 b h j d) = meanKey (head x1 b h) j d := fun d => mean_at x1 b h j d
  unfold val_main_v24 gate
  generalize val_main_v1 (F := Ideal) x0 = X at e ⊢
  generalize val_main_v8 (F := Ideal) x1 = Y at e' ⊢
  simp only [head, ← e, ← e']
  pointwise

theorem earlier_at (n : Fin 32) (j : Fin 32) : val_main_v31 (F := Ideal) (ix3 n 0 j) = IntOp.cmpi .slt (BitVec.ofNat 32 j.val) (BitVec.ofNat 32 n.val) := by
  unfold val_main_v31 val_main_v30 val_main_v29 val_main_v28 val_main_v27 val_main_v26 val_main_v25 val_main_v13
  pointwise

theorem gate_at (b : Fin 4) (h : Fin 8) (n : Fin 32) (r : Fin 256) (j : Fin 32) :
    val_main_v32 (F := Ideal) x0 x1 (ix5 b h n r j) = masked n (gate (head x0 b h) (head x1 b h) n r) j := by
  have e := product_at x0 x1 b h n r j
  have e' := earlier_at n j
  unfold masked
  rw [← e]
  unfold val_main_v32 val_main_call1_v1 val_main_call1_v2 val_main_call1_v0 val_main_cst_3
  generalize val_main_v24 (F := Ideal) x0 x1 = X
  generalize val_main_v31 (F := Ideal) = Y at e' ⊢
  pointwise
  rw [e', select_one]
  exact if_congr (before_iff j n) rfl neg_inf

/-- The block of slot `s` for a query. -/
def blockOf (b : Fin 4) (h : Fin 8) (n : Fin 32) (r : Fin 256) (s : Fin 3) : Fin 32 := slotBlock (masked n (gate (head x0 b h) (head x1 b h) n r)) s

theorem index_at (b : Fin 4) (h : Fin 8) (n : Fin 32) (r : Fin 256) (s : Fin 3) :
    val_main_indices (F := Ideal) x0 x1 (ix5 b h n r s) = BitVec.ofNat 32 (blockOf x0 x1 b h n r s).val := by
  unfold val_main_indices blockOf
  rw [topK_at]
  rw [funext fun j : Fin 32 => gate_at x0 x1 b h n r j]

theorem valid_at (b : Fin 4) (h : Fin 8) (n : Fin 32) (r : Fin 256) (s : Fin 3) :
    val_main_v36 (F := Ideal) x0 x1 (ix5 b h n r s) = 1#1 ↔ blockOf x0 x1 b h n r s < n := by
  have e := index_at x0 x1 b h n r s
  rw [← before_iff, ← e]
  unfold val_main_v36 val_main_v35 val_main_v34 val_main_v33 val_main_v13
  generalize val_main_indices (F := Ideal) x0 x1 = X
  pointwise

theorem not_negative : ∀ j : Fin 32, ¬IntOp.cmpi .slt (BitVec.ofNat 32 j.val) 0#32 = 1#1 := by decide +kernel

theorem batch_at (b : Fin 4) (h : Fin 8) (n : Fin 32) (r : Fin 256) (s : Fin 3) : val_main_v52 (F := Ideal) (ix5 b h n r s) = BitVec.ofNat 32 b.val := by
  unfold val_main_v52 val_main_v41 val_main_v40 val_main_v39 val_main_v38 val_main_v37 val_main_v10 val_main_v9 val_main_c val_main_c_4
  pointwise
  rw [select_one, if_neg (not_negative ⟨b.val, by omega⟩)]

theorem head_at (b : Fin 4) (h : Fin 8) (n : Fin 32) (r : Fin 256) (s : Fin 3) : val_main_v53 (F := Ideal) (ix5 b h n r s) = BitVec.ofNat 32 h.val := by
  unfold val_main_v53 val_main_v46 val_main_v45 val_main_v44 val_main_v43 val_main_v42 val_main_v12 val_main_v11 val_main_c_5 val_main_c_6
  pointwise
  rw [select_one, if_neg (not_negative ⟨h.val, by omega⟩)]

theorem block_at (b : Fin 4) (h : Fin 8) (n : Fin 32) (r : Fin 256) (s : Fin 3) :
    val_main_v51 (F := Ideal) x0 x1 (ix5 b h n r s) = BitVec.ofNat 32 (blockOf x0 x1 b h n r s).val := by
  have e := index_at x0 x1 b h n r s
  unfold val_main_v51 val_main_v50 val_main_v49 val_main_v48 val_main_v47 val_main_c_7 val_main_c_8
  generalize val_main_indices (F := Ideal) x0 x1 = X at e ⊢
  pointwise
  rw [e, select_one, if_neg (not_negative _)]

theorem batch_at' (b : Fin 4) (h : Fin 8) (n : Fin 32) (r : Fin 256) (s : Fin 3) : val_main_v74 (F := Ideal) (ix5 b h n r s) = BitVec.ofNat 32 b.val := by
  unfold val_main_v74 val_main_v63 val_main_v62 val_main_v61 val_main_v60 val_main_v59 val_main_v10 val_main_v9 val_main_c_9 val_main_c_10
  pointwise
  rw [select_one, if_neg (not_negative ⟨b.val, by omega⟩)]

theorem head_at' (b : Fin 4) (h : Fin 8) (n : Fin 32) (r : Fin 256) (s : Fin 3) : val_main_v75 (F := Ideal) (ix5 b h n r s) = BitVec.ofNat 32 h.val := by
  unfold val_main_v75 val_main_v68 val_main_v67 val_main_v66 val_main_v65 val_main_v64 val_main_v12 val_main_v11 val_main_c_11 val_main_c_12
  pointwise
  rw [select_one, if_neg (not_negative ⟨h.val, by omega⟩)]

theorem block_at' (b : Fin 4) (h : Fin 8) (n : Fin 32) (r : Fin 256) (s : Fin 3) :
    val_main_v73 (F := Ideal) x0 x1 (ix5 b h n r s) = BitVec.ofNat 32 (blockOf x0 x1 b h n r s).val := by
  have e := index_at x0 x1 b h n r s
  unfold val_main_v73 val_main_v72 val_main_v71 val_main_v70 val_main_v69 val_main_c_13 val_main_c_14
  generalize val_main_indices (F := Ideal) x0 x1 = X at e ⊢
  pointwise
  rw [e, select_one, if_neg (not_negative _)]

end Cert.RMobaIdeal.Layer

end
-- ==== Proof.MobaRefSoft.lean ====
/-
  A softmax over the three chosen blocks' scores and the own block's, beside the kernel's sums over all blocks: the
  same weighted values over the same sum of weights.
-/
module

public import proofs.«01_k».proof.Proof.MobaAttn
public import proofs.«01_k».proof.Proof.MobaRefOps

@[expose] public section

set_option maxRecDepth 16384

noncomputable section

namespace Cert.Moba

open Idealize.ShloMosaic Cert.KMobaIdeal.Layer Cert.RMobaIdeal.Layer

/-- A softmax's entry, over entries that are numbers or `⊥`: the exponential over the exponentials' sum. -/
theorem softmax {ι : Type} [Fintype ι] (E : ι → EReal) (w : ι → ℝ)
    (hw : ∀ c, (E c = ⊥ ∧ w c = 0) ∨ ∃ x : ℝ, E c = x ∧ w c = Real.exp x) (c₀ : ι) (h₀ : E c₀ ≠ ⊥) (hpos : 0 < ∑ c, w c) (c : ι) :
    Ideal.div (Ideal.exp (E c - max ⊥ (Finset.fold max ⊥ E Finset.univ)))
      (0 + ∑ x, Ideal.exp (E x - max ⊥ (Finset.fold max ⊥ E Finset.univ)))
      = ((1 / ∑ c, w c : ℝ) : EReal) * (w c : EReal) := by
  have ht : ∀ c, E c ≠ ⊤ := by
    intro c
    rcases hw c with ⟨e, _⟩ | ⟨x, e, _⟩ <;> rw [e]
    · exact bot_ne_top
    · exact EReal.coe_ne_top x
  obtain ⟨M, hM⟩ := fold_real E ht c₀ h₀
  rw [hM, max_eq_right bot_le, zero_add]
  have e : ∀ x, Ideal.exp (E x - (M : EReal)) = ((Real.exp (-M) : ℝ) : EReal) * (w x : EReal) := by
    intro x
    rcases hw x with ⟨e, e'⟩ | ⟨y, e, e'⟩ <;> rw [e, e']
    · rw [exp_bot_sub, EReal.coe_zero, mul_zero]
    · rw [exp_sub, EReal.coe_mul]
  simp only [e]
  rw [← scale_sum _ _ (Real.exp_pos _).le, ← coe_sum, div_real _ _ _ (Real.exp_pos _) hpos]

/-- A sum over the row of scores: three blocks of 256 and one more. -/
theorem sum_row {M : Type} [AddCommMonoid M] (F : Fin 1024 → M) :
    ∑ c, F c = (∑ s : Fin 3, ∑ t : Fin 256, F ⟨s.val * 256 + t.val, by omega⟩) + ∑ t : Fin 256, F ⟨768 + t.val, by omega⟩ := by
  have h : ∑ c, F c = (∑ c : Fin 768, F (Fin.castAdd 256 c)) + ∑ t : Fin 256, F (Fin.natAdd 768 t) := Fin.sum_univ_add (a := 768) (b := 256) F
  have h' : (∑ x : Fin 3 × Fin 256, F (Fin.castAdd 256 (finProdFinEquiv (m := 3) (n := 256) x))) = ∑ c : Fin 768, F (Fin.castAdd 256 c) :=
    (finProdFinEquiv (m := 3) (n := 256)).sum_comp (fun c : Fin (3 * 256) => F (Fin.castAdd 256 c))
  have e : ∀ (s : Fin 3) (t : Fin 256), Fin.castAdd 256 (finProdFinEquiv (m := 3) (n := 256) (s, t)) = (⟨s.val * 256 + t.val, by omega⟩ : Fin 1024) := by
    intro s t
    apply Fin.ext
    show t.val + 256 * s.val = s.val * 256 + t.val
    ring
  have e' : ∀ t : Fin 256, Fin.natAdd 768 t = (⟨768 + t.val, by omega⟩ : Fin 1024) := fun t => rfl
  rw [h, ← h', Fintype.sum_prod_type]
  simp only [e, e']

section

variable (q k : Fin 8192 → Fin 64 → EReal) (n : Fin 32) (r : Fin 256)

/-- The block of slot `s`. -/
def picked (s : Fin 3) : Fin 32 := slotBlock (masked n (gate q k n r)) s

open Classical in
/-- The sum over the slots is the sum over the chosen blocks. -/
theorem sum_picked {M : Type} [AddCommMonoid M] (f : Fin 32 → M) :
    (∑ s : Fin 3, if picked q k n r s < n then f (picked q k n r s) else 0)
      = ∑ j ∈ Finset.range 32, if hj : j < 32 then (if Chosen q k n r ⟨j, hj⟩ then f ⟨j, hj⟩ else 0) else 0 := by
  rw [Finset.sum_range]
  refine (sum_slots (masked n (gate q k n r)) (fun j => j < n) f).trans (Finset.sum_congr rfl fun j _ => ?_)
  rw [dif_pos j.isLt]
  exact if_congr Iff.rfl rfl rfl

/-- The exponential of the score at place `t` of slot `s`, none for a slot that is not of an earlier block. -/
def slotWeight (s : Fin 3) (t : Fin 256) : ℝ := if picked q k n r s < n then keyWeight q k n r (place (picked q k n r s) t) else 0

/-- The exponential of the score at place `t` of the own block, none for a later place than the query's. -/
def ownWeight (t : Fin 256) : ℝ := if t.val ≤ r.val then keyWeight q k n r (place n t) else 0

theorem weights_sum : (∑ s : Fin 3, ∑ t : Fin 256, slotWeight q k n r s t) + ∑ t : Fin 256, ownWeight q k n r t
    = mass n r (keyWeight q k n r) (Chosen q k n r) 32 := by
  unfold mass
  rw [add_comm]
  congr 1
  rw [← sum_picked q k n r fun j => ∑ t : Fin 256, keyWeight q k n r (place j t)]
  refine Finset.sum_congr rfl fun s _ => ?_
  unfold slotWeight
  split
  · rfl
  · exact Finset.sum_const_zero

theorem weighted_sum (v : Fin 8192 → EReal) (L : ℝ) (hL : 0 ≤ L) :
    (∑ s : Fin 3, ∑ t : Fin 256, ((L : EReal) * (slotWeight q k n r s t : EReal)) * v (place (picked q k n r s) t))
      + ∑ t : Fin 256, ((L : EReal) * (ownWeight q k n r t : EReal)) * v (place n t)
    = (L : EReal) * met n r (keyWeight q k n r) (fun j t => v (place j t)) (Chosen q k n r) 32 := by
  simp only [mul_assoc]
  simp only [← scale_sum _ L hL]
  rw [← EReal.left_distrib_of_nonneg_of_ne_top (EReal.coe_nonneg.mpr hL) (EReal.coe_ne_top L)]
  congr 1
  unfold met
  rw [add_comm]
  congr 1
  · unfold ownSum ownWeight
    refine Finset.sum_congr rfl fun t _ => ?_
    split
    · exact mul_comm _ _
    · rw [EReal.coe_zero, zero_mul]
  · unfold added
    rw [← sum_picked q k n r (blockSum (keyWeight q k n r) fun j t => v (place j t))]
    refine Finset.sum_congr rfl fun s _ => ?_
    unfold slotWeight blockSum
    split
    · exact Finset.sum_congr rfl fun t _ => mul_comm _ _
    · simp only [EReal.coe_zero, zero_mul, Finset.sum_const_zero]

end

/-- A score of real queries and keys. -/
theorem score_real' (a b : Fin 64 → EReal) (ha : ∀ d, Real' (a d)) (hb : ∀ d, Real' (b d)) :
    (∑ d, a d * b d) * ((1 / 8 : ℝ) : EReal) = (((∑ d, (a d).toReal * (b d).toReal) * (1 / 8) : ℝ) : EReal) := by
  rw [EReal.coe_mul, coe_sum]
  congr 1
  refine Finset.sum_congr rfl fun d _ => ?_
  obtain ⟨x, hx⟩ := ha d
  obtain ⟨y, hy⟩ := hb d
  rw [hx, hy, EReal.toReal_coe, EReal.toReal_coe, EReal.coe_mul]

end Cert.Moba

end
-- ==== Proof.MobaRefRow.lean ====
/-
  The plain attention's row of scores read at an entry.
-/
module

public import proofs.«01_k».proof.Proof.MobaRefSel
public import proofs.«01_k».proof.Proof.MobaRefSoft

@[expose] public section

set_option maxRecDepth 16384

noncomputable section

namespace Cert.RMobaIdeal.Layer

open Cert.RMobaIdeal Cert.RMobaIdeal.Gen Cert.RMobaIdeal.Read Idealize.ShloMosaic Cert.Moba Cert.KMobaIdeal.Layer

variable (x0 x1 x2 : A)

theorem triple0 (X Y Z : IVec S4x8x32x256x3x1 32) (b : Fin 4) (h : Fin 8) (n : Fin 32) (r : Fin 256) (s : Fin 3) :
    concatenate (α := BitVec 32) S4x8x32x256x3x3 5 [⟨S4x8x32x256x3x1, X⟩, ⟨S4x8x32x256x3x1, Y⟩, ⟨S4x8x32x256x3x1, Z⟩] concatenates_S4x8x32x256x3x1_S4x8x32x256x3x1_S4x8x32x256x3x1_S4x8x32x256x3x3_d5 (ix6 b h n r s 0)
      = X (ix6 b h n r s 0) := by
  pointwise

theorem triple1 (X Y Z : IVec S4x8x32x256x3x1 32) (b : Fin 4) (h : Fin 8) (n : Fin 32) (r : Fin 256) (s : Fin 3) :
    concatenate (α := BitVec 32) S4x8x32x256x3x3 5 [⟨S4x8x32x256x3x1, X⟩, ⟨S4x8x32x256x3x1, Y⟩, ⟨S4x8x32x256x3x1, Z⟩] concatenates_S4x8x32x256x3x1_S4x8x32x256x3x1_S4x8x32x256x3x1_S4x8x32x256x3x3_d5 (ix6 b h n r s 1)
      = Y (ix6 b h n r s 0) := by
  pointwise

theorem triple2 (X Y Z : IVec S4x8x32x256x3x1 32) (b : Fin 4) (h : Fin 8) (n : Fin 32) (r : Fin 256) (s : Fin 3) :
    concatenate (α := BitVec 32) S4x8x32x256x3x3 5 [⟨S4x8x32x256x3x1, X⟩, ⟨S4x8x32x256x3x1, Y⟩, ⟨S4x8x32x256x3x1, Z⟩] concatenates_S4x8x32x256x3x1_S4x8x32x256x3x1_S4x8x32x256x3x1_S4x8x32x256x3x3_d5 (ix6 b h n r s 2)
      = Z (ix6 b h n r s 0) := by
  pointwise

/-- An array seen with a last axis of one entry. -/
theorem last_one (X : IVec S4x8x32x256x3 32) (b : Fin 4) (h : Fin 8) (n : Fin 32) (r : Fin 256) (s : Fin 3)
    (hX : S4x8x32x256x3.BroadcastsInDim S4x8x32x256x3x1 ![0, 1, 2, 3, 4]) :
    broadcastInDim S4x8x32x256x3x1 ![0, 1, 2, 3, 4] hX X (ix6 b h n r s 0) = X (ix5 b h n r s) := by
  pointwise

/-- The gathered keys. -/
theorem keys_at (b : Fin 4) (h : Fin 8) (n : Fin 32) (r : Fin 256) (s : Fin 3) (t : Fin 256) (d : Fin 64) :
    val_main_v58 (F := Ideal) x0 x1 (ix7 b h n r s t d) = x1 (ix4 b (place (blockOf x0 x1 b h n r s) t) h d) := by
  rw [← k_at x1 b h _ t d]
  unfold val_main_v58
  refine gather_at _ _ b h n r s t d (blockOf x0 x1 b h n r s) ?_ ?_ ?_ <;> unfold val_main_v57
  · rw [triple0]; unfold val_main_v54; exact (last_one _ b h n r s _).trans (batch_at b h n r s)
  · rw [triple1]; unfold val_main_v55; exact (last_one _ b h n r s _).trans (head_at b h n r s)
  · rw [triple2]; unfold val_main_v56; exact (last_one _ b h n r s _).trans (block_at x0 x1 b h n r s)

/-- The gathered values. -/
theorem values_at (b : Fin 4) (h : Fin 8) (n : Fin 32) (r : Fin 256) (s : Fin 3) (t : Fin 256) (d : Fin 64) :
    val_main_v80 (F := Ideal) x0 x1 x2 (ix7 b h n r s t d) = x2 (ix4 b (place (blockOf x0 x1 b h n r s) t) h d) := by
  rw [← v_at x2 b h _ t d]
  unfold val_main_v80
  refine gather_at _ _ b h n r s t d (blockOf x0 x1 b h n r s) ?_ ?_ ?_ <;> unfold val_main_v79
  · rw [triple0]; unfold val_main_v76; exact (last_one _ b h n r s _).trans (batch_at' b h n r s)
  · rw [triple1]; unfold val_main_v77; exact (last_one _ b h n r s _).trans (head_at' b h n r s)
  · rw [triple2]; unfold val_main_v78; exact (last_one _ b h n r s _).trans (block_at' x0 x1 b h n r s)

/-- A query's dot products with the gathered keys. -/
theorem dots_at (b : Fin 4) (h : Fin 8) (n : Fin 32) (r : Fin 256) (s : Fin 3) (t : Fin 256) :
    val_main_v81 (F := Ideal) x0 x1 (ix6 b h n r s t)
      = ∑ d : Fin 64, x0 (ix4 b (place n r) h d) * x1 (ix4 b (place (blockOf x0 x1 b h n r s) t) h d) := by
  have e : ∀ d : Fin 64, val_main_v1 (F := Ideal) x0 (ix5 b h n r d) = x0 (ix4 b (place n r) h d) := fun d => q_at x0 b h n r d
  have e' := fun d : Fin 64 => keys_at x0 x1 b h n r s t d
  unfold val_main_v81
  generalize val_main_v1 (F := Ideal) x0 = X at e ⊢
  generalize val_main_v58 (F := Ideal) x0 x1 = Y at e' ⊢
  simp only [← e, ← e']
  pointwise

/-- The scores against the gathered keys, `⊥` in a slot that is not of an earlier block. -/
theorem slotScore_at (b : Fin 4) (h : Fin 8) (n : Fin 32) (r : Fin 256) (s : Fin 3) (t : Fin 256) :
    val_main_v85 (F := Ideal) x0 x1 (ix6 b h n r s t)
      = if blockOf x0 x1 b h n r s < n then
          (∑ d : Fin 64, x0 (ix4 b (place n r) h d) * x1 (ix4 b (place (blockOf x0 x1 b h n r s) t) h d)) * ((1 / 8 : ℝ) : EReal)
        else ⊥ := by
  have e := dots_at x0 x1 b h n r s t
  have e' := valid_at x0 x1 b h n r s
  rw [← e]
  unfold val_main_v85 val_main_call2_v1 val_main_v84 val_main_v83 val_main_v82 val_main_call2_v2 val_main_call2_v0 val_main_cst_15 val_main_cst_16
  generalize val_main_v81 (F := Ideal) x0 x1 = X
  generalize val_main_v36 (F := Ideal) x0 x1 = Y at e' ⊢
  pointwise
  rw [select_one]
  refine if_congr e' ?_ neg_inf
  exact congrArg (X (ix6 b h n r s t) * ·) eighth

/-- Which places of the own block a query sees. -/
theorem causal_at : ∀ t r : Fin 256, IntOp.cmpi .sle (BitVec.ofNat 32 t.val) (BitVec.ofNat 32 r.val) = 1#1 ↔ t.val ≤ r.val := by
  intro t r
  rw [not_after, bit_one]

/-- The scores against the own block, `⊥` at later places. -/
theorem ownScore_at (b : Fin 4) (h : Fin 8) (n : Fin 32) (r : Fin 256) (t : Fin 256) :
    val_main_v23 (F := Ideal) x0 x1 (ix5 b h n r t)
      = if t.val ≤ r.val then
          (∑ d : Fin 64, x0 (ix4 b (place n r) h d) * x1 (ix4 b (place n t) h d)) * ((1 / 8 : ℝ) : EReal)
        else ⊥ := by
  have e : ∀ d : Fin 64, val_main_v1 (F := Ideal) x0 (ix5 b h n r d) = x0 (ix4 b (place n r) h d) := fun d => q_at x0 b h n r d
  have e' : ∀ d : Fin 64, val_main_v3 (F := Ideal) x1 (ix5 b h n t d) = x1 (ix4 b (place n t) h d) := fun d => k_at x1 b h n t d
  simp only [← e, ← e']
  unfold val_main_v23 val_main_call0_v1 val_main_v17 val_main_v16 val_main_v15 val_main_v22 val_main_v21 val_main_v20 val_main_v19 val_main_v18 val_main_v14 val_main_call0_v2 val_main_call0_v0 val_main_cst_1 val_main_cst_2
  generalize val_main_v1 (F := Ideal) x0 = X
  generalize val_main_v3 (F := Ideal) x1 = Y
  pointwise
  rw [select_one]
  refine if_congr (causal_at t r) ?_ neg_inf
  exact congrArg ((∑ d : Fin 64, X (ix5 b h n r d) * Y (ix5 b h n t d)) * ·) eighth

/-- The row of scores, at a slot. -/
theorem row_slot (b : Fin 4) (h : Fin 8) (n : Fin 32) (r : Fin 256) (s : Fin 3) (t : Fin 256) :
    val_main_v87 (F := Ideal) x0 x1 (ix5 b h n r ⟨s.val * 256 + t.val, by omega⟩) = val_main_v85 (F := Ideal) x0 x1 (ix6 b h n r s t) := by
  have e : ∀ (X : FVec Ideal S4x8x32x256x768 .f32) (Y : FVec Ideal S4x8x32x256x256 .f32) (c : Fin 768),
      concatenate S4x8x32x256x1024 4 [⟨S4x8x32x256x768, X⟩, ⟨S4x8x32x256x256, Y⟩] concatenates_S4x8x32x256x768_S4x8x32x256x256_S4x8x32x256x1024_d4 (ix5 b h n r ⟨c.val, by omega⟩) = X (ix5 b h n r c) := by
    intro X Y c
    pointwise
  have e' : ∀ (X : FVec Ideal S4x8x32x256x3x256 .f32),
      shapeCast S4x8x32x256x768 X shapeCasts_S4x8x32x256x3x256_S4x8x32x256x768 (ix5 b h n r ⟨s.val * 256 + t.val, by omega⟩) = X (ix6 b h n r s t) := by
    intro X
    pointwise
  unfold val_main_v87 val_main_v86
  exact (e _ _ ⟨s.val * 256 + t.val, by omega⟩).trans (e' _)

/-- The row of scores, at the own block. -/
theorem row_own (b : Fin 4) (h : Fin 8) (n : Fin 32) (r : Fin 256) (t : Fin 256) :
    val_main_v87 (F := Ideal) x0 x1 (ix5 b h n r ⟨768 + t.val, by omega⟩) = val_main_v23 (F := Ideal) x0 x1 (ix5 b h n r t) := by
  unfold val_main_v87
  generalize val_main_v86 (F := Ideal) x0 x1 = X
  generalize val_main_v23 (F := Ideal) x0 x1 = Y
  pointwise

end Cert.RMobaIdeal.Layer

end
-- ==== Proof.MobaRefOut.lean ====
/-
  The plain attention read at an entry: over real queries and keys it is what the kernel's sums give.
-/
module

public import proofs.«01_k».proof.Proof.MobaRefRow

@[expose] public section

set_option maxRecDepth 16384

noncomputable section

namespace Cert.RMobaIdeal.Layer

open Cert.RMobaIdeal Cert.RMobaIdeal.Gen Cert.RMobaIdeal.Read Idealize.ShloMosaic Cert.Moba Cert.KMobaIdeal.Layer

variable (x0 x1 x2 : A)

/-- A query's row of scores. -/
def row (b : Fin 4) (h : Fin 8) (n : Fin 32) (r : Fin 256) : Fin 1024 → EReal := fun c => val_main_v87 (F := Ideal) x0 x1 (ix5 b h n r c)

/-- The row's softmax. -/
def weight (b : Fin 4) (h : Fin 8) (n : Fin 32) (r : Fin 256) (c : Fin 1024) : EReal :=
  Ideal.div (Ideal.exp (row x0 x1 b h n r c - max ⊥ (Finset.fold max ⊥ (row x0 x1 b h n r) Finset.univ)))
    (0 + ∑ x, Ideal.exp (row x0 x1 b h n r x - max ⊥ (Finset.fold max ⊥ (row x0 x1 b h n r) Finset.univ)))

/-- The greatest entry along the last axis, beginning with `−∞`. -/
theorem fold_at (X : FVec Ideal S4x8x32x256x1024 .f32) (b : Fin 4) (h : Fin 8) (n : Fin 32) (r : Fin 256) :
    Host.reduce FloatOps.maximumf X (val_main_cst_17 (F := Ideal)) reducesTo_S4x8x32x256x1024_S4x8x32x256_d4 h_S_ (ix4 b h n r)
      = Finset.fold max ⊥ (fun c : Fin 1024 => X (ix5 b h n r c)) Finset.univ := by
  rw [← neg_inf]
  unfold val_main_cst_17
  pointwise

/-- The row's greatest entry. -/
theorem greatest_at (b : Fin 4) (h : Fin 8) (n : Fin 32) (r : Fin 256) :
    val_main_v90 (F := Ideal) x0 x1 (ix4 b h n r) = max ⊥ (Finset.fold max ⊥ (row x0 x1 b h n r) Finset.univ) := by
  rw [val_main_v90_apply, val_main_v89_apply]
  unfold val_main_v88
  rw [fold_at]
  exact congrArg (max · _) neg_inf

/-- The softmax's numerator. -/
theorem exp_at (b : Fin 4) (h : Fin 8) (n : Fin 32) (r : Fin 256) (c : Fin 1024) :
    val_main_v94 (F := Ideal) x0 x1 (ix5 b h n r c)
      = Ideal.exp (row x0 x1 b h n r c - max ⊥ (Finset.fold max ⊥ (row x0 x1 b h n r) Finset.univ)) := by
  rw [← greatest_at]
  unfold row val_main_v94 val_main_v93 val_main_v92 val_main_v91
  generalize val_main_v90 (F := Ideal) x0 x1 = X
  generalize val_main_v87 (F := Ideal) x0 x1 = Y
  pointwise

theorem weight_at (b : Fin 4) (h : Fin 8) (n : Fin 32) (r : Fin 256) (c : Fin 1024) :
    val_main_v98 (F := Ideal) x0 x1 (ix5 b h n r c) = weight x0 x1 b h n r c := by
  have e := fun c : Fin 1024 => exp_at x0 x1 b h n r c
  unfold weight
  simp only [← e]
  unfold val_main_v98 val_main_v97 val_main_v96 val_main_v95 val_main_cst_19
  generalize val_main_v94 (F := Ideal) x0 x1 = X
  pointwise

/-- The result's layout. -/
theorem layout_at (X : FVec Ideal S4x8x32x256x64 .f32) (b : Fin 4) (h : Fin 8) (n : Fin 32) (r : Fin 256) (d : Fin 64) :
    shapeCast S4x8x8192x64 X shapeCasts_S4x8x32x256x64_S4x8x8192x64 (ix4 b h (place n r) d) = X (ix5 b h n r d) := by
  unfold place
  pointwise

/-- The sums over the slots' places. -/
theorem slots_at (X : FVec Ideal S4x8x32x256x3x256 .f32) (Y : FVec Ideal S4x8x32x256x3x256x64 .f32) (b : Fin 4) (h : Fin 8) (n : Fin 32) (r : Fin 256) (d : Fin 64) :
    Host.dotGeneral dot_S4x8x32x256x3x256_S4x8x32x256x3x256x64_S4x8x32x256x64_45_45_n_6_0123_0123 none X Y (ix5 b h n r d)
      = ∑ s : Fin 3, ∑ t : Fin 256, X (ix6 b h n r s t) * Y (ix7 b h n r s t d) := by
  pointwise

/-- The sums over the own block's places. -/
theorem own_at (X : FVec Ideal S4x8x32x256x256 .f32) (Y : FVec Ideal S4x8x32x256x64 .f32) (b : Fin 4) (h : Fin 8) (n : Fin 32) (r : Fin 256) (d : Fin 64) :
    Host.dotGeneral dot_S4x8x32x256x256_S4x8x32x256x64_S4x8x32x256x64_4_3_3_4_012_012 none X Y (ix5 b h n r d)
      = ∑ t : Fin 256, X (ix5 b h n r t) * Y (ix5 b h n t d) := by
  pointwise

/-- The slots' part of a row. -/
theorem slotPart_at (X : FVec Ideal S4x8x32x256x768 .f32) (b : Fin 4) (h : Fin 8) (n : Fin 32) (r : Fin 256) (s : Fin 3) (t : Fin 256) :
    shapeCast S4x8x32x256x3x256 X shapeCasts_S4x8x32x256x768_S4x8x32x256x3x256 (ix6 b h n r s t) = X (ix5 b h n r ⟨s.val * 256 + t.val, by omega⟩) := by
  pointwise

theorem firstPart_at (X : FVec Ideal S4x8x32x256x1024 .f32) (b : Fin 4) (h : Fin 8) (n : Fin 32) (r : Fin 256) (c : Fin 768) :
    extractStridedSlice S4x8x32x256x768 ![0, 0, 0, 0, 0] X slices_S4x8x32x256x1024_S4x8x32x256x768_0_0_0_0_0 (ix5 b h n r c) = X (ix5 b h n r ⟨c.val, by omega⟩) := by
  pointwise

/-- The own block's part of a row. -/
theorem lastPart_at (X : FVec Ideal S4x8x32x256x1024 .f32) (b : Fin 4) (h : Fin 8) (n : Fin 32) (r : Fin 256) (t : Fin 256) :
    extractStridedSlice S4x8x32x256x256 ![0, 0, 0, 0, 768] X slices_S4x8x32x256x1024_S4x8x32x256x256_0_0_0_0_768 (ix5 b h n r t) = X (ix5 b h n r ⟨768 + t.val, by omega⟩) := by
  pointwise

theorem slotPart (b : Fin 4) (h : Fin 8) (n : Fin 32) (r : Fin 256) (s : Fin 3) (t : Fin 256) :
    val_main_v100 (F := Ideal) x0 x1 (ix6 b h n r s t) = weight x0 x1 b h n r ⟨s.val * 256 + t.val, by omega⟩ := by
  unfold val_main_v100
  rw [slotPart_at]
  unfold val_main_v99
  rw [firstPart_at, weight_at]

theorem ownPart (b : Fin 4) (h : Fin 8) (n : Fin 32) (r : Fin 256) (t : Fin 256) :
    val_main_v101 (F := Ideal) x0 x1 (ix5 b h n r t) = weight x0 x1 b h n r ⟨768 + t.val, by omega⟩ := by
  unfold val_main_v101
  rw [lastPart_at, weight_at]

/-- What the softmax's two parts give over the values. -/
theorem out_sums (b : Fin 4) (h : Fin 8) (n : Fin 32) (r : Fin 256) (d : Fin 64) :
    val_main_v105 (F := Ideal) x0 x1 x2 (ix4 b h (place n r) d)
      = (∑ s : Fin 3, ∑ t : Fin 256, weight x0 x1 b h n r ⟨s.val * 256 + t.val, by omega⟩ * x2 (ix4 b (place (blockOf x0 x1 b h n r s) t) h d))
        + ∑ t : Fin 256, weight x0 x1 b h n r ⟨768 + t.val, by omega⟩ * x2 (ix4 b (place n t) h d) := by
  have e : val_main_v102 (F := Ideal) x0 x1 x2 (ix5 b h n r d)
      = ∑ s : Fin 3, ∑ t : Fin 256, weight x0 x1 b h n r ⟨s.val * 256 + t.val, by omega⟩ * x2 (ix4 b (place (blockOf x0 x1 b h n r s) t) h d) := by
    unfold val_main_v102
    rw [slots_at]
    simp only [slotPart, values_at]
  have e' : val_main_v103 (F := Ideal) x0 x1 x2 (ix5 b h n r d)
      = ∑ t : Fin 256, weight x0 x1 b h n r ⟨768 + t.val, by omega⟩ * x2 (ix4 b (place n t) h d) := by
    unfold val_main_v103
    rw [own_at]
    simp only [ownPart, v_at]
  unfold val_main_v105
  rw [layout_at, val_main_v104_apply, e, e']
  rfl

/-- The weights of a row over real queries and keys. -/
def rowWeight (b : Fin 4) (h : Fin 8) (n : Fin 32) (r : Fin 256) (c : Fin 1024) : ℝ :=
  if row x0 x1 b h n r c = ⊥ then 0 else Real.exp (row x0 x1 b h n r c).toReal

section

variable (hq : ∀ i, Real' (x0 i)) (hk : ∀ i, Real' (x1 i)) (b : Fin 4) (h : Fin 8) (n : Fin 32) (r : Fin 256)

include hq hk

theorem row_slot_eq (s : Fin 3) (t : Fin 256) : row x0 x1 b h n r ⟨s.val * 256 + t.val, by omega⟩
    = if blockOf x0 x1 b h n r s < n then
        (((∑ d : Fin 64, (x0 (ix4 b (place n r) h d)).toReal * (x1 (ix4 b (place (blockOf x0 x1 b h n r s) t) h d)).toReal) * (1 / 8) : ℝ) : EReal)
      else ⊥ := by
  unfold row
  rw [row_slot, slotScore_at]
  exact if_congr Iff.rfl (score_real' _ _ (fun _ => hq _) (fun _ => hk _)) rfl

theorem row_own_eq (t : Fin 256) : row x0 x1 b h n r ⟨768 + t.val, by omega⟩
    = if t.val ≤ r.val then
        (((∑ d : Fin 64, (x0 (ix4 b (place n r) h d)).toReal * (x1 (ix4 b (place n t) h d)).toReal) * (1 / 8) : ℝ) : EReal)
      else ⊥ := by
  unfold row
  rw [row_own, ownScore_at]
  exact if_congr Iff.rfl (score_real' _ _ (fun _ => hq _) (fun _ => hk _)) rfl

theorem rowWeight_slot (s : Fin 3) (t : Fin 256) : rowWeight x0 x1 b h n r ⟨s.val * 256 + t.val, by omega⟩
    = slotWeight (head x0 b h) (head x1 b h) n r s t := by
  unfold rowWeight slotWeight
  rw [row_slot_eq x0 x1 hq hk]
  show _ = if blockOf x0 x1 b h n r s < n then _ else _
  by_cases c : blockOf x0 x1 b h n r s < n
  · rw [if_pos c, if_pos c, if_neg (EReal.coe_ne_bot _), EReal.toReal_coe]
    rfl
  · rw [if_neg c, if_neg c, if_pos rfl]

theorem rowWeight_own (t : Fin 256) : rowWeight x0 x1 b h n r ⟨768 + t.val, by omega⟩ = ownWeight (head x0 b h) (head x1 b h) n r t := by
  unfold rowWeight ownWeight
  rw [row_own_eq x0 x1 hq hk]
  by_cases c : t.val ≤ r.val
  · rw [if_pos c, if_pos c, if_neg (EReal.coe_ne_bot _), EReal.toReal_coe]
    rfl
  · rw [if_neg c, if_neg c, if_pos rfl]

theorem row_ne_top (c : Fin 1024) : row x0 x1 b h n r c ≠ ⊤ := by
  by_cases hc : c.val < 768
  · have e : c = ⟨(⟨c.val / 256, by omega⟩ : Fin 3).val * 256 + (⟨c.val % 256, by omega⟩ : Fin 256).val, by dsimp only; omega⟩ :=
      Fin.ext (by dsimp only; omega)
    rw [e, row_slot_eq x0 x1 hq hk]
    split
    · exact EReal.coe_ne_top _
    · exact bot_ne_top
  · have e : c = ⟨768 + (⟨c.val - 768, by omega⟩ : Fin 256).val, by dsimp only; omega⟩ := Fin.ext (by dsimp only; omega)
    rw [e, row_own_eq x0 x1 hq hk]
    split
    · exact EReal.coe_ne_top _
    · exact bot_ne_top

theorem rowWeight_sum : ∑ c, rowWeight x0 x1 b h n r c
    = mass n r (keyWeight (head x0 b h) (head x1 b h) n r) (Chosen (head x0 b h) (head x1 b h) n r) 32 := by
  rw [sum_row, ← weights_sum]
  simp only [rowWeight_slot x0 x1 hq hk, rowWeight_own x0 x1 hq hk]

theorem weight_eq (c : Fin 1024) : weight x0 x1 b h n r c
    = ((1 / mass n r (keyWeight (head x0 b h) (head x1 b h) n r) (Chosen (head x0 b h) (head x1 b h) n r) 32 : ℝ) : EReal)
        * (rowWeight x0 x1 b h n r c : EReal) := by
  unfold weight
  rw [← rowWeight_sum x0 x1 hq hk]
  refine softmax (row x0 x1 b h n r) (rowWeight x0 x1 b h n r) (fun c => ?_) ⟨768 + (0 : Fin 256).val, by decide⟩ ?_ ?_ c
  · unfold rowWeight
    by_cases e : row x0 x1 b h n r c = ⊥
    · exact Or.inl ⟨e, if_pos e⟩
    · exact Or.inr ⟨_, (EReal.coe_toReal (row_ne_top x0 x1 hq hk b h n r c) e).symm, if_neg e⟩
  · rw [row_own_eq x0 x1 hq hk, if_pos (show (0 : Fin 256).val ≤ r.val from Nat.zero_le _)]
    exact EReal.coe_ne_bot _
  · rw [rowWeight_sum x0 x1 hq hk]
    exact mass_pos n r _ (fun _ => Real.exp_pos _) _ 32

/-- The plain attention at an entry. -/
theorem read (d : Fin 64) : val_main_v105 (F := Ideal) x0 x1 x2 (ix4 b h (place n r) d)
    = attended (head x0 b h) (head x1 b h) (fun p => x2 (ix4 b p h d)) n r := by
  rw [out_sums]
  simp only [weight_eq x0 x1 hq hk, rowWeight_slot x0 x1 hq hk, rowWeight_own x0 x1 hq hk]
  exact weighted_sum (head x0 b h) (head x1 b h) n r (fun p => x2 (ix4 b p h d)) _
    (one_div_nonneg.mpr (mass_pos n r _ (fun _ => Real.exp_pos _) _ 32).le)

end

end Cert.RMobaIdeal.Layer

end
-- ==== Proof.MobaValue.lean ====
/-
  The attention kernel's result array, read at an entry of the result.
-/
module

public import proofs.«01_k».proof.Proof.MobaAttn

@[expose] public section

noncomputable section

namespace Cert.KMobaIdeal.Layer

open Cert.KMobaIdeal Cert.KMobaIdeal.Gen Idealize.ShloMosaic Idealize.ShloMosaic.TcCoe Idealize.SL.Sem Cert.Moba

variable (m : (ℓ : Loc nD τ sig) → Buf (Elt Ideal) ℓ)

theorem index0 : ∀ t : Fin cfg0.N, win0_0.index t = ![t.val / 64, t.val % 64 / 32, t.val % 32, 0] := by decide +kernel
theorem index1 : ∀ t : Fin cfg0.N, win0_1.index t = ![t.val / 64, t.val % 64 / 32, 0, 0] := by decide +kernel
theorem index2 : ∀ t : Fin cfg0.N, win0_2.index t = ![t.val / 64, t.val % 64 / 32, 0, 0, 0] := by decide +kernel
theorem index3 : ∀ t : Fin cfg0.N, win0_3.index t = ![t.val / 64, t.val % 64 / 32, 0, 0] := by decide +kernel
theorem index4 : ∀ t : Fin cfg0.N, win0_4.index t = ![t.val / 64, t.val % 64 / 32, t.val % 32, 0] := by decide +kernel
theorem flush4 : ∀ t : Fin cfg0.N, (cfg0.win 4).flush t = true := by decide +kernel
theorem own_coords : ∀ t : Fin cfg0.N, (grid0.coords t 2).val = t.val % 32 := by decide +kernel

theorem blk_q (c : Dev nD) (t : Fin cfg0.N) (h : Fin 4) (r : Fin 256) (d : Fin 64) (b : Fin 4) (H : Fin 8) (n : Fin 32)
    (hb : b.val = t.val / 64) (hH : H.val = t.val % 64 / 32 * 4 + h.val) (hn : n.val = t.val % 32) :
    (iblk m c 0 t : S1x4x256x64.Idx → EReal) (ix4 0 h r d) = q m c (ix4 b (place n r) H d) := by
  unfold iblk
  rw [View.read_apply]
  show (V m c main_v10 : S4x8x8192x64.Idx → EReal) _ = _
  have he : ((cfg0.win 0).blk t).view.emb (ix4 0 h r d) = (ix4 b H (place n r) d : S4x8x8192x64.Idx) := by
    funext a; apply Fin.ext
    match a with
    | ⟨0, _⟩ => show win0_0.index t 0 * 1 + 1 * 0 = b.val; rw [index0, hb]; simp
    | ⟨1, _⟩ => show win0_0.index t 1 * 4 + 1 * h.val = H.val; rw [index0, hH]; simp
    | ⟨2, _⟩ => show win0_0.index t 2 * 256 + 1 * r.val = n.val * 256 + r.val; rw [index0, hn]; simp
    | ⟨3, _⟩ => show win0_0.index t 3 * 64 + 1 * d.val = d.val; rw [index0]; simp
  rw [at_q, he, turned_apply]

theorem blk_k (c : Dev nD) (t : Fin cfg0.N) (h : Fin 4) (p : Fin 8192) (d : Fin 64) (b : Fin 4) (H : Fin 8)
    (hb : b.val = t.val / 64) (hH : H.val = t.val % 64 / 32 * 4 + h.val) :
    (iblk m c 1 t : S1x4x8192x64.Idx → EReal) (ix4 0 h p d) = k m c (ix4 b p H d) := by
  unfold iblk
  rw [View.read_apply]
  show (V m c main_v12 : S4x8x8192x64.Idx → EReal) _ = _
  have he : ((cfg0.win 1).blk t).view.emb (ix4 0 h p d) = (ix4 b H p d : S4x8x8192x64.Idx) := by
    funext a; apply Fin.ext
    match a with
    | ⟨0, _⟩ => show win0_1.index t 0 * 1 + 1 * 0 = b.val; rw [index1, hb]; simp
    | ⟨1, _⟩ => show win0_1.index t 1 * 4 + 1 * h.val = H.val; rw [index1, hH]; simp
    | ⟨2, _⟩ => show win0_1.index t 2 * 8192 + 1 * p.val = p.val; rw [index1]; simp
    | ⟨3, _⟩ => show win0_1.index t 3 * 64 + 1 * d.val = d.val; rw [index1]; simp
  rw [at_k, he, narrowed_apply]

theorem place_v (c : Dev nD) (t : Fin cfg0.N) (h : Fin 4) (j : Fin 32) (e : Fin 80) (s : Fin 256) (b : Fin 4) (H : Fin 8)
    (hb : b.val = t.val / 64) (hH : H.val = t.val % 64 / 32 * 4 + h.val) :
    (iblk m c 2 t : S1x4x32x80x256.Idx → EReal) (ix5 0 h j e s) = stacked (v m c) (ix5 b H j e s) := by
  unfold iblk
  rw [View.read_apply]
  show (V m c main_v13 : S4x8x32x80x256.Idx → EReal) _ = _
  have he : ((cfg0.win 2).blk t).view.emb (ix5 0 h j e s) = (ix5 b H j e s : S4x8x32x80x256.Idx) := by
    funext a; apply Fin.ext
    match a with
    | ⟨0, _⟩ => show win0_2.index t 0 * 1 + 1 * 0 = b.val; rw [index2, hb]; simp
    | ⟨1, _⟩ => show win0_2.index t 1 * 4 + 1 * h.val = H.val; rw [index2, hH]; simp
    | ⟨2, _⟩ => show win0_2.index t 2 * 32 + 1 * j.val = j.val; rw [index2]; simp
    | ⟨3, _⟩ => show win0_2.index t 3 * 80 + 1 * e.val = e.val; rw [index2]; simp
    | ⟨4, _⟩ => show win0_2.index t 4 * 256 + 1 * s.val = s.val; rw [index2]; simp
  rw [at_v, he]

theorem blk_mean (c : Dev nD) (t : Fin cfg0.N) (h : Fin 4) (j : Fin 32) (d : Fin 64) (b : Fin 4) (H : Fin 8)
    (hb : b.val = t.val / 64) (hH : H.val = t.val % 64 / 32 * 4 + h.val) :
    (iblk m c 3 t : S1x4x32x64.Idx → EReal) (ix4 0 h j d) = meanKey (fun p d => k m c (ix4 b p H d)) j d := by
  unfold iblk
  rw [View.read_apply]
  show (V m c main_v14 : S4x8x32x64.Idx → EReal) _ = _
  have he : ((cfg0.win 3).blk t).view.emb (ix4 0 h j d) = (ix4 b H j d : S4x8x32x64.Idx) := by
    funext a; apply Fin.ext
    match a with
    | ⟨0, _⟩ => show win0_3.index t 0 * 1 + 1 * 0 = b.val; rw [index3, hb]; simp
    | ⟨1, _⟩ => show win0_3.index t 1 * 4 + 1 * h.val = H.val; rw [index3, hH]; simp
    | ⟨2, _⟩ => show win0_3.index t 2 * 32 + 1 * j.val = j.val; rw [index3]; simp
    | ⟨3, _⟩ => show win0_3.index t 3 * 64 + 1 * d.val = d.val; rw [index3]; simp
  rw [at_mean, he, padded_apply]

/-- The result array. -/
def result (c : Dev nD) : S4x8x8192x64.Idx → EReal := fun i =>
  attended (fun p d => q m c (ix4 (i 0) p (i 1) d)) (fun p d => k m c (ix4 (i 0) p (i 1) d)) (fun p => v m c (ix4 (i 0) p (i 1) (i 3)))
    ⟨(i 2).val / 256, by have : (i 2).val < 8192 := (i 2).isLt; omega⟩ ⟨(i 2).val % 256, by omega⟩

theorem result_apply (c : Dev nD) (b : Fin 4) (H : Fin 8) (n : Fin 32) (r : Fin 256) (d : Fin 64) :
    result m c (ix4 b H (place n r) d)
      = attended (fun p d => q m c (ix4 b p H d)) (fun p d => k m c (ix4 b p H d)) (fun p => v m c (ix4 b p H d)) n r := by
  unfold result
  have e1 : (⟨(place n r).val / 256, by omega⟩ : Fin 32) = n := Fin.ext (by show (n.val * 256 + r.val) / 256 = n.val; omega)
  have e2 : (⟨(place n r).val % 256, by omega⟩ : Fin 256) = r := Fin.ext (by show (n.val * 256 + r.val) % 256 = r.val; omega)
  exact congrArg₂ (attended (fun p d => q m c (ix4 b p H d)) (fun p d => k m c (ix4 b p H d)) (fun p => v m c (ix4 b p H d))) e1 e2

variable (hq : ∀ c i, Real' (q m c i)) (hk : ∀ c i, Real' (k m c i))

include hq hk in
/-- A grid point writes back its block of the result. -/
theorem flushed_eq (c : Dev nD) (t : Fin cfg0.N) (_ : (cfg0.win 4).flush t = true) :
    (dats m 0 c).flushed 4 t = ((cfg0.win 4).blk t).view.read (Elt Ideal) (result m c) := by
  rw [Value.flushed4_A]
  refine funext fun (y : S1x4x256x64.Idx) => ?_
  obtain ⟨z, h, r, d, rfl⟩ : ∃ (z : Fin 1) (h : Fin 4) (r : Fin 256) (d : Fin 64), y = ix4 z h r d := ⟨y 0, y 1, y 2, y 3, eq_ix4 y⟩
  obtain rfl : z = 0 := Subsingleton.elim _ _
  have hN : t.val < 256 := t.isLt
  obtain ⟨b, hb⟩ : ∃ b : Fin 4, b.val = t.val / 64 := ⟨⟨t.val / 64, by omega⟩, rfl⟩
  obtain ⟨n, hn⟩ : ∃ n : Fin 32, n.val = t.val % 32 := ⟨⟨t.val % 32, by omega⟩, rfl⟩
  have hHs : ∀ h : Fin 4, ∃ H : Fin 8, H.val = t.val % 64 / 32 * 4 + h.val := fun h => ⟨⟨t.val % 64 / 32 * 4 + h.val, by omega⟩, rfl⟩
  choose H hH using hHs
  rw [View.read_apply]
  have he : ((cfg0.win 4).blk t).view.emb (ix4 0 h r d) = (ix4 b (H h) (place n r) d : S4x8x8192x64.Idx) := by
    funext a; apply Fin.ext
    match a with
    | ⟨0, _⟩ => show win0_4.index t 0 * 1 + 1 * 0 = b.val; rw [index4, hb]; simp
    | ⟨1, _⟩ => show win0_4.index t 1 * 4 + 1 * h.val = (H h).val; rw [index4, hH]; simp
    | ⟨2, _⟩ => show win0_4.index t 2 * 256 + 1 * r.val = n.val * 256 + r.val; rw [index4, hn]; simp
    | ⟨3, _⟩ => show win0_4.index t 3 * 64 + 1 * d.val = d.val; rw [index4]; simp
  rw [he, result_apply]
  have hown : ownBlock (grid0.coords t) = n := Fin.ext ((own_coords t).trans hn.symm)
  have toR : ∀ x : EReal, Real' x → x = ((x.toReal : ℝ) : EReal) := fun x ⟨y, hy⟩ => by rw [hy, EReal.toReal_coe]
  have hg := gate_real (fun p d => q m c (ix4 b p (H h) d)) (fun p d => k m c (ix4 b p (H h) d)) (fun p d => hq c _) (fun p d => hk c _) n r
  refine (out_apply c (grid0.coords t) _ _ _ _ _ _ _ _ _ _ _ _ _ _ _ _
    (fun h r d => (q m c (ix4 b (place n r) (H h) d)).toReal) (fun h p d => (k m c (ix4 b p (H h) d)).toReal)
    (fun h r d => (blk_q m c t h r d b (H h) n hb (hH h) hn).trans (toR _ (hq c _)))
    (fun h p d => (blk_k m c t h p d b (H h) hb (hH h)).trans (toR _ (hk c _)))
    h r d (fun j s => (place_v m c t h j 64 s b (H h) hb (hH h)).trans (stacked_ones _ b (H h) j s))
    (gate (fun p d => q m c (ix4 b p (H h) d)) (fun p d => k m c (ix4 b p (H h) d)) n r) (fun j => ?_) (fun j => ?_)).trans ?_
  · unfold gate
    refine Finset.sum_congr rfl fun d _ => ?_
    rw [blk_q m c t h r d b (H h) n hb (hH h) hn, blk_mean m c t h j d b (H h) hb (hH h), mul_comm]
  · obtain ⟨x, hx⟩ := hg j
    rw [hx]; exact EReal.coe_ne_bot x
  · rw [hown, weight_eq (fun p d => q m c (ix4 b p (H h) d)) (fun p d => k m c (ix4 b p (H h) d)) n r h _ _ (fun d => rfl) (fun p d => rfl)]
    unfold attended Chosen
    refine congrArg₂ (· * ·) rfl (congrArg (fun V => met n r _ V _ 32) (funext fun j => funext fun s => ?_))
    exact (place_v m c t h j ⟨d.val, by omega⟩ s b (H h) hb (hH h)).trans (stacked_apply _ b (H h) j d s)

include hq hk in
/-- The result array after the run. -/
theorem final (c : Dev nD) : (dats m 0 c).arrAt 4 cfg0.N = result m c :=
  (dats m 0 c).arrAt_eq_of_cover 4 (result m c) (flushed_eq m hq hk c) fun (i : S4x8x8192x64.Idx) => by
    have h0 : (i 0 : Nat) < 4 := (i 0).isLt
    have h1 : (i 1 : Nat) < 8 := (i 1).isLt
    have h2 : (i 2 : Nat) < 8192 := (i 2).isLt
    have h3 : (i 3 : Nat) < 64 := (i 3).isLt
    obtain ⟨t, ht⟩ : ∃ t : Fin cfg0.N, t.val = (i 0).val * 64 + (i 1).val / 4 * 32 + (i 2).val / 256 :=
      ⟨⟨(i 0).val * 64 + (i 1).val / 4 * 32 + (i 2).val / 256, by show _ < 256; omega⟩, rfl⟩
    refine ⟨t, flush4 t, ?_⟩
    show i ∈ ((View.whole main_v15).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [index4, show (![t.val / 64, t.val % 64 / 32, t.val % 32, 0] : Fin 4 → Nat) 0 = t.val / 64 from rfl]; omega
    | ⟨1, _⟩ => show win0_4.index t 1 * 4 ≤ (i 1 : Nat) ∧ (i 1 : Nat) < win0_4.index t 1 * 4 + 4
                rw [index4, show (![t.val / 64, t.val % 64 / 32, t.val % 32, 0] : Fin 4 → Nat) 1 = t.val % 64 / 32 from rfl]; omega
    | ⟨2, _⟩ => show win0_4.index t 2 * 256 ≤ (i 2 : Nat) ∧ (i 2 : Nat) < win0_4.index t 2 * 256 + 256
                rw [index4, show (![t.val / 64, t.val % 64 / 32, t.val % 32, 0] : Fin 4 → Nat) 2 = t.val % 32 from rfl]; omega
    | ⟨3, _⟩ => show win0_4.index t 3 * 64 ≤ (i 3 : Nat) ∧ (i 3 : Nat) < win0_4.index t 3 * 64 + 64
                rw [index4, show (![t.val / 64, t.val % 64 / 32, t.val % 32, 0] : Fin 4 → Nat) 3 = 0 from rfl]; omega

end Cert.KMobaIdeal.Layer

end
-- ==== Proof.MobaClaim.lean ====
/-
  The attention call and the reference's lines for it end with equal results, over real queries and keys.
-/
module

public import proofs.«01_k».proof.Defs
public import proofs.«01_k».proof.Proof.MobaRefOut
public import proofs.«01_k».proof.Proof.MobaValue

@[expose] public section

set_option maxRecDepth 16384

noncomputable section

namespace Cert.Moba

open Idealize.ShloMosaic Idealize.ShloMosaic.TcCoe Idealize.SL.Sem Cert.KMobaIdeal.Layer

/-- An entry above `−∞` and below `+∞` is a number. -/
theorem real_of_between (x : EReal) (h : FloatOps.cmpf (F := Ideal) CmpFPredicate.ogt (φ := .f32) x (Ideal.ofBits .f32 0xFF800000#32) = 1#1)
    (h' : FloatOps.cmpf (F := Ideal) CmpFPredicate.olt (φ := .f32) x (Ideal.ofBits .f32 0x7F800000#32) = 1#1) : Real' x := by
  rw [neg_inf] at h
  rw [pos_inf] at h'
  exact real_of_ne (ne_of_gt ((bit_one _).mp h)) (ne_of_lt ((bit_one _).mp h'))

variable [hPre_finite : Cert.Pre_finite.Facts]

open Cert.Pre_finite in
/-- Where the precondition's entry is one, the query's and the key's entries are numbers. -/
theorem real_entries (x0 x1 x2 : FVec Ideal S4x8192x8x64 .f32) (b : Fin 4) (p : Fin 8192) (h : Fin 8) (d : Fin 64)
    (e : Cert.Pre_finite.fn (F := Ideal) x0 x1 x2 (ix4 b p h d) = 1#1) : Real' (x0 (ix4 b p h d)) ∧ Real' (x1 (ix4 b p h d)) := by
  unfold Cert.Pre_finite.fn at e
  dsimp only at e
  obtain ⟨e, h₄⟩ := (and_one _ _).mp e
  obtain ⟨e, h₃⟩ := (and_one _ _).mp e
  obtain ⟨h₁, h₂⟩ := (and_one _ _).mp e
  exact ⟨real_of_between _ h₁ h₂, real_of_between _ h₃ h₄⟩

/-- From memories that agree on the arguments, whose queries and keys are real, the two programs end with equal results. -/
theorem equal : Cert.algebraic_KMobaIdeal_RMobaIdeal_pre_finite := by
  intro m g m' g' hpre hagree
  have hq : ∀ c i, Real' (q m c i) := by
    intro c (i : Cert.Pre_finite.S4x8192x8x64.Idx)
    obtain ⟨b, p, h, d, rfl⟩ : ∃ (b : Fin 4) (p : Fin 8192) (h : Fin 8) (d : Fin 64), i = ix4 b p h d := ⟨i 0, i 1, i 2, i 3, eq_ix4 i⟩
    exact (real_entries _ _ _ b p h d (congrFun (hpre c) _)).1
  have hk : ∀ c i, Real' (k m c i) := by
    intro c (i : Cert.Pre_finite.S4x8192x8x64.Idx)
    obtain ⟨b, p, h, d, rfl⟩ : ∃ (b : Fin 4) (p : Fin 8192) (h : Fin 8) (d : Fin 64), i = ix4 b p h d := ⟨i 0, i 1, i 2, i 3, eq_ix4 i⟩
    exact (real_entries _ _ _ b p h d (congrFun (hpre c) _)).2
  refine ⟨fun c => (Cert.KMobaIdeal.Gen.dats m 0 c).arrAt 4 Cert.KMobaIdeal.cfg0.N, Cert.KMobaIdeal.Value.run_blocks m g, ?_⟩
  refine (θ_run _ _ _).mono (fun r h c => ⟨(h c).1.trans ?_, (h c).2⟩) (Cert.RMobaIdeal.Value.run m' g')
  obtain ⟨h0, h1, h2⟩ := hagree c
  refine (Cert.RMobaIdeal.Read.val_main_v105_eq (F := Ideal) m' c).trans ?_
  rw [h0, h1, h2]
  refine Eq.trans ?_ (final m hq hk c).symm
  funext i
  obtain ⟨b, h, p, d, rfl⟩ : ∃ (b : Fin 4) (h : Fin 8) (p : Fin 8192) (d : Fin 64), i = ix4 b h p d := ⟨i 0, i 1, i 2, i 3, eq_ix4 i⟩
  obtain ⟨n, s, rfl⟩ : ∃ (n : Fin 32) (s : Fin 256), p = place n s :=
    ⟨⟨p.val / 256, by omega⟩, ⟨p.val % 256, by omega⟩, Fin.ext (by show p.val = p.val / 256 * 256 + p.val % 256; omega)⟩
  rw [result_apply]
  exact Cert.RMobaIdeal.Layer.read _ _ _ (hq c) (hk c) b h n s d

end Cert.Moba

end
-- ==== Proof.ScanTrip.lean ====
/-
  The recurrence kernel's loop over its tokens: what one trip stores, head by head, as a function of the state it finds and of
  the token's rows, and what the state and the rows are after every trip. Nothing stored depends on what the output window
  held before.
-/
module

public import proofs.«01_k».proof.Proof.Gen.KScanIdeal.Frame.Runs

@[expose] public section

set_option maxRecDepth 16384

noncomputable section

namespace Cert.KScanIdeal.Layer

open Cert.KScanIdeal Cert.KScanIdeal.Gen Idealize.ShloMosaic Idealize.ShloMosaic.TcCoe Idealize.SL.Sem

variable {F : FTy → Type} [FloatOps F]

/-- One head's row of a token. -/
abbrev row (off : Fin 4 → ℕ) (inb : ∀ a, off a + S1x1x1x64.size a ≤ S1x8x4x64.size a) (x : Vec F S1x8x4x64 .f32) : Vec F S1x1x1x64 .f32 :=
  View.ld x (Rect.unit (s := S1x8x4x64) off S1x1x1x64.size inb)

/-- One head's matrix of the state. -/
abbrev matrix (o : Fin 3 → ℕ) (ino : ∀ a, o a + S1x64x64.size a ≤ S8x64x64.size a) (S : Vec F S8x64x64 .f32) : Vec F S1x64x64 .f32 :=
  View.ld S (Rect.unit (s := S8x64x64) o S1x64x64.size ino)

/-- A head's matrix after a token. -/
def newMatrix (s : Vec F S1x64x64 .f32) (lw k v kk ka : Vec F S1x1x1x64 .f32) : FVec F S1x64x64 .f32 :=
  k0_pay8 (k0_pay4 s kk lw ka) (k0_pay5 k) (k0_pay6 k0_pay2 v)

/-- A head's output row of a token. -/
def outRow (s : Vec F S1x64x64 .f32) (r lw k v kk ka : Vec F S1x1x1x64 .f32) : FVec F S1x1x1x64 .f32 :=
  k0_pay9 k0_pay2 (k0_pay4 s kk lw ka) (k0_pay5 k) (k0_pay6 k0_pay2 v) r

/-- A head's store into the state. -/
abbrev statePiece (o : Fin 3 → ℕ) (ino : ∀ a, o a + S1x64x64.size a ≤ S8x64x64.size a) (off : Fin 4 → ℕ)
    (inb : ∀ a, off a + S1x1x1x64.size a ≤ S1x8x4x64.size a) (lw k v kk ka : Vec F S1x8x4x64 .f32) (S : Vec F S8x64x64 .f32) :
    View.Piece (Elt F) S8x64x64 .f32 :=
  ⟨Rect.unit (s := S8x64x64) o S1x64x64.size ino, newMatrix (matrix o ino S) (row off inb lw) (row off inb k) (row off inb v) (row off inb kk) (row off inb ka)⟩

/-- A head's store into the output window. -/
abbrev outPiece (o : Fin 3 → ℕ) (ino : ∀ a, o a + S1x64x64.size a ≤ S8x64x64.size a) (off : Fin 4 → ℕ)
    (inb : ∀ a, off a + S1x1x1x64.size a ≤ S1x8x4x64.size a) (r lw k v kk ka : Vec F S1x8x4x64 .f32) (S : Vec F S8x64x64 .f32) :
    View.Piece (Elt F) S1x8x4x64 .f32 :=
  ⟨Rect.unit (s := S1x8x4x64) off S1x1x1x64.size inb,
    outRow (matrix o ino S) (row off inb r) (row off inb lw) (row off inb k) (row off inb v) (row off inb kk) (row off inb ka)⟩

/-- What trip `t` stores into the state, the last head first. -/
def stateStores (lw k v kk ka : Vec F S1x8x4x64 .f32) (t : Fin k0_t1_loop.trips) (S : Vec F S8x64x64 .f32) : List (View.Piece (Elt F) S8x64x64 .f32) :=
  [statePiece ![7, 0, 0] inb_S8x64x64_S1x64x64_7_0_0 (k0_off8 t) (k0_off8_inb t) lw k v kk ka S,
    statePiece ![6, 0, 0] inb_S8x64x64_S1x64x64_6_0_0 (k0_off7 t) (k0_off7_inb t) lw k v kk ka S,
    statePiece ![5, 0, 0] inb_S8x64x64_S1x64x64_5_0_0 (k0_off6 t) (k0_off6_inb t) lw k v kk ka S,
    statePiece ![4, 0, 0] inb_S8x64x64_S1x64x64_4_0_0 (k0_off5 t) (k0_off5_inb t) lw k v kk ka S,
    statePiece ![3, 0, 0] inb_S8x64x64_S1x64x64_3_0_0 (k0_off4 t) (k0_off4_inb t) lw k v kk ka S,
    statePiece ![2, 0, 0] inb_S8x64x64_S1x64x64_2_0_0 (k0_off3 t) (k0_off3_inb t) lw k v kk ka S,
    statePiece ![1, 0, 0] inb_S8x64x64_S1x64x64_1_0_0 (k0_off2 t) (k0_off2_inb t) lw k v kk ka S,
    statePiece ![0, 0, 0] inb_S8x64x64_S1x64x64_0_0_0 (k0_off1 t) (k0_off1_inb t) lw k v kk ka S]

/-- What trip `t` stores into the output window, the last head first. -/
def outStores (r lw k v kk ka : Vec F S1x8x4x64 .f32) (t : Fin k0_t1_loop.trips) (S : Vec F S8x64x64 .f32) : List (View.Piece (Elt F) S1x8x4x64 .f32) :=
  [outPiece ![7, 0, 0] inb_S8x64x64_S1x64x64_7_0_0 (k0_off8 t) (k0_off8_inb t) r lw k v kk ka S,
    outPiece ![6, 0, 0] inb_S8x64x64_S1x64x64_6_0_0 (k0_off7 t) (k0_off7_inb t) r lw k v kk ka S,
    outPiece ![5, 0, 0] inb_S8x64x64_S1x64x64_5_0_0 (k0_off6 t) (k0_off6_inb t) r lw k v kk ka S,
    outPiece ![4, 0, 0] inb_S8x64x64_S1x64x64_4_0_0 (k0_off5 t) (k0_off5_inb t) r lw k v kk ka S,
    outPiece ![3, 0, 0] inb_S8x64x64_S1x64x64_3_0_0 (k0_off4 t) (k0_off4_inb t) r lw k v kk ka S,
    outPiece ![2, 0, 0] inb_S8x64x64_S1x64x64_2_0_0 (k0_off3 t) (k0_off3_inb t) r lw k v kk ka S,
    outPiece ![1, 0, 0] inb_S8x64x64_S1x64x64_1_0_0 (k0_off2 t) (k0_off2_inb t) r lw k v kk ka S,
    outPiece ![0, 0, 0] inb_S8x64x64_S1x64x64_0_0_0 (k0_off1 t) (k0_off1_inb t) r lw k v kk ka S]

set_option maxHeartbeats 1000000 in
theorem trip_eq (𝒱 : Variants) (c : Dev nD) (bd : Option 𝒱.V) (i : grid0.Coords) (arg2 : Memref sig .tc .vmem S1x8x4x64 .f32) (harg2 : arg2.IsWhole) (arg3 : Memref sig .tc .vmem S1x8x4x64 .f32) (harg3 : arg3.IsWhole) (arg4 : Memref sig .tc .vmem S1x8x4x64 .f32) (harg4 : arg4.IsWhole) (arg5 : Memref sig .tc .vmem S1x8x4x64 .f32) (harg5 : arg5.IsWhole) (arg6 : Memref sig .tc .vmem S1x8x4x64 .f32) (harg6 : arg6.IsWhole) (arg7 : Memref sig .tc .vmem S1x8x4x64 .f32) (harg7 : arg7.IsWhole) (arg8 : Memref sig .tc .vmem S1x8x64x64 .f32) (harg8 : arg8.IsWhole) (arg9 : Memref sig .tc .vmem S1x8x4x64 .f32) (harg9 : arg9.IsWhole) (arg10 : Memref sig .tc .vmem S1x8x64x64 .f32) (harg10 : arg10.IsWhole) (arg11 : Memref sig .tc .vmem S8x64x64 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (f_arg9 : BufTy.Contents (Elt F) arg9.view.ty) (f_arg11 : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 k f_arg9 f_arg11
      = (outStores (arg2.view.read (Elt F) X_arg2) (arg3.view.read (Elt F) X_arg3) (arg4.view.read (Elt F) X_arg4) (arg5.view.read (Elt F) X_arg5) (arg6.view.read (Elt F) X_arg6) (arg7.view.read (Elt F) X_arg7) k (arg11.view.read (Elt F) f_arg11),
        stateStores (arg3.view.read (Elt F) X_arg3) (arg4.view.read (Elt F) X_arg4) (arg5.view.read (Elt F) X_arg5) (arg6.view.read (Elt F) X_arg6) (arg7.view.read (Elt F) X_arg7) k (arg11.view.read (Elt F) f_arg11)) := by
  unfold tripL_k0_t1 trip_k0_t1
  dsimp only
  sl_unfold_words
  rfl

/-- A trip's stores into the state cover it. -/
theorem state_cover (lw k v kk ka : Vec F S1x8x4x64 .f32) (t : Fin k0_t1_loop.trips) (S : Vec F S8x64x64 .f32) (y : S8x64x64.Idx) :
    ∃ p ∈ stateStores lw k v kk ka t S, y ∈ p.1.set :=
  View.cover_of_tiledL (stateStores lw k v kk ka t S) S1x64x64.size (by sl_kernel_rfl) y

/-- The state before trip `n`. -/
def stateAt (lw k v kk ka : Vec F S1x8x4x64 .f32) (S : Vec F S8x64x64 .f32) : ℕ → Vec F S8x64x64 .f32
  | 0 => S
  | n + 1 => if h : n < k0_t1_loop.trips then View.canon (stateStores lw k v kk ka ⟨n, h⟩ (stateAt lw k v kk ka S n)) else stateAt lw k v kk ka S n

/-- The stores into the output window of the trips before `n`. -/
def outsBefore (r lw k v kk ka : Vec F S1x8x4x64 .f32) (S : Vec F S8x64x64 .f32) : ℕ → List (View.Piece (Elt F) S1x8x4x64 .f32)
  | 0 => []
  | n + 1 => if h : n < k0_t1_loop.trips then outStores r lw k v kk ka ⟨n, h⟩ (stateAt lw k v kk ka S n) ++ outsBefore r lw k v kk ka S n
    else outsBefore r lw k v kk ka S n

/-- The loop's pieces after `n` trips: the output window's are `outsBefore`, and the state reads `stateAt`. -/
theorem loop_eq (𝒱 : Variants) (c : Dev nD) (bd : Option 𝒱.V) (i : grid0.Coords) (arg2 : Memref sig .tc .vmem S1x8x4x64 .f32) (harg2 : arg2.IsWhole) (arg3 : Memref sig .tc .vmem S1x8x4x64 .f32) (harg3 : arg3.IsWhole) (arg4 : Memref sig .tc .vmem S1x8x4x64 .f32) (harg4 : arg4.IsWhole) (arg5 : Memref sig .tc .vmem S1x8x4x64 .f32) (harg5 : arg5.IsWhole) (arg6 : Memref sig .tc .vmem S1x8x4x64 .f32) (harg6 : arg6.IsWhole) (arg7 : Memref sig .tc .vmem S1x8x4x64 .f32) (harg7 : arg7.IsWhole) (arg8 : Memref sig .tc .vmem S1x8x64x64 .f32) (harg8 : arg8.IsWhole) (arg9 : Memref sig .tc .vmem S1x8x4x64 .f32) (harg9 : arg9.IsWhole) (arg10 : Memref sig .tc .vmem S1x8x64x64 .f32) (harg10 : arg10.IsWhole) (arg11 : Memref sig .tc .vmem S8x64x64 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg9 : BufTy.Contents (Elt F) arg9.view.ty) (G_arg11 : BufTy.Contents (Elt F) arg11.view.ty) :
    ∀ n : ℕ, n ≤ k0_t1_loop.trips →
      (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 G_arg9 G_arg11 n).1 = outsBefore (arg2.view.read (Elt F) X_arg2) (arg3.view.read (Elt F) X_arg3) (arg4.view.read (Elt F) X_arg4) (arg5.view.read (Elt F) X_arg5) (arg6.view.read (Elt F) X_arg6) (arg7.view.read (Elt F) X_arg7) (arg11.view.read (Elt F) G_arg11) n
      ∧ arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 G_arg9 G_arg11 n).2) = stateAt (arg3.view.read (Elt F) X_arg3) (arg4.view.read (Elt F) X_arg4) (arg5.view.read (Elt F) X_arg5) (arg6.view.read (Elt F) X_arg6) (arg7.view.read (Elt F) X_arg7) (arg11.view.read (Elt F) G_arg11) n
  | 0, _ => ⟨rfl, rfl⟩
  | n + 1, h => by
    have hn : n < k0_t1_loop.trips := h
    obtain ⟨h1, h2⟩ := loop_eq 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 G_arg9 G_arg11 n (Nat.le_of_lt hn)
    rw [show n + 1 = (⟨n, hn⟩ : Fin k0_t1_loop.trips).val + 1 from rfl, pb_k0_t1_succ, trip_eq, h2, outsBefore, stateAt, dif_pos hn, dif_pos hn, h1]
    refine ⟨rfl, ?_⟩
    dsimp only
    rw [View.writes_append]
    exact View.read_writes_eq_canon _ _ _ (state_cover _ _ _ _ _ _ _)

/-- The loop makes four trips. -/
theorem trips_eq : k0_t1_loop.trips = 4 := by decide +kernel

/-- The output window's stores of all trips cover it. -/
theorem outs_cover (r lw k v kk ka : Vec F S1x8x4x64 .f32) (S : Vec F S8x64x64 .f32) (y : S1x8x4x64.Idx) :
    ∃ p ∈ outsBefore r lw k v kk ka S k0_t1_loop.trips, y ∈ p.1.set :=
  View.cover_of_tiledL (outsBefore r lw k v kk ka S k0_t1_loop.trips) S1x1x1x64.size (by sl_kernel_rfl) y

/-- What a grid point leaves in the output window. -/
def outBlock (r lw k v kk ka : Vec F S1x8x4x64 .f32) (s0 : Vec F S1x8x64x64 .f32) : Vec F S1x8x4x64 .f32 :=
  View.canon (outsBefore r lw k v kk ka (k0_pay1 s0) k0_t1_loop.trips)

/-- What a grid point leaves in the last state's window. -/
def lastBlock (lw k v kk ka : Vec F S1x8x4x64 .f32) (s0 : Vec F S1x8x64x64 .f32) : Vec F S1x8x64x64 .f32 :=
  k0_pay3 (stateAt lw k v kk ka (k0_pay1 s0) k0_t1_loop.trips)

end Cert.KScanIdeal.Layer
-- ==== Proof.ScanRun.lean ====
/-
  The recurrence kernel's body at a grid point, its pipeline, and the run of its program: the output window ends with
  `outBlock` and the last state's window with `lastBlock` of the input blocks, whatever they held before.
-/
module

public import proofs.«01_k».proof.Proof.ScanTrip
public import Idealize.ShloMosaic.Lib.Pipeline.Value
public import Idealize.ShloMosaic.Lib.Claim

@[expose] public section

set_option maxRecDepth 16384

noncomputable section

namespace Cert.KScanIdeal.Layer

open Cert.KScanIdeal Cert.KScanIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

/-- A store over a whole window leaves what it stores. -/
theorem read_whole3 (arg11 : Memref sig .tc .vmem S8x64x64 .f32) (f : BufTy.Contents (Elt F) arg11.view.ty) (x : Vec F S8x64x64 .f32) :
    arg11.view.read (Elt F) (arg11.view.writes (Elt F) f [⟨Rect.unit (s := S8x64x64) ![0, 0, 0] S8x64x64.size inb_S8x64x64_S8x64x64_0_0_0, x⟩]) = x := by
  refine (View.read_writes_eq_canon _ _ _ (View.cover_of_tiledL _ S8x64x64.size (by sl_kernel_rfl))).trans ?_
  exact View.canon_unit_zero zero3 _ _

theorem read_whole4 (arg10 : Memref sig .tc .vmem S1x8x64x64 .f32) (f : BufTy.Contents (Elt F) arg10.view.ty) (x : Vec F S1x8x64x64 .f32) :
    arg10.view.read (Elt F) (arg10.view.writes (Elt F) f [⟨Rect.unit (s := S1x8x64x64) ![0, 0, 0, 0] S1x8x64x64.size inb_S1x8x64x64_S1x8x64x64_0_0_0_0, x⟩]) = x := by
  refine (View.read_writes_eq_canon _ _ _ (View.cover_of_tiledL _ S1x8x64x64.size (by sl_kernel_rfl))).trans ?_
  exact View.canon_unit_zero zero4 _ _

variable (m : (ℓ : Loc nD τ sig) → Buf (Elt F) ℓ) (ρ : Dev nD → PrngReg)

/-- What the run leaves in the output window reads `outBlock`. -/
theorem window_eq (𝒱 : Variants) (c : Dev nD) (bd : Option 𝒱.V) (i : grid0.Coords) (arg2 : Memref sig .tc .vmem S1x8x4x64 .f32) (harg2 : arg2.IsWhole) (arg3 : Memref sig .tc .vmem S1x8x4x64 .f32) (harg3 : arg3.IsWhole) (arg4 : Memref sig .tc .vmem S1x8x4x64 .f32) (harg4 : arg4.IsWhole) (arg5 : Memref sig .tc .vmem S1x8x4x64 .f32) (harg5 : arg5.IsWhole) (arg6 : Memref sig .tc .vmem S1x8x4x64 .f32) (harg6 : arg6.IsWhole) (arg7 : Memref sig .tc .vmem S1x8x4x64 .f32) (harg7 : arg7.IsWhole) (arg8 : Memref sig .tc .vmem S1x8x64x64 .f32) (harg8 : arg8.IsWhole) (arg9 : Memref sig .tc .vmem S1x8x4x64 .f32) (harg9 : arg9.IsWhole) (arg10 : Memref sig .tc .vmem S1x8x64x64 .f32) (harg10 : arg10.IsWhole) (arg11 : Memref sig .tc .vmem S8x64x64 .f32) (harg11 : arg11.IsWhole) (x0 : Vec F S1x8x4x64 .f32) (x1 : Vec F S1x8x4x64 .f32) (x2 : Vec F S1x8x4x64 .f32) (x3 : Vec F S1x8x4x64 .f32) (x4 : Vec F S1x8x4x64 .f32) (x5 : Vec F S1x8x4x64 .f32) (x6 : Vec F S1x8x64x64 .f32) (f7 : BufTy.Contents (Elt F) arg9.view.ty) :
    arg9.view.read (Elt F) (arg9.view.writes (Elt F) f7 (pb_k0_t1 (F := F) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) f7 (arg11.view.writes (Elt F) arg11.view.junk [⟨Rect.unit (s := S8x64x64) ![0, 0, 0] S8x64x64.size inb_S8x64x64_S8x64x64_0_0_0, k0_pay1 (arg8.view.readAt (Elt F) (Rect.unit (s := S1x8x64x64) ![0, 0, 0, 0] S1x8x64x64.size inb_S1x8x64x64_S1x8x64x64_0_0_0_0).toLoadRect (harg8.unread x6))⟩]) k0_t1_loop.trips).1) = outBlock x0 x1 x2 x3 x4 x5 x6 := by
  have h := loop_eq 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) f7 (arg11.view.writes (Elt F) arg11.view.junk [⟨Rect.unit (s := S8x64x64) ![0, 0, 0] S8x64x64.size inb_S8x64x64_S8x64x64_0_0_0, k0_pay1 (arg8.view.readAt (Elt F) (Rect.unit (s := S1x8x64x64) ![0, 0, 0, 0] S1x8x64x64.size inb_S1x8x64x64_S1x8x64x64_0_0_0_0).toLoadRect (harg8.unread x6))⟩]) k0_t1_loop.trips (Nat.le_refl _)
  have e8 : arg8.view.readAt (Elt F) (Rect.unit (s := S1x8x64x64) ![0, 0, 0, 0] S1x8x64x64.size inb_S1x8x64x64_S1x8x64x64_0_0_0_0).toLoadRect (harg8.unread x6) = x6 :=
    (View.ld_unit_zero (S := S1x8x64x64) zero4 _ _).trans (harg8.read_unread x6)
  rw [read_whole3, e8, harg2.read_unread, harg3.read_unread, harg4.read_unread, harg5.read_unread, harg6.read_unread, harg7.read_unread] at h
  rw [e8]
  rw [h.1]
  exact View.read_writes_eq_canon _ _ _ (outs_cover _ _ _ _ _ _ _)

/-- What the run leaves in the state reads `stateAt` after the last trip. -/
theorem state_eq (𝒱 : Variants) (c : Dev nD) (bd : Option 𝒱.V) (i : grid0.Coords) (arg2 : Memref sig .tc .vmem S1x8x4x64 .f32) (harg2 : arg2.IsWhole) (arg3 : Memref sig .tc .vmem S1x8x4x64 .f32) (harg3 : arg3.IsWhole) (arg4 : Memref sig .tc .vmem S1x8x4x64 .f32) (harg4 : arg4.IsWhole) (arg5 : Memref sig .tc .vmem S1x8x4x64 .f32) (harg5 : arg5.IsWhole) (arg6 : Memref sig .tc .vmem S1x8x4x64 .f32) (harg6 : arg6.IsWhole) (arg7 : Memref sig .tc .vmem S1x8x4x64 .f32) (harg7 : arg7.IsWhole) (arg8 : Memref sig .tc .vmem S1x8x64x64 .f32) (harg8 : arg8.IsWhole) (arg9 : Memref sig .tc .vmem S1x8x4x64 .f32) (harg9 : arg9.IsWhole) (arg10 : Memref sig .tc .vmem S1x8x64x64 .f32) (harg10 : arg10.IsWhole) (arg11 : Memref sig .tc .vmem S8x64x64 .f32) (harg11 : arg11.IsWhole) (x0 : Vec F S1x8x4x64 .f32) (x1 : Vec F S1x8x4x64 .f32) (x2 : Vec F S1x8x4x64 .f32) (x3 : Vec F S1x8x4x64 .f32) (x4 : Vec F S1x8x4x64 .f32) (x5 : Vec F S1x8x4x64 .f32) (x6 : Vec F S1x8x64x64 .f32) (f7 : BufTy.Contents (Elt F) arg9.view.ty) :
    arg11.view.read (Elt F) (arg11.view.writes (Elt F) (arg11.view.writes (Elt F) arg11.view.junk [⟨Rect.unit (s := S8x64x64) ![0, 0, 0] S8x64x64.size inb_S8x64x64_S8x64x64_0_0_0, k0_pay1 (arg8.view.readAt (Elt F) (Rect.unit (s := S1x8x64x64) ![0, 0, 0, 0] S1x8x64x64.size inb_S1x8x64x64_S1x8x64x64_0_0_0_0).toLoadRect (harg8.unread x6))⟩]) (pb_k0_t1 (F := F) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) f7 (arg11.view.writes (Elt F) arg11.view.junk [⟨Rect.unit (s := S8x64x64) ![0, 0, 0] S8x64x64.size inb_S8x64x64_S8x64x64_0_0_0, k0_pay1 (arg8.view.readAt (Elt F) (Rect.unit (s := S1x8x64x64) ![0, 0, 0, 0] S1x8x64x64.size inb_S1x8x64x64_S1x8x64x64_0_0_0_0).toLoadRect (harg8.unread x6))⟩]) k0_t1_loop.trips).2) = stateAt x1 x2 x3 x4 x5 (k0_pay1 x6) k0_t1_loop.trips := by
  have h := loop_eq 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) f7 (arg11.view.writes (Elt F) arg11.view.junk [⟨Rect.unit (s := S8x64x64) ![0, 0, 0] S8x64x64.size inb_S8x64x64_S8x64x64_0_0_0, k0_pay1 (arg8.view.readAt (Elt F) (Rect.unit (s := S1x8x64x64) ![0, 0, 0, 0] S1x8x64x64.size inb_S1x8x64x64_S1x8x64x64_0_0_0_0).toLoadRect (harg8.unread x6))⟩]) k0_t1_loop.trips (Nat.le_refl _)
  have e8 : arg8.view.readAt (Elt F) (Rect.unit (s := S1x8x64x64) ![0, 0, 0, 0] S1x8x64x64.size inb_S1x8x64x64_S1x8x64x64_0_0_0_0).toLoadRect (harg8.unread x6) = x6 :=
    (View.ld_unit_zero (S := S1x8x64x64) zero4 _ _).trans (harg8.read_unread x6)
  rw [read_whole3, e8, harg2.read_unread, harg3.read_unread, harg4.read_unread, harg5.read_unread, harg6.read_unread, harg7.read_unread] at h
  rw [e8]
  exact h.2

set_option maxHeartbeats 1000000 in
/-- The body's triple: on the input windows at their blocks and the rest at anything, it ends with the output windows at `outBlock` and `lastBlock`. -/
theorem bodyRun (c : Dev nD) (i : grid0.Coords) (arg2 : Memref sig .tc .vmem S1x8x4x64 .f32) (harg2 : arg2.IsWhole) (arg3 : Memref sig .tc .vmem S1x8x4x64 .f32) (harg3 : arg3.IsWhole) (arg4 : Memref sig .tc .vmem S1x8x4x64 .f32) (harg4 : arg4.IsWhole) (arg5 : Memref sig .tc .vmem S1x8x4x64 .f32) (harg5 : arg5.IsWhole) (arg6 : Memref sig .tc .vmem S1x8x4x64 .f32) (harg6 : arg6.IsWhole) (arg7 : Memref sig .tc .vmem S1x8x4x64 .f32) (harg7 : arg7.IsWhole) (arg8 : Memref sig .tc .vmem S1x8x64x64 .f32) (harg8 : arg8.IsWhole) (arg9 : Memref sig .tc .vmem S1x8x4x64 .f32) (harg9 : arg9.IsWhole) (arg10 : Memref sig .tc .vmem S1x8x64x64 .f32) (harg10 : arg10.IsWhole) (arg11 : Memref sig .tc .vmem S8x64x64 .f32) (harg11 : arg11.IsWhole) (hc0 : cond0_0 i)
    (x0 : Vec F S1x8x4x64 .f32) (x1 : Vec F S1x8x4x64 .f32) (x2 : Vec F S1x8x4x64 .f32) (x3 : Vec F S1x8x4x64 .f32) (x4 : Vec F S1x8x4x64 .f32) (x5 : Vec F S1x8x4x64 .f32) (x6 : Vec F S1x8x64x64 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlock x0 x1 x2 x3 x4 x5 x6) ∗ owns (c : Thread nD τ) arg10 fullShare (lastBlock x1 x2 x3 x4 x5 x6) ∗ (∃ d, owns (c : Thread nD τ) arg11 fullShare d)) -∗ K ⟨⟩))
          ⊢ wp frame (wpE (defs₀ (F := F)) Variants.none c none) E (cc0_wkv_scan i arg2 harg2 arg3 harg3 arg4 harg4 arg5 harg5 arg6 harg6 arg7 harg7 arg8 harg8 arg9 harg9 arg10 harg10 arg11 harg11) K := by
  intro E K
  simp only [cc0_wkv_scan_eq_skeleton]; unfold cc0_wkv_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact window_eq _ _ _ _ _ _ _ _ _ _ _ _ _ _ _ _ _ _ _ _ _ _ _ _ x0 x1 x2 x3 x4 x5 x6 f7
  isplitl [H8]
  · iexists _; isplitr; swap; · iexact H8
    ipureintro
    refine (read_whole4 _ _ _).trans (congrArg k0_pay3 ?_)
    refine (View.ld_unit_zero (S := S8x64x64) zero3 _ _).trans ?_
    rw [View.writes_append]
    exact state_eq Variants.none c none i arg2 harg2 arg3 harg3 arg4 harg4 arg5 harg5 arg6 harg6 arg7 harg7 arg8 harg8 arg9 harg9 arg10 harg10 arg11 harg11 x0 x1 x2 x3 x4 x5 x6 f7
  iexists _, _; isplitr; swap; · iexact HS0
  ipureintro; rfl

/-- What point `t` leaves in the output window, and in the last state's. -/
def outAt (c : Dev nD) (t : Fin cfg0.N) : Vec F S1x8x4x64 .f32 :=
  outBlock (iblk m c 0 t) (iblk m c 1 t) (iblk m c 2 t) (iblk m c 3 t) (iblk m c 4 t) (iblk m c 5 t) (iblk m c 6 t)
def lastAt (c : Dev nD) (t : Fin cfg0.N) : Vec F S1x8x64x64 .f32 :=
  lastBlock (iblk m c 1 t) (iblk m c 2 t) (iblk m c 3 t) (iblk m c 4 t) (iblk m c 5 t) (iblk m c 6 t)

/-- The proof data of the one pipeline on core `c`: the arrays as the region finds them (`V`); after the body at
    point `t` each input's buffer at its block and the outputs' at `outAt` and `lastAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => lastAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]
theorem after0_8 (c : Dev nD) (t : Fin cfg0.N) : (dats m 0 c).after 8 t = lastAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outAt lastAt
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KScanIdeal.Layer

end
-- ==== Proof.ScanSpec.lean ====
/-
  The recurrence of one head over its tokens, as a function of the token's rows and of the first state: the state is a matrix
  whose rows belong to the values and whose columns belong to the keys. The state of real rows is real, so that the
  subtracted product with the removal key is the product with its negation.
-/
module

public import proofs.«01_k».proof.Proof.MobaSoftmax
public import Idealize.ShloMosaic.Lib.Pointwise

@[expose] public section

noncomputable section

namespace Cert.Scan

open Idealize.ShloMosaic Cert.Moba

/-- A head's state. -/
abbrev Mat : Type := Fin 64 → Fin 64 → EReal
/-- A head's row of one token. -/
abbrev Row : Type := Fin 64 → EReal

/-- The state after a token: decayed, with the removal key's part replaced and the value stored under the key. -/
def step (S : Mat) (lw k v kk ka : Row) : Mat := fun i j =>
  S i j * Ideal.exp (lw j) + (0 - ∑ e, S i e * kk e) * ka j + v i * k j

/-- The state read with a row. -/
def readOut (S : Mat) (r : Row) : Row := fun i => ∑ j, S i j * r j

/-- The state before token `n`. -/
def states (S : Mat) (lw k v kk ka : Fin 4 → Row) : ℕ → Mat
  | 0 => S
  | n + 1 => if h : n < 4 then step (states S lw k v kk ka n) (lw ⟨n, h⟩) (k ⟨n, h⟩) (v ⟨n, h⟩) (kk ⟨n, h⟩) (ka ⟨n, h⟩)
    else states S lw k v kk ka n

/-- The state after a token, the removal key negated in the product. -/
def step' (S : Mat) (lw k v kk ka : Row) : Mat := fun i j =>
  S i j * Ideal.exp (lw j) + (∑ e, S i e * -kk e) * ka j + v i * k j

theorem real_mul {a b : EReal} (ha : Real' a) (hb : Real' b) : Real' (a * b) := by
  obtain ⟨a, rfl⟩ := ha; obtain ⟨b, rfl⟩ := hb
  exact ⟨a * b, (EReal.coe_mul a b).symm⟩

theorem real_add {a b : EReal} (ha : Real' a) (hb : Real' b) : Real' (a + b) := by
  obtain ⟨a, rfl⟩ := ha; obtain ⟨b, rfl⟩ := hb
  exact ⟨a + b, (EReal.coe_add a b).symm⟩

theorem real_exp {a : EReal} (ha : Real' a) : Real' (Ideal.exp a) := by
  obtain ⟨a, rfl⟩ := ha
  exact ⟨Real.exp a, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Over real entries a negated sum of products is the sum of the products with the negated factor. -/
theorem neg_sum (a b : Row) (ha : ∀ e, Real' (a e)) (hb : ∀ e, Real' (b e)) :
    0 - ∑ e, a e * b e = ∑ e, a e * -b e ∧ Real' (∑ e, a e * -b e) := by
  choose x hx using ha
  choose y hy using hb
  obtain rfl : a = fun e => (x e : EReal) := funext hx
  obtain rfl : b = fun e => (y e : EReal) := funext hy
  have e1 : (∑ e, (x e : EReal) * (y e : EReal)) = ((∑ e, x e * y e : ℝ) : EReal) := by
    rw [coe_sum]; exact Finset.sum_congr rfl fun e _ => (EReal.coe_mul _ _).symm
  have e2 : (∑ e, (x e : EReal) * -(y e : EReal)) = ((-∑ e, x e * y e : ℝ) : EReal) := by
    rw [← Finset.sum_neg_distrib, coe_sum]
    exact Finset.sum_congr rfl fun e _ => by rw [← EReal.coe_neg, ← EReal.coe_mul, mul_neg]
  dsimp only
  rw [e1, e2]
  refine ⟨?_, _, rfl⟩
  rw [← EReal.coe_zero, ← EReal.coe_sub, zero_sub]

theorem step_eq (S : Mat) (lw k v kk ka : Row) (hS : ∀ i j, Real' (S i j)) (hkk : ∀ j, Real' (kk j)) :
    step S lw k v kk ka = step' S lw k v kk ka := by
  funext i j
  unfold step step'
  rw [(neg_sum (S i) kk (hS i) hkk).1]

theorem step_real (S : Mat) (lw k v kk ka : Row) (hS : ∀ i j, Real' (S i j)) (hl : ∀ j, Real' (lw j)) (hk : ∀ j, Real' (k j))
    (hv : ∀ j, Real' (v j)) (hkk : ∀ j, Real' (kk j)) (hka : ∀ j, Real' (ka j)) (i j : Fin 64) : Real' (step S lw k v kk ka i j) := by
  rw [step_eq S lw k v kk ka hS hkk]
  exact real_add (real_add (real_mul (hS i j) (real_exp (hl j))) (real_mul (neg_sum (S i) kk (hS i) hkk).2 (hka j))) (real_mul (hv i) (hk j))

theorem states_real (S : Mat) (lw k v kk ka : Fin 4 → Row) (hS : ∀ i j, Real' (S i j)) (hl : ∀ t j, Real' (lw t j)) (hk : ∀ t j, Real' (k t j))
    (hv : ∀ t j, Real' (v t j)) (hkk : ∀ t j, Real' (kk t j)) (hka : ∀ t j, Real' (ka t j)) : ∀ (n : ℕ) (i j : Fin 64), Real' (states S lw k v kk ka n i j)
  | 0, i, j => hS i j
  | n + 1, i, j => by
    have ih := states_real S lw k v kk ka hS hl hk hv hkk hka n
    unfold states
    split
    · exact step_real _ _ _ _ _ _ ih (hl _) (hk _) (hv _) (hkk _) (hka _) i j
    · exact ih i j

/-- A sum of which only the term at `i` is kept. -/
theorem sum_at (i : Fin 64) (f : Row) : (∑ e, if i = e then f e else 0) = f i := by
  rw [Finset.sum_ite_eq Finset.univ i f, if_pos (Finset.mem_univ i)]

theorem sum_at' (i : Fin 64) (f : Row) : (∑ e, if e = i then f e else 0) = f i := by
  rw [Finset.sum_ite_eq' Finset.univ i f, if_pos (Finset.mem_univ i)]

/-! ## All sequences and heads -/

/-- The rows' arrays, by sequence, token, head and column; the states' by sequence, head, row and column. -/
abbrev Rows : Type := (⟨4, ![32, 4, 8, 64]⟩ : Shape).Idx → EReal
abbrev Mats : Type := (⟨4, ![32, 8, 64, 64]⟩ : Shape).Idx → EReal

/-- A head's rows and its state. -/
def rowsOf (x : Rows) (b : Fin 32) (h : Fin 8) : Fin 4 → Row := fun t e => x (ix4 b t h e)
def matOf (s : Mats) (b : Fin 32) (h : Fin 8) : Mat := fun i j => s (ix4 b h i j)

/-- A head's state before token `n`. -/
def stateOf (lw k v kk a : Rows) (s : Mats) (b : Fin 32) (h : Fin 8) (n : ℕ) : Mat :=
  states (matOf s b h) (rowsOf lw b h) (rowsOf k b h) (rowsOf v b h) (rowsOf kk b h) (fun t e => rowsOf kk b h t e * rowsOf a b h t e) n

/-- A head's output row of a token. -/
def outOf (r lw k v kk a : Rows) (s : Mats) (b : Fin 32) (h : Fin 8) (t : Fin 4) : Row :=
  readOut (stateOf lw k v kk a s b h (t.val + 1)) (rowsOf r b h t)

/-- The precondition: the decay's logarithm, the keys, the values and the first state are numbers. -/
def Numbers (lw k v kk a : Rows) (s : Mats) : Prop :=
  ((∀ i, Real' (lw i)) ∧ (∀ i, Real' (k i)) ∧ (∀ i, Real' (v i)) ∧ (∀ i, Real' (kk i)) ∧ ∀ i, Real' (a i)) ∧ ∀ i, Real' (s i)

theorem stateOf_real (lw k v kk a : Rows) (s : Mats) (hn : Numbers lw k v kk a s) (b : Fin 32) (h : Fin 8) (n : ℕ) (i j : Fin 64) :
    Real' (stateOf lw k v kk a s b h n i j) := by
  obtain ⟨⟨hl, hk, hv, hkk, ha⟩, hs⟩ := hn
  exact states_real _ _ _ _ _ _ (fun _ _ => hs _) (fun _ _ => hl _) (fun _ _ => hk _) (fun _ _ => hv _) (fun _ _ => hkk _)
    (fun _ _ => real_mul (hkk _) (ha _)) n i j

/-- A head's state after token `n`, the removal key negated in the product. -/
theorem stateOf_succ (lw k v kk a : Rows) (s : Mats) (hn : Numbers lw k v kk a s) (b : Fin 32) (h : Fin 8) (t : Fin 4) :
    stateOf lw k v kk a s b h (t.val + 1) = step' (stateOf lw k v kk a s b h t.val) (rowsOf lw b h t) (rowsOf k b h t) (rowsOf v b h t) (rowsOf kk b h t)
      (fun e => rowsOf kk b h t e * rowsOf a b h t e) := by
  rw [← step_eq _ _ _ _ _ _ (stateOf_real lw k v kk a s hn b h t.val) (fun j => show Real' (rowsOf kk b h t j) from hn.1.2.2.2.1 _)]
  unfold stateOf
  rw [states, dif_pos t.isLt]

end Cert.Scan

end
-- ==== Proof.ScanRef.lean ====
/-
  The reference's lines for the recurrence, read at an entry: the rows of each token, the four states, and the stacked rows.
-/
module

public import proofs.«01_k».proof.Proof.ScanSpec
public import proofs.«01_k».proof.Proof.Gen.RScanIdeal.Read
public import Idealize.ShloMosaic.Lib.Tactic

@[expose] public section

set_option maxRecDepth 16384

noncomputable section

namespace Cert.RScanIdeal.Layer

open Cert.RScanIdeal Cert.RScanIdeal.Gen Cert.RScanIdeal.Read Idealize.ShloMosaic Idealize.ShloMosaic.TcCoe Cert.Scan

/-- The reference's step over whole arrays. -/
def stepOps (S : FVec Ideal S32x8x64x64 .f32) (d k v kk a : FVec Ideal S32x8x64 .f32) : FVec Ideal S32x8x64x64 .f32 :=
  addf (addf (mulf S (broadcastInDim S32x8x64x64 ![0, 1, 2, 3] bcast_S32x8x1x64_S32x8x64x64_0_1_2_3 (broadcastInDim S32x8x1x64 ![0, 1, 3] bcast_S32x8x64_S32x8x1x64_0_1_3 d)))
      (mulf (broadcastInDim S32x8x64x64 ![0, 1, 2, 3] bcast_S32x8x64x1_S32x8x64x64_0_1_2_3 (broadcastInDim S32x8x64x1 ![0, 1, 2] bcast_S32x8x64_S32x8x64x1_0_1_2
          (Host.dotGeneral dot_S32x8x64x64_S32x8x64_S32x8x64_3_2_2_n_01_01 none S (Host.negf kk))))
        (broadcastInDim S32x8x64x64 ![0, 1, 2, 3] bcast_S32x8x1x64_S32x8x64x64_0_1_2_3 (broadcastInDim S32x8x1x64 ![0, 1, 3] bcast_S32x8x64_S32x8x1x64_0_1_3 (mulf kk a)))))
    (mulf (broadcastInDim S32x8x64x64 ![0, 1, 2, 3] bcast_S32x8x64x1_S32x8x64x64_0_1_2_3 (broadcastInDim S32x8x64x1 ![0, 1, 2] bcast_S32x8x64_S32x8x64x1_0_1_2 v))
      (broadcastInDim S32x8x64x64 ![0, 1, 2, 3] bcast_S32x8x1x64_S32x8x64x64_0_1_2_3 (broadcastInDim S32x8x1x64 ![0, 1, 3] bcast_S32x8x64_S32x8x1x64_0_1_3 k)))

theorem stepOps_apply (S : FVec Ideal S32x8x64x64 .f32) (d k v kk a : FVec Ideal S32x8x64 .f32) (b : Fin 32) (h : Fin 8) (i j : Fin 64) :
    stepOps S d k v kk a (ix4 b h i j) = S (ix4 b h i j) * d (ix3 b h j) + (∑ e, S (ix4 b h i e) * -kk (ix3 b h e)) * (kk (ix3 b h j) * a (ix3 b h j))
      + v (ix3 b h i) * k (ix3 b h j) := by
  unfold stepOps
  pointwise

theorem readOps_apply (S : FVec Ideal S32x8x64x64 .f32) (r : FVec Ideal S32x8x64 .f32) (b : Fin 32) (h : Fin 8) (i : Fin 64) :
    (Host.dotGeneral dot_S32x8x64x64_S32x8x64_S32x8x64_3_2_2_n_01_01 none S r : FVec Ideal S32x8x64 .f32) (ix3 b h i) = ∑ j, S (ix4 b h i j) * r (ix3 b h j) := by
  pointwise

theorem token0 (x : FVec Ideal S32x4x8x64 .f32) (b : Fin 32) (h : Fin 8) (e : Fin 64) :
    (shapeCast S32x8x64 (extractStridedSlice S1x32x8x64 ![0, 0, 0, 0] (transpose S4x32x8x64 [1, 0, 2, 3] x transposes_S32x4x8x64_S4x32x8x64_1_0_2_3)
      slices_S4x32x8x64_S1x32x8x64_0_0_0_0) shapeCasts_S1x32x8x64_S32x8x64 : FVec Ideal S32x8x64 .f32) (ix3 b h e) = x (ix4 b 0 h e) := by
  pointwise

theorem token1 (x : FVec Ideal S32x4x8x64 .f32) (b : Fin 32) (h : Fin 8) (e : Fin 64) :
    (shapeCast S32x8x64 (extractStridedSlice S1x32x8x64 ![1, 0, 0, 0] (transpose S4x32x8x64 [1, 0, 2, 3] x transposes_S32x4x8x64_S4x32x8x64_1_0_2_3)
      slices_S4x32x8x64_S1x32x8x64_1_0_0_0) shapeCasts_S1x32x8x64_S32x8x64 : FVec Ideal S32x8x64 .f32) (ix3 b h e) = x (ix4 b 1 h e) := by
  pointwise

theorem token2 (x : FVec Ideal S32x4x8x64 .f32) (b : Fin 32) (h : Fin 8) (e : Fin 64) :
    (shapeCast S32x8x64 (extractStridedSlice S1x32x8x64 ![2, 0, 0, 0] (transpose S4x32x8x64 [1, 0, 2, 3] x transposes_S32x4x8x64_S4x32x8x64_1_0_2_3)
      slices_S4x32x8x64_S1x32x8x64_2_0_0_0) shapeCasts_S1x32x8x64_S32x8x64 : FVec Ideal S32x8x64 .f32) (ix3 b h e) = x (ix4 b 2 h e) := by
  pointwise

theorem token3 (x : FVec Ideal S32x4x8x64 .f32) (b : Fin 32) (h : Fin 8) (e : Fin 64) :
    (shapeCast S32x8x64 (extractStridedSlice S1x32x8x64 ![3, 0, 0, 0] (transpose S4x32x8x64 [1, 0, 2, 3] x transposes_S32x4x8x64_S4x32x8x64_1_0_2_3)
      slices_S4x32x8x64_S1x32x8x64_3_0_0_0) shapeCasts_S1x32x8x64_S32x8x64 : FVec Ideal S32x8x64 .f32) (ix3 b h e) = x (ix4 b 3 h e) := by
  pointwise

/-- The step over whole arrays, of rows read by sequence and head. -/
theorem step_read (S : FVec Ideal S32x8x64x64 .f32) (d k v kk a : FVec Ideal S32x8x64 .f32) (M : Mat) (lw' k' v' kk' a' : Row) (b : Fin 32) (h : Fin 8)
    (hS : matOf S b h = M) (hd : ∀ e, d (ix3 b h e) = Ideal.exp (lw' e)) (hk : ∀ e, k (ix3 b h e) = k' e) (hv : ∀ e, v (ix3 b h e) = v' e)
    (hkk : ∀ e, kk (ix3 b h e) = kk' e) (ha : ∀ e, a (ix3 b h e) = a' e) :
    matOf (stepOps S d k v kk a) b h = step' M lw' k' v' kk' (fun e => kk' e * a' e) := by
  subst hS
  funext i j
  refine (stepOps_apply S d k v kk a b h i j).trans ?_
  simp only [hd, hk, hv, hkk, ha]
  rfl

theorem r0 (x : FVec Ideal S32x4x8x64 .f32) (b : Fin 32) (h : Fin 8) (e : Fin 64) : val_main_v8 (F := Ideal) x (ix3 b h e) = rowsOf x b h 0 e := by
  unfold val_main_v8 val_main_v7 val_main_v1; exact token0 x b h e

theorem k0 (x : FVec Ideal S32x4x8x64 .f32) (b : Fin 32) (h : Fin 8) (e : Fin 64) : val_main_v12 (F := Ideal) x (ix3 b h e) = rowsOf x b h 0 e := by
  unfold val_main_v12 val_main_v11 val_main_v3; exact token0 x b h e

theorem v0 (x : FVec Ideal S32x4x8x64 .f32) (b : Fin 32) (h : Fin 8) (e : Fin 64) : val_main_v14 (F := Ideal) x (ix3 b h e) = rowsOf x b h 0 e := by
  unfold val_main_v14 val_main_v13 val_main_v4; exact token0 x b h e

theorem kk0 (x : FVec Ideal S32x4x8x64 .f32) (b : Fin 32) (h : Fin 8) (e : Fin 64) : val_main_v16 (F := Ideal) x (ix3 b h e) = rowsOf x b h 0 e := by
  unfold val_main_v16 val_main_v15 val_main_v5; exact token0 x b h e

theorem a0 (x : FVec Ideal S32x4x8x64 .f32) (b : Fin 32) (h : Fin 8) (e : Fin 64) : val_main_v18 (F := Ideal) x (ix3 b h e) = rowsOf x b h 0 e := by
  unfold val_main_v18 val_main_v17 val_main_v6; exact token0 x b h e

theorem d0 (x : FVec Ideal S32x4x8x64 .f32) (b : Fin 32) (h : Fin 8) (e : Fin 64) : val_main_v10 (F := Ideal) x (ix3 b h e) = Ideal.exp (rowsOf x b h 0 e) := by
  unfold val_main_v10 val_main_v9 val_main_v2 val_main_v0; exact token0 (Host.exp x) b h e

theorem r1 (x : FVec Ideal S32x4x8x64 .f32) (b : Fin 32) (h : Fin 8) (e : Fin 64) : val_main_v39 (F := Ideal) x (ix3 b h e) = rowsOf x b h 1 e := by
  unfold val_main_v39 val_main_v38 val_main_v1; exact token1 x b h e

theorem k1 (x : FVec Ideal S32x4x8x64 .f32) (b : Fin 32) (h : Fin 8) (e : Fin 64) : val_main_v43 (F := Ideal) x (ix3 b h e) = rowsOf x b h 1 e := by
  unfold val_main_v43 val_main_v42 val_main_v3; exact token1 x b h e

theorem v1 (x : FVec Ideal S32x4x8x64 .f32) (b : Fin 32) (h : Fin 8) (e : Fin 64) : val_main_v45 (F := Ideal) x (ix3 b h e) = rowsOf x b h 1 e := by
  unfold val_main_v45 val_main_v44 val_main_v4; exact token1 x b h e

theorem kk1 (x : FVec Ideal S32x4x8x64 .f32) (b : Fin 32) (h : Fin 8) (e : Fin 64) : val_main_v47 (F := Ideal) x (ix3 b h e) = rowsOf x b h 1 e := by
  unfold val_main_v47 val_main_v46 val_main_v5; exact token1 x b h e

theorem a1 (x : FVec Ideal S32x4x8x64 .f32) (b : Fin 32) (h : Fin 8) (e : Fin 64) : val_main_v49 (F := Ideal) x (ix3 b h e) = rowsOf x b h 1 e := by
  unfold val_main_v49 val_main_v48 val_main_v6; exact token1 x b h e

theorem d1 (x : FVec Ideal S32x4x8x64 .f32) (b : Fin 32) (h : Fin 8) (e : Fin 64) : val_main_v41 (F := Ideal) x (ix3 b h e) = Ideal.exp (rowsOf x b h 1 e) := by
  unfold val_main_v41 val_main_v40 val_main_v2 val_main_v0; exact token1 (Host.exp x) b h e

theorem r2 (x : FVec Ideal S32x4x8x64 .f32) (b : Fin 32) (h : Fin 8) (e : Fin 64) : val_main_v70 (F := Ideal) x (ix3 b h e) = rowsOf x b h 2 e := by
  unfold val_main_v70 val_main_v69 val_main_v1; exact token2 x b h e

theorem k2 (x : FVec Ideal S32x4x8x64 .f32) (b : Fin 32) (h : Fin 8) (e : Fin 64) : val_main_v74 (F := Ideal) x (ix3 b h e) = rowsOf x b h 2 e := by
  unfold val_main_v74 val_main_v73 val_main_v3; exact token2 x b h e

theorem v2 (x : FVec Ideal S32x4x8x64 .f32) (b : Fin 32) (h : Fin 8) (e : Fin 64) : val_main_v76 (F := Ideal) x (ix3 b h e) = rowsOf x b h 2 e := by
  unfold val_main_v76 val_main_v75 val_main_v4; exact token2 x b h e

theorem kk2 (x : FVec Ideal S32x4x8x64 .f32) (b : Fin 32) (h : Fin 8) (e : Fin 64) : val_main_v78 (F := Ideal) x (ix3 b h e) = rowsOf x b h 2 e := by
  unfold val_main_v78 val_main_v77 val_main_v5; exact token2 x b h e

theorem a2 (x : FVec Ideal S32x4x8x64 .f32) (b : Fin 32) (h : Fin 8) (e : Fin 64) : val_main_v80 (F := Ideal) x (ix3 b h e) = rowsOf x b h 2 e := by
  unfold val_main_v80 val_main_v79 val_main_v6; exact token2 x b h e

theorem d2 (x : FVec Ideal S32x4x8x64 .f32) (b : Fin 32) (h : Fin 8) (e : Fin 64) : val_main_v72 (F := Ideal) x (ix3 b h e) = Ideal.exp (rowsOf x b h 2 e) := by
  unfold val_main_v72 val_main_v71 val_main_v2 val_main_v0; exact token2 (Host.exp x) b h e

theorem r3 (x : FVec Ideal S32x4x8x64 .f32) (b : Fin 32) (h : Fin 8) (e : Fin 64) : val_main_v101 (F := Ideal) x (ix3 b h e) = rowsOf x b h 3 e := by
  unfold val_main_v101 val_main_v100 val_main_v1; exact token3 x b h e

theorem k3 (x : FVec Ideal S32x4x8x64 .f32) (b : Fin 32) (h : Fin 8) (e : Fin 64) : val_main_v105 (F := Ideal) x (ix3 b h e) = rowsOf x b h 3 e := by
  unfold val_main_v105 val_main_v104 val_main_v3; exact token3 x b h e

theorem v3 (x : FVec Ideal S32x4x8x64 .f32) (b : Fin 32) (h : Fin 8) (e : Fin 64) : val_main_v107 (F := Ideal) x (ix3 b h e) = rowsOf x b h 3 e := by
  unfold val_main_v107 val_main_v106 val_main_v4; exact token3 x b h e

theorem kk3 (x : FVec Ideal S32x4x8x64 .f32) (b : Fin 32) (h : Fin 8) (e : Fin 64) : val_main_v109 (F := Ideal) x (ix3 b h e) = rowsOf x b h 3 e := by
  unfold val_main_v109 val_main_v108 val_main_v5; exact token3 x b h e

theorem a3 (x : FVec Ideal S32x4x8x64 .f32) (b : Fin 32) (h : Fin 8) (e : Fin 64) : val_main_v111 (F := Ideal) x (ix3 b h e) = rowsOf x b h 3 e := by
  unfold val_main_v111 val_main_v110 val_main_v6; exact token3 x b h e

theorem d3 (x : FVec Ideal S32x4x8x64 .f32) (b : Fin 32) (h : Fin 8) (e : Fin 64) : val_main_v103 (F := Ideal) x (ix3 b h e) = Ideal.exp (rowsOf x b h 3 e) := by
  unfold val_main_v103 val_main_v102 val_main_v2 val_main_v0; exact token3 (Host.exp x) b h e

variable (x0 x1 x2 x3 x4 x5 : FVec Ideal S32x4x8x64 .f32) (x6 : FVec Ideal S32x8x64x64 .f32)

theorem ops0 : val_main_v36 (F := Ideal) x1 x2 x3 x4 x5 x6
    = stepOps x6 (val_main_v10 (F := Ideal) x1) (val_main_v12 (F := Ideal) x2) (val_main_v14 (F := Ideal) x3) (val_main_v16 (F := Ideal) x4) (val_main_v18 (F := Ideal) x5) := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19
  rfl

theorem ops1 : val_main_v67 (F := Ideal) x1 x2 x3 x4 x5 x6
    = stepOps (val_main_v36 (F := Ideal) x1 x2 x3 x4 x5 x6) (val_main_v41 (F := Ideal) x1) (val_main_v43 (F := Ideal) x2) (val_main_v45 (F := Ideal) x3) (val_main_v47 (F := Ideal) x4) (val_main_v49 (F := Ideal) x5) := by
  unfold val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50
  rfl

theorem ops2 : val_main_v98 (F := Ideal) x1 x2 x3 x4 x5 x6
    = stepOps (val_main_v67 (F := Ideal) x1 x2 x3 x4 x5 x6) (val_main_v72 (F := Ideal) x1) (val_main_v74 (F := Ideal) x2) (val_main_v76 (F := Ideal) x3) (val_main_v78 (F := Ideal) x4) (val_main_v80 (F := Ideal) x5) := by
  unfold val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81
  rfl

theorem ops3 : val_main_v129 (F := Ideal) x1 x2 x3 x4 x5 x6
    = stepOps (val_main_v98 (F := Ideal) x1 x2 x3 x4 x5 x6) (val_main_v103 (F := Ideal) x1) (val_main_v105 (F := Ideal) x2) (val_main_v107 (F := Ideal) x3) (val_main_v109 (F := Ideal) x4) (val_main_v111 (F := Ideal) x5) := by
  unfold val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112
  rfl

variable (hn : Numbers x1 x2 x3 x4 x5 x6) (b : Fin 32) (h : Fin 8)
include hn

/-- The state after token 0. -/
theorem state0 : matOf (val_main_v36 (F := Ideal) x1 x2 x3 x4 x5 x6) b h = stateOf x1 x2 x3 x4 x5 x6 b h 1 := by
  rw [ops0]
  refine (step_read _ _ _ _ _ _ _ _ _ _ _ _ b h rfl (d0 x1 b h) (k0 x2 b h) (v0 x3 b h) (kk0 x4 b h) (a0 x5 b h)).trans ?_
  exact (stateOf_succ x1 x2 x3 x4 x5 x6 hn b h 0).symm

theorem out0 (i : Fin 64) : val_main_v37 (F := Ideal) x0 x1 x2 x3 x4 x5 x6 (ix3 b h i) = outOf x0 x1 x2 x3 x4 x5 x6 b h 0 i := by
  have e := state0 x1 x2 x3 x4 x5 x6 hn b h
  unfold val_main_v37
  unfold outOf
  refine (readOps_apply _ _ b h i).trans ?_
  simp only [r0 x0 b h]
  rw [show stateOf x1 x2 x3 x4 x5 x6 b h (((0 : Fin 4) : ℕ) + 1) = stateOf x1 x2 x3 x4 x5 x6 b h 1 from rfl, ← e]
  rfl

/-- The state after token 1. -/
theorem state1 : matOf (val_main_v67 (F := Ideal) x1 x2 x3 x4 x5 x6) b h = stateOf x1 x2 x3 x4 x5 x6 b h 2 := by
  rw [ops1]
  refine (step_read _ _ _ _ _ _ _ _ _ _ _ _ b h (state0 x1 x2 x3 x4 x5 x6 hn b h) (d1 x1 b h) (k1 x2 b h) (v1 x3 b h) (kk1 x4 b h) (a1 x5 b h)).trans ?_
  exact (stateOf_succ x1 x2 x3 x4 x5 x6 hn b h 1).symm

theorem out1 (i : Fin 64) : val_main_v68 (F := Ideal) x0 x1 x2 x3 x4 x5 x6 (ix3 b h i) = outOf x0 x1 x2 x3 x4 x5 x6 b h 1 i := by
  have e := state1 x1 x2 x3 x4 x5 x6 hn b h
  unfold val_main_v68
  unfold outOf
  refine (readOps_apply _ _ b h i).trans ?_
  simp only [r1 x0 b h]
  rw [show stateOf x1 x2 x3 x4 x5 x6 b h (((1 : Fin 4) : ℕ) + 1) = stateOf x1 x2 x3 x4 x5 x6 b h 2 from rfl, ← e]
  rfl

/-- The state after token 2. -/
theorem state2 : matOf (val_main_v98 (F := Ideal) x1 x2 x3 x4 x5 x6) b h = stateOf x1 x2 x3 x4 x5 x6 b h 3 := by
  rw [ops2]
  refine (step_read _ _ _ _ _ _ _ _ _ _ _ _ b h (state1 x1 x2 x3 x4 x5 x6 hn b h) (d2 x1 b h) (k2 x2 b h) (v2 x3 b h) (kk2 x4 b h) (a2 x5 b h)).trans ?_
  exact (stateOf_succ x1 x2 x3 x4 x5 x6 hn b h 2).symm

theorem out2 (i : Fin 64) : val_main_v99 (F := Ideal) x0 x1 x2 x3 x4 x5 x6 (ix3 b h i) = outOf x0 x1 x2 x3 x4 x5 x6 b h 2 i := by
  have e := state2 x1 x2 x3 x4 x5 x6 hn b h
  unfold val_main_v99
  unfold outOf
  refine (readOps_apply _ _ b h i).trans ?_
  simp only [r2 x0 b h]
  rw [show stateOf x1 x2 x3 x4 x5 x6 b h (((2 : Fin 4) : ℕ) + 1) = stateOf x1 x2 x3 x4 x5 x6 b h 3 from rfl, ← e]
  rfl

/-- The state after token 3. -/
theorem state3 : matOf (val_main_v129 (F := Ideal) x1 x2 x3 x4 x5 x6) b h = stateOf x1 x2 x3 x4 x5 x6 b h 4 := by
  rw [ops3]
  refine (step_read _ _ _ _ _ _ _ _ _ _ _ _ b h (state2 x1 x2 x3 x4 x5 x6 hn b h) (d3 x1 b h) (k3 x2 b h) (v3 x3 b h) (kk3 x4 b h) (a3 x5 b h)).trans ?_
  exact (stateOf_succ x1 x2 x3 x4 x5 x6 hn b h 3).symm

theorem out3 (i : Fin 64) : val_main_v130 (F := Ideal) x0 x1 x2 x3 x4 x5 x6 (ix3 b h i) = outOf x0 x1 x2 x3 x4 x5 x6 b h 3 i := by
  have e := state3 x1 x2 x3 x4 x5 x6 hn b h
  unfold val_main_v130
  unfold outOf
  refine (readOps_apply _ _ b h i).trans ?_
  simp only [r3 x0 b h]
  rw [show stateOf x1 x2 x3 x4 x5 x6 b h (((3 : Fin 4) : ℕ) + 1) = stateOf x1 x2 x3 x4 x5 x6 b h 4 from rfl, ← e]
  rfl

/-- The reference's last state. -/
theorem last_read (i j : Fin 64) : val_main_v129 (F := Ideal) x1 x2 x3 x4 x5 x6 (ix4 b h i j) = stateOf x1 x2 x3 x4 x5 x6 b h 4 i j :=
  congrFun (congrFun (state3 x1 x2 x3 x4 x5 x6 hn b h) i) j

omit hn in
theorem spread (y : FVec Ideal S32x8x64 .f32) (i : Fin 64) :
    (broadcastInDim S32x8x1x64 ![0, 1, 3] bcast_S32x8x64_S32x8x1x64_0_1_3 y : FVec Ideal S32x8x1x64 .f32) (ix4 b h 0 i) = y (ix3 b h i) := by
  pointwise

omit hn in
/-- Four rows stacked over the tokens, read at token `t`. -/
theorem stacked (p0 p1 p2 p3 : FVec Ideal S32x8x1x64 .f32) (t : Fin 4) (i : Fin 64) :
    (concatenate S32x8x4x64 2 [⟨S32x8x1x64, p0⟩, ⟨S32x8x1x64, p1⟩, ⟨S32x8x1x64, p2⟩, ⟨S32x8x1x64, p3⟩]
      concatenates_S32x8x1x64_S32x8x1x64_S32x8x1x64_S32x8x1x64_S32x8x4x64_d2 : FVec Ideal S32x8x4x64 .f32) (ix4 b h t i)
      = (![p0, p1, p2, p3] : Fin 4 → FVec Ideal S32x8x1x64 .f32) t (ix4 b h 0 i) := by
  refine concatenate_ofFn_apply (t := S32x8x4x64) (s₁ := S32x8x1x64) 2 (![p0, p1, p2, p3] : Fin 4 → FVec Ideal S32x8x1x64 .f32)
    concatenates_S32x8x1x64_S32x8x1x64_S32x8x1x64_S32x8x1x64_S32x8x4x64_d2
    rfl 1 rfl (ix4 b h t i) t ?_ (ix4 b h 0 i) ?_ ?_
  · show t.val / 1 = t.val; omega
  · show 0 = t.val % 1; omega
  · intro a ha
    match a with
    | ⟨0, _⟩ => rfl
    | ⟨1, _⟩ => rfl
    | ⟨2, _⟩ => exact absurd rfl ha
    | ⟨3, _⟩ => rfl

/-- The reference's rows. -/
theorem out_read (t : Fin 4) (i : Fin 64) : val_main_v135 (F := Ideal) x0 x1 x2 x3 x4 x5 x6 (ix4 b h t i) = outOf x0 x1 x2 x3 x4 x5 x6 b h t i := by
  unfold val_main_v135
  refine (stacked b h _ _ _ _ t i).trans ?_
  match t with
  | ⟨0, _⟩ =>
    unfold val_main_v131
    exact (spread b h _ i).trans (out0 x0 x1 x2 x3 x4 x5 x6 hn b h i)
  | ⟨1, _⟩ =>
    unfold val_main_v132
    exact (spread b h _ i).trans (out1 x0 x1 x2 x3 x4 x5 x6 hn b h i)
  | ⟨2, _⟩ =>
    unfold val_main_v133
    exact (spread b h _ i).trans (out2 x0 x1 x2 x3 x4 x5 x6 hn b h i)
  | ⟨3, _⟩ =>
    unfold val_main_v134
    exact (spread b h _ i).trans (out3 x0 x1 x2 x3 x4 x5 x6 hn b h i)

end Cert.RScanIdeal.Layer

end
-- ==== Proof.ScanHead.lean ====
/-
  The recurrence kernel's step of one head, read at an entry over the extended reals.
-/
module

public import proofs.«01_k».proof.Proof.ScanTrip
public import proofs.«01_k».proof.Proof.ScanSpec
public import Idealize.ShloMosaic.Lib.Tactic

@[expose] public section

set_option maxRecDepth 16384

noncomputable section

namespace Cert.KScanIdeal.Layer

open Cert.KScanIdeal Cert.KScanIdeal.Gen Idealize.ShloMosaic Idealize.ShloMosaic.TcCoe Idealize.SL.Sem Cert.Scan

theorem diagonal (i j : Fin 64) : k0_pay2 (ix2 i j) = 1#1 ↔ i = j := by
  revert i j
  decide +kernel

theorem decayed_apply (s : Vec Ideal S1x64x64 .f32) (kk lw ka : Vec Ideal S1x1x1x64 .f32) (i j : Fin 64) :
    k0_pay4 s kk lw ka (ix2 i j) = s (ix3 0 i j) * Ideal.exp (lw (ix4 0 0 0 j)) + (0 - ∑ e, s (ix3 0 i e) * kk (ix4 0 0 0 e)) * ka (ix4 0 0 0 j) := by
  unfold_payloads
  pointwise

theorem value_apply (v : Vec Ideal S1x1x1x64 .f32) (i j : Fin 64) :
    k0_pay6 k0_pay2 v (ix2 i j) = v (ix4 0 0 0 i) := by
  refine Eq.trans ?_ (sum_at i fun e => v (ix4 0 0 0 e))
  have hd := diagonal i
  generalize k0_pay2 = D at hd
  simp only [← hd]
  unfold_payloads
  pointwise
  rfl

theorem stored_apply (a : FVec Ideal S64x64 .f32) (k : Vec Ideal S1x1x1x64 .f32) (p : FVec Ideal S64x64 .f32) (i j : Fin 64) :
    k0_pay7 a (k0_pay5 k) p (ix2 i j) = a (ix2 i j) + p (ix2 i j) * k (ix4 0 0 0 j) := by
  unfold_payloads
  pointwise

theorem cast_apply (a : FVec Ideal S64x64 .f32) (k : FVec Ideal S1x64 .f32) (p : FVec Ideal S64x64 .f32) (i j : Fin 64) :
    k0_pay8 a k p (ix3 0 i j) = k0_pay7 a k p (ix2 i j) := by
  unfold k0_pay8
  generalize k0_pay7 a k p = X
  pointwise

theorem read_apply (a : FVec Ideal S64x64 .f32) (k : FVec Ideal S1x64 .f32) (p : FVec Ideal S64x64 .f32) (r : Vec Ideal S1x1x1x64 .f32) (i : Fin 64) :
    k0_pay9 k0_pay2 a k p r (ix4 0 0 0 i) = ∑ j, k0_pay7 a k p (ix2 i j) * r (ix4 0 0 0 j) := by
  refine Eq.trans ?_ (sum_at' i fun e => ∑ j, k0_pay7 a k p (ix2 e j) * r (ix4 0 0 0 j))
  have hd := fun e => diagonal e i
  unfold k0_pay9
  generalize k0_pay7 a k p = X
  generalize k0_pay2 = D at hd
  simp only [← hd]
  pointwise
  rfl

/-- A head's matrix after a token. -/
theorem newMatrix_apply (s : Vec Ideal S1x64x64 .f32) (lw k v kk ka : Vec Ideal S1x1x1x64 .f32) (i j : Fin 64) :
    newMatrix s lw k v kk ka (ix3 0 i j) = step (fun i j => s (ix3 0 i j)) (fun e => lw (ix4 0 0 0 e)) (fun e => k (ix4 0 0 0 e)) (fun e => v (ix4 0 0 0 e))
      (fun e => kk (ix4 0 0 0 e)) (fun e => ka (ix4 0 0 0 e)) i j := by
  unfold newMatrix step
  rw [cast_apply, stored_apply, decayed_apply, value_apply]

/-- A head's output row of a token. -/
theorem outRow_apply (s : Vec Ideal S1x64x64 .f32) (r lw k v kk ka : Vec Ideal S1x1x1x64 .f32) (i : Fin 64) :
    outRow s r lw k v kk ka (ix4 0 0 0 i) = readOut (step (fun i j => s (ix3 0 i j)) (fun e => lw (ix4 0 0 0 e)) (fun e => k (ix4 0 0 0 e)) (fun e => v (ix4 0 0 0 e))
      (fun e => kk (ix4 0 0 0 e)) (fun e => ka (ix4 0 0 0 e))) (fun e => r (ix4 0 0 0 e)) i := by
  unfold outRow readOut step
  rw [read_apply]
  refine Finset.sum_congr rfl fun j _ => ?_
  rw [stored_apply, decayed_apply, value_apply]

end Cert.KScanIdeal.Layer

end
-- ==== Proof.ScanBlock.lean ====
/-
  What a grid point of the recurrence kernel leaves in its two output windows: for every head, the rows of the four tokens and
  the last state, as the recurrence of that head's rows.
-/
module

public import proofs.«01_k».proof.Proof.ScanHead

@[expose] public section

set_option maxRecDepth 16384

noncomputable section

namespace Cert.KScanIdeal.Layer

open Cert.KScanIdeal Cert.KScanIdeal.Gen Idealize.ShloMosaic Idealize.ShloMosaic.TcCoe Idealize.SL.Sem Cert.Scan

/-- A trip's token. -/
abbrev tok (t : Fin k0_t1_loop.trips) : Fin 4 := ⟨t.val, lt_of_lt_of_eq t.isLt trips_eq⟩

theorem off1 : ∀ t : Fin k0_t1_loop.trips, k0_off1 t = ![0, 0, t.val, 0] := by decide +kernel
theorem off2 : ∀ t : Fin k0_t1_loop.trips, k0_off2 t = ![0, 1, t.val, 0] := by decide +kernel
theorem off3 : ∀ t : Fin k0_t1_loop.trips, k0_off3 t = ![0, 2, t.val, 0] := by decide +kernel
theorem off4 : ∀ t : Fin k0_t1_loop.trips, k0_off4 t = ![0, 3, t.val, 0] := by decide +kernel
theorem off5 : ∀ t : Fin k0_t1_loop.trips, k0_off5 t = ![0, 4, t.val, 0] := by decide +kernel
theorem off6 : ∀ t : Fin k0_t1_loop.trips, k0_off6 t = ![0, 5, t.val, 0] := by decide +kernel
theorem off7 : ∀ t : Fin k0_t1_loop.trips, k0_off7 t = ![0, 6, t.val, 0] := by decide +kernel
theorem off8 : ∀ t : Fin k0_t1_loop.trips, k0_off8 t = ![0, 7, t.val, 0] := by decide +kernel

theorem row_apply (off : Fin 4 → ℕ) (inb : ∀ a, off a + S1x1x1x64.size a ≤ S1x8x4x64.size a) (h : Fin 8) (t : Fin 4)
    (ho : off = ![0, h.val, t.val, 0]) (x : Vec Ideal S1x8x4x64 .f32) (e : Fin 64) :
    row off inb x (ix4 0 0 0 e) = x (ix4 0 h t e) := by
  subst ho
  refine congrArg x (funext fun a => Fin.ext ?_)
  match a with
  | ⟨0, _⟩ => rfl
  | ⟨1, _⟩ => show h.val + 1 * 0 = h.val; omega
  | ⟨2, _⟩ => show t.val + 1 * 0 = t.val; omega
  | ⟨3, _⟩ => show 0 + 1 * e.val = e.val; omega

theorem place_state (o : Fin 3 → ℕ) (ino : ∀ a, o a + S1x64x64.size a ≤ S8x64x64.size a) (h : Fin 8) (ho : o = ![h.val, 0, 0]) (i j : Fin 64) :
    (Rect.unit (s := S8x64x64) o S1x64x64.size ino).idx (ix3 0 i j : S1x64x64.Idx) = (ix3 h i j : S8x64x64.Idx) := by
  subst ho
  refine funext fun a => Fin.ext ?_
  match a with
  | ⟨0, _⟩ => show h.val + 1 * 0 = h.val; omega
  | ⟨1, _⟩ => show 0 + 1 * i.val = i.val; omega
  | ⟨2, _⟩ => show 0 + 1 * j.val = j.val; omega

theorem place_out (off : Fin 4 → ℕ) (inb : ∀ a, off a + S1x1x1x64.size a ≤ S1x8x4x64.size a) (h : Fin 8) (t : Fin 4)
    (ho : off = ![0, h.val, t.val, 0]) (e : Fin 64) :
    (Rect.unit (s := S1x8x4x64) off S1x1x1x64.size inb).idx (ix4 0 0 0 e : S1x1x1x64.Idx) = (ix4 0 h t e : S1x8x4x64.Idx) := by
  subst ho
  refine funext fun a => Fin.ext ?_
  match a with
  | ⟨0, _⟩ => rfl
  | ⟨1, _⟩ => show h.val + 1 * 0 = h.val; omega
  | ⟨2, _⟩ => show t.val + 1 * 0 = t.val; omega
  | ⟨3, _⟩ => show 0 + 1 * e.val = e.val; omega

theorem matrix_apply (o : Fin 3 → ℕ) (ino : ∀ a, o a + S1x64x64.size a ≤ S8x64x64.size a) (h : Fin 8) (ho : o = ![h.val, 0, 0])
    (S : Vec Ideal S8x64x64 .f32) (i j : Fin 64) : matrix o ino S (ix3 0 i j) = S (ix3 h i j) :=
  congrArg S (place_state o ino h ho i j)

/-- A head's state, and its rows of the four tokens. -/
abbrev headMat (S : Vec Ideal S8x64x64 .f32) (h : Fin 8) : Mat := fun i j => S (ix3 h i j)
abbrev headRow (x : Vec Ideal S1x8x4x64 .f32) (h : Fin 8) (t : Fin 4) : Row := fun e => x (ix4 0 h t e)

/-- A head's state after a token, found at `S`. -/
def nextAt (lw k v kk ka : Vec Ideal S1x8x4x64 .f32) (S : Vec Ideal S8x64x64 .f32) (t : Fin 4) (h : Fin 8) : Mat :=
  step (headMat S h) (headRow lw h t) (headRow k h t) (headRow v h t) (headRow kk h t) (headRow ka h t)

theorem state_piece (h : Fin 8) (o : Fin 3 → ℕ) (ino : ∀ a, o a + S1x64x64.size a ≤ S8x64x64.size a) (ho : o = ![h.val, 0, 0])
    (off : Fin 4 → ℕ) (inb : ∀ a, off a + S1x1x1x64.size a ≤ S1x8x4x64.size a) {t : Fin 4} (hoff : off = ![0, h.val, t.val, 0])
    (lw k v kk ka : Vec Ideal S1x8x4x64 .f32) (S : Vec Ideal S8x64x64 .f32) (x : S1x64x64.Idx) :
    (statePiece o ino off inb lw k v kk ka S).2 x
      = (fun y : S8x64x64.Idx => nextAt lw k v kk ka S t (y 0) (y 1) (y 2)) ((statePiece o ino off inb lw k v kk ka S).1.idx x) := by
  obtain ⟨z, i, j, rfl⟩ : ∃ (z : Fin 1) (i j : Fin 64), x = ix3 z i j := ⟨x 0, x 1, x 2, eq_ix3 x⟩
  obtain rfl : z = 0 := Subsingleton.elim _ _
  dsimp only
  rw [place_state o ino h ho i j]
  refine (newMatrix_apply _ _ _ _ _ _ i j).trans ?_
  have er : ∀ x : Vec Ideal S1x8x4x64 .f32, (fun e => row off inb x (ix4 0 0 0 e)) = headRow x h t := fun x => funext fun e => row_apply off inb h t hoff x e
  have em : (fun i j => matrix o ino S (ix3 0 i j)) = headMat S h := funext fun i => funext fun j => matrix_apply o ino h ho S i j
  show step (fun i j => matrix o ino S (ix3 0 i j)) (fun e => row off inb lw (ix4 0 0 0 e)) (fun e => row off inb k (ix4 0 0 0 e)) (fun e => row off inb v (ix4 0 0 0 e)) (fun e => row off inb kk (ix4 0 0 0 e)) (fun e => row off inb ka (ix4 0 0 0 e)) i j = nextAt lw k v kk ka S t h i j
  rw [er, er, er, er, er, em, nextAt]

theorem out_piece (h : Fin 8) (o : Fin 3 → ℕ) (ino : ∀ a, o a + S1x64x64.size a ≤ S8x64x64.size a) (ho : o = ![h.val, 0, 0])
    (off : Fin 4 → ℕ) (inb : ∀ a, off a + S1x1x1x64.size a ≤ S1x8x4x64.size a) {t : Fin 4} (hoff : off = ![0, h.val, t.val, 0])
    (r lw k v kk ka : Vec Ideal S1x8x4x64 .f32) (S : Vec Ideal S8x64x64 .f32) (x : S1x1x1x64.Idx) :
    ∃ e : Fin 64, (outPiece o ino off inb r lw k v kk ka S).1.idx x = (ix4 0 h t e : S1x8x4x64.Idx)
      ∧ (outPiece o ino off inb r lw k v kk ka S).2 x = readOut (nextAt lw k v kk ka S t h) (headRow r h t) e := by
  obtain ⟨z, z', z'', e, rfl⟩ : ∃ (z z' z'' : Fin 1) (e : Fin 64), x = ix4 z z' z'' e := ⟨x 0, x 1, x 2, x 3, eq_ix4 x⟩
  obtain rfl : z = 0 := Subsingleton.elim _ _
  obtain rfl : z' = 0 := Subsingleton.elim _ _
  obtain rfl : z'' = 0 := Subsingleton.elim _ _
  refine ⟨e, place_out off inb h t hoff e, ?_⟩
  refine (outRow_apply _ _ _ _ _ _ _ e).trans ?_
  have er : ∀ x : Vec Ideal S1x8x4x64 .f32, (fun e => row off inb x (ix4 0 0 0 e)) = headRow x h t := fun x => funext fun e => row_apply off inb h t hoff x e
  have em : (fun i j => matrix o ino S (ix3 0 i j)) = headMat S h := funext fun i => funext fun j => matrix_apply o ino h ho S i j
  show readOut (step (fun i j => matrix o ino S (ix3 0 i j)) (fun e => row off inb lw (ix4 0 0 0 e)) (fun e => row off inb k (ix4 0 0 0 e)) (fun e => row off inb v (ix4 0 0 0 e)) (fun e => row off inb kk (ix4 0 0 0 e)) (fun e => row off inb ka (ix4 0 0 0 e))) (fun e => row off inb r (ix4 0 0 0 e)) e = _
  rw [er, er, er, er, er, er, em, nextAt]

theorem stores_state (lw k v kk ka : Vec Ideal S1x8x4x64 .f32) (t : Fin k0_t1_loop.trips) (S : Vec Ideal S8x64x64 .f32) :
    ∀ pc ∈ stateStores lw k v kk ka t S, ∀ x, pc.2 x = (fun y : S8x64x64.Idx => nextAt lw k v kk ka S (tok t) (y 0) (y 1) (y 2)) (pc.1.idx x) := by
  intro pc hpc
  unfold stateStores at hpc
  rcases List.mem_cons.mp hpc with rfl | hpc
  · exact state_piece 7 _ _ rfl _ _ (off8 t) _ _ _ _ _ _
  rcases List.mem_cons.mp hpc with rfl | hpc
  · exact state_piece 6 _ _ rfl _ _ (off7 t) _ _ _ _ _ _
  rcases List.mem_cons.mp hpc with rfl | hpc
  · exact state_piece 5 _ _ rfl _ _ (off6 t) _ _ _ _ _ _
  rcases List.mem_cons.mp hpc with rfl | hpc
  · exact state_piece 4 _ _ rfl _ _ (off5 t) _ _ _ _ _ _
  rcases List.mem_cons.mp hpc with rfl | hpc
  · exact state_piece 3 _ _ rfl _ _ (off4 t) _ _ _ _ _ _
  rcases List.mem_cons.mp hpc with rfl | hpc
  · exact state_piece 2 _ _ rfl _ _ (off3 t) _ _ _ _ _ _
  rcases List.mem_cons.mp hpc with rfl | hpc
  · exact state_piece 1 _ _ rfl _ _ (off2 t) _ _ _ _ _ _
  rcases List.mem_cons.mp hpc with rfl | hpc
  · exact state_piece 0 _ _ rfl _ _ (off1 t) _ _ _ _ _ _
  nomatch hpc

theorem stores_out (r lw k v kk ka : Vec Ideal S1x8x4x64 .f32) (t : Fin k0_t1_loop.trips) (S : Vec Ideal S8x64x64 .f32) :
    ∀ pc ∈ outStores r lw k v kk ka t S, ∀ x, ∃ (h : Fin 8) (e : Fin 64), pc.1.idx x = (ix4 0 h (tok t) e : S1x8x4x64.Idx)
      ∧ pc.2 x = readOut (nextAt lw k v kk ka S (tok t) h) (headRow r h (tok t)) e := by
  intro pc hpc
  unfold outStores at hpc
  rcases List.mem_cons.mp hpc with rfl | hpc
  · exact fun x => ⟨_, out_piece 7 _ _ rfl _ _ (off8 t) _ _ _ _ _ _ _ x⟩
  rcases List.mem_cons.mp hpc with rfl | hpc
  · exact fun x => ⟨_, out_piece 6 _ _ rfl _ _ (off7 t) _ _ _ _ _ _ _ x⟩
  rcases List.mem_cons.mp hpc with rfl | hpc
  · exact fun x => ⟨_, out_piece 5 _ _ rfl _ _ (off6 t) _ _ _ _ _ _ _ x⟩
  rcases List.mem_cons.mp hpc with rfl | hpc
  · exact fun x => ⟨_, out_piece 4 _ _ rfl _ _ (off5 t) _ _ _ _ _ _ _ x⟩
  rcases List.mem_cons.mp hpc with rfl | hpc
  · exact fun x => ⟨_, out_piece 3 _ _ rfl _ _ (off4 t) _ _ _ _ _ _ _ x⟩
  rcases List.mem_cons.mp hpc with rfl | hpc
  · exact fun x => ⟨_, out_piece 2 _ _ rfl _ _ (off3 t) _ _ _ _ _ _ _ x⟩
  rcases List.mem_cons.mp hpc with rfl | hpc
  · exact fun x => ⟨_, out_piece 1 _ _ rfl _ _ (off2 t) _ _ _ _ _ _ _ x⟩
  rcases List.mem_cons.mp hpc with rfl | hpc
  · exact fun x => ⟨_, out_piece 0 _ _ rfl _ _ (off1 t) _ _ _ _ _ _ _ x⟩
  nomatch hpc

/-- A head's state before token `n`. -/
theorem state_apply (lw k v kk ka : Vec Ideal S1x8x4x64 .f32) (S : Vec Ideal S8x64x64 .f32) (h : Fin 8) : ∀ n : ℕ,
    headMat (stateAt lw k v kk ka S n) h = states (headMat S h) (headRow lw h) (headRow k h) (headRow v h) (headRow kk h) (headRow ka h) n
  | 0 => rfl
  | n + 1 => by
    have ih := state_apply lw k v kk ka S h n
    unfold stateAt states
    by_cases hn : n < k0_t1_loop.trips
    · have hn' : n < 4 := lt_of_lt_of_eq hn trips_eq
      rw [dif_pos hn, dif_pos hn', ← ih]
      funext i j
      exact View.canon_apply_of_pieces (fun y : S8x64x64.Idx => nextAt lw k v kk ka (stateAt lw k v kk ka S n) ⟨n, hn'⟩ (y 0) (y 1) (y 2)) _ (stores_state lw k v kk ka ⟨n, hn⟩ _) (ix3 h i j) (state_cover lw k v kk ka ⟨n, hn⟩ _ _)
    · have hn' : ¬ n < 4 := fun hh => hn (lt_of_lt_of_eq hh trips_eq.symm)
      rw [dif_neg hn, dif_neg hn', ih]

theorem outs_apply (r lw k v kk ka : Vec Ideal S1x8x4x64 .f32) (S : Vec Ideal S8x64x64 .f32) : ∀ (n : ℕ), ∀ pc ∈ outsBefore r lw k v kk ka S n, ∀ x,
    pc.2 x = (fun y : S1x8x4x64.Idx => readOut (states (headMat S (y 1)) (headRow lw (y 1)) (headRow k (y 1)) (headRow v (y 1)) (headRow kk (y 1)) (headRow ka (y 1)) ((y 2).val + 1))
      (headRow r (y 1) (y 2)) (y 3)) (pc.1.idx x)
  | 0 => fun pc hpc => nomatch hpc
  | n + 1 => by
    have ih := outs_apply r lw k v kk ka S n
    unfold outsBefore
    by_cases hn : n < k0_t1_loop.trips
    · have hn' : n < 4 := lt_of_lt_of_eq hn trips_eq
      rw [dif_pos hn]
      intro pc hpc
      rcases List.mem_append.mp hpc with hpc | hpc
      · intro x
        obtain ⟨h, e, hx, hv⟩ := stores_out r lw k v kk ka ⟨n, hn⟩ _ pc hpc x
        rw [hx, hv]
        show _ = readOut (states (headMat S h) (headRow lw h) (headRow k h) (headRow v h) (headRow kk h) (headRow ka h) (n + 1)) (headRow r h ⟨n, hn'⟩) e
        unfold states nextAt
        rw [dif_pos hn', state_apply]
      · exact ih pc hpc
    · rw [dif_neg hn]; exact ih

/-- The output window: head `h`'s row of token `t`. -/
theorem outBlock_apply (r lw k v kk ka : Vec Ideal S1x8x4x64 .f32) (s0 : Vec Ideal S1x8x64x64 .f32) (h : Fin 8) (t : Fin 4) (i : Fin 64) :
    outBlock r lw k v kk ka s0 (ix4 0 h t i)
      = readOut (states (fun i j => s0 (ix4 0 h i j)) (headRow lw h) (headRow k h) (headRow v h) (headRow kk h) (headRow ka h) (t.val + 1)) (headRow r h t) i := by
  unfold outBlock
  refine (View.canon_apply_of_pieces (fun y : S1x8x4x64.Idx => readOut (states (headMat (k0_pay1 s0) (y 1)) (headRow lw (y 1)) (headRow k (y 1)) (headRow v (y 1)) (headRow kk (y 1)) (headRow ka (y 1)) ((y 2).val + 1))
      (headRow r (y 1) (y 2)) (y 3)) _ (outs_apply r lw k v kk ka _ _) (ix4 0 h t i) (outs_cover r lw k v kk ka _ _)).trans ?_
  show readOut (states (headMat (k0_pay1 s0) h) _ _ _ _ _ _) _ _ = _
  have e : headMat (k0_pay1 s0) h = fun i j => s0 (ix4 0 h i j) := by
    funext i j
    unfold headMat
    unfold_payloads
    pointwise
  rw [e]
  rfl

/-- The last state's window. -/
theorem lastBlock_apply (lw k v kk ka : Vec Ideal S1x8x4x64 .f32) (s0 : Vec Ideal S1x8x64x64 .f32) (h : Fin 8) (i j : Fin 64) :
    lastBlock lw k v kk ka s0 (ix4 0 h i j)
      = states (fun i j => s0 (ix4 0 h i j)) (headRow lw h) (headRow k h) (headRow v h) (headRow kk h) (headRow ka h) 4 i j := by
  have e : headMat (k0_pay1 s0) h = fun i j => s0 (ix4 0 h i j) := by
    funext i j
    unfold headMat
    unfold_payloads
    pointwise
  rw [← e, ← state_apply, ← trips_eq]
  unfold lastBlock headMat
  generalize stateAt lw k v kk ka (k0_pay1 s0) k0_t1_loop.trips = X
  unfold_payloads
  pointwise

end Cert.KScanIdeal.Layer

end
-- ==== Proof.ScanValue.lean ====
/-
  The recurrence call's two result arrays, read at an entry, and the run of its program with those arrays named.
-/
module

public import proofs.«01_k».proof.Proof.ScanBlock
public import proofs.«01_k».proof.Proof.ScanRun

@[expose] public section

set_option maxRecDepth 16384

noncomputable section

namespace Cert.KScanIdeal.Layer

open Cert.KScanIdeal Cert.KScanIdeal.Gen Idealize.ShloMosaic Idealize.ShloMosaic.TcCoe Idealize.SL.Sem Cert.Scan

variable (m : (ℓ : Loc nD τ sig) → Buf (Elt Ideal) ℓ) (ρ : Dev nD → PrngReg)

theorem index0 : ∀ t : Fin cfg0.N, win0_0.index t = ![t.val, 0, 0, 0] := by decide +kernel
theorem index1 : ∀ t : Fin cfg0.N, win0_1.index t = ![t.val, 0, 0, 0] := by decide +kernel
theorem index2 : ∀ t : Fin cfg0.N, win0_2.index t = ![t.val, 0, 0, 0] := by decide +kernel
theorem index3 : ∀ t : Fin cfg0.N, win0_3.index t = ![t.val, 0, 0, 0] := by decide +kernel
theorem index4 : ∀ t : Fin cfg0.N, win0_4.index t = ![t.val, 0, 0, 0] := by decide +kernel
theorem index5 : ∀ t : Fin cfg0.N, win0_5.index t = ![t.val, 0, 0, 0] := by decide +kernel
theorem index6 : ∀ t : Fin cfg0.N, win0_6.index t = ![t.val, 0, 0, 0] := by decide +kernel
theorem index7 : ∀ t : Fin cfg0.N, win0_7.index t = ![t.val, 0, 0, 0] := by decide +kernel
theorem index8 : ∀ t : Fin cfg0.N, win0_8.index t = ![t.val, 0, 0, 0] := by decide +kernel

/-- The arguments. -/
abbrev arg0 (c : Dev nD) : Rows := m ((c : Thread nD τ).loc main_arg0)
abbrev arg1 (c : Dev nD) : Rows := m ((c : Thread nD τ).loc main_arg1)
abbrev arg2 (c : Dev nD) : Rows := m ((c : Thread nD τ).loc main_arg2)
abbrev arg3 (c : Dev nD) : Rows := m ((c : Thread nD τ).loc main_arg3)
abbrev arg4 (c : Dev nD) : Rows := m ((c : Thread nD τ).loc main_arg4)
abbrev arg5 (c : Dev nD) : Rows := m ((c : Thread nD τ).loc main_arg5)
abbrev arg6 (c : Dev nD) : Mats := m ((c : Thread nD τ).loc main_arg6)

theorem at0 (c : Dev nD) : (V m c main_v0 : S32x8x4x64.Idx → EReal)
    = transpose S32x8x4x64 [0, 2, 1, 3] (m ((c : Thread nD τ).loc main_arg0)) transposes_S32x4x8x64_S32x8x4x64_0_2_1_3 := by
  unfold V; simp only [hostOps0]; after_results_simp
theorem at1 (c : Dev nD) : (V m c main_v1 : S32x8x4x64.Idx → EReal)
    = transpose S32x8x4x64 [0, 2, 1, 3] (m ((c : Thread nD τ).loc main_arg1)) transposes_S32x4x8x64_S32x8x4x64_0_2_1_3 := by
  unfold V; simp only [hostOps0]; after_results_simp
theorem at2 (c : Dev nD) : (V m c main_v2 : S32x8x4x64.Idx → EReal)
    = transpose S32x8x4x64 [0, 2, 1, 3] (m ((c : Thread nD τ).loc main_arg2)) transposes_S32x4x8x64_S32x8x4x64_0_2_1_3 := by
  unfold V; simp only [hostOps0]; after_results_simp
theorem at3 (c : Dev nD) : (V m c main_v3 : S32x8x4x64.Idx → EReal)
    = transpose S32x8x4x64 [0, 2, 1, 3] (m ((c : Thread nD τ).loc main_arg3)) transposes_S32x4x8x64_S32x8x4x64_0_2_1_3 := by
  unfold V; simp only [hostOps0]; after_results_simp
theorem at4 (c : Dev nD) : (V m c main_v4 : S32x8x4x64.Idx → EReal)
    = transpose S32x8x4x64 [0, 2, 1, 3] (m ((c : Thread nD τ).loc main_arg4)) transposes_S32x4x8x64_S32x8x4x64_0_2_1_3 := by
  unfold V; simp only [hostOps0]; after_results_simp
theorem at5 (c : Dev nD) : (V m c main_v6 : S32x8x4x64.Idx → EReal)
    = transpose S32x8x4x64 [0, 2, 1, 3] (mulf (m ((c : Thread nD τ).loc main_arg4)) (m ((c : Thread nD τ).loc main_arg5)) : FVec Ideal S32x4x8x64 .f32)
        transposes_S32x4x8x64_S32x8x4x64_0_2_1_3 := by
  unfold V; simp only [hostOps0]; after_results_simp

theorem by_head (x : FVec Ideal S32x4x8x64 .f32) (b : Fin 32) (h : Fin 8) (t : Fin 4) (e : Fin 64) :
    (transpose S32x8x4x64 [0, 2, 1, 3] x transposes_S32x4x8x64_S32x8x4x64_0_2_1_3 : FVec Ideal S32x8x4x64 .f32) (ix4 b h t e) = rowsOf x b h t e := by
  unfold rowsOf
  pointwise

theorem blk0 (c : Dev nD) (p : Fin cfg0.N) (b : Fin 32) (hb : b.val = p.val) (h : Fin 8) : headRow (iblk m c 0 p) h = rowsOf (arg0 m c) b h := by
  funext t e
  show (iblk m c 0 p : S1x8x4x64.Idx → EReal) (ix4 0 h t e) = _
  unfold iblk
  rw [View.read_apply]
  show (V m c main_v0 : S32x8x4x64.Idx → EReal) _ = _
  have he : ((cfg0.win 0).blk p).view.emb (ix4 0 h t e : S1x8x4x64.Idx) = (ix4 b h t e : S32x8x4x64.Idx) := by
    funext a; apply Fin.ext
    match a with
    | ⟨0, _⟩ => show win0_0.index p 0 * 1 + 1 * 0 = b.val; rw [index0, hb]; simp
    | ⟨1, _⟩ => show win0_0.index p 1 * 8 + 1 * h.val = h.val; rw [index0]; simp
    | ⟨2, _⟩ => show win0_0.index p 2 * 4 + 1 * t.val = t.val; rw [index0]; simp
    | ⟨3, _⟩ => show win0_0.index p 3 * 64 + 1 * e.val = e.val; rw [index0]; simp
  rw [at0, he]
  exact by_head _ b h t e

theorem blk1 (c : Dev nD) (p : Fin cfg0.N) (b : Fin 32) (hb : b.val = p.val) (h : Fin 8) : headRow (iblk m c 1 p) h = rowsOf (arg1 m c) b h := by
  funext t e
  show (iblk m c 1 p : S1x8x4x64.Idx → EReal) (ix4 0 h t e) = _
  unfold iblk
  rw [View.read_apply]
  show (V m c main_v1 : S32x8x4x64.Idx → EReal) _ = _
  have he : ((cfg0.win 1).blk p).view.emb (ix4 0 h t e : S1x8x4x64.Idx) = (ix4 b h t e : S32x8x4x64.Idx) := by
    funext a; apply Fin.ext
    match a with
    | ⟨0, _⟩ => show win0_1.index p 0 * 1 + 1 * 0 = b.val; rw [index1, hb]; simp
    | ⟨1, _⟩ => show win0_1.index p 1 * 8 + 1 * h.val = h.val; rw [index1]; simp
    | ⟨2, _⟩ => show win0_1.index p 2 * 4 + 1 * t.val = t.val; rw [index1]; simp
    | ⟨3, _⟩ => show win0_1.index p 3 * 64 + 1 * e.val = e.val; rw [index1]; simp
  rw [at1, he]
  exact by_head _ b h t e

theorem blk2 (c : Dev nD) (p : Fin cfg0.N) (b : Fin 32) (hb : b.val = p.val) (h : Fin 8) : headRow (iblk m c 2 p) h = rowsOf (arg2 m c) b h := by
  funext t e
  show (iblk m c 2 p : S1x8x4x64.Idx → EReal) (ix4 0 h t e) = _
  unfold iblk
  rw [View.read_apply]
  show (V m c main_v2 : S32x8x4x64.Idx → EReal) _ = _
  have he : ((cfg0.win 2).blk p).view.emb (ix4 0 h t e : S1x8x4x64.Idx) = (ix4 b h t e : S32x8x4x64.Idx) := by
    funext a; apply Fin.ext
    match a with
    | ⟨0, _⟩ => show win0_2.index p 0 * 1 + 1 * 0 = b.val; rw [index2, hb]; simp
    | ⟨1, _⟩ => show win0_2.index p 1 * 8 + 1 * h.val = h.val; rw [index2]; simp
    | ⟨2, _⟩ => show win0_2.index p 2 * 4 + 1 * t.val = t.val; rw [index2]; simp
    | ⟨3, _⟩ => show win0_2.index p 3 * 64 + 1 * e.val = e.val; rw [index2]; simp
  rw [at2, he]
  exact by_head _ b h t e

theorem blk3 (c : Dev nD) (p : Fin cfg0.N) (b : Fin 32) (hb : b.val = p.val) (h : Fin 8) : headRow (iblk m c 3 p) h = rowsOf (arg3 m c) b h := by
  funext t e
  show (iblk m c 3 p : S1x8x4x64.Idx → EReal) (ix4 0 h t e) = _
  unfold iblk
  rw [View.read_apply]
  show (V m c main_v3 : S32x8x4x64.Idx → EReal) _ = _
  have he : ((cfg0.win 3).blk p).view.emb (ix4 0 h t e : S1x8x4x64.Idx) = (ix4 b h t e : S32x8x4x64.Idx) := by
    funext a; apply Fin.ext
    match a with
    | ⟨0, _⟩ => show win0_3.index p 0 * 1 + 1 * 0 = b.val; rw [index3, hb]; simp
    | ⟨1, _⟩ => show win0_3.index p 1 * 8 + 1 * h.val = h.val; rw [index3]; simp
    | ⟨2, _⟩ => show win0_3.index p 2 * 4 + 1 * t.val = t.val; rw [index3]; simp
    | ⟨3, _⟩ => show win0_3.index p 3 * 64 + 1 * e.val = e.val; rw [index3]; simp
  rw [at3, he]
  exact by_head _ b h t e

theorem blk4 (c : Dev nD) (p : Fin cfg0.N) (b : Fin 32) (hb : b.val = p.val) (h : Fin 8) : headRow (iblk m c 4 p) h = rowsOf (arg4 m c) b h := by
  funext t e
  show (iblk m c 4 p : S1x8x4x64.Idx → EReal) (ix4 0 h t e) = _
  unfold iblk
  rw [View.read_apply]
  show (V m c main_v4 : S32x8x4x64.Idx → EReal) _ = _
  have he : ((cfg0.win 4).blk p).view.emb (ix4 0 h t e : S1x8x4x64.Idx) = (ix4 b h t e : S32x8x4x64.Idx) := by
    funext a; apply Fin.ext
    match a with
    | ⟨0, _⟩ => show win0_4.index p 0 * 1 + 1 * 0 = b.val; rw [index4, hb]; simp
    | ⟨1, _⟩ => show win0_4.index p 1 * 8 + 1 * h.val = h.val; rw [index4]; simp
    | ⟨2, _⟩ => show win0_4.index p 2 * 4 + 1 * t.val = t.val; rw [index4]; simp
    | ⟨3, _⟩ => show win0_4.index p 3 * 64 + 1 * e.val = e.val; rw [index4]; simp
  rw [at4, he]
  exact by_head _ b h t e

theorem blk5 (c : Dev nD) (p : Fin cfg0.N) (b : Fin 32) (hb : b.val = p.val) (h : Fin 8) : headRow (iblk m c 5 p) h = (fun t e => rowsOf (arg4 m c) b h t e * rowsOf (arg5 m c) b h t e) := by
  funext t e
  show (iblk m c 5 p : S1x8x4x64.Idx → EReal) (ix4 0 h t e) = _
  unfold iblk
  rw [View.read_apply]
  show (V m c main_v6 : S32x8x4x64.Idx → EReal) _ = _
  have he : ((cfg0.win 5).blk p).view.emb (ix4 0 h t e : S1x8x4x64.Idx) = (ix4 b h t e : S32x8x4x64.Idx) := by
    funext a; apply Fin.ext
    match a with
    | ⟨0, _⟩ => show win0_5.index p 0 * 1 + 1 * 0 = b.val; rw [index5, hb]; simp
    | ⟨1, _⟩ => show win0_5.index p 1 * 8 + 1 * h.val = h.val; rw [index5]; simp
    | ⟨2, _⟩ => show win0_5.index p 2 * 4 + 1 * t.val = t.val; rw [index5]; simp
    | ⟨3, _⟩ => show win0_5.index p 3 * 64 + 1 * e.val = e.val; rw [index5]; simp
  rw [at5, he]
  exact by_head (mulf (m ((c : Thread nD τ).loc main_arg4)) (m ((c : Thread nD τ).loc main_arg5))) b h t e

theorem blk6 (c : Dev nD) (p : Fin cfg0.N) (b : Fin 32) (hb : b.val = p.val) (h : Fin 8) :
    (fun i j => (iblk m c 6 p : S1x8x64x64.Idx → EReal) (ix4 0 h i j)) = matOf (arg6 m c) b h := by
  funext i j
  unfold iblk
  rw [View.read_apply]
  show (V m c main_arg6 : S32x8x64x64.Idx → EReal) _ = _
  have he : ((cfg0.win 6).blk p).view.emb (ix4 0 h i j : S1x8x64x64.Idx) = (ix4 b h i j : S32x8x64x64.Idx) := by
    funext a; apply Fin.ext
    match a with
    | ⟨0, _⟩ => show win0_6.index p 0 * 1 + 1 * 0 = b.val; rw [index6, hb]; simp
    | ⟨1, _⟩ => show win0_6.index p 1 * 8 + 1 * h.val = h.val; rw [index6]; simp
    | ⟨2, _⟩ => show win0_6.index p 2 * 64 + 1 * i.val = i.val; rw [index6]; simp
    | ⟨3, _⟩ => show win0_6.index p 3 * 64 + 1 * j.val = j.val; rw [index6]; simp
  rw [V_main_arg6, he]
  rfl

theorem flush7 : ∀ t : Fin cfg0.N, (cfg0.win 7).flush t = true := by decide +kernel

theorem flushed7 (c : Dev nD) (t : Fin cfg0.N) :
    (dats m 0 c).flushed 7 t = (cfg0.win 7).cut (grid0.coords t) (outAt m c t) := by
  show (cfg0.win 7).cut (grid0.coords t) ((dats m 0 c).after 7 t) = _
  rw [after0_7]

theorem apart7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (Fin.ext (congrFun ((index7 t).symm.trans ((show win0_7.index t = win0_7.index t' from h).trans (index7 t'))) 0))

/-- Block `t` of the final array is what point `t` wrote back. -/
theorem blocks7 (c : Dev nD) (t : Fin cfg0.N) (hf : (cfg0.win 7).flush t = true) :
    ((cfg0.win 7).blk t).view.read (Elt Ideal) ((dats m 0 c).arrAt 7 cfg0.N) = (dats m 0 c).flushed 7 t :=
  (dats m 0 c).read_blk_arrAt_eq_flushed 7 apart7 cfg0.N t t.isLt hf

theorem flush8 : ∀ t : Fin cfg0.N, (cfg0.win 8).flush t = true := by decide +kernel

theorem flushed8 (c : Dev nD) (t : Fin cfg0.N) :
    (dats m 0 c).flushed 8 t = (cfg0.win 8).cut (grid0.coords t) (lastAt m c t) := by
  show (cfg0.win 8).cut (grid0.coords t) ((dats m 0 c).after 8 t) = _
  rw [after0_8]

theorem apart8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (Fin.ext (congrFun ((index8 t).symm.trans ((show win0_8.index t = win0_8.index t' from h).trans (index8 t'))) 0))

/-- Block `t` of the final array is what point `t` wrote back. -/
theorem blocks8 (c : Dev nD) (t : Fin cfg0.N) (hf : (cfg0.win 8).flush t = true) :
    ((cfg0.win 8).blk t).view.read (Elt Ideal) ((dats m 0 c).arrAt 8 cfg0.N) = (dats m 0 c).flushed 8 t :=
  (dats m 0 c).read_blk_arrAt_eq_flushed 8 apart8 cfg0.N t t.isLt hf

/-- The rows' array. -/
theorem out_final (c : Dev nD) (b : Fin 32) (h : Fin 8) (t : Fin 4) (i : Fin 64) :
    ((dats m 0 c).arrAt 7 cfg0.N : S32x8x4x64.Idx → EReal) (ix4 b h t i) = outOf (arg0 m c) (arg1 m c) (arg2 m c) (arg3 m c) (arg4 m c) (arg5 m c) (arg6 m c) b h t i := by
  have hlt : b.val < cfg0.N := lt_of_lt_of_eq b.isLt N_0.symm
  have key := congrFun (blocks7 m c ⟨b.val, hlt⟩ (flush7 _)) (ix4 0 h t i : S1x8x4x64.Idx)
  rw [View.read_apply] at key
  have he : ((cfg0.win 7).blk ⟨b.val, hlt⟩).view.emb (ix4 0 h t i : S1x8x4x64.Idx) = (ix4 b h t i : S32x8x4x64.Idx) := by
    funext a; apply Fin.ext
    match a with
    | ⟨0, _⟩ => show win0_7.index _ 0 * 1 + 1 * 0 = b.val; rw [index7]; simp
    | ⟨1, _⟩ => show win0_7.index _ 1 * 8 + 1 * h.val = h.val; rw [index7]; simp
    | ⟨2, _⟩ => show win0_7.index _ 2 * 4 + 1 * t.val = t.val; rw [index7]; simp
    | ⟨3, _⟩ => show win0_7.index _ 3 * 64 + 1 * i.val = i.val; rw [index7]; simp
  rw [he, flushed7] at key
  refine key.trans ?_
  show outAt m c ⟨b.val, hlt⟩ (ix4 0 h t i) = _
  unfold outAt
  rw [outBlock_apply, blk0 m c ⟨b.val, hlt⟩ b rfl, blk1 m c ⟨b.val, hlt⟩ b rfl, blk2 m c ⟨b.val, hlt⟩ b rfl, blk3 m c ⟨b.val, hlt⟩ b rfl, blk4 m c ⟨b.val, hlt⟩ b rfl, blk5 m c ⟨b.val, hlt⟩ b rfl, blk6 m c ⟨b.val, hlt⟩ b rfl]
  rfl

/-- The last states' array. -/
theorem last_final (c : Dev nD) (b : Fin 32) (h : Fin 8) (i : Fin 64) (j : Fin 64) :
    ((dats m 0 c).arrAt 8 cfg0.N : S32x8x64x64.Idx → EReal) (ix4 b h i j) = stateOf (arg1 m c) (arg2 m c) (arg3 m c) (arg4 m c) (arg5 m c) (arg6 m c) b h 4 i j := by
  have hlt : b.val < cfg0.N := lt_of_lt_of_eq b.isLt N_0.symm
  have key := congrFun (blocks8 m c ⟨b.val, hlt⟩ (flush8 _)) (ix4 0 h i j : S1x8x64x64.Idx)
  rw [View.read_apply] at key
  have he : ((cfg0.win 8).blk ⟨b.val, hlt⟩).view.emb (ix4 0 h i j : S1x8x64x64.Idx) = (ix4 b h i j : S32x8x64x64.Idx) := by
    funext a; apply Fin.ext
    match a with
    | ⟨0, _⟩ => show win0_8.index _ 0 * 1 + 1 * 0 = b.val; rw [index8]; simp
    | ⟨1, _⟩ => show win0_8.index _ 1 * 8 + 1 * h.val = h.val; rw [index8]; simp
    | ⟨2, _⟩ => show win0_8.index _ 2 * 64 + 1 * i.val = i.val; rw [index8]; simp
    | ⟨3, _⟩ => show win0_8.index _ 3 * 64 + 1 * j.val = j.val; rw [index8]; simp
  rw [he, flushed8] at key
  refine key.trans ?_
  show lastAt m c ⟨b.val, hlt⟩ (ix4 0 h i j) = _
  unfold lastAt
  rw [lastBlock_apply, blk1 m c ⟨b.val, hlt⟩ b rfl, blk2 m c ⟨b.val, hlt⟩ b rfl, blk3 m c ⟨b.val, hlt⟩ b rfl, blk4 m c ⟨b.val, hlt⟩ b rfl, blk5 m c ⟨b.val, hlt⟩ b rfl, blk6 m c ⟨b.val, hlt⟩ b rfl]
  rfl

/-- The run with its two result arrays named, the arguments unchanged. -/
theorem run_blocks : θ_run defs (onTc (τ := τ) (main (F := Ideal))) ⟨m, fun _ => 0, ρ⟩ fun r => ∀ c : Dev nD,
      r.2.mem ((c.tc : Thread nD τ).loc main_v7_0) = (dats m 0 c).arrAt 7 cfg0.N
      ∧ r.2.mem ((c.tc : Thread nD τ).loc main_v7_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 7, (h.1 c).1 8, h.2 c⟩) (θ_run_and (run_main m ρ) (unchanged m ρ))

end Cert.KScanIdeal.Layer

end
-- ==== Proof.ScanClaim.lean ====
/-
  The recurrence call and the reference's lines for it end with equal results, over numbers.
-/
module

public import proofs.«01_k».proof.Defs
public import proofs.«01_k».proof.Proof.MobaClaim
public import proofs.«01_k».proof.Proof.ScanRef
public import proofs.«01_k».proof.Proof.ScanValue

@[expose] public section

set_option maxRecDepth 16384

noncomputable section

namespace Cert.Scan

open Idealize.ShloMosaic Idealize.ShloMosaic.TcCoe Idealize.SL.Sem Cert.KScanIdeal.Layer Cert.Moba

variable [hPre_numbers : Cert.Pre_numbers.Facts]

theorem spread_mats (y : IVec Cert.Pre_numbers.S32x8x64x64 1) (b : Fin 32) (t : Fin 4) (h : Fin 8) (i j : Fin 64) :
    (broadcastInDim Cert.Pre_numbers.S32x4x8x64x64 ![0, 1, 2, 3, 4] hPre_numbers.bcast_S32x1x8x64x64_S32x4x8x64x64_0_1_2_3_4
      (broadcastInDim Cert.Pre_numbers.S32x1x8x64x64 ![0, 2, 3, 4] hPre_numbers.bcast_S32x8x64x64_S32x1x8x64x64_0_2_3_4 y) : IVec Cert.Pre_numbers.S32x4x8x64x64 1) (ix5 b t h i j)
      = y (ix4 b h i j) := by
  pointwise

theorem spread_rows (y : IVec Cert.Pre_numbers.S32x4x8x64 1) (b : Fin 32) (t : Fin 4) (h : Fin 8) (i j : Fin 64) :
    (broadcastInDim Cert.Pre_numbers.S32x4x8x64x64 ![0, 1, 2, 3, 4] hPre_numbers.bcast_S32x4x8x1x64_S32x4x8x64x64_0_1_2_3_4
      (broadcastInDim Cert.Pre_numbers.S32x4x8x1x64 ![0, 1, 2, 4] hPre_numbers.bcast_S32x4x8x64_S32x4x8x1x64_0_1_2_4 y) : IVec Cert.Pre_numbers.S32x4x8x64x64 1) (ix5 b t h i j)
      = y (ix4 b t h j) := by
  pointwise

/-- Where the precondition's entry is one, the entries it reads are numbers. -/
theorem numbers_at (x0 x1 x2 x3 x4 x5 : FVec Ideal Cert.Pre_numbers.S32x4x8x64 .f32) (x6 : FVec Ideal Cert.Pre_numbers.S32x8x64x64 .f32)
    (b : Fin 32) (t : Fin 4) (h : Fin 8) (i j : Fin 64) (e : Cert.Pre_numbers.fn (F := Ideal) x0 x1 x2 x3 x4 x5 x6 (ix5 b t h i j) = 1#1) :
    (Real' (x1 (ix4 b t h j)) ∧ Real' (x2 (ix4 b t h j)) ∧ Real' (x3 (ix4 b t h j)) ∧ Real' (x4 (ix4 b t h j)) ∧ Real' (x5 (ix4 b t h j)))
      ∧ Real' (x6 (ix4 b h i j)) := by
  unfold Cert.Pre_numbers.fn Cert.Pre_numbers.fn_part1 Cert.Pre_numbers.fn_part2 at e
  dsimp only at e
  obtain ⟨e, e6⟩ := (and_one _ _).mp e
  obtain ⟨h6, h6'⟩ := (and_one _ _).mp ((spread_mats _ b t h i j).symm.trans e6)
  obtain ⟨e, e5⟩ := (and_one _ _).mp ((spread_rows _ b t h i j).symm.trans e)
  obtain ⟨e, e4⟩ := (and_one _ _).mp e
  obtain ⟨e, e3⟩ := (and_one _ _).mp e
  obtain ⟨e1, e2⟩ := (and_one _ _).mp e
  obtain ⟨h1, h1'⟩ := (and_one _ _).mp e1
  obtain ⟨h2, h2'⟩ := (and_one _ _).mp e2
  obtain ⟨h3, h3'⟩ := (and_one _ _).mp e3
  obtain ⟨h4, h4'⟩ := (and_one _ _).mp e4
  obtain ⟨h5, h5'⟩ := (and_one _ _).mp e5
  exact ⟨⟨real_of_between _ h1 h1', real_of_between _ h2 h2', real_of_between _ h3 h3', real_of_between _ h4 h4', real_of_between _ h5 h5'⟩,
    real_of_between _ h6 h6'⟩

/-- The precondition, over the whole arrays. -/
theorem numbers_of (x0 x1 x2 x3 x4 x5 : FVec Ideal Cert.Pre_numbers.S32x4x8x64 .f32) (x6 : FVec Ideal Cert.Pre_numbers.S32x8x64x64 .f32)
    (e : ∀ i, Cert.Pre_numbers.fn (F := Ideal) x0 x1 x2 x3 x4 x5 x6 i = 1#1) : Numbers x1 x2 x3 x4 x5 x6 := by
  have hr := fun b t h i j => numbers_at x0 x1 x2 x3 x4 x5 x6 b t h i j (e _)
  refine ⟨⟨?_, ?_, ?_, ?_, ?_⟩, ?_⟩
  · intro i; rw [eq_ix4 i]; exact (hr _ _ _ 0 _).1.1
  · intro i; rw [eq_ix4 i]; exact (hr _ _ _ 0 _).1.2.1
  · intro i; rw [eq_ix4 i]; exact (hr _ _ _ 0 _).1.2.2.1
  · intro i; rw [eq_ix4 i]; exact (hr _ _ _ 0 _).1.2.2.2.1
  · intro i; rw [eq_ix4 i]; exact (hr _ _ _ 0 _).1.2.2.2.2
  · intro i; rw [eq_ix4 i]; exact (hr _ 0 _ _ _).2

/-- From memories that agree on the arguments, which are numbers but for the read rows, the two programs end with equal results. -/
theorem equal : Cert.algebraic_KScanIdeal_RScanIdeal_pre_numbers := by
  intro m g m' g' hpre hagree
  have hn : ∀ c, Numbers (arg1 m c) (arg2 m c) (arg3 m c) (arg4 m c) (arg5 m c) (arg6 m c) := fun c =>
    numbers_of (arg0 m c) _ _ _ _ _ _ fun i => congrFun (hpre c) i
  refine ⟨fun c => (Cert.KScanIdeal.Layer.dats m 0 c).arrAt 7 Cert.KScanIdeal.cfg0.N, fun c => (Cert.KScanIdeal.Layer.dats m 0 c).arrAt 8 Cert.KScanIdeal.cfg0.N,
    run_blocks m g, ?_⟩
  refine (θ_run _ _ _).mono (fun r h c => ⟨(h c).1.trans ?_, (h c).2.1.trans ?_, (h c).2.2⟩) (Cert.RScanIdeal.Value.run m' g')
  all_goals obtain ⟨h0, h1, h2, h3, h4, h5, h6⟩ := hagree c
  · refine (Cert.RScanIdeal.Read.val_main_v135_eq (F := Ideal) m' c).trans ?_
    rw [h0, h1, h2, h3, h4, h5, h6]
    funext i
    obtain ⟨b, h, t, e, rfl⟩ : ∃ (b : Fin 32) (h : Fin 8) (t : Fin 4) (e : Fin 64), i = ix4 b h t e := ⟨i 0, i 1, i 2, i 3, eq_ix4 i⟩
    exact (Cert.RScanIdeal.Layer.out_read _ _ _ _ _ _ _ (hn c) b h t e).trans (out_final m c b h t e).symm
  · refine (Cert.RScanIdeal.Read.val_main_v129_eq (F := Ideal) m' c).trans ?_
    rw [h1, h2, h3, h4, h5, h6]
    funext i
    obtain ⟨b, h, p, q, rfl⟩ : ∃ (b : Fin 32) (h : Fin 8) (p q : Fin 64), i = ix4 b h p q := ⟨i 0, i 1, i 2, i 3, eq_ix4 i⟩
    exact (Cert.RScanIdeal.Layer.last_read _ _ _ _ _ _ (hn c) b h p q).trans (last_final m c b h p q).symm

end Cert.Scan

end
-- ==== Proof.SRopeRef.lean ====
/-
  The reference's rotary embedding of the sampled rows, each of its two results read at an entry.
-/
module

public import proofs.«01_k».proof.Proof.RopeSpec
public import proofs.«01_k».proof.Proof.Gen.RSRopeIdeal.Run
public import proofs.«01_k».proof.Proof.Gen.RSRopeIdeal.Read

@[expose] public section

noncomputable section

namespace Cert.RSRopeIdeal.Layer

open Cert.RSRopeIdeal Idealize.ShloMosaic Idealize.ShloMosaic.TcCoe Idealize.SL.Sem Cert.Rope

variable (m : (ℓ : Loc nD τ sig) → Buf (Elt Ideal) ℓ) (c : Dev nD)

/-- The argument: the 1536 columns of the projection, by batch, row and column. -/
abbrev arg : S32x4x1536.Idx → EReal := m ((c : Thread nD τ).loc main_arg0)

/-- The word of a sampled row's position. -/
theorem position : ∀ t : Fin 4, IntOp.addi 16384#32 (BitVec.ofNat 32 t.val) = BitVec.ofNat 32 (16384 + t.val) := by decide

/-- The angle of a sampled row, its position written as the reference computes it. -/
theorem angle_at (t : Fin 4) (j : Nat) : angle (16384 + t.val) j =
    FloatOps.sitofp (F := Ideal) FTy.f32 (IntOp.addi 16384#32 (BitVec.ofNat 32 t.val)) *
      Ideal.pow (Ideal.ofBits FTy.f32 1176256512#32)
        (Ideal.div (-FloatOps.sitofp (F := Ideal) FTy.f32 (BitVec.ofNat 32 j)) (Ideal.ofBits FTy.f32 1107296256#32)) := by
  unfold angle
  exact congrArg (fun w => FloatOps.sitofp (F := Ideal) FTy.f32 w * _) (position t).symm

theorem read_k (b : Fin 32) (t : Fin 4) (k : Fin 512) :
    (Value.res_out0 (F := Ideal) m c : S32x4x512.Idx → EReal) (ix3 b t k)
      = turn (fun e => arg m c (ix3 b t ⟨512 + k.val / 64 * 64 + e.val, by omega⟩)) (16384 + t.val) ⟨k.val % 64, by omega⟩ := by
  unfold Value.res_out0 Value.res_main_v66
  pointwise
  unfold turn
  simp only [angle_at]
  split
  · rfl
  · rename_i hd
    have e : 32 + (k.val % 64 - 32) = k.val % 64 := by omega
    simp only [e]

theorem read_q (b : Fin 32) (t : Fin 4) (k : Fin 512) :
    (Value.res_out1 (F := Ideal) m c : S32x4x512.Idx → EReal) (ix3 b t k)
      = turn (fun e => arg m c (ix3 b t ⟨k.val / 64 * 64 + e.val, by omega⟩)) (16384 + t.val) ⟨k.val % 64, by omega⟩ := by
  unfold Value.res_out1 Value.res_main_v67
  pointwise
  unfold turn
  simp only [angle_at]
  split
  · rfl
  · rename_i hd
    have e : 32 + (k.val % 64 - 32) = k.val % 64 := by omega
    simp only [e]

end Cert.RSRopeIdeal.Layer

end
-- ==== Proof.SRopeBlocks.lean ====
/-
  The rotary call of the sampled rows: what each grid point writes back, and the final arrays block by block.
-/
module

public import proofs.«01_k».proof.Proof.Gen.KSRopeIdeal.Frame
public import Idealize.ShloMosaic.Lib.Pipeline.Value

@[expose] public section

noncomputable section

namespace Cert.KSRopeIdeal.Layer

open Cert.KSRopeIdeal Cert.KSRopeIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a grid point writes back to this result is what its body leaves in the window. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- Distinct grid points have distinct blocks. -/
theorem idx_inj3 : ∀ t t' : Fin cfg0.N, win0_3.index t = win0_3.index t' → t = t' :=
  (by decide +kernel : ∀ t t' : Fin grid0.N, win0_3.index t = win0_3.index t' → t = t')

/-- So their blocks share no entry. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block `t` of the final array is what point `t` wrote back. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- What a grid point writes back to this result is what its body leaves in the window. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- Distinct grid points have distinct blocks. -/
theorem idx_inj4 : ∀ t t' : Fin cfg0.N, win0_4.index t = win0_4.index t' → t = t' :=
  (by decide +kernel : ∀ t t' : Fin grid0.N, win0_4.index t = win0_4.index t' → t = t')

/-- So their blocks share no entry. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Block `t` of the final array is what point `t` wrote back. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

theorem post3 (r : PUnit × MemSt nD τ sig (Elt F)) (h : Pipeline.FramePost cfgs (dats m) 0 (V m) r) (c : Dev nD) :
    r.2.mem ((c : Thread nD τ).loc main_v26_0) = (dats m 0 c).arrAt 3 cfg0.N :=
  (h c).1 3

theorem post4 (r : PUnit × MemSt nD τ sig (Elt F)) (h : Pipeline.FramePost cfgs (dats m) 0 (V m) r) (c : Dev nD) :
    r.2.mem ((c : Thread nD τ).loc main_v26_1) = (dats m 0 c).arrAt 4 cfg0.N :=
  (h c).1 4

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After a run the two results are the arrays named here, and the argument is unchanged. -/
theorem run_blocks : θ_run defs (onTc (τ := τ) (main (F := F))) ⟨m, fun _ => 0, ρ⟩ fun r => ∀ c : Dev nD,
      r.2.mem ((c : Thread nD τ).loc main_v26_0) = (dats m 0 c).arrAt 3 cfg0.N
      ∧ r.2.mem ((c : Thread nD τ).loc main_v26_1) = (dats m 0 c).arrAt 4 cfg0.N
      ∧ r.2.mem ((c : Thread nD τ).loc main_arg0) = m ((c : Thread nD τ).loc main_arg0) :=
  (θ_run defs _ _).mono (fun r h c => ⟨post3 m r h c,
      post4 m r h c,
      kept_main_arg0 m r h c⟩)
    (run_main m ρ)

end Cert.KSRopeIdeal.Layer

end
-- ==== Proof.SRopeValue.lean ====
/-
  The rotary call of the sampled rows: its two result arrays, each read at an entry, the columns of one head
  turned by the angles of the row's position. The sampled rows stand behind 16384 cached ones.
-/
module

public import proofs.«01_k».proof.Proof.RopeValue
public import proofs.«01_k».proof.Proof.SRopeBlocks

@[expose] public section

noncomputable section

namespace Cert.KSRopeIdeal.Layer

open Cert.KSRopeIdeal Cert.KSRopeIdeal.Gen Idealize.ShloMosaic Idealize.ShloMosaic.TcCoe Idealize.SL.Sem Cert.Rope
open Cert.KRopeIdeal.Layer (lowHalf pick_low pick_high offsets_zero offsets_zero3)

/-- The angles of every position on every frequency, as the host computes them. -/
def table {F : FTy → Type} [FloatOps F] : (⟨S4x32, .f32⟩ : BufTy).Contents (Elt F) :=
  mulf (broadcastInDim S4x32 ![0, 1] bcast_S4x1_S4x32_0_1 (broadcastInDim S4x1 ![0] bcast_S4_S4x1_0 (sitofp .f32 (addi (broadcastInDim S4 ![] bcast_S_S4 (constantI S_ 32 16384#32)) (iotaInDim S4 32 0)))))
    (broadcastInDim S4x32 ![0, 1] bcast_S1x32_S4x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

def cosTable {F : FTy → Type} [FloatOps F] : (⟨S4x32, .f32⟩ : BufTy).Contents (Elt F) :=
  (Host.cos : (⟨S4x32, .f32⟩ : BufTy).Contents (Elt F) → (⟨S4x32, .f32⟩ : BufTy).Contents (Elt F)) table
def sinTable {F : FTy → Type} [FloatOps F] : (⟨S4x32, .f32⟩ : BufTy).Contents (Elt F) :=
  (Host.sin : (⟨S4x32, .f32⟩ : BufTy).Contents (Elt F) → (⟨S4x32, .f32⟩ : BufTy).Contents (Elt F)) table
def negSinTable {F : FTy → Type} [FloatOps F] : (⟨S4x32, .f32⟩ : BufTy).Contents (Elt F) :=
  (Host.negf : (⟨S4x32, .f32⟩ : BufTy).Contents (Elt F) → (⟨S4x32, .f32⟩ : BufTy).Contents (Elt F)) sinTable

/-- A table of 64 columns per head repeated for the eight heads. -/
def spread {F : FTy → Type} [FloatOps F] (a b : (⟨S4x32, .f32⟩ : BufTy).Contents (Elt F)) : (⟨S4x512, .f32⟩ : BufTy).Contents (Elt F) :=
  shapeCast S4x512
    (broadcastInDim S1x4x8x64 ![0, 1, 2, 3] bcast_S1x4x1x64_S1x4x8x64_0_1_2_3
      (shapeCast S1x4x1x64 (concatenate S4x64 1 [⟨S4x32, a⟩, ⟨S4x32, b⟩] concatenates_S4x32_S4x32_S4x64_d1)
        shapeCasts_S4x64_S1x4x1x64)) shapeCasts_S1x4x8x64_S4x512

variable (m : (ℓ : Loc nD τ sig) → Buf (Elt Ideal) ℓ)

theorem at_cos (c : Dev nD) : (V m c main_v20 : S4x512.Idx → EReal) = spread (F := Ideal) cosTable cosTable := by
  unfold V; simp only [hostOps0]; after_results_simp; rfl
theorem at_sin (c : Dev nD) : (V m c main_v25 : S4x512.Idx → EReal) = spread (F := Ideal) negSinTable sinTable := by
  unfold V; simp only [hostOps0]; after_results_simp; rfl
theorem at_pm (c : Dev nD) : (V m c main_arg0 : S32x4x1536.Idx → EReal) = m ((c : Thread nD τ).loc main_arg0) := V_main_arg0 m c

theorem spread_apply (a b : (⟨S4x32, .f32⟩ : BufTy).Contents (Elt Ideal)) (p : Fin 4) (k : Fin 512) :
    spread (F := Ideal) a b (ix2 p k) = if h : k.val % 64 < 32 then a (ix2 p ⟨k.val % 64, h⟩) else b (ix2 p ⟨k.val % 64 - 32, by omega⟩) := by
  unfold spread
  pointwise

theorem table_apply (p : Fin 4) (j : Fin 32) : table (F := Ideal) (ix2 p j) = angle (16384 + p.val) j.val := by
  unfold table
  pointwise
  fin_cases p <;> rfl

theorem cos_apply (p : Fin 4) (j : Fin 32) : cosTable (F := Ideal) (ix2 p j) = Ideal.cos (angle (16384 + p.val) j.val) :=
  congrArg Ideal.cos (table_apply p j)
theorem sin_apply (p : Fin 4) (j : Fin 32) : sinTable (F := Ideal) (ix2 p j) = Ideal.sin (angle (16384 + p.val) j.val) :=
  congrArg Ideal.sin (table_apply p j)
theorem neg_sin_apply (p : Fin 4) (j : Fin 32) : negSinTable (F := Ideal) (ix2 p j) = -Ideal.sin (angle (16384 + p.val) j.val) :=
  congrArg (fun a => -Ideal.sin a) (table_apply p j)

/-- What both turned blocks hold at row `p`, column `k`, from 512 columns `x` of the projection. -/
theorem turned (x : Fin 512 → EReal) (p : Fin 4) (k : Fin 512)
    (cosv sinv : EReal) (hc : cosv = spread (F := Ideal) cosTable cosTable (ix2 p k))
    (hs : sinv = spread (F := Ideal) negSinTable sinTable (ix2 p k)) :
    x k * cosv + Scalar.select (lowHalf k) (x ⟨(k.val + 32) % 512, Nat.mod_lt _ (by decide)⟩) (x ⟨(k.val + 480) % 512, Nat.mod_lt _ (by decide)⟩) * sinv
      = turn (fun e => x ⟨k.val / 64 * 64 + e.val, by omega⟩) (16384 + p.val) ⟨k.val % 64, by omega⟩ := by
  have hk : (⟨k.val / 64 * 64 + k.val % 64, by omega⟩ : Fin 512) = k := Fin.ext (by show k.val / 64 * 64 + k.val % 64 = k.val; omega)
  rw [hc, hs, spread_apply, spread_apply]
  by_cases h : k.val % 64 < 32
  · rw [pick_low k h, turn_low _ _ _ h, dif_pos h, dif_pos h, cos_apply, neg_sin_apply]
    have h1 : (⟨(k.val + 32) % 512, Nat.mod_lt _ (by decide)⟩ : Fin 512) = ⟨k.val / 64 * 64 + (32 + k.val % 64), by omega⟩ :=
      Fin.ext (by show (k.val + 32) % 512 = k.val / 64 * 64 + (32 + k.val % 64); omega)
    simp only [hk, h1]
  · rw [pick_high k h, turn_high _ _ _ h, dif_neg h, dif_neg h, cos_apply, sin_apply]
    have h1 : (⟨(k.val + 480) % 512, Nat.mod_lt _ (by decide)⟩ : Fin 512) = ⟨k.val / 64 * 64 + (k.val % 64 - 32), by omega⟩ :=
      Fin.ext (by show (k.val + 480) % 512 = k.val / 64 * 64 + (k.val % 64 - 32); omega)
    simp only [hk, h1]

/-- The row shifted down by half a head, from the 512 columns that start at `o`. -/
theorem ahead (x : Fin 1536 → EReal) (o : Nat) (ho : o + 512 ≤ 1536) (k : Fin 512) :
    (if h : k.val < 480 then x ⟨o + (32 + k.val), by omega⟩ else x ⟨o + (k.val - 480), by omega⟩) = x ⟨o + (k.val + 32) % 512, by omega⟩ := by
  split
  · exact congrArg x (Fin.ext (by show o + (32 + k.val) = o + (k.val + 32) % 512; omega))
  · exact congrArg x (Fin.ext (by show o + (k.val - 480) = o + (k.val + 32) % 512; omega))

/-- The row shifted up by half a head. -/
theorem behind (x : Fin 1536 → EReal) (o : Nat) (ho : o + 512 ≤ 1536) (k : Fin 512) :
    (if h : k.val < 32 then x ⟨o + (480 + k.val), by omega⟩ else x ⟨o + (k.val - 32), by omega⟩) = x ⟨o + (k.val + 480) % 512, by omega⟩ := by
  split
  · exact congrArg x (Fin.ext (by show o + (480 + k.val) = o + (k.val + 480) % 512; omega))
  · exact congrArg x (Fin.ext (by show o + (k.val - 32) = o + (k.val + 480) % 512; omega))

theorem pay_q (c s : Vec Ideal S4x512 .f32) (x : Vec Ideal S1x4x1536 .f32) (r : Fin 4) (k : Fin 512) :
    k0_pay7 (F := Ideal) c s x (ix2 r k)
      = x (ix3 0 r ⟨k.val, by omega⟩) * c (ix2 r k)
        + Scalar.select (lowHalf k) (x (ix3 0 r ⟨(k.val + 32) % 512, by omega⟩)) (x (ix3 0 r ⟨(k.val + 480) % 512, by omega⟩)) * s (ix2 r k) := by
  have h1 := ahead (fun j => x (ix3 0 r j)) 0 (by decide) k
  have h2 := behind (fun j => x (ix3 0 r j)) 0 (by decide) k
  simp only [Nat.zero_add] at h1 h2
  rw [← h1, ← h2]
  unfold_payloads
  pointwise

theorem pay_k (c s : Vec Ideal S4x512 .f32) (x : Vec Ideal S1x4x1536 .f32) (r : Fin 4) (k : Fin 512) :
    k0_pay1 (F := Ideal) (k0_pay4 s) k0_pay5 (k0_pay9 x) (k0_pay10 x) (k0_pay11 c x) (ix3 0 r k)
      = x (ix3 0 r ⟨512 + k.val, by omega⟩) * c (ix2 r k)
        + Scalar.select (lowHalf k) (x (ix3 0 r ⟨512 + (k.val + 32) % 512, by omega⟩)) (x (ix3 0 r ⟨512 + (k.val + 480) % 512, by omega⟩)) * s (ix2 r k) := by
  rw [← ahead (fun j => x (ix3 0 r j)) 512 (by decide) k, ← behind (fun j => x (ix3 0 r j)) 512 (by decide) k]
  unfold_payloads
  pointwise

theorem pay_rows (v : Vec Ideal S4x512 .f32) (r : Fin 4) (k : Fin 512) : k0_pay2 (F := Ideal) v (ix3 0 r k) = v (ix2 r k) := by
  unfold_payloads
  pointwise

theorem index0 : ∀ t : Fin cfg0.N, win0_0.index t = ![t.val, 0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val, 0, 0] := by decide +kernel
theorem index4 : ∀ t : Fin cfg0.N, win0_4.index t = ![t.val, 0, 0] := by decide +kernel
theorem flush3 : ∀ t : Fin cfg0.N, (cfg0.win 3).flush t = true := by decide +kernel
theorem flush4 : ∀ t : Fin cfg0.N, (cfg0.win 4).flush t = true := by decide +kernel

/-- The argument. -/
abbrev arg (c : Dev nD) : S32x4x1536.Idx → EReal := m ((c : Thread nD τ).loc main_arg0)

theorem blk_pm (c : Dev nD) (t : Fin cfg0.N) (r : Fin 4) (k : Fin 1536) (b : Fin 32) (hb : b.val = t.val) :
    (iblk m c 0 t : S1x4x1536.Idx → EReal) (ix3 0 r k) = arg m c (ix3 b r k) := by
  unfold iblk
  rw [View.read_apply]
  show (V m c main_arg0 : S32x4x1536.Idx → EReal) _ = _
  have he : ((cfg0.win 0).blk t).view.emb (ix3 0 r k) = (ix3 b r k : S32x4x1536.Idx) := by
    funext a; apply Fin.ext
    match a with
    | ⟨0, _⟩ => show win0_0.index t 0 * 1 + 1 * 0 = b.val; rw [index0, hb]; simp
    | ⟨1, _⟩ => show win0_0.index t 1 * 4 + 1 * r.val = r.val; rw [index0]; simp
    | ⟨2, _⟩ => show win0_0.index t 2 * 1536 + 1 * k.val = k.val; rw [index0]; simp
  rw [at_pm, he]

theorem blk_cos (c : Dev nD) (t : Fin cfg0.N) (r : Fin 4) (k : Fin 512) :
    (iblk m c 1 t : S4x512.Idx → EReal) (ix2 r k) = spread (F := Ideal) cosTable cosTable (ix2 r k) := by
  unfold iblk
  rw [View.read_apply]
  show (V m c main_v20 : S4x512.Idx → EReal) _ = _
  have he : ((cfg0.win 1).blk t).view.emb (ix2 r k) = (ix2 r k : S4x512.Idx) := by
    funext a; apply Fin.ext
    match a with
    | ⟨0, _⟩ => show win0_1.index t 0 * 4 + 1 * r.val = r.val; rw [index1]; simp
    | ⟨1, _⟩ => show win0_1.index t 1 * 512 + 1 * k.val = k.val; rw [index1]; simp
  rw [at_cos, he]

theorem blk_sin (c : Dev nD) (t : Fin cfg0.N) (r : Fin 4) (k : Fin 512) :
    (iblk m c 2 t : S4x512.Idx → EReal) (ix2 r k) = spread (F := Ideal) negSinTable sinTable (ix2 r k) := by
  unfold iblk
  rw [View.read_apply]
  show (V m c main_v25 : S4x512.Idx → EReal) _ = _
  have he : ((cfg0.win 2).blk t).view.emb (ix2 r k) = (ix2 r k : S4x512.Idx) := by
    funext a; apply Fin.ext
    match a with
    | ⟨0, _⟩ => show win0_2.index t 0 * 4 + 1 * r.val = r.val; rw [index2]; simp
    | ⟨1, _⟩ => show win0_2.index t 1 * 512 + 1 * k.val = k.val; rw [index2]; simp
  rw [at_sin, he]

theorem whole (y : S1x4x512.Idx) : r0_2.idx y = y := by
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A window that one store fills holds what was stored. -/
theorem filled (p : Vec Ideal S1x4x512 .f32) (y : S1x4x512.Idx) : View.canon (Val := Elt Ideal) [⟨r0_2, p⟩] y = p y := by
  refine View.canon_apply_of_pieces p _ ?_ y (cover0_3 _ y)
  intro pc hpc
  rcases List.mem_cons.mp hpc with rfl | hpc
  · exact fun x => congrArg p (whole x).symm
  nomatch hpc

theorem out3_at (x0 : Vec Ideal S1x4x1536 .f32) (x1 x2 : Vec Ideal S4x512 .f32) (y : S1x4x512.Idx) :
    out0_3 x0 x1 x2 y = k0_pay1 (k0_pay4 x2) k0_pay5 (k0_pay9 x0) (k0_pay10 x0) (k0_pay11 x1 x0) y := by
  unfold out0_3
  rw [filled]
  simp only [View.ld_unit_zero (S := S4x512) offsets_zero, View.ld_unit_zero (S := S1x4x1536) offsets_zero3]

theorem out4_at (x0 : Vec Ideal S1x4x1536 .f32) (x1 x2 : Vec Ideal S4x512 .f32) (y : S1x4x512.Idx) :
    out0_4 x0 x1 x2 y = k0_pay2 (k0_pay7 x1 x2 x0) y := by
  unfold out0_4
  rw [filled]
  simp only [View.ld_unit_zero (S := S4x512) offsets_zero, View.ld_unit_zero (S := S1x4x1536) offsets_zero3]

/-- The grid point of batch `b`. -/
abbrev pt (b : Fin 32) : Fin cfg0.N := ⟨b.val, by have : cfg0.N = 32 := N_0; omega⟩

/-- The keys at batch `b`, row `p`, column `k`. -/
theorem final_k (c : Dev nD) (b : Fin 32) (p : Fin 4) (k : Fin 512) :
    ((dats m 0 c).arrAt 3 cfg0.N : S32x4x512.Idx → EReal) (ix3 b p k)
      = turn (fun e => arg m c (ix3 b p ⟨512 + k.val / 64 * 64 + e.val, by omega⟩)) (16384 + p.val) ⟨k.val % 64, by omega⟩ := by
  have key := congrFun (blocks3 m c (pt b) (flush3 _)) (ix3 0 p k : S1x4x512.Idx)
  rw [View.read_apply] at key
  have he : ((cfg0.win 3).blk (pt b)).view.emb (ix3 0 p k : S1x4x512.Idx) = (ix3 b p k : S32x4x512.Idx) := by
    funext a; apply Fin.ext
    match a with
    | ⟨0, _⟩ => show win0_3.index _ 0 * 1 + 1 * 0 = b.val; rw [index3]; simp
    | ⟨1, _⟩ => show win0_3.index _ 1 * 4 + 1 * p.val = p.val; rw [index3]; simp
    | ⟨2, _⟩ => show win0_3.index _ 2 * 512 + 1 * k.val = k.val; rw [index3]; simp
  rw [he, flushed3] at key
  refine key.trans ((out3_at _ _ _ (ix3 0 p k)).trans ((pay_k _ _ _ p k).trans ?_))
  have h := turned (fun k => arg m c (ix3 b p ⟨512 + k.val, by omega⟩)) p k _ _ (blk_cos m c (pt b) p k) (blk_sin m c (pt b) p k)
  simp only [blk_pm m c (pt b) p _ b rfl]
  refine h.trans ?_
  simp only [Nat.add_assoc]

/-- The queries at batch `b`, row `p`, column `k`. -/
theorem final_q (c : Dev nD) (b : Fin 32) (p : Fin 4) (k : Fin 512) :
    ((dats m 0 c).arrAt 4 cfg0.N : S32x4x512.Idx → EReal) (ix3 b p k)
      = turn (fun e => arg m c (ix3 b p ⟨k.val / 64 * 64 + e.val, by omega⟩)) (16384 + p.val) ⟨k.val % 64, by omega⟩ := by
  have key := congrFun (blocks4 m c (pt b) (flush4 _)) (ix3 0 p k : S1x4x512.Idx)
  rw [View.read_apply] at key
  have he : ((cfg0.win 4).blk (pt b)).view.emb (ix3 0 p k : S1x4x512.Idx) = (ix3 b p k : S32x4x512.Idx) := by
    funext a; apply Fin.ext
    match a with
    | ⟨0, _⟩ => show win0_4.index _ 0 * 1 + 1 * 0 = b.val; rw [index4]; simp
    | ⟨1, _⟩ => show win0_4.index _ 1 * 4 + 1 * p.val = p.val; rw [index4]; simp
    | ⟨2, _⟩ => show win0_4.index _ 2 * 512 + 1 * k.val = k.val; rw [index4]; simp
  rw [he, flushed4] at key
  refine key.trans ((out4_at _ _ _ (ix3 0 p k)).trans ((pay_rows _ p k).trans ((pay_q _ _ _ p k).trans ?_)))
  have h := turned (fun k => arg m c (ix3 b p ⟨k.val, by omega⟩)) p k _ _ (blk_cos m c (pt b) p k) (blk_sin m c (pt b) p k)
  simp only [blk_pm m c (pt b) p _ b rfl]
  exact h

end Cert.KSRopeIdeal.Layer

end
-- ==== Proof.SRopeClaim.lean ====
/-
  The rotary call of the sampled rows and the reference's lines for it end with equal results.
-/
module

public import proofs.«01_k».proof.Defs
public import proofs.«01_k».proof.Proof.SRopeRef
public import proofs.«01_k».proof.Proof.SRopeValue

@[expose] public section

noncomputable section

namespace Cert.SRope

open Idealize.ShloMosaic Idealize.ShloMosaic.TcCoe Idealize.SL.Sem

theorem equal : Cert.algebraic_KSRopeIdeal_RSRopeIdeal := by
  intro m g m' g' _ hagree
  refine ⟨fun c => (Cert.KSRopeIdeal.Gen.dats m 0 c).arrAt 3 Cert.KSRopeIdeal.cfg0.N,
    fun c => (Cert.KSRopeIdeal.Gen.dats m 0 c).arrAt 4 Cert.KSRopeIdeal.cfg0.N,
    Cert.KSRopeIdeal.Layer.run_blocks m g, ?_⟩
  refine (θ_run _ _ _).mono (fun r h c => ⟨(h c).1.trans ?_, (h c).2.1.trans ?_, (h c).2.2⟩)
    (Cert.RSRopeIdeal.Value.run m' g')
  · funext i
    obtain ⟨b, p, k, rfl⟩ : ∃ (b : Fin 32) (p : Fin 4) (k : Fin 512), i = ix3 b p k := ⟨i 0, i 1, i 2, eq_ix3 i⟩
    refine (Cert.RSRopeIdeal.Layer.read_k m' c b p k).trans (Eq.trans ?_ (Cert.KSRopeIdeal.Layer.final_k m c b p k).symm)
    unfold Cert.RSRopeIdeal.Layer.arg; rw [hagree c]
  · funext i
    obtain ⟨b, p, k, rfl⟩ : ∃ (b : Fin 32) (p : Fin 4) (k : Fin 512), i = ix3 b p k := ⟨i 0, i 1, i 2, eq_ix3 i⟩
    refine (Cert.RSRopeIdeal.Layer.read_q m' c b p k).trans (Eq.trans ?_ (Cert.KSRopeIdeal.Layer.final_q m c b p k).symm)
    unfold Cert.RSRopeIdeal.Layer.arg; rw [hagree c]

end Cert.SRope

end
-- ==== Proof.lean ====
/-
  The certificate: the generated frames, and the value claims of the modules imported here.
-/
module

public import proofs.«01_k».proof.Defs
public import proofs.«01_k».proof.Proof.Gen.KFfn
public import proofs.«01_k».proof.Proof.Gen.KFfn.Frame
public import proofs.«01_k».proof.Proof.Gen.KFfnIdeal
public import proofs.«01_k».proof.Proof.Gen.KFfnIdeal.Frame
public import proofs.«01_k».proof.Proof.Gen.KFfnIdeal.Value
public import proofs.«01_k».proof.Proof.Gen.RFfnIdeal
public import proofs.«01_k».proof.Proof.Gen.RFfnIdeal.Run
public import proofs.«01_k».proof.Proof.Gen.RFfnIdeal.Read
public import proofs.«01_k».proof.Proof.FfnClaim
public import proofs.«01_k».proof.Proof.Gen.KShift
public import proofs.«01_k».proof.Proof.Gen.KShift.Frame
public import proofs.«01_k».proof.Proof.Gen.KShiftIdeal
public import proofs.«01_k».proof.Proof.Gen.KShiftIdeal.Frame
public import proofs.«01_k».proof.Proof.Gen.KShiftIdeal.Value
public import proofs.«01_k».proof.Proof.Gen.RShiftIdeal
public import proofs.«01_k».proof.Proof.Gen.RShiftIdeal.Run
public import proofs.«01_k».proof.Proof.Gen.RShiftIdeal.Read
public import proofs.«01_k».proof.Proof.ShiftClaim
public import proofs.«01_k».proof.Proof.Gen.KNorm
public import proofs.«01_k».proof.Proof.Gen.KNorm.Frame
public import proofs.«01_k».proof.Proof.Gen.KNormIdeal
public import proofs.«01_k».proof.Proof.Gen.KNormIdeal.Frame
public import proofs.«01_k».proof.Proof.Gen.KNormIdeal.Value
public import proofs.«01_k».proof.Proof.Gen.RNormIdeal
public import proofs.«01_k».proof.Proof.Gen.RNormIdeal.Run
public import proofs.«01_k».proof.Proof.Gen.RNormIdeal.Read
public import proofs.«01_k».proof.Proof.NormClaim
public import proofs.«01_k».proof.Proof.Gen.KProjR
public import proofs.«01_k».proof.Proof.Gen.KProjR.Frame
public import proofs.«01_k».proof.Proof.Gen.KProjRIdeal
public import proofs.«01_k».proof.Proof.Gen.KProjRIdeal.Frame
public import proofs.«01_k».proof.Proof.Gen.KProjRIdeal.Value
public import proofs.«01_k».proof.Proof.Gen.RProjRIdeal
public import proofs.«01_k».proof.Proof.Gen.RProjRIdeal.Run
public import proofs.«01_k».proof.Proof.Gen.RProjRIdeal.Read
public import proofs.«01_k».proof.Proof.ProjRClaim
public import proofs.«01_k».proof.Proof.Gen.KProjM
public import proofs.«01_k».proof.Proof.Gen.KProjM.Frame
public import proofs.«01_k».proof.Proof.Gen.KProjMIdeal
public import proofs.«01_k».proof.Proof.Gen.KProjMIdeal.Frame
public import proofs.«01_k».proof.Proof.Gen.KProjMIdeal.Value
public import proofs.«01_k».proof.Proof.Gen.RProjMIdeal
public import proofs.«01_k».proof.Proof.Gen.RProjMIdeal.Run
public import proofs.«01_k».proof.Proof.Gen.RProjMIdeal.Read
public import proofs.«01_k».proof.Proof.ProjMClaim
public import proofs.«01_k».proof.Proof.Gen.KRope
public import proofs.«01_k».proof.Proof.Gen.KRope.Frame
public import proofs.«01_k».proof.Proof.Gen.KRopeIdeal
public import proofs.«01_k».proof.Proof.Gen.KRopeIdeal.Frame
public import proofs.«01_k».proof.Proof.Gen.KRopeIdeal.Value
public import proofs.«01_k».proof.Proof.Gen.RRopeIdeal
public import proofs.«01_k».proof.Proof.Gen.RRopeIdeal.Run
public import proofs.«01_k».proof.Proof.Gen.RRopeIdeal.Read
public import proofs.«01_k».proof.Proof.RopeClaim
public import proofs.«01_k».proof.Proof.Gen.KMix
public import proofs.«01_k».proof.Proof.Gen.KMix.Frame
public import proofs.«01_k».proof.Proof.Gen.KMixIdeal
public import proofs.«01_k».proof.Proof.Gen.KMixIdeal.Frame
public import proofs.«01_k».proof.Proof.Gen.KMixIdeal.Value
public import proofs.«01_k».proof.Proof.Gen.RMixIdeal
public import proofs.«01_k».proof.Proof.Gen.RMixIdeal.Run
public import proofs.«01_k».proof.Proof.Gen.RMixIdeal.Read
public import proofs.«01_k».proof.Proof.MixClaim
public import proofs.«01_k».proof.Proof.Gen.KMoba
public import proofs.«01_k».proof.Proof.Gen.KMoba.Frame
public import proofs.«01_k».proof.Proof.Gen.KMobaIdeal
public import proofs.«01_k».proof.Proof.Gen.KMobaIdeal.Frame
public import proofs.«01_k».proof.Proof.Gen.KMobaIdeal.Value
public import proofs.«01_k».proof.Proof.Gen.RMobaIdeal
public import proofs.«01_k».proof.Proof.Gen.RMobaIdeal.Run
public import proofs.«01_k».proof.Proof.Gen.RMobaIdeal.Read
public import proofs.«01_k».proof.Proof.MobaClaim
public import proofs.«01_k».proof.Proof.Gen.Pre_finite
public import proofs.«01_k».proof.Proof.Gen.KScan
public import proofs.«01_k».proof.Proof.ScanRunBits
public import proofs.«01_k».proof.Proof.Gen.KScanIdeal
public import proofs.«01_k».proof.Proof.ScanRun
public import proofs.«01_k».proof.Proof.Gen.RScanIdeal
public import proofs.«01_k».proof.Proof.Gen.RScanIdeal.Run
public import proofs.«01_k».proof.Proof.Gen.RScanIdeal.Read
public import proofs.«01_k».proof.Proof.ScanClaim
public import proofs.«01_k».proof.Proof.Gen.Pre_numbers
public import proofs.«01_k».proof.Proof.Gen.KSRope
public import proofs.«01_k».proof.Proof.Gen.KSRope.Frame
public import proofs.«01_k».proof.Proof.Gen.KSRopeIdeal
public import proofs.«01_k».proof.Proof.Gen.KSRopeIdeal.Frame
public import proofs.«01_k».proof.Proof.Gen.RSRopeIdeal
public import proofs.«01_k».proof.Proof.Gen.RSRopeIdeal.Run
public import proofs.«01_k».proof.Proof.Gen.RSRopeIdeal.Read
public import proofs.«01_k».proof.Proof.SRopeClaim
public import Idealize.ShloMosaic.Lib.Quiescent

@[expose] public section

noncomputable section

namespace Cert.Proof

open Idealize.ShloMosaic Idealize.SL.Sem

/-- A host program declares no semaphore, so every counter is zero at the end of its run. -/
theorem frame_RFfnIdeal : Cert.quiescent_RFfnIdeal := fun m ρ _ =>
  (θ_run _ _ _).mono (fun r h => ⟨fun c => (h c).2, sem_eq_zero_of_no_sems (by decide) r.2⟩) (Cert.RFfnIdeal.Value.run m ρ)

/-- A host program declares no semaphore, so every counter is zero at the end of its run. -/
theorem frame_RShiftIdeal : Cert.quiescent_RShiftIdeal := fun m ρ _ =>
  (θ_run _ _ _).mono (fun r h => ⟨fun c => (h c).2, sem_eq_zero_of_no_sems (by decide) r.2⟩) (Cert.RShiftIdeal.Value.run m ρ)

/-- A host program declares no semaphore, so every counter is zero at the end of its run. -/
theorem frame_RNormIdeal : Cert.quiescent_RNormIdeal := fun m ρ _ =>
  (θ_run _ _ _).mono (fun r h => ⟨fun c => (h c).2, sem_eq_zero_of_no_sems (by decide) r.2⟩) (Cert.RNormIdeal.Value.run m ρ)

/-- A host program declares no semaphore, so every counter is zero at the end of its run. -/
theorem frame_RProjRIdeal : Cert.quiescent_RProjRIdeal := fun m ρ _ =>
  (θ_run _ _ _).mono (fun r h => ⟨fun c => (h c).2, sem_eq_zero_of_no_sems (by decide) r.2⟩) (Cert.RProjRIdeal.Value.run m ρ)

/-- A host program declares no semaphore, so every counter is zero at the end of its run. -/
theorem frame_RProjMIdeal : Cert.quiescent_RProjMIdeal := fun m ρ _ =>
  (θ_run _ _ _).mono (fun r h => ⟨fun c => (h c).2, sem_eq_zero_of_no_sems (by decide) r.2⟩) (Cert.RProjMIdeal.Value.run m ρ)

/-- A host program declares no semaphore, so every counter is zero at the end of its run. -/
theorem frame_RRopeIdeal : Cert.quiescent_RRopeIdeal := fun m ρ _ =>
  (θ_run _ _ _).mono (fun r h => ⟨fun c => (h c).2.2.2, sem_eq_zero_of_no_sems (by decide) r.2⟩) (Cert.RRopeIdeal.Value.run m ρ)

/-- A host program declares no semaphore, so every counter is zero at the end of its run. -/
theorem frame_RMixIdeal : Cert.quiescent_RMixIdeal := fun m ρ _ =>
  (θ_run _ _ _).mono (fun r h => ⟨fun c => (h c).2, sem_eq_zero_of_no_sems (by decide) r.2⟩) (Cert.RMixIdeal.Value.run m ρ)

/-- A host program declares no semaphore, so every counter is zero at the end of its run. -/
theorem frame_RMobaIdeal : Cert.quiescent_RMobaIdeal := fun m ρ _ =>
  (θ_run _ _ _).mono (fun r h => ⟨fun c => (h c).2, sem_eq_zero_of_no_sems (by decide) r.2⟩) (Cert.RMobaIdeal.Value.run m ρ)

/-- A host program declares no semaphore, so every counter is zero at the end of its run. -/
theorem frame_RScanIdeal : Cert.quiescent_RScanIdeal := fun m ρ _ =>
  (θ_run _ _ _).mono (fun r h => ⟨fun c => (h c).2.2, sem_eq_zero_of_no_sems (by decide) r.2⟩) (Cert.RScanIdeal.Value.run m ρ)

/-- A host program declares no semaphore, so every counter is zero at the end of its run. -/
theorem frame_RSRopeIdeal : Cert.quiescent_RSRopeIdeal := fun m ρ _ =>
  (θ_run _ _ _).mono (fun r h => ⟨fun c => (h c).2.2, sem_eq_zero_of_no_sems (by decide) r.2⟩) (Cert.RSRopeIdeal.Value.run m ρ)

/-- The two named constants: what the kernel's scale and its mask stand for. -/
theorem preserves_KMoba : Cert.preserves_KMoba_KMobaIdeal :=
  ⟨IdealRules.named_const.statement Cert.KMobaIdeal.κ "scale_log2e" .f32 0x3E38AA3B#32 (((8 * (Real.log 2))⁻¹ : ℝ) : EReal) rfl,
   IdealRules.named_const.statement Cert.KMobaIdeal.κ "mask" .f32 0xF149F2CA#32 ⊥ rfl⟩

theorem claim : Cert.Claim := ⟨Cert.KFfn.Gen.facts, Cert.KFfnIdeal.Gen.facts, Cert.RFfnIdeal.Gen.facts,
  Cert.KShift.Gen.facts, Cert.KShiftIdeal.Gen.facts, Cert.RShiftIdeal.Gen.facts,
  Cert.KNorm.Gen.facts, Cert.KNormIdeal.Gen.facts, Cert.RNormIdeal.Gen.facts,
  Cert.KProjR.Gen.facts, Cert.KProjRIdeal.Gen.facts, Cert.RProjRIdeal.Gen.facts,
  Cert.KProjM.Gen.facts, Cert.KProjMIdeal.Gen.facts, Cert.RProjMIdeal.Gen.facts,
  Cert.KRope.Gen.facts, Cert.KRopeIdeal.Gen.facts, Cert.RRopeIdeal.Gen.facts,
  Cert.KMix.Gen.facts, Cert.KMixIdeal.Gen.facts, Cert.RMixIdeal.Gen.facts,
  Cert.KMoba.Gen.facts, Cert.KMobaIdeal.Gen.facts, Cert.RMobaIdeal.Gen.facts,
  Cert.KScan.Gen.facts, Cert.KScanIdeal.Gen.facts, Cert.RScanIdeal.Gen.facts,
  Cert.KSRope.Gen.facts, Cert.KSRopeIdeal.Gen.facts, Cert.RSRopeIdeal.Gen.facts,
  Cert.Pre_finite.Gen.facts, Cert.Pre_numbers.Gen.facts,
  fun m ρ _ => Cert.KFfn.Gen.frame m ρ, fun m ρ _ => Cert.KFfnIdeal.Gen.frame m ρ, frame_RFfnIdeal,
  fun m ρ _ => Cert.KShift.Gen.frame m ρ, fun m ρ _ => Cert.KShiftIdeal.Gen.frame m ρ, frame_RShiftIdeal,
  fun m ρ _ => Cert.KNorm.Gen.frame m ρ, fun m ρ _ => Cert.KNormIdeal.Gen.frame m ρ, frame_RNormIdeal,
  fun m ρ _ => Cert.KProjR.Gen.frame m ρ, fun m ρ _ => Cert.KProjRIdeal.Gen.frame m ρ, frame_RProjRIdeal,
  fun m ρ _ => Cert.KProjM.Gen.frame m ρ, fun m ρ _ => Cert.KProjMIdeal.Gen.frame m ρ, frame_RProjMIdeal,
  fun m ρ _ => Cert.KRope.Gen.frame m ρ, fun m ρ _ => Cert.KRopeIdeal.Gen.frame m ρ, frame_RRopeIdeal,
  fun m ρ _ => Cert.KMix.Gen.frame m ρ, fun m ρ _ => Cert.KMixIdeal.Gen.frame m ρ, frame_RMixIdeal,
  fun m ρ _ => Cert.KMoba.Gen.frame m ρ, fun m ρ _ => Cert.KMobaIdeal.Gen.frame m ρ, fun m ρ _ => Cert.KMobaIdeal.Gen.frame m ρ, frame_RMobaIdeal, fun m ρ _ => frame_RMobaIdeal m ρ trivial,
  fun m ρ _ => Cert.KScan.Layer.frame m ρ, fun m ρ _ => Cert.KScanIdeal.Layer.frame m ρ, fun m ρ _ => Cert.KScanIdeal.Layer.frame m ρ, frame_RScanIdeal, fun m ρ _ => frame_RScanIdeal m ρ trivial,
  fun m ρ _ => Cert.KSRope.Gen.frame m ρ, fun m ρ _ => Cert.KSRopeIdeal.Gen.frame m ρ, frame_RSRopeIdeal,
  trivial, Cert.Ffn.equal,
  trivial, Cert.Shift.equal,
  trivial, Cert.Norm.equal,
  trivial, Cert.ProjR.equal,
  trivial, Cert.ProjM.equal,
  trivial, Cert.Rope.equal,
  trivial, Cert.Mix.equal,
  preserves_KMoba, Cert.Moba.equal,
  trivial, Cert.Scan.equal,
  trivial, Cert.SRope.equal⟩

end Cert.Proof

end
